-- ==== Defs.lean ====
def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_finite [hPre_finite : Cert.Pre_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))) = (fun _ => 1#1)

def Pre_SwaBwdRefIdeal (m : (ℓ : Loc Cert.SwaBwdRefIdeal.nD Cert.SwaBwdRefIdeal.τ Cert.SwaBwdRefIdeal.sig) → Buf (Elt Ideal) ℓ) : Prop :=
  True

def Pre_SwaBwdRefIdeal_finite [hPre_finite : Cert.Pre_finite.Facts] (m : (ℓ : Loc Cert.SwaBwdRefIdeal.nD Cert.SwaBwdRefIdeal.τ Cert.SwaBwdRefIdeal.sig) → Buf (Elt Ideal) ℓ) : Prop :=
  ∀ c : Dev Cert.SwaBwdRefIdeal.nD,
    (Cert.Pre_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_AdamGk2 (m : (ℓ : Loc Cert.AdamGk2.nD Cert.AdamGk2.τ Cert.AdamGk2.sig) → Buf (Elt Bits) ℓ) : Prop :=
  True

def Pre_AdamGk2Ideal (m : (ℓ : Loc Cert.AdamGk2Ideal.nD Cert.AdamGk2Ideal.τ Cert.AdamGk2Ideal.sig) → Buf (Elt Ideal) ℓ) : Prop :=
  True

def Pre_AdamGk2RefIdeal (m : (ℓ : Loc Cert.AdamGk2RefIdeal.nD Cert.AdamGk2RefIdeal.τ Cert.AdamGk2RefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))) = (fun _ => 1#1)

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_finite_loss [hPre_finite_loss : Cert.Pre_finite_loss.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))) = (fun _ => 1#1)

def Pre_LossBwdRefIdeal (m : (ℓ : Loc Cert.LossBwdRefIdeal.nD Cert.LossBwdRefIdeal.τ Cert.LossBwdRefIdeal.sig) → Buf (Elt Ideal) ℓ) : Prop :=
  True

def Pre_LossBwdRefIdeal_finite_loss [hPre_finite_loss : Cert.Pre_finite_loss.Facts] (m : (ℓ : Loc Cert.LossBwdRefIdeal.nD Cert.LossBwdRefIdeal.τ Cert.LossBwdRefIdeal.sig) → Buf (Elt Ideal) ℓ) : Prop :=
  ∀ c : Dev Cert.LossBwdRefIdeal.nD,
    (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))) = (fun _ => 1#1)

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_finite_swa [hPre_finite_swa : Cert.Pre_finite_swa.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_finite_swa.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))) = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_finite_swa [hPre_finite_swa : Cert.Pre_finite_swa.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_finite_swa.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))) = (fun _ => 1#1)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdIdeal_pre_finite [hSwaBwdIdeal : Cert.SwaBwdIdeal.Facts] [hPre_finite : Cert.Pre_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdRefIdeal [hSwaBwdRefIdeal : Cert.SwaBwdRefIdeal.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2))
      ∧ r.2.sem = fun _ => 0)

def quiescent_SwaBwdRefIdeal_pre_finite [hSwaBwdRefIdeal : Cert.SwaBwdRefIdeal.Facts] [hPre_finite : Cert.Pre_finite.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal_finite m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2))
      ∧ r.2.sem = fun _ => 0)

def quiescent_AdamGk2 [hAdamGk2 : Cert.AdamGk2.Facts] : Prop :=
  ∀ (m : (ℓ : Loc Cert.AdamGk2.nD Cert.AdamGk2.τ Cert.AdamGk2.sig) → Buf (Elt Bits) ℓ) (g : Dev Cert.AdamGk2.nD → PrngReg), Pre_AdamGk2 m →
    θ_run (Cert.AdamGk2.defs (F := Bits)) (onTc (τ := Cert.AdamGk2.τ) (Cert.AdamGk2.main (F := Bits))) ⟨m, fun _ => 0, g⟩ (fun r => (∀ c : Dev Cert.AdamGk2.nD,
      r.2.mem ((c.tc : Thread Cert.AdamGk2.nD Cert.AdamGk2.τ).loc Cert.AdamGk2.main_arg0) = m ((c.tc : Thread Cert.AdamGk2.nD Cert.AdamGk2.τ).loc Cert.AdamGk2.main_arg0)
      ∧ r.2.mem ((c.tc : Thread Cert.AdamGk2.nD Cert.AdamGk2.τ).loc Cert.AdamGk2.main_arg1) = m ((c.tc : Thread Cert.AdamGk2.nD Cert.AdamGk2.τ).loc Cert.AdamGk2.main_arg1)
      ∧ r.2.mem ((c.tc : Thread Cert.AdamGk2.nD Cert.AdamGk2.τ).loc Cert.AdamGk2.main_arg2) = m ((c.tc : Thread Cert.AdamGk2.nD Cert.AdamGk2.τ).loc Cert.AdamGk2.main_arg2)
      ∧ r.2.mem ((c.tc : Thread Cert.AdamGk2.nD Cert.AdamGk2.τ).loc Cert.AdamGk2.main_arg3) = m ((c.tc : Thread Cert.AdamGk2.nD Cert.AdamGk2.τ).loc Cert.AdamGk2.main_arg3))
      ∧ r.2.sem = fun _ => 0)

def quiescent_AdamGk2Ideal [hAdamGk2Ideal : Cert.AdamGk2Ideal.Facts] : Prop :=
  ∀ (m : (ℓ : Loc Cert.AdamGk2Ideal.nD Cert.AdamGk2Ideal.τ Cert.AdamGk2Ideal.sig) → Buf (Elt Ideal) ℓ) (g : Dev Cert.AdamGk2Ideal.nD → PrngReg), Pre_AdamGk2Ideal m →
    θ_run (Cert.AdamGk2Ideal.defs (F := Ideal)) (onTc (τ := Cert.AdamGk2Ideal.τ) (Cert.AdamGk2Ideal.main (F := Ideal))) ⟨m, fun _ => 0, g⟩ (fun r => (∀ c : Dev Cert.AdamGk2Ideal.nD,
      r.2.mem ((c.tc : Thread Cert.AdamGk2Ideal.nD Cert.AdamGk2Ideal.τ).loc Cert.AdamGk2Ideal.main_arg0) = m ((c.tc : Thread Cert.AdamGk2Ideal.nD Cert.AdamGk2Ideal.τ).loc Cert.AdamGk2Ideal.main_arg0)
      ∧ r.2.mem ((c.tc : Thread Cert.AdamGk2Ideal.nD Cert.AdamGk2Ideal.τ).loc Cert.AdamGk2Ideal.main_arg1) = m ((c.tc : Thread Cert.AdamGk2Ideal.nD Cert.AdamGk2Ideal.τ).loc Cert.AdamGk2Ideal.main_arg1)
      ∧ r.2.mem ((c.tc : Thread Cert.AdamGk2Ideal.nD Cert.AdamGk2Ideal.τ).loc Cert.AdamGk2Ideal.main_arg2) = m ((c.tc : Thread Cert.AdamGk2Ideal.nD Cert.AdamGk2Ideal.τ).loc Cert.AdamGk2Ideal.main_arg2)
      ∧ r.2.mem ((c.tc : Thread Cert.AdamGk2Ideal.nD Cert.AdamGk2Ideal.τ).loc Cert.AdamGk2Ideal.main_arg3) = m ((c.tc : Thread Cert.AdamGk2Ideal.nD Cert.AdamGk2Ideal.τ).loc Cert.AdamGk2Ideal.main_arg3))
      ∧ r.2.sem = fun _ => 0)

def quiescent_AdamGk2RefIdeal [hAdamGk2RefIdeal : Cert.AdamGk2RefIdeal.Facts] : Prop :=
  ∀ (m : (ℓ : Loc Cert.AdamGk2RefIdeal.nD Cert.AdamGk2RefIdeal.τ Cert.AdamGk2RefIdeal.sig) → Buf (Elt Ideal) ℓ) (g : Dev Cert.AdamGk2RefIdeal.nD → PrngReg), Pre_AdamGk2RefIdeal m →
    θ_run (Cert.AdamGk2RefIdeal.defs (F := Ideal)) (onTc (τ := Cert.AdamGk2RefIdeal.τ) (Cert.AdamGk2RefIdeal.main (F := Ideal))) ⟨m, fun _ => 0, g⟩ (fun r => (∀ c : Dev Cert.AdamGk2RefIdeal.nD,
      r.2.mem ((c.tc : Thread Cert.AdamGk2RefIdeal.nD Cert.AdamGk2RefIdeal.τ).loc Cert.AdamGk2RefIdeal.main_arg0) = m ((c.tc : Thread Cert.AdamGk2RefIdeal.nD Cert.AdamGk2RefIdeal.τ).loc Cert.AdamGk2RefIdeal.main_arg0)
      ∧ r.2.mem ((c.tc : Thread Cert.AdamGk2RefIdeal.nD Cert.AdamGk2RefIdeal.τ).loc Cert.AdamGk2RefIdeal.main_arg1) = m ((c.tc : Thread Cert.AdamGk2RefIdeal.nD Cert.AdamGk2RefIdeal.τ).loc Cert.AdamGk2RefIdeal.main_arg1)
      ∧ r.2.mem ((c.tc : Thread Cert.AdamGk2RefIdeal.nD Cert.AdamGk2RefIdeal.τ).loc Cert.AdamGk2RefIdeal.main_arg2) = m ((c.tc : Thread Cert.AdamGk2RefIdeal.nD Cert.AdamGk2RefIdeal.τ).loc Cert.AdamGk2RefIdeal.main_arg2)
      ∧ r.2.mem ((c.tc : Thread Cert.AdamGk2RefIdeal.nD Cert.AdamGk2RefIdeal.τ).loc Cert.AdamGk2RefIdeal.main_arg3) = m ((c.tc : Thread Cert.AdamGk2RefIdeal.nD Cert.AdamGk2RefIdeal.τ).loc Cert.AdamGk2RefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdIdeal_pre_finite_loss [hLossBwdIdeal : Cert.LossBwdIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_finite_loss m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_LossBwdRefIdeal_pre_finite_loss [hLossBwdRefIdeal : Cert.LossBwdRefIdeal.Facts] [hPre_finite_loss : Cert.Pre_finite_loss.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal_finite_loss m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdIdeal_pre_finite_swa [hSwaFwdIdeal : Cert.SwaFwdIdeal.Facts] [hPre_finite_swa : Cert.Pre_finite_swa.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_finite_swa m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_SwaFwdRefIdeal_pre_finite_swa [hSwaFwdRefIdeal : Cert.SwaFwdRefIdeal.Facts] [hPre_finite_swa : Cert.Pre_finite_swa.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_finite_swa m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v3)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v3) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v14) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v6) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v7) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v6) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v7) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v4) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v10) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)) →
    ∃ (v0 : (c : Dev Cert.UpBwdIdeal.nD) → Buf (Elt Ideal) ((c.tc : Thread Cert.UpBwdIdeal.nD Cert.UpBwdIdeal.τ).loc Cert.UpBwdIdeal.main_v0)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v6) = v0 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v5) = v0 c
          ∧ r.2.mem ((c.tc : Thread Cert.MixRefIdeal.nD Cert.MixRefIdeal.τ).loc Cert.MixRefIdeal.main_v27) = v1 c
          ∧ r.2.mem ((c.tc : Thread Cert.MixRefIdeal.nD Cert.MixRefIdeal.τ).loc Cert.MixRefIdeal.main_v28) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_SwaBwd_SwaBwdIdeal : Prop :=
  IdealRules.named_const.Statement Cert.SwaBwdIdeal.κ "mask" .f32 0xF149F2CA#32 ⊥

def algebraic_SwaBwdIdeal_SwaBwdRefIdeal_pre_finite [hSwaBwdIdeal : Cert.SwaBwdIdeal.Facts] [hSwaBwdRefIdeal : Cert.SwaBwdRefIdeal.Facts] [hPre_finite : Cert.Pre_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaBwdRefIdeal.nD Cert.SwaBwdRefIdeal.τ Cert.SwaBwdRefIdeal.sig) → Buf (Elt Ideal) ℓ) (g' : Dev Cert.SwaBwdRefIdeal.nD → PrngReg), Pre_SwaBwdIdeal_finite m →
    (∀ c : Dev Cert.SwaBwdIdeal.nD,
      m' ((c.tc : Thread Cert.SwaBwdRefIdeal.nD Cert.SwaBwdRefIdeal.τ).loc Cert.SwaBwdRefIdeal.main_arg0) = m ((c.tc : Thread Cert.SwaBwdIdeal.nD Cert.SwaBwdIdeal.τ).loc Cert.SwaBwdIdeal.main_arg0)
      ∧ m' ((c.tc : Thread Cert.SwaBwdRefIdeal.nD Cert.SwaBwdRefIdeal.τ).loc Cert.SwaBwdRefIdeal.main_arg1) = m ((c.tc : Thread Cert.SwaBwdIdeal.nD Cert.SwaBwdIdeal.τ).loc Cert.SwaBwdIdeal.main_arg1)
      ∧ m' ((c.tc : Thread Cert.SwaBwdRefIdeal.nD Cert.SwaBwdRefIdeal.τ).loc Cert.SwaBwdRefIdeal.main_arg2) = m ((c.tc : Thread Cert.SwaBwdIdeal.nD Cert.SwaBwdIdeal.τ).loc Cert.SwaBwdIdeal.main_arg2)) →
    ∃ (v0 : (c : Dev Cert.SwaBwdIdeal.nD) → Buf (Elt Ideal) ((c.tc : Thread Cert.SwaBwdIdeal.nD Cert.SwaBwdIdeal.τ).loc Cert.SwaBwdIdeal.main_v0_0)) (v1 : (c : Dev Cert.SwaBwdIdeal.nD) → Buf (Elt Ideal) ((c.tc : Thread Cert.SwaBwdIdeal.nD Cert.SwaBwdIdeal.τ).loc Cert.SwaBwdIdeal.main_v0_1)) (v2 : (c : Dev Cert.SwaBwdIdeal.nD) → Buf (Elt Ideal) ((c.tc : Thread Cert.SwaBwdIdeal.nD Cert.SwaBwdIdeal.τ).loc Cert.SwaBwdIdeal.main_v0_2)) (v3 : (c : Dev Cert.SwaBwdIdeal.nD) → Buf (Elt Ideal) ((c.tc : Thread Cert.SwaBwdIdeal.nD Cert.SwaBwdIdeal.τ).loc Cert.SwaBwdIdeal.main_v0_3)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v0_0) = v0 c
          ∧ r.2.mem ((c.tc : Thread Cert.SwaBwdIdeal.nD Cert.SwaBwdIdeal.τ).loc Cert.SwaBwdIdeal.main_v0_1) = v1 c
          ∧ r.2.mem ((c.tc : Thread Cert.SwaBwdIdeal.nD Cert.SwaBwdIdeal.τ).loc Cert.SwaBwdIdeal.main_v0_2) = v2 c
          ∧ r.2.mem ((c.tc : Thread Cert.SwaBwdIdeal.nD Cert.SwaBwdIdeal.τ).loc Cert.SwaBwdIdeal.main_v0_3) = v3 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ θ_run (Cert.SwaBwdRefIdeal.defs (F := Ideal)) (onTc (τ := Cert.SwaBwdRefIdeal.τ) (Cert.SwaBwdRefIdeal.main (F := Ideal))) ⟨m', fun _ => 0, g'⟩ (fun r => ∀ c : Dev Cert.SwaBwdRefIdeal.nD,
          r.2.mem ((c.tc : Thread Cert.SwaBwdRefIdeal.nD Cert.SwaBwdRefIdeal.τ).loc Cert.SwaBwdRefIdeal.main_v165) = v0 c
          ∧ r.2.mem ((c.tc : Thread Cert.SwaBwdRefIdeal.nD Cert.SwaBwdRefIdeal.τ).loc Cert.SwaBwdRefIdeal.main_v166) = v1 c
          ∧ r.2.mem ((c.tc : Thread Cert.SwaBwdRefIdeal.nD Cert.SwaBwdRefIdeal.τ).loc Cert.SwaBwdRefIdeal.main_v167) = v2 c
          ∧ r.2.mem ((c.tc : Thread Cert.SwaBwdRefIdeal.nD Cert.SwaBwdRefIdeal.τ).loc Cert.SwaBwdRefIdeal.main_v169) = v3 c
          ∧ r.2.mem ((c.tc : Thread Cert.SwaBwdRefIdeal.nD Cert.SwaBwdRefIdeal.τ).loc Cert.SwaBwdRefIdeal.main_arg0) = m' ((c.tc : Thread Cert.SwaBwdRefIdeal.nD Cert.SwaBwdRefIdeal.τ).loc Cert.SwaBwdRefIdeal.main_arg0)
          ∧ r.2.mem ((c.tc : Thread Cert.SwaBwdRefIdeal.nD Cert.SwaBwdRefIdeal.τ).loc Cert.SwaBwdRefIdeal.main_arg1) = m' ((c.tc : Thread Cert.SwaBwdRefIdeal.nD Cert.SwaBwdRefIdeal.τ).loc Cert.SwaBwdRefIdeal.main_arg1)
          ∧ r.2.mem ((c.tc : Thread Cert.SwaBwdRefIdeal.nD Cert.SwaBwdRefIdeal.τ).loc Cert.SwaBwdRefIdeal.main_arg2) = m' ((c.tc : Thread Cert.SwaBwdRefIdeal.nD Cert.SwaBwdRefIdeal.τ).loc Cert.SwaBwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v20) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2))

def preserves_AdamGk2_AdamGk2Ideal : Prop :=
  True

def algebraic_AdamGk2Ideal_AdamGk2RefIdeal [hAdamGk2Ideal : Cert.AdamGk2Ideal.Facts] [hAdamGk2RefIdeal : Cert.AdamGk2RefIdeal.Facts] : Prop :=
  ∀ (m : (ℓ : Loc Cert.AdamGk2Ideal.nD Cert.AdamGk2Ideal.τ Cert.AdamGk2Ideal.sig) → Buf (Elt Ideal) ℓ) (g : Dev Cert.AdamGk2Ideal.nD → PrngReg)
    (m' : (ℓ : Loc Cert.AdamGk2RefIdeal.nD Cert.AdamGk2RefIdeal.τ Cert.AdamGk2RefIdeal.sig) → Buf (Elt Ideal) ℓ) (g' : Dev Cert.AdamGk2RefIdeal.nD → PrngReg), Pre_AdamGk2Ideal m →
    (∀ c : Dev Cert.AdamGk2Ideal.nD,
      m' ((c.tc : Thread Cert.AdamGk2RefIdeal.nD Cert.AdamGk2RefIdeal.τ).loc Cert.AdamGk2RefIdeal.main_arg0) = m ((c.tc : Thread Cert.AdamGk2Ideal.nD Cert.AdamGk2Ideal.τ).loc Cert.AdamGk2Ideal.main_arg0)
      ∧ m' ((c.tc : Thread Cert.AdamGk2RefIdeal.nD Cert.AdamGk2RefIdeal.τ).loc Cert.AdamGk2RefIdeal.main_arg1) = m ((c.tc : Thread Cert.AdamGk2Ideal.nD Cert.AdamGk2Ideal.τ).loc Cert.AdamGk2Ideal.main_arg1)
      ∧ m' ((c.tc : Thread Cert.AdamGk2RefIdeal.nD Cert.AdamGk2RefIdeal.τ).loc Cert.AdamGk2RefIdeal.main_arg2) = m ((c.tc : Thread Cert.AdamGk2Ideal.nD Cert.AdamGk2Ideal.τ).loc Cert.AdamGk2Ideal.main_arg2)
      ∧ m' ((c.tc : Thread Cert.AdamGk2RefIdeal.nD Cert.AdamGk2RefIdeal.τ).loc Cert.AdamGk2RefIdeal.main_arg3) = m ((c.tc : Thread Cert.AdamGk2Ideal.nD Cert.AdamGk2Ideal.τ).loc Cert.AdamGk2Ideal.main_arg3)) →
    ∃ (v0 : (c : Dev Cert.AdamGk2Ideal.nD) → Buf (Elt Ideal) ((c.tc : Thread Cert.AdamGk2Ideal.nD Cert.AdamGk2Ideal.τ).loc Cert.AdamGk2Ideal.main_v3_0)) (v1 : (c : Dev Cert.AdamGk2Ideal.nD) → Buf (Elt Ideal) ((c.tc : Thread Cert.AdamGk2Ideal.nD Cert.AdamGk2Ideal.τ).loc Cert.AdamGk2Ideal.main_v3_1)) (v2 : (c : Dev Cert.AdamGk2Ideal.nD) → Buf (Elt Ideal) ((c.tc : Thread Cert.AdamGk2Ideal.nD Cert.AdamGk2Ideal.τ).loc Cert.AdamGk2Ideal.main_v3_2)),
      θ_run (Cert.AdamGk2Ideal.defs (F := Ideal)) (onTc (τ := Cert.AdamGk2Ideal.τ) (Cert.AdamGk2Ideal.main (F := Ideal))) ⟨m, fun _ => 0, g⟩ (fun r => ∀ c : Dev Cert.AdamGk2Ideal.nD,
          r.2.mem ((c.tc : Thread Cert.AdamGk2Ideal.nD Cert.AdamGk2Ideal.τ).loc Cert.AdamGk2Ideal.main_v3_0) = v0 c
          ∧ r.2.mem ((c.tc : Thread Cert.AdamGk2Ideal.nD Cert.AdamGk2Ideal.τ).loc Cert.AdamGk2Ideal.main_v3_1) = v1 c
          ∧ r.2.mem ((c.tc : Thread Cert.AdamGk2Ideal.nD Cert.AdamGk2Ideal.τ).loc Cert.AdamGk2Ideal.main_v3_2) = v2 c
          ∧ r.2.mem ((c.tc : Thread Cert.AdamGk2Ideal.nD Cert.AdamGk2Ideal.τ).loc Cert.AdamGk2Ideal.main_arg0) = m ((c.tc : Thread Cert.AdamGk2Ideal.nD Cert.AdamGk2Ideal.τ).loc Cert.AdamGk2Ideal.main_arg0)
          ∧ r.2.mem ((c.tc : Thread Cert.AdamGk2Ideal.nD Cert.AdamGk2Ideal.τ).loc Cert.AdamGk2Ideal.main_arg1) = m ((c.tc : Thread Cert.AdamGk2Ideal.nD Cert.AdamGk2Ideal.τ).loc Cert.AdamGk2Ideal.main_arg1)
          ∧ r.2.mem ((c.tc : Thread Cert.AdamGk2Ideal.nD Cert.AdamGk2Ideal.τ).loc Cert.AdamGk2Ideal.main_arg2) = m ((c.tc : Thread Cert.AdamGk2Ideal.nD Cert.AdamGk2Ideal.τ).loc Cert.AdamGk2Ideal.main_arg2)
          ∧ r.2.mem ((c.tc : Thread Cert.AdamGk2Ideal.nD Cert.AdamGk2Ideal.τ).loc Cert.AdamGk2Ideal.main_arg3) = m ((c.tc : Thread Cert.AdamGk2Ideal.nD Cert.AdamGk2Ideal.τ).loc Cert.AdamGk2Ideal.main_arg3))
      ∧ θ_run (Cert.AdamGk2RefIdeal.defs (F := Ideal)) (onTc (τ := Cert.AdamGk2RefIdeal.τ) (Cert.AdamGk2RefIdeal.main (F := Ideal))) ⟨m', fun _ => 0, g'⟩ (fun r => ∀ c : Dev Cert.AdamGk2RefIdeal.nD,
          r.2.mem ((c.tc : Thread Cert.AdamGk2RefIdeal.nD Cert.AdamGk2RefIdeal.τ).loc Cert.AdamGk2RefIdeal.main_v26) = v0 c
          ∧ r.2.mem ((c.tc : Thread Cert.AdamGk2RefIdeal.nD Cert.AdamGk2RefIdeal.τ).loc Cert.AdamGk2RefIdeal.main_v7) = v1 c
          ∧ r.2.mem ((c.tc : Thread Cert.AdamGk2RefIdeal.nD Cert.AdamGk2RefIdeal.τ).loc Cert.AdamGk2RefIdeal.main_v13) = v2 c
          ∧ r.2.mem ((c.tc : Thread Cert.AdamGk2RefIdeal.nD Cert.AdamGk2RefIdeal.τ).loc Cert.AdamGk2RefIdeal.main_arg0) = m' ((c.tc : Thread Cert.AdamGk2RefIdeal.nD Cert.AdamGk2RefIdeal.τ).loc Cert.AdamGk2RefIdeal.main_arg0)
          ∧ r.2.mem ((c.tc : Thread Cert.AdamGk2RefIdeal.nD Cert.AdamGk2RefIdeal.τ).loc Cert.AdamGk2RefIdeal.main_arg1) = m' ((c.tc : Thread Cert.AdamGk2RefIdeal.nD Cert.AdamGk2RefIdeal.τ).loc Cert.AdamGk2RefIdeal.main_arg1)
          ∧ r.2.mem ((c.tc : Thread Cert.AdamGk2RefIdeal.nD Cert.AdamGk2RefIdeal.τ).loc Cert.AdamGk2RefIdeal.main_arg2) = m' ((c.tc : Thread Cert.AdamGk2RefIdeal.nD Cert.AdamGk2RefIdeal.τ).loc Cert.AdamGk2RefIdeal.main_arg2)
          ∧ r.2.mem ((c.tc : Thread Cert.AdamGk2RefIdeal.nD Cert.AdamGk2RefIdeal.τ).loc Cert.AdamGk2RefIdeal.main_arg3) = m' ((c.tc : Thread Cert.AdamGk2RefIdeal.nD Cert.AdamGk2RefIdeal.τ).loc Cert.AdamGk2RefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v23) = v0 c
          ∧ r.2.mem ((c.tc : Thread Cert.AdamRepRefIdeal.nD Cert.AdamRepRefIdeal.τ).loc Cert.AdamRepRefIdeal.main_v4) = v1 c
          ∧ r.2.mem ((c.tc : Thread Cert.AdamRepRefIdeal.nD Cert.AdamRepRefIdeal.τ).loc Cert.AdamRepRefIdeal.main_v10) = v2 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v47) = v0 c
          ∧ r.2.mem ((c.tc : Thread Cert.NormBwdRefIdeal.nD Cert.NormBwdRefIdeal.τ).loc Cert.NormBwdRefIdeal.main_v49) = v1 c
          ∧ r.2.mem ((c.tc : Thread Cert.NormBwdRefIdeal.nD Cert.NormBwdRefIdeal.τ).loc Cert.NormBwdRefIdeal.main_v50) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v61) = v0 c
          ∧ r.2.mem ((c.tc : Thread Cert.LnBwdRefIdeal.nD Cert.LnBwdRefIdeal.τ).loc Cert.LnBwdRefIdeal.main_v62) = v1 c
          ∧ r.2.mem ((c.tc : Thread Cert.LnBwdRefIdeal.nD Cert.LnBwdRefIdeal.τ).loc Cert.LnBwdRefIdeal.main_v35) = v2 c
          ∧ r.2.mem ((c.tc : Thread Cert.LnBwdRefIdeal.nD Cert.LnBwdRefIdeal.τ).loc Cert.LnBwdRefIdeal.main_v32) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_LossBwd_LossBwdIdeal : Prop :=
  True

def algebraic_LossBwdIdeal_LossBwdRefIdeal_pre_finite_loss [hLossBwdIdeal : Cert.LossBwdIdeal.Facts] [hLossBwdRefIdeal : Cert.LossBwdRefIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal_finite_loss m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)) (v3 : (c : Dev Cert.LossBwdIdeal.nD) → Buf (Elt Ideal) ((c.tc : Thread Cert.LossBwdIdeal.nD Cert.LossBwdIdeal.τ).loc Cert.LossBwdIdeal.main_v0_3)) (v4 : (c : Dev Cert.LossBwdIdeal.nD) → Buf (Elt Ideal) ((c.tc : Thread Cert.LossBwdIdeal.nD Cert.LossBwdIdeal.τ).loc Cert.LossBwdIdeal.main_v0_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_v0_3) = v3 c
          ∧ r.2.mem ((c.tc : Thread Cert.LossBwdIdeal.nD Cert.LossBwdIdeal.τ).loc Cert.LossBwdIdeal.main_v0_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v75) = v0 c
          ∧ r.2.mem ((c.tc : Thread Cert.LossBwdRefIdeal.nD Cert.LossBwdRefIdeal.τ).loc Cert.LossBwdRefIdeal.main_v76) = v1 c
          ∧ r.2.mem ((c.tc : Thread Cert.LossBwdRefIdeal.nD Cert.LossBwdRefIdeal.τ).loc Cert.LossBwdRefIdeal.main_v49) = v2 c
          ∧ r.2.mem ((c.tc : Thread Cert.LossBwdRefIdeal.nD Cert.LossBwdRefIdeal.τ).loc Cert.LossBwdRefIdeal.main_v46) = v3 c
          ∧ r.2.mem ((c.tc : Thread Cert.LossBwdRefIdeal.nD Cert.LossBwdRefIdeal.τ).loc Cert.LossBwdRefIdeal.main_v77) = v4 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4))

def preserves_SwaFwd_SwaFwdIdeal : Prop :=
  IdealRules.named_const.Statement Cert.SwaFwdIdeal.κ "mask" .f32 0xF149F2CA#32 ⊥

def algebraic_SwaFwdIdeal_SwaFwdRefIdeal_pre_finite_swa [hSwaFwdIdeal : Cert.SwaFwdIdeal.Facts] [hSwaFwdRefIdeal : Cert.SwaFwdRefIdeal.Facts] [hPre_finite_swa : Cert.Pre_finite_swa.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_finite_swa m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v0)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v0) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v74) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2))

def Claim : Prop :=
  ∃ (hDownBwd : Cert.DownBwd.Facts) (hDownBwdIdeal : Cert.DownBwdIdeal.Facts) (hDownBwdRefIdeal : Cert.DownBwdRefIdeal.Facts) (hGradDown : Cert.GradDown.Facts) (hGradDownIdeal : Cert.GradDownIdeal.Facts) (hGradDownRefIdeal : Cert.GradDownRefIdeal.Facts) (hGradUp : Cert.GradUp.Facts) (hGradUpIdeal : Cert.GradUpIdeal.Facts) (hGradUpRefIdeal : Cert.GradUpRefIdeal.Facts) (hGradOut : Cert.GradOut.Facts) (hGradOutIdeal : Cert.GradOutIdeal.Facts) (hGradOutRefIdeal : Cert.GradOutRefIdeal.Facts) (hGradIn : Cert.GradIn.Facts) (hGradInIdeal : Cert.GradInIdeal.Facts) (hGradInRefIdeal : Cert.GradInRefIdeal.Facts) (hDcat : Cert.Dcat.Facts) (hDcatIdeal : Cert.DcatIdeal.Facts) (hDcatRefIdeal : Cert.DcatRefIdeal.Facts) (hGradX : Cert.GradX.Facts) (hGradXIdeal : Cert.GradXIdeal.Facts) (hGradXRefIdeal : Cert.GradXRefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hUpBwd : Cert.UpBwd.Facts) (hUpBwdIdeal : Cert.UpBwdIdeal.Facts) (hUpBwdRefIdeal : Cert.UpBwdRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hSwaBwd : Cert.SwaBwd.Facts) (hSwaBwdIdeal : Cert.SwaBwdIdeal.Facts) (hSwaBwdRefIdeal : Cert.SwaBwdRefIdeal.Facts) (hNormFwd : Cert.NormFwd.Facts) (hNormFwdIdeal : Cert.NormFwdIdeal.Facts) (hNormFwdRefIdeal : Cert.NormFwdRefIdeal.Facts) (hAdamGk2 : Cert.AdamGk2.Facts) (hAdamGk2Ideal : Cert.AdamGk2Ideal.Facts) (hAdamGk2RefIdeal : Cert.AdamGk2RefIdeal.Facts) (hAdamRep : Cert.AdamRep.Facts) (hAdamRepIdeal : Cert.AdamRepIdeal.Facts) (hAdamRepRefIdeal : Cert.AdamRepRefIdeal.Facts) (hNormBwd : Cert.NormBwd.Facts) (hNormBwdIdeal : Cert.NormBwdIdeal.Facts) (hNormBwdRefIdeal : Cert.NormBwdRefIdeal.Facts) (hLnBwd : Cert.LnBwd.Facts) (hLnBwdIdeal : Cert.LnBwdIdeal.Facts) (hLnBwdRefIdeal : Cert.LnBwdRefIdeal.Facts) (hLossBwd : Cert.LossBwd.Facts) (hLossBwdIdeal : Cert.LossBwdIdeal.Facts) (hLossBwdRefIdeal : Cert.LossBwdRefIdeal.Facts) (hSwaFwd : Cert.SwaFwd.Facts) (hSwaFwdIdeal : Cert.SwaFwdIdeal.Facts) (hSwaFwdRefIdeal : Cert.SwaFwdRefIdeal.Facts) (hPre_finite : Cert.Pre_finite.Facts) (hPre_finite_norm : Cert.Pre_finite_norm.Facts) (hPre_finite_ln : Cert.Pre_finite_ln.Facts) (hPre_finite_loss : Cert.Pre_finite_loss.Facts) (hPre_finite_swa : Cert.Pre_finite_swa.Facts),
    quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_Dcat (hDcat := hDcat)
    ∧ quiescent_DcatIdeal (hDcatIdeal := hDcatIdeal)
    ∧ quiescent_DcatRefIdeal (hDcatRefIdeal := hDcatRefIdeal)
    ∧ quiescent_GradX (hGradX := hGradX)
    ∧ quiescent_GradXIdeal (hGradXIdeal := hGradXIdeal)
    ∧ quiescent_GradXRefIdeal (hGradXRefIdeal := hGradXRefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp)
    ∧ quiescent_UpIdeal (hUpIdeal := hUpIdeal)
    ∧ quiescent_UpRefIdeal (hUpRefIdeal := hUpRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixRefIdeal (hMixRefIdeal := hMixRefIdeal)
    ∧ quiescent_SwaBwd (hSwaBwd := hSwaBwd)
    ∧ quiescent_SwaBwdIdeal (hSwaBwdIdeal := hSwaBwdIdeal)
    ∧ quiescent_SwaBwdIdeal_pre_finite (hSwaBwdIdeal := hSwaBwdIdeal) (hPre_finite := hPre_finite)
    ∧ quiescent_SwaBwdRefIdeal (hSwaBwdRefIdeal := hSwaBwdRefIdeal)
    ∧ quiescent_SwaBwdRefIdeal_pre_finite (hSwaBwdRefIdeal := hSwaBwdRefIdeal) (hPre_finite := hPre_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_AdamGk2 (hAdamGk2 := hAdamGk2)
    ∧ quiescent_AdamGk2Ideal (hAdamGk2Ideal := hAdamGk2Ideal)
    ∧ quiescent_AdamGk2RefIdeal (hAdamGk2RefIdeal := hAdamGk2RefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LossBwd (hLossBwd := hLossBwd)
    ∧ quiescent_LossBwdIdeal (hLossBwdIdeal := hLossBwdIdeal)
    ∧ quiescent_LossBwdIdeal_pre_finite_loss (hLossBwdIdeal := hLossBwdIdeal) (hPre_finite_loss := hPre_finite_loss)
    ∧ quiescent_LossBwdRefIdeal (hLossBwdRefIdeal := hLossBwdRefIdeal)
    ∧ quiescent_LossBwdRefIdeal_pre_finite_loss (hLossBwdRefIdeal := hLossBwdRefIdeal) (hPre_finite_loss := hPre_finite_loss)
    ∧ quiescent_SwaFwd (hSwaFwd := hSwaFwd)
    ∧ quiescent_SwaFwdIdeal (hSwaFwdIdeal := hSwaFwdIdeal)
    ∧ quiescent_SwaFwdIdeal_pre_finite_swa (hSwaFwdIdeal := hSwaFwdIdeal) (hPre_finite_swa := hPre_finite_swa)
    ∧ quiescent_SwaFwdRefIdeal (hSwaFwdRefIdeal := hSwaFwdRefIdeal)
    ∧ quiescent_SwaFwdRefIdeal_pre_finite_swa (hSwaFwdRefIdeal := hSwaFwdRefIdeal) (hPre_finite_swa := hPre_finite_swa)
    ∧ preserves_DownBwd_DownBwdIdeal
    ∧ algebraic_DownBwdIdeal_DownBwdRefIdeal (hDownBwdIdeal := hDownBwdIdeal) (hDownBwdRefIdeal := hDownBwdRefIdeal)
    ∧ preserves_GradDown_GradDownIdeal
    ∧ algebraic_GradDownIdeal_GradDownRefIdeal (hGradDownIdeal := hGradDownIdeal) (hGradDownRefIdeal := hGradDownRefIdeal)
    ∧ preserves_GradUp_GradUpIdeal
    ∧ algebraic_GradUpIdeal_GradUpRefIdeal (hGradUpIdeal := hGradUpIdeal) (hGradUpRefIdeal := hGradUpRefIdeal)
    ∧ preserves_GradOut_GradOutIdeal
    ∧ algebraic_GradOutIdeal_GradOutRefIdeal (hGradOutIdeal := hGradOutIdeal) (hGradOutRefIdeal := hGradOutRefIdeal)
    ∧ preserves_GradIn_GradInIdeal
    ∧ algebraic_GradInIdeal_GradInRefIdeal (hGradInIdeal := hGradInIdeal) (hGradInRefIdeal := hGradInRefIdeal)
    ∧ preserves_Dcat_DcatIdeal
    ∧ algebraic_DcatIdeal_DcatRefIdeal (hDcatIdeal := hDcatIdeal) (hDcatRefIdeal := hDcatRefIdeal)
    ∧ preserves_GradX_GradXIdeal
    ∧ algebraic_GradXIdeal_GradXRefIdeal (hGradXIdeal := hGradXIdeal) (hGradXRefIdeal := hGradXRefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal)
    ∧ preserves_UpBwd_UpBwdIdeal
    ∧ algebraic_UpBwdIdeal_UpBwdRefIdeal (hUpBwdIdeal := hUpBwdIdeal) (hUpBwdRefIdeal := hUpBwdRefIdeal)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal (hMixIdeal := hMixIdeal) (hMixRefIdeal := hMixRefIdeal)
    ∧ preserves_SwaBwd_SwaBwdIdeal
    ∧ algebraic_SwaBwdIdeal_SwaBwdRefIdeal_pre_finite (hSwaBwdIdeal := hSwaBwdIdeal) (hSwaBwdRefIdeal := hSwaBwdRefIdeal) (hPre_finite := hPre_finite)
    ∧ preserves_NormFwd_NormFwdIdeal
    ∧ algebraic_NormFwdIdeal_NormFwdRefIdeal (hNormFwdIdeal := hNormFwdIdeal) (hNormFwdRefIdeal := hNormFwdRefIdeal)
    ∧ preserves_AdamGk2_AdamGk2Ideal
    ∧ algebraic_AdamGk2Ideal_AdamGk2RefIdeal (hAdamGk2Ideal := hAdamGk2Ideal) (hAdamGk2RefIdeal := hAdamGk2RefIdeal)
    ∧ preserves_AdamRep_AdamRepIdeal
    ∧ algebraic_AdamRepIdeal_AdamRepRefIdeal (hAdamRepIdeal := hAdamRepIdeal) (hAdamRepRefIdeal := hAdamRepRefIdeal)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LossBwd_LossBwdIdeal
    ∧ algebraic_LossBwdIdeal_LossBwdRefIdeal_pre_finite_loss (hLossBwdIdeal := hLossBwdIdeal) (hLossBwdRefIdeal := hLossBwdRefIdeal) (hPre_finite_loss := hPre_finite_loss)
    ∧ preserves_SwaFwd_SwaFwdIdeal
    ∧ algebraic_SwaFwdIdeal_SwaFwdRefIdeal_pre_finite_swa (hSwaFwdIdeal := hSwaFwdIdeal) (hSwaFwdRefIdeal := hSwaFwdRefIdeal) (hPre_finite_swa := hPre_finite_swa)
-- ==== Pre_finite.lean ====
abbrev S4096x4480 : Shape := ⟨2, ![4096, 4480]⟩
abbrev S4096x2048 : Shape := ⟨2, ![4096, 2048]⟩
abbrev S16 : Shape := ⟨1, ![16]⟩
abbrev S_ : Shape := ⟨0, ![]⟩

class Facts : Prop where
  bcast_S_S4096x4480 : S_.BroadcastsInDim S4096x4480 (![] : Fin 0 → Fin S4096x4480.rank)
  reducesTo_S4096x4480_S_d0_1 : S4096x4480.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4096x4480 .f32) (main_arg1 : FVec F S4096x2048 .f32) (main_arg2 : FVec F S16 .f32) : IVec S_ 1 :=
  let main_v0 : FVec F S4096x4480 .f32 := Host.absf main_arg0
  let main_cst : FVec F S_ .f32 := constant S_ .f32 0x7F800000#32
  let main_v1 : FVec F S4096x4480 .f32 := broadcastInDim S4096x4480 ![] bcast_S_S4096x4480 main_cst
  let main_v2 : IVec S4096x4480 1 := cmpf .olt main_v0 main_v1
  let main_c : IVec S_ 1 := constantI S_ 1 1#1
  let main_v3 : IVec S_ 1 := (fun x v => Host.reduce IntOp.andi x v reducesTo_S4096x4480_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_finite_ln.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S4096x2048 .f32) (main_arg3 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Pre_finite_loss.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S1x2048 .f32) (main_arg4 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Pre_finite_norm.lean ====
abbrev S4096x2048 : Shape := ⟨2, ![4096, 2048]⟩
abbrev S4096x1024 : Shape := ⟨2, ![4096, 1024]⟩
abbrev S4096x4480 : Shape := ⟨2, ![4096, 4480]⟩
abbrev S1x256 : Shape := ⟨2, ![1, 256]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x4480 : S_.BroadcastsInDim S4096x4480 (![] : Fin 0 → Fin S4096x4480.rank)
  reducesTo_S4096x4480_S_d0_1 : S4096x4480.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : FVec F S4096x2048 .f32) (main_arg1 : FVec F S4096x1024 .f32) (main_arg2 : FVec F S4096x4480 .f32) (main_arg3 : FVec F S1x256 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x4480 .f32 := Host.absf main_arg2
  let main_cst_2 : FVec F S_ .f32 := constant S_ .f32 0x7F800000#32
  let main_v10 : FVec F S4096x4480 .f32 := broadcastInDim S4096x4480 ![] bcast_S_S4096x4480 main_cst_2
  let main_v11 : IVec S4096x4480 1 := cmpf .olt main_v9 main_v10
  let main_c_3 : IVec S_ 1 := constantI S_ 1 1#1
  let main_v12 : IVec S_ 1 := (fun x v => Host.reduce IntOp.andi x v reducesTo_S4096x4480_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v13 main_v16
-- ==== Pre_finite_swa.lean ====
abbrev S4096x4480 : Shape := ⟨2, ![4096, 4480]⟩
abbrev S16 : Shape := ⟨1, ![16]⟩
abbrev S4096x1024 : Shape := ⟨2, ![4096, 1024]⟩
abbrev S_ : Shape := ⟨0, ![]⟩

class Facts : Prop where
  bcast_S_S4096x4480 : S_.BroadcastsInDim S4096x4480 (![] : Fin 0 → Fin S4096x4480.rank)
  reducesTo_S4096x4480_S_d0_1 : S4096x4480.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x4480 .f32) (main_arg1 : FVec F S16 .f32) (main_arg2 : FVec F S4096x1024 .bf16) : IVec S_ 1 :=
  let main_v0 : FVec F S4096x4480 .f32 := Host.absf main_arg0
  let main_cst : FVec F S_ .f32 := constant S_ .f32 0x7F800000#32
  let main_v1 : FVec F S4096x4480 .f32 := broadcastInDim S4096x4480 ![] bcast_S_S4096x4480 main_cst
  let main_v2 : IVec S4096x4480 1 := cmpf .olt main_v0 main_v1
  let main_c : IVec S_ 1 := constantI S_ 1 1#1
  let main_v3 : IVec S_ 1 := (fun x v => Host.reduce IntOp.andi x v reducesTo_S4096x4480_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== DownBwd.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownBwdRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== GradDown.lean ====
abbrev S4096x8192 : Shape := ⟨2, ![4096, 8192]⟩
abbrev S4096x2048 : Shape := ⟨2, ![4096, 2048]⟩
abbrev S8x1024x2048 : Shape := ⟨3, ![8, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S8x1024x2048 : Shape := ⟨3, ![8, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8x1024x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradUp.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradOut.lean ====
abbrev S4096x2048 : Shape := ⟨2, ![4096, 2048]⟩
abbrev S8x256x2048 : Shape := ⟨3, ![8, 256, 2048]⟩
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x256x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4x256x1024, .f32⟩
  | .local _ .vmem, ⟨5, _⟩ => ⟨S4x256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRefIdeal.lean ====
abbrev S4096x2048 : Shape := ⟨2, ![4096, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradIn.lean ====
abbrev S4096x2048 : Shape := ⟨2, ![4096, 2048]⟩
abbrev S4096x4480 : Shape := ⟨2, ![4096, 4480]⟩
abbrev S4368x2048 : Shape := ⟨2, ![4368, 2048]⟩
abbrev S4096x896 : Shape := ⟨2, ![4096, 896]⟩
abbrev S4096x1024 : Shape := ⟨2, ![4096, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4480, .bf16⟩
  | .hbm, ⟨2, _⟩ => ⟨S4368x2048, .f32⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S4096x1024, .bf16⟩
  | .local _ .vmem, ⟨4, _⟩ => ⟨S896x1024, .f32⟩
  | .local _ .vmem, ⟨5, _⟩ => ⟨S896x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S4096x2048 : Shape := ⟨2, ![4096, 2048]⟩
abbrev S4096x4480 : Shape := ⟨2, ![4096, 4480]⟩
abbrev S_ : Shape := ⟨0, ![]⟩
abbrev S2048x4368 : Shape := ⟨2, ![2048, 4368]⟩
abbrev S4096x4368 : Shape := ⟨2, ![4096, 4368]⟩
abbrev S4368x2048 : Shape := ⟨2, ![4368, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4480, .bf16⟩
  | .hbm, ⟨2, _⟩ => ⟨S_, .f32⟩
  | .hbm, ⟨3, _⟩ => ⟨S2048x4368, .f32⟩
  | .hbm, ⟨4, _⟩ => ⟨S4096x2048, .f32⟩
  | .hbm, ⟨5, _⟩ => ⟨S4096x4368, .f32⟩
  | .hbm, ⟨6, _⟩ => ⟨S4096x4480, .f32⟩
  | .hbm, ⟨7, _⟩ => ⟨S4096x4368, .f32⟩
  | .hbm, ⟨8, _⟩ => ⟨S4368x2048, .f32⟩
  | .hbm, ⟨9, _⟩ => ⟨S2048x4368, .f32⟩
  | .hbm, ⟨10, _⟩ => ⟨S4368x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dcat.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradX.lean ====
abbrev S4096x4480 : Shape := ⟨2, ![4096, 4480]⟩
abbrev S4480x2048 : Shape := ⟨2, ![4480, 2048]⟩
abbrev S4096x2048 : Shape := ⟨2, ![4096, 2048]⟩
abbrev S512x4480 : Shape := ⟨2, ![512, 4480]⟩
abbrev S4480x1024 : Shape := ⟨2, ![4480, 1024]⟩
abbrev S512x1024 : Shape := ⟨2, ![512, 1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4480, .bf16⟩
  | .hbm, ⟨1, _⟩ => ⟨S4480x2048, .bf16⟩
  | .hbm, ⟨2, _⟩ => ⟨S4096x2048, .f32⟩
  | .hbm, ⟨3, _⟩ => ⟨S4096x2048, .f32⟩
  | .local _ .vmem, ⟨0, _⟩ => ⟨S512x4480, .bf16⟩
  | .local _ .vmem, ⟨1, _⟩ => ⟨S512x4480, .bf16⟩
  | .local _ .vmem, ⟨2, _⟩ => ⟨S4480x1024, .bf16⟩
  | .local _ .vmem, ⟨3, _⟩ => ⟨S4480x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4480x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXRefIdeal.lean ====
abbrev S4096x4480 : Shape := ⟨2, ![4096, 4480]⟩
abbrev S4480x2048 : Shape := ⟨2, ![4480, 2048]⟩
abbrev S4096x2048 : Shape := ⟨2, ![4096, 2048]⟩
abbrev S_ : Shape := ⟨0, ![]⟩
abbrev S2048x4480 : Shape := ⟨2, ![2048, 4480]⟩

abbrev nBuf : Space → Nat
  | .hbm => 17
  | .vmem => 0
  | .smem => 0
  | _ => 0

abbrev bufTy : (tb : Table) → Fin (tcTables nBuf tb) → BufTy
  | .hbm, ⟨0, _⟩ => ⟨S4096x4480, .bf16⟩
  | .hbm, ⟨1, _⟩ => ⟨S4480x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4480x2048, .f32⟩
  | .hbm, ⟨6, _⟩ => ⟨S2048x4480, .f32⟩
  | .hbm, ⟨7, _⟩ => ⟨S4096x4480, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x4480, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proj.lean ====
abbrev S4096x2048 : Shape := ⟨2, ![4096, 2048]⟩
abbrev S4480x2048 : Shape := ⟨2, ![4480, 2048]⟩
abbrev S4096x4480 : Shape := ⟨2, ![4096, 4480]⟩
abbrev S2048x2048 : Shape := ⟨2, ![2048, 2048]⟩
abbrev S896x2048 : Shape := ⟨2, ![896, 2048]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4480x2048, .bf16⟩
  | .hbm, ⟨2, _⟩ => ⟨S4096x4480, .f32⟩
  | .local _ .vmem, ⟨0, _⟩ => ⟨S2048x2048, .bf16⟩
  | .local _ .vmem, ⟨1, _⟩ => ⟨S2048x2048, .bf16⟩
  | .local _ .vmem, ⟨2, _⟩ => ⟨S896x2048, .bf16⟩
  | .local _ .vmem, ⟨3, _⟩ => ⟨S896x2048, .bf16⟩
  | .local _ .vmem, ⟨4, _⟩ => ⟨S2048x896, .f32⟩
  | .local _ .vmem, ⟨5, _⟩ => ⟨S2048x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S896x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S4480x2048 : Shape := ⟨2, ![4480, 2048]⟩
abbrev S2048x4480 : Shape := ⟨2, ![2048, 4480]⟩
abbrev S4096x4480 : Shape := ⟨2, ![4096, 4480]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4480x2048, .bf16⟩
  | .hbm, ⟨2, _⟩ => ⟨S4096x2048, .f32⟩
  | .hbm, ⟨3, _⟩ => ⟨S4480x2048, .f32⟩
  | .hbm, ⟨4, _⟩ => ⟨S2048x4480, .f32⟩
  | .hbm, ⟨5, _⟩ => ⟨S4096x4480, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== UpBwd.lean ====
abbrev S4096x8192 : Shape := ⟨2, ![4096, 8192]⟩
abbrev S8x2048x1024 : Shape := ⟨3, ![8, 2048, 1024]⟩
abbrev S4096x2048 : Shape := ⟨2, ![4096, 2048]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v19 : BitVec 1 := Scalar.cmpi .eq arg2 c0_i32
  let v20 : BitVec 32 := Scalar.extui v19
  let c0_i32_16 : BitVec 32 := 0#32
  let v21 : BitVec 1 := Scalar.cmpi .ne v20 c0_i32_16
  v21

def k0_cond2 (i : grid0.Coords) : BitVec 1 :=
  let arg2 : BitVec 32 := BitVec.ofNat 32 (i 2).val
  let c0_i32_17 : BitVec 32 := 0#32
  let v22 : BitVec 1 := Scalar.cmpi .sgt arg2 c0_i32_17
  let v23 : BitVec 32 := Scalar.extui v22
  let c0_i32_18 : BitVec 32 := 0#32
  let v24 : BitVec 1 := Scalar.cmpi .ne v23 c0_i32_18
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdRefIdeal.lean ====
abbrev S4096x8192 : Shape := ⟨2, ![4096, 8192]⟩
abbrev S8x2048x1024 : Shape := ⟨3, ![8, 2048, 1024]⟩
abbrev S_ : Shape := ⟨0, ![]⟩
abbrev S4096x2048 : Shape := ⟨2, ![4096, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S_, .f32⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SwaBwd.lean ====
abbrev S4096x4480 : Shape := ⟨2, ![4096, 4480]⟩
abbrev S4096x2048 : Shape := ⟨2, ![4096, 2048]⟩
abbrev S16 : Shape := ⟨1, ![16]⟩
abbrev S4096x1024 : Shape := ⟨2, ![4096, 1024]⟩
abbrev S4096x128 : Shape := ⟨2, ![4096, 128]⟩
abbrev S1x128 : Shape := ⟨2, ![1, 128]⟩
abbrev S128x1024 : Shape := ⟨2, ![128, 1024]⟩
abbrev S128x128 : Shape := ⟨2, ![128, 128]⟩
abbrev S1024x1 : Shape := ⟨2, ![1024, 1]⟩
abbrev S1x256 : Shape := ⟨2, ![1, 256]⟩
abbrev S1024x256 : Shape := ⟨2, ![1024, 256]⟩
abbrev S256x128 : Shape := ⟨2, ![256, 128]⟩
abbrev S1024x128 : Shape := ⟨2, ![1024, 128]⟩
abbrev S1 : Shape := ⟨1, ![1]⟩
abbrev S128x1 : Shape := ⟨2, ![128, 1]⟩
abbrev S1024 : Shape := ⟨1, ![1024]⟩
abbrev S1x128x1 : Shape := ⟨3, ![1, 128, 1]⟩
abbrev S1x1x1 : Shape := ⟨3, ![1, 1, 1]⟩

abbrev nBuf : Space → Nat
  | .hbm => 7
  | .vmem => 17
  | .smem => 1
  | _ => 0

abbrev bufTy : (tb : Table) → Fin (tcTables nBuf tb) → BufTy
  | .hbm, ⟨0, _⟩ => ⟨S4096x4480, .f32⟩
  | .hbm, ⟨1, _⟩ => ⟨S4096x2048, .f32⟩
  | .hbm, ⟨2, _⟩ => ⟨S16, .f32⟩
  | .hbm, ⟨3, _⟩ => ⟨S4096x1024, .bf16⟩
  | .hbm, ⟨4, _⟩ => ⟨S4096x128, .f32⟩
  | .hbm, ⟨5, _⟩ => ⟨S4096x128, .f32⟩
  | .hbm, ⟨6, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S4096x128, .f32⟩
  | .local _ .vmem, ⟨15, _⟩ => ⟨S4096x128, .f32⟩
  | .local _ .vmem, ⟨16, _⟩ => ⟨S1x128, .f32⟩
  | .local _ .smem, ⟨0, _⟩ => ⟨S16, .f32⟩
  | _, _ => ⟨S4096x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32_169 : BitVec 32 := 128#32
  let v606 : BitVec 32 := Scalar.muli arg0 c128_i32_169
  v606
def k0_off1 (i : grid0.Coords) : Fin 2 → Nat :=
  let arg0 : BitVec 32 := BitVec.ofNat 32 (i 0).val
  let c128_i32_169 : BitVec 32 := 128#32
  let v606 : BitVec 32 := Scalar.muli arg0 c128_i32_169
  let v607 : BitVec 32 := v606
  let v608 : Index := Scalar.indexCast v607
  let c0_170 : Index := 0#32
  ![v608.toNat, 0]
def k0_cond2 (i : grid0.Coords) : BitVec 1 :=
  let arg0 : BitVec 32 := BitVec.ofNat 32 (i 0).val
  let c0_i32_174 : BitVec 32 := 0#32
  let v622 : BitVec 1 := Scalar.cmpi .sgt arg0 c0_i32_174
  let v623 : BitVec 32 := Scalar.extui v622
  let c0_i32_175 : BitVec 32 := 0#32
  let v624 : BitVec 1 := Scalar.cmpi .ne v623 c0_i32_175
  v624

def k0_mult2 (i : grid0.Coords) : BitVec 32 :=
  let arg0 : BitVec 32 := BitVec.ofNat 32 (i 0).val
  let c1_i32_176 : BitVec 32 := 1#32
  let v625 : BitVec 32 := Scalar.subi arg0 c1_i32_176
  let c128_i32_177 : BitVec 32 := 128#32
  let v626 : BitVec 32 := Scalar.muli v625 c128_i32_177
  v626
def k0_off2 (i : grid0.Coords) : Fin 2 → Nat :=
  let arg0 : BitVec 32 := BitVec.ofNat 32 (i 0).val
  let c1_i32_176 : BitVec 32 := 1#32
  let v625 : BitVec 32 := Scalar.subi arg0 c1_i32_176
  let c128_i32_177 : BitVec 32 := 128#32
  let v626 : BitVec 32 := Scalar.muli v625 c128_i32_177
  let v627 : BitVec 32 := v626
  let v628 : Index := Scalar.indexCast v627
  let c0_178 : Index := 0#32
  ![v628.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  ![v1.toNat, c32_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let c0_i32_0 : BitVec 32 := 0#32
  ![v1.toNat, c33_i32.toNat]

def cc0_transform_5 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SwaBwdIdeal.lean ====
variable {F : FTy → Type} [FloatOps F] [Named F]
def κ : String → Option EReal := fun
  | "mask" => some ⊥
  | _ => none
-- ==== SwaBwdRefIdeal.lean ====
abbrev S4096x4480 : Shape := ⟨2, ![4096, 4480]⟩
abbrev S4096x2048 : Shape := ⟨2, ![4096, 2048]⟩
abbrev S16 : Shape := ⟨1, ![16]⟩
abbrev S4096x1024 : Shape := ⟨2, ![4096, 1024]⟩
abbrev S1x4096x16x64 : Shape := ⟨4, ![1, 4096, 16, 64]⟩
abbrev S4096x128 : Shape := ⟨2, ![4096, 128]⟩
abbrev S1x4096x2x64 : Shape := ⟨4, ![1, 4096, 2, 64]⟩
abbrev S1x4096x1024 : Shape := ⟨3, ![1, 4096, 1024]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x32x2x64x256 : Shape := ⟨5, ![1, 32, 2, 64, 256]⟩
abbrev S1x2x8x1 : Shape := ⟨4, ![1, 2, 8, 1]⟩
abbrev S32x2x8x128 : Shape := ⟨4, ![32, 2, 8, 128]⟩
abbrev S1x32x2x128x8x64 : Shape := ⟨6, ![1, 32, 2, 128, 8, 64]⟩
abbrev S1x32x2x256x64 : Shape := ⟨5, ![1, 32, 2, 256, 64]⟩
abbrev S1x128 : Shape := ⟨2, ![1, 128]⟩

abbrev nBuf : Space → Nat
  | .hbm => 211
  | .vmem => 0
  | .smem => 0
  | _ => 0

abbrev hbmTy0_0 (i : Nat) : BufTy := match i % 128 with
  | 0 => ⟨S4096x4480, .f32⟩
  | 1 => ⟨S4096x2048, .f32⟩
  | 2 => ⟨S16, .f32⟩
  | 3 => ⟨S4096x1024, .f32⟩
  | 4 => ⟨S1x4096x16x64, .f32⟩
  | 5 => ⟨S4096x128, .f32⟩
  | 6 => ⟨S1x4096x2x64, .f32⟩
  | 7 => ⟨S4096x128, .f32⟩
  | 8 => ⟨S1x4096x2x64, .f32⟩
  | 9 => ⟨S4096x1024, .f32⟩
  | 10 => ⟨S1x4096x1024, .f32⟩
  | 11 => ⟨S1x32x128x2x8x64, .f32⟩
  | 12 => ⟨S1x32x128x2x64, .f32⟩
  | 13 => ⟨S1x1x128x2x64, .f32⟩
  | 14 => ⟨S_, .f32⟩
  | 15 => ⟨S1x1x128x2x64, .f32⟩
  | 16 => ⟨S1x31x128x2x64, .f32⟩
  | 17 => ⟨S1x32x128x2x64, .f32⟩
  | 18 => ⟨S_, .f32⟩
  | 19 => ⟨S1x1x128x2x64, .f32⟩
  | 20 => ⟨S1x32x256x2x64, .f32⟩
  | 21 => ⟨S1x32x128x2x64, .f32⟩
  | 22 => ⟨S1x1x128x2x64, .f32⟩
  | 23 => ⟨S_, .f32⟩
  | 24 => ⟨S1x1x128x2x64, .f32⟩
  | 25 => ⟨S1x31x128x2x64, .f32⟩
  | 26 => ⟨S1x32x128x2x64, .f32⟩
  | 27 => ⟨S_, .f32⟩
  | 28 => ⟨S1x1x128x2x64, .f32⟩
  | 29 => ⟨S1x32x256x2x64, .f32⟩
  | 30 => ⟨S1x32x2x256x128x8, .f32⟩
  | 31 => ⟨S1x32x2x8x128x256, .f32⟩
  | 32 => ⟨S_, .f32⟩
  | 33 => ⟨S1x32x2x8x128x256, .f32⟩
  | 34 => ⟨S1x32x2x8x128x256, .f32⟩
  | 35 => ⟨S128, .i32⟩
  | 36 => ⟨S128x1, .i32⟩
  | 37 => ⟨S256, .i32⟩
  | 38 => ⟨S1x256, .i32⟩
  | 39 => ⟨S128x256, .i32⟩
  | 40 => ⟨S128x256, .i32⟩
  | 41 => ⟨S128x256, .i1⟩
  | 42 => ⟨S_, .i32⟩
  | 43 => ⟨S128x1, .i32⟩
  | 44 => ⟨S128x1, .i32⟩
  | 45 => ⟨S128x256, .i32⟩
  | 46 => ⟨S128x256, .i32⟩
  | 47 => ⟨S128x256, .i1⟩
  | 48 => ⟨S128x256, .i1⟩
  | 49 => ⟨S32, .i32⟩
  | 50 => ⟨S32x1x1, .i32⟩
  | 51 => ⟨S1x128x256, .i1⟩
  | 52 => ⟨S_, .i32⟩
  | 53 => ⟨S32x1x1, .i32⟩
  | 54 => ⟨S32x1x1, .i1⟩
  | 55 => ⟨S1x1x256, .i32⟩
  | 56 => ⟨S_, .i32⟩
  | 57 => ⟨S1x1x256, .i32⟩
  | 58 => ⟨S1x1x256, .i1⟩
  | 59 => ⟨S32x1x256, .i1⟩
  | 60 => ⟨S32x1x256, .i1⟩
  | 61 => ⟨S32x1x256, .i1⟩
  | 62 => ⟨S32x128x256, .i1⟩
  | 63 => ⟨S32x128x256, .i1⟩
  | 64 => ⟨S32x128x256, .i1⟩
  | 65 => ⟨S1x32x1x1x128x256, .i1⟩
  | 66 => ⟨S_, .f32⟩
  | 67 => ⟨S_, .f32⟩
  | 68 => ⟨S1x32x2x8x128x256, .i1⟩
  | 69 => ⟨S1x32x2x8x128x256, .f32⟩
  | 70 => ⟨S1x32x2x8x128x256, .f32⟩
  | 71 => ⟨S_, .f32⟩
  | 72 => ⟨S1x32x2x8x128x256, .f32⟩
  | 73 => ⟨S2x8, .f32⟩
  | 74 => ⟨S1x1x2x8x1x1, .f32⟩
  | 75 => ⟨S_, .f32⟩
  | 76 => ⟨S1x32x2x8x128, .f32⟩
  | 77 => ⟨S1x32x2x8x128x1, .f32⟩
  | 78 => ⟨S1x32x2x8x128x256, .f32⟩
  | 79 => ⟨S1x32x2x8x128x256, .i1⟩
  | 80 => ⟨S1x32x2x8x128x256, .f32⟩
  | 81 => ⟨S_, .f32⟩
  | 82 => ⟨S1x32x2x8x128, .f32⟩
  | 83 => ⟨S1x32x2x8x128x1, .f32⟩
  | 84 => ⟨S1x32x2x8x128x1, .f32⟩
  | 85 => ⟨S1x32x2x8x128x1, .f32⟩
  | 86 => ⟨S1x32x2x8x128x1, .f32⟩
  | 87 => ⟨S1x32x2x8x128x1, .i1⟩
  | 88 => ⟨S1x32x2x8x128x1, .f32⟩
  | 89 => ⟨S1x32x2x8x128x1, .i1⟩
  | 90 => ⟨S_, .f32⟩
  | 91 => ⟨S1x32x2x8x128x1, .f32⟩
  | 92 => ⟨S_, .f32⟩
  | 93 => ⟨S1x32x2x8x128x1, .f32⟩
  | 94 => ⟨S_, .f32⟩
  | 95 => ⟨S1x32x2x8x128x1, .f32⟩
  | 96 => ⟨S1x32x2x8x128x1, .f32⟩
  | 97 => ⟨S1x32x2x8x128x1, .f32⟩
  | 98 => ⟨S1x32x2x8x128x1, .f32⟩
  | 99 => ⟨S1x32x2x8x128x1, .i1⟩
  | 100 => ⟨S1x32x2x8x128x1, .f32⟩
  | 101 => ⟨S1x32x2x8x128x1, .i1⟩
  | 102 => ⟨S_, .f32⟩
  | 103 => ⟨S1x32x2x8x128x1, .f32⟩
  | 104 => ⟨S_, .f32⟩
  | 105 => ⟨S1x32x2x8x128x1, .f32⟩
  | 106 => ⟨S_, .f32⟩
  | 107 => ⟨S1x32x2x8x128x1, .f32⟩
  | 108 => ⟨S1x32x2x8x128x1, .f32⟩
  | 109 => ⟨S1x32x2x8x128x1, .f32⟩
  | 110 => ⟨S1x32x2x8x128x256, .f32⟩
  | 111 => ⟨S1x32x2x8x128x256, .f32⟩
  | 112 => ⟨S1x32x2x8x128x256, .f32⟩
  | 113 => ⟨S_, .f32⟩
  | 114 => ⟨S1x32x2x8x128, .f32⟩
  | 115 => ⟨S1x32x2x8x128x1, .f32⟩
  | 116 => ⟨S1x32x2x8x128x1, .f32⟩
  | 117 => ⟨S1x32x2x8x128x1, .f32⟩
  | 118 => ⟨S1x32x2x8x128x1, .f32⟩
  | 119 => ⟨S1x32x2x8x128x1, .f32⟩
  | 120 => ⟨S1x32x2x8x128x256, .f32⟩
  | 121 => ⟨S1x32x2x8x128x256, .f32⟩
  | 122 => ⟨S1x32x2x8x128x1, .f32⟩
  | 123 => ⟨S_, .f32⟩
  | 124 => ⟨S1x32x2x8x128x1, .f32⟩
  | 125 => ⟨S1x32x2x8x128x1, .f32⟩
  | 126 => ⟨S1x32x2x64x8x128, .f32⟩
  | 127 => ⟨S1x32x128x2x8x64, .f32⟩
  | _ => ⟨S4096x4480, .f32⟩

abbrev hbmTy0_1 (i : Nat) : BufTy := match i % 128 with
  | 0 => ⟨S1x4096x1024, .f32⟩
  | 1 => ⟨S1x32x128x2x8x64, .f32⟩
  | 2 => ⟨S1x32x2x64x8x128, .f32⟩
  | 3 => ⟨S1x32x2x8x128x256, .f32⟩
  | 4 => ⟨S1x32x2x64x256, .f32⟩
  | 5 => ⟨S1x32x256x2x64, .f32⟩
  | 6 => ⟨S1x32x2x8x128x256, .f32⟩
  | 7 => ⟨S1x32x2x8x128x256, .f32⟩
  | 8 => ⟨S1x32x2x8x128x256, .f32⟩
  | 9 => ⟨S_, .f32⟩
  | 10 => ⟨S1x32x2x8x128, .f32⟩
  | 11 => ⟨S1x32x2x8x128x1, .f32⟩
  | 12 => ⟨S1x32x2x8x128x1, .f32⟩
  | 13 => ⟨S1x32x2x8x128x256, .f32⟩
  | 14 => ⟨S1x32x2x8x128x256, .f32⟩
  | 15 => ⟨S1x32x2x8x128x1, .f32⟩
  | 16 => ⟨S_, .f32⟩
  | 17 => ⟨S1x2x8x1, .f32⟩
  | 18 => ⟨S1x1x2x8x1x1, .f32⟩
  | 19 => ⟨S1x32x2x8x128x1, .f32⟩
  | 20 => ⟨S_, .f32⟩
  | 21 => ⟨S32x2x8x128, .f32⟩
  | 22 => ⟨S1x32x2x8x128, .f32⟩
  | 23 => ⟨S1x32x2x8x128x256, .f32⟩
  | 24 => ⟨S1x32x2x8x128x256, .f32⟩
  | 25 => ⟨S1x32x2x8x128x256, .f32⟩
  | 26 => ⟨S1x32x2x8x128x256, .f32⟩
  | 27 => ⟨S_, .f32⟩
  | 28 => ⟨S1x32x2x8x128, .f32⟩
  | 29 => ⟨S1x32x2x8x128x1, .f32⟩
  | 30 => ⟨S1x32x2x8x128x1, .f32⟩
  | 31 => ⟨S1x32x2x8x128x1, .f32⟩
  | 32 => ⟨S_, .f32⟩
  | 33 => ⟨S1x2x8x1, .f32⟩
  | 34 => ⟨S1x1x2x8x1x1, .f32⟩
  | 35 => ⟨S1x1x2x8x1x1, .f32⟩
  | 36 => ⟨S1x32x2x8x128x1, .f32⟩
  | 37 => ⟨S_, .f32⟩
  | 38 => ⟨S32x2x8x128, .f32⟩
  | 39 => ⟨S1x32x2x8x128, .f32⟩
  | 40 => ⟨S1x32x2x8x128, .f32⟩
  | 41 => ⟨S1x32x2x8x128x256, .f32⟩
  | 42 => ⟨S1x32x2x8x128x256, .f32⟩
  | 43 => ⟨S1x32x2x8x128x256, .f32⟩
  | 44 => ⟨S_, .f32⟩
  | 45 => ⟨S2x8, .f32⟩
  | 46 => ⟨S16, .f32⟩
  | 47 => ⟨S_, .f32⟩
  | 48 => ⟨S1x32x2x8x128x256, .f32⟩
  | 49 => ⟨S1x32x2x8x128x256, .f32⟩
  | 50 => ⟨S_, .f32⟩
  | 51 => ⟨S1x32x2x8x128x256, .f32⟩
  | 52 => ⟨S1x32x2x8x128x256, .f32⟩
  | 53 => ⟨S1x32x2x256x128x8, .f32⟩
  | 54 => ⟨S1x32x2x128x8x64, .f32⟩
  | 55 => ⟨S1x32x128x2x8x64, .f32⟩
  | 56 => ⟨S1x32x2x256x64, .f32⟩
  | 57 => ⟨S1x32x256x2x64, .f32⟩
  | 58 => ⟨S1x32x128x2x64, .f32⟩
  | 59 => ⟨S1x32x128x2x64, .f32⟩
  | 60 => ⟨S1x1x128x2x64, .f32⟩
  | 61 => ⟨S1x31x128x2x64, .f32⟩
  | 62 => ⟨S_, .f32⟩
  | 63 => ⟨S1x32x128x2x64, .f32⟩
  | 64 => ⟨S1x32x128x2x64, .f32⟩
  | 65 => ⟨S1x4096x2x64, .f32⟩
  | 66 => ⟨S1x32x128x2x64, .f32⟩
  | 67 => ⟨S1x32x128x2x64, .f32⟩
  | 68 => ⟨S1x1x128x2x64, .f32⟩
  | 69 => ⟨S1x31x128x2x64, .f32⟩
  | 70 => ⟨S_, .f32⟩
  | 71 => ⟨S1x32x128x2x64, .f32⟩
  | 72 => ⟨S1x32x128x2x64, .f32⟩
  | 73 => ⟨S1x4096x2x64, .f32⟩
  | 74 => ⟨S1x4096x16x64, .f32⟩
  | 75 => ⟨S4096x1024, .f32⟩
  | 76 => ⟨S4096x1024, .bf16⟩
  | 77 => ⟨S4096x128, .f32⟩
  | 78 => ⟨S4096x128, .f32⟩
  | 79 => ⟨S_, .i32⟩
  | 80 => ⟨S_, .f32⟩
  | 81 => ⟨S128, .f32⟩
  | 82 => ⟨S1x128, .f32⟩
  | _ => ⟨S4096x4480, .f32⟩

abbrev hbmTy (i : Nat) : BufTy := match i / 128 with
  | 0 => hbmTy0_0 i
  | 1 => hbmTy0_1 i
  | _ => ⟨S4096x4480, .f32⟩

abbrev bufTy : (tb : Table) → Fin (tcTables nBuf tb) → BufTy
  | .hbm, ⟨i, _⟩ => hbmTy i
  | _, _ => ⟨S4096x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_call0_v0 : Ref sig .tc := ⟨.hbm, 67, rfl⟩
abbrev main_v55_1 : Ref sig .tc := ⟨.hbm, 68, rfl⟩
abbrev main_call0_v2 : Ref sig .tc := ⟨.hbm, 69, rfl⟩
abbrev main_v55_0 : Ref sig .tc := ⟨.hbm, 70, rfl⟩
abbrev main_call0_cst : Ref sig .tc := ⟨.hbm, 71, rfl⟩
abbrev main_v55_2 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_16 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_17 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_18 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_19 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_20 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_21 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_22 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_23 : Ref sig .tc := ⟨.hbm, 172, rfl⟩
abbrev main_v139 : Ref sig .tc := ⟨.hbm, 173, rfl⟩
abbrev main_v140 : Ref sig .tc := ⟨.hbm, 174, rfl⟩
abbrev main_call1_cst : Ref sig .tc := ⟨.hbm, 175, rfl⟩
abbrev main_call1_v0 : Ref sig .tc := ⟨.hbm, 176, rfl⟩
abbrev main_v141 : Ref sig .tc := ⟨.hbm, 177, rfl⟩
abbrev main_cst_24 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_25 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_26 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_c_27 : Ref sig .tc := ⟨.hbm, 207, rfl⟩
abbrev main_call2_v0 : Ref sig .tc := ⟨.hbm, 208, rfl⟩
abbrev main_v168 : Ref sig .tc := ⟨.hbm, 209, rfl⟩
abbrev main_v169 : Ref sig .tc := ⟨.hbm, 210, rfl⟩

abbrev nD : Nat := 1
abbrev τ : Topo := Topo.v7x

variable {F : FTy → Type} [FloatOps F]
-- ==== NormFwd.lean ====
abbrev S4096x1024 : Shape := ⟨2, ![4096, 1024]⟩
abbrev S4096x4480 : Shape := ⟨2, ![4096, 4480]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4480, .f32⟩
  | .hbm, ⟨2, _⟩ => ⟨S1x256, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x256, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S4096x1024 : Shape := ⟨2, ![4096, 1024]⟩
abbrev S4096x4480 : Shape := ⟨2, ![4096, 4480]⟩
abbrev S1x256 : Shape := ⟨2, ![1, 256]⟩
abbrev S4096x4x256 : Shape := ⟨3, ![4096, 4, 256]⟩
abbrev S256 : Shape := ⟨1, ![256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4480, .f32⟩
  | .hbm, ⟨2, _⟩ => ⟨S1x256, .f32⟩
  | .hbm, ⟨3, _⟩ => ⟨S4096x4x256, .f32⟩
  | .hbm, ⟨4, _⟩ => ⟨S4096x1024, .f32⟩
  | .hbm, ⟨5, _⟩ => ⟨S4096x4x256, .f32⟩
  | .hbm, ⟨6, _⟩ => ⟨S256, .f32⟩
  | .hbm, ⟨7, _⟩ => ⟨S4096x4x256, .f32⟩
  | .hbm, ⟨8, _⟩ => ⟨S_, .f32⟩
  | .hbm, ⟨9, _⟩ => ⟨S4096x4, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S4096x4x256, .f32⟩
  | .hbm, ⟨19, _⟩ => ⟨S4096x4x256, .f32⟩
  | .hbm, ⟨20, _⟩ => ⟨S1x1x256, .f32⟩
  | .hbm, ⟨21, _⟩ => ⟨S4096x4x256, .f32⟩
  | .hbm, ⟨22, _⟩ => ⟨S4096x4x256, .f32⟩
  | .hbm, ⟨23, _⟩ => ⟨S4096x4x256, .f32⟩
  | .hbm, ⟨24, _⟩ => ⟨S4096x4x256, .f32⟩
  | .hbm, ⟨25, _⟩ => ⟨S_, .f32⟩
  | .hbm, ⟨26, _⟩ => ⟨S4096x4x256, .f32⟩
  | .hbm, ⟨27, _⟩ => ⟨S4096x4x256, .f32⟩
  | .hbm, ⟨28, _⟩ => ⟨S_, .f32⟩
  | .hbm, ⟨29, _⟩ => ⟨S4096x4x256, .f32⟩
  | .hbm, ⟨30, _⟩ => ⟨S4096x4x256, .f32⟩
  | .hbm, ⟨31, _⟩ => ⟨S4096x4x256, .f32⟩
  | .hbm, ⟨32, _⟩ => ⟨S4096x4x256, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== AdamGk2.lean ====
abbrev S16x64 : Shape := ⟨2, ![16, 64]⟩
abbrev S1x16x64 : Shape := ⟨3, ![1, 16, 64]⟩

abbrev nBuf : Space → Nat
  | .hbm => 10
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S1x16x64, .f32⟩
  | .hbm, ⟨2, _⟩ => ⟨S1x16x64, .f32⟩
  | .hbm, ⟨3, _⟩ => ⟨S1x16x64, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S16x64, .f32⟩
  | .hbm, ⟨9, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGk2RefIdeal.lean ====
abbrev S16x64 : Shape := ⟨2, ![16, 64]⟩
abbrev S1x16x64 : Shape := ⟨3, ![1, 16, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S1x16x64, .f32⟩
  | .hbm, ⟨2, _⟩ => ⟨S1x16x64, .f32⟩
  | .hbm, ⟨3, _⟩ => ⟨S1x16x64, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x64, .f32⟩
  | .hbm, ⟨13, _⟩ => ⟨S16x64, .f32⟩
  | .hbm, ⟨14, _⟩ => ⟨S_, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S_, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S_, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S_, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S_, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S_, .f32⟩
  | .hbm, ⟨38, _⟩ => ⟨S16x64, .f32⟩
  | .hbm, ⟨39, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRep.lean ====
abbrev S88x128 : Shape := ⟨2, ![88, 128]⟩

abbrev nBuf : Space → Nat
  | .hbm => 7
  | .vmem => 7
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRepRefIdeal.lean ====
abbrev S88x128 : Shape := ⟨2, ![88, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S88x128, .f32⟩
  | .hbm, ⟨7, _⟩ => ⟨S_, .f32⟩
  | .hbm, ⟨8, _⟩ => ⟨S88x128, .f32⟩
  | .hbm, ⟨9, _⟩ => ⟨S88x128, .f32⟩
  | .hbm, ⟨10, _⟩ => ⟨S88x128, .f32⟩
  | .hbm, ⟨11, _⟩ => ⟨S_, .f32⟩
  | .hbm, ⟨12, _⟩ => ⟨S88x128, .f32⟩
  | .hbm, ⟨13, _⟩ => ⟨S88x128, .f32⟩
  | .hbm, ⟨14, _⟩ => ⟨S88x128, .f32⟩
  | .hbm, ⟨15, _⟩ => ⟨S_, .f32⟩
  | .hbm, ⟨16, _⟩ => ⟨S88x128, .f32⟩
  | .hbm, ⟨17, _⟩ => ⟨S88x128, .f32⟩
  | .hbm, ⟨18, _⟩ => ⟨S88x128, .f32⟩
  | .hbm, ⟨19, _⟩ => ⟨S_, .f32⟩
  | .hbm, ⟨20, _⟩ => ⟨S88x128, .f32⟩
  | .hbm, ⟨21, _⟩ => ⟨S88x128, .f32⟩
  | .hbm, ⟨22, _⟩ => ⟨S_, .f32⟩
  | .hbm, ⟨23, _⟩ => ⟨S88x128, .f32⟩
  | .hbm, ⟨24, _⟩ => ⟨S88x128, .f32⟩
  | .hbm, ⟨25, _⟩ => ⟨S88x128, .f32⟩
  | .hbm, ⟨26, _⟩ => ⟨S_, .f32⟩
  | .hbm, ⟨27, _⟩ => ⟨S88x128, .f32⟩
  | .hbm, ⟨28, _⟩ => ⟨S88x128, .f32⟩
  | .hbm, ⟨29, _⟩ => ⟨S88x128, .f32⟩
  | .hbm, ⟨30, _⟩ => ⟨S_, .f32⟩
  | .hbm, ⟨31, _⟩ => ⟨S88x128, .f32⟩
  | .hbm, ⟨32, _⟩ => ⟨S88x128, .f32⟩
  | .hbm, ⟨33, _⟩ => ⟨S88x128, .f32⟩
  | .hbm, ⟨34, _⟩ => ⟨S_, .f32⟩
  | .hbm, ⟨35, _⟩ => ⟨S88x128, .f32⟩
  | .hbm, ⟨36, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S4096x2048 : Shape := ⟨2, ![4096, 2048]⟩
abbrev S4096x1024 : Shape := ⟨2, ![4096, 1024]⟩
abbrev S4096x4480 : Shape := ⟨2, ![4096, 4480]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x4480, .f32⟩
  | .hbm, ⟨3, _⟩ => ⟨S1x256, .f32⟩
  | .hbm, ⟨4, _⟩ => ⟨S4096x1024, .f32⟩
  | .hbm, ⟨5, _⟩ => ⟨S4096x1024, .bf16⟩
  | .hbm, ⟨6, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x256, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S4096x1024 : Shape := ⟨2, ![4096, 1024]⟩
abbrev S4096x4480 : Shape := ⟨2, ![4096, 4480]⟩
abbrev S1x256 : Shape := ⟨2, ![1, 256]⟩
abbrev S4096x4x256 : Shape := ⟨3, ![4096, 4, 256]⟩
abbrev S256 : Shape := ⟨1, ![256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x4480, .f32⟩
  | .hbm, ⟨3, _⟩ => ⟨S1x256, .f32⟩
  | .hbm, ⟨4, _⟩ => ⟨S4096x1024, .f32⟩
  | .hbm, ⟨5, _⟩ => ⟨S4096x4x256, .f32⟩
  | .hbm, ⟨6, _⟩ => ⟨S4096x4x256, .f32⟩
  | .hbm, ⟨7, _⟩ => ⟨S4096x1024, .f32⟩
  | .hbm, ⟨8, _⟩ => ⟨S4096x4x256, .f32⟩
  | .hbm, ⟨9, _⟩ => ⟨S256, .f32⟩
  | .hbm, ⟨10, _⟩ => ⟨S4096x4x256, .f32⟩
  | .hbm, ⟨11, _⟩ => ⟨S_, .f32⟩
  | .hbm, ⟨12, _⟩ => ⟨S4096x4x256, .f32⟩
  | .hbm, ⟨13, _⟩ => ⟨S4096x4x256, .f32⟩
  | .hbm, ⟨14, _⟩ => ⟨S_, .f32⟩
  | .hbm, ⟨15, _⟩ => ⟨S4096x4, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S_, .f32⟩
  | .hbm, ⟨26, _⟩ => ⟨S4096x4x1, .f32⟩
  | .hbm, ⟨27, _⟩ => ⟨S4096x4x1, .f32⟩
  | .hbm, ⟨28, _⟩ => ⟨S4096x4x256, .f32⟩
  | .hbm, ⟨29, _⟩ => ⟨S4096x4x256, .f32⟩
  | .hbm, ⟨30, _⟩ => ⟨S1x1x256, .f32⟩
  | .hbm, ⟨31, _⟩ => ⟨S4096x4x256, .f32⟩
  | .hbm, ⟨32, _⟩ => ⟨S4096x4x256, .f32⟩
  | .hbm, ⟨33, _⟩ => ⟨S4096x4x256, .f32⟩
  | .hbm, ⟨34, _⟩ => ⟨S4096x4x256, .f32⟩
  | .hbm, ⟨35, _⟩ => ⟨S_, .f32⟩
  | .hbm, ⟨36, _⟩ => ⟨S4096x4x256, .f32⟩
  | .hbm, ⟨37, _⟩ => ⟨S4096x4x256, .f32⟩
  | .hbm, ⟨38, _⟩ => ⟨S_, .f32⟩
  | .hbm, ⟨39, _⟩ => ⟨S4096x4x256, .f32⟩
  | .hbm, ⟨40, _⟩ => ⟨S4096x4x256, .f32⟩
  | .hbm, ⟨41, _⟩ => ⟨S_, .f32⟩
  | .hbm, ⟨42, _⟩ => ⟨S4096x4x256, .f32⟩
  | .hbm, ⟨43, _⟩ => ⟨S4096x4x256, .f32⟩
  | .hbm, ⟨44, _⟩ => ⟨S4096x4x256, .f32⟩
  | .hbm, ⟨45, _⟩ => ⟨S4096x4x256, .f32⟩
  | .hbm, ⟨46, _⟩ => ⟨S4096x4x256, .f32⟩
  | .hbm, ⟨47, _⟩ => ⟨S4096x4x256, .f32⟩
  | .hbm, ⟨48, _⟩ => ⟨S4096x4x256, .f32⟩
  | .hbm, ⟨49, _⟩ => ⟨S4096x4x256, .f32⟩
  | .hbm, ⟨50, _⟩ => ⟨S4096x4x256, .f32⟩
  | .hbm, ⟨51, _⟩ => ⟨S4096x4x256, .f32⟩
  | .hbm, ⟨52, _⟩ => ⟨S4096x4x256, .f32⟩
  | .hbm, ⟨53, _⟩ => ⟨S4096x4x256, .f32⟩
  | .hbm, ⟨54, _⟩ => ⟨S_, .f32⟩
  | .hbm, ⟨55, _⟩ => ⟨S256, .f32⟩
  | .hbm, ⟨56, _⟩ => ⟨S1x1x256, .f32⟩
  | .hbm, ⟨57, _⟩ => ⟨S4096x4x256, .f32⟩
  | .hbm, ⟨58, _⟩ => ⟨S4096x4x256, .f32⟩
  | .hbm, ⟨59, _⟩ => ⟨S_, .f32⟩
  | .hbm, ⟨60, _⟩ => ⟨S256, .f32⟩
  | .hbm, ⟨61, _⟩ => ⟨S4096x4x256, .f32⟩
  | .hbm, ⟨62, _⟩ => ⟨S_, .f32⟩
  | .hbm, ⟨63, _⟩ => ⟨S4096x4, .f32⟩
  | .hbm, ⟨64, _⟩ => ⟨S4096x4x1, .f32⟩
  | .hbm, ⟨65, _⟩ => ⟨S4096x4x256, .f32⟩
  | .hbm, ⟨66, _⟩ => ⟨S4096x4x256, .f32⟩
  | .hbm, ⟨67, _⟩ => ⟨S4096x4x1, .f32⟩
  | .hbm, ⟨68, _⟩ => ⟨S_, .f32⟩
  | .hbm, ⟨69, _⟩ => ⟨S4096x4x1, .f32⟩
  | .hbm, ⟨70, _⟩ => ⟨S4096x4x1, .f32⟩
  | .hbm, ⟨71, _⟩ => ⟨S_, .f32⟩
  | .hbm, ⟨72, _⟩ => ⟨S4096x4, .f32⟩
  | .hbm, ⟨73, _⟩ => ⟨S4096x4x256, .f32⟩
  | .hbm, ⟨74, _⟩ => ⟨S4096x4x256, .f32⟩
  | .hbm, ⟨75, _⟩ => ⟨S4096x4x256, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S1x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v24_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v24_1 : Ref sig .tc := ⟨.hbm, 44, rfl⟩
abbrev main_v24_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== LnBwd.lean ====
abbrev S4096x2048 : Shape := ⟨2, ![4096, 2048]⟩
abbrev S1x2048 : Shape := ⟨2, ![1, 2048]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x2048, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x2048, .f32⟩
  | .hbm, ⟨83, _⟩ => ⟨S4096x2048, .f32⟩
  | .hbm, ⟨84, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== LossBwd.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x2048, .f32⟩
  | .hbm, ⟨80, _⟩ => ⟨S4096x2048, .f32⟩
  | .hbm, ⟨81, _⟩ => ⟨S4096x1, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x2048, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x2048, .f32⟩
  | .hbm, ⟨105, _⟩ => ⟨S4096x2048, .f32⟩
  | .hbm, ⟨106, _⟩ => ⟨S4096x2048, .bf16⟩
  | .hbm, ⟨107, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_15 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_16 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩
abbrev main_cst_23 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== SwaFwd.lean ====
abbrev S4096x4480 : Shape := ⟨2, ![4096, 4480]⟩
abbrev S16 : Shape := ⟨1, ![16]⟩
abbrev S4096x1024 : Shape := ⟨2, ![4096, 1024]⟩
abbrev S4096x2048 : Shape := ⟨2, ![4096, 2048]⟩
abbrev S128x1024 : Shape := ⟨2, ![128, 1024]⟩
abbrev S128x128 : Shape := ⟨2, ![128, 128]⟩
abbrev S128x2048 : Shape := ⟨2, ![128, 2048]⟩
abbrev S128x1 : Shape := ⟨2, ![128, 1]⟩
abbrev S1x256 : Shape := ⟨2, ![1, 256]⟩
abbrev S128x256 : Shape := ⟨2, ![128, 256]⟩
abbrev S1x128 : Shape := ⟨2, ![1, 128]⟩
abbrev S256x128 : Shape := ⟨2, ![256, 128]⟩
abbrev S1 : Shape := ⟨1, ![1]⟩
abbrev S128 : Shape := ⟨1, ![128]⟩

abbrev nBuf : Space → Nat
  | .hbm => 4
  | .vmem => 14
  | .smem => 1
  | _ => 0

abbrev bufTy : (tb : Table) → Fin (tcTables nBuf tb) → BufTy
  | .hbm, ⟨0, _⟩ => ⟨S4096x4480, .f32⟩
  | .hbm, ⟨1, _⟩ => ⟨S16, .f32⟩
  | .hbm, ⟨2, _⟩ => ⟨S4096x1024, .bf16⟩
  | .hbm, ⟨3, _⟩ => ⟨S4096x2048, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S128x2048, .bf16⟩
  | .local _ .vmem, ⟨13, _⟩ => ⟨S128x2048, .bf16⟩
  | .local _ .smem, ⟨0, _⟩ => ⟨S16, .f32⟩
  | _, _ => ⟨S4096x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  ![v1.toNat, c32_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c33_i32 : BitVec 32 := 33#32
  let c0_i32_0 : BitVec 32 := 0#32
  ![v1.toNat, c33_i32.toNat]

def cc0_transform_5 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwaFwdIdeal.lean ====
variable {F : FTy → Type} [FloatOps F] [Named F]
def κ : String → Option EReal := fun
  | "mask" => some ⊥
  | _ => none
-- ==== SwaFwdRefIdeal.lean ====
abbrev S4096x4480 : Shape := ⟨2, ![4096, 4480]⟩
abbrev S16 : Shape := ⟨1, ![16]⟩
abbrev S4096x1024 : Shape := ⟨2, ![4096, 1024]⟩
abbrev S1x4096x16x64 : Shape := ⟨4, ![1, 4096, 16, 64]⟩
abbrev S4096x128 : Shape := ⟨2, ![4096, 128]⟩
abbrev S1x4096x2x64 : Shape := ⟨4, ![1, 4096, 2, 64]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x4096x1024 : Shape := ⟨3, ![1, 4096, 1024]⟩
abbrev S4096x2048 : Shape := ⟨2, ![4096, 2048]⟩

abbrev nBuf : Space → Nat
  | .hbm => 90
  | .vmem => 0
  | .smem => 0
  | _ => 0

abbrev bufTy : (tb : Table) → Fin (tcTables nBuf tb) → BufTy
  | .hbm, ⟨0, _⟩ => ⟨S4096x4480, .f32⟩
  | .hbm, ⟨1, _⟩ => ⟨S16, .f32⟩
  | .hbm, ⟨2, _⟩ => ⟨S4096x1024, .bf16⟩
  | .hbm, ⟨3, _⟩ => ⟨S4096x1024, .f32⟩
  | .hbm, ⟨4, _⟩ => ⟨S1x4096x16x64, .f32⟩
  | .hbm, ⟨5, _⟩ => ⟨S4096x128, .f32⟩
  | .hbm, ⟨6, _⟩ => ⟨S1x4096x2x64, .f32⟩
  | .hbm, ⟨7, _⟩ => ⟨S4096x128, .f32⟩
  | .hbm, ⟨8, _⟩ => ⟨S1x4096x2x64, .f32⟩
  | .hbm, ⟨9, _⟩ => ⟨S1x32x128x2x8x64, .f32⟩
  | .hbm, ⟨10, _⟩ => ⟨S1x32x128x2x64, .f32⟩
  | .hbm, ⟨11, _⟩ => ⟨S1x1x128x2x64, .f32⟩
  | .hbm, ⟨12, _⟩ => ⟨S_, .f32⟩
  | .hbm, ⟨13, _⟩ => ⟨S1x1x128x2x64, .f32⟩
  | .hbm, ⟨14, _⟩ => ⟨S1x31x128x2x64, .f32⟩
  | .hbm, ⟨15, _⟩ => ⟨S1x32x128x2x64, .f32⟩
  | .hbm, ⟨16, _⟩ => ⟨S1x32x256x2x64, .f32⟩
  | .hbm, ⟨17, _⟩ => ⟨S1x32x128x2x64, .f32⟩
  | .hbm, ⟨18, _⟩ => ⟨S1x1x128x2x64, .f32⟩
  | .hbm, ⟨19, _⟩ => ⟨S_, .f32⟩
  | .hbm, ⟨20, _⟩ => ⟨S1x1x128x2x64, .f32⟩
  | .hbm, ⟨21, _⟩ => ⟨S1x31x128x2x64, .f32⟩
  | .hbm, ⟨22, _⟩ => ⟨S1x32x128x2x64, .f32⟩
  | .hbm, ⟨23, _⟩ => ⟨S1x32x256x2x64, .f32⟩
  | .hbm, ⟨24, _⟩ => ⟨S1x32x2x256x128x8, .f32⟩
  | .hbm, ⟨25, _⟩ => ⟨S1x32x2x8x128x256, .f32⟩
  | .hbm, ⟨26, _⟩ => ⟨S_, .f32⟩
  | .hbm, ⟨27, _⟩ => ⟨S1x32x2x8x128x256, .f32⟩
  | .hbm, ⟨28, _⟩ => ⟨S1x32x2x8x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S32, .i32⟩
  | .hbm, ⟨44, _⟩ => ⟨S32x1x1, .i32⟩
  | .hbm, ⟨45, _⟩ => ⟨S1x128x256, .i1⟩
  | .hbm, ⟨46, _⟩ => ⟨S_, .i32⟩
  | .hbm, ⟨47, _⟩ => ⟨S32x1x1, .i32⟩
  | .hbm, ⟨48, _⟩ => ⟨S32x1x1, .i1⟩
  | .hbm, ⟨49, _⟩ => ⟨S1x1x256, .i32⟩
  | .hbm, ⟨50, _⟩ => ⟨S_, .i32⟩
  | .hbm, ⟨51, _⟩ => ⟨S1x1x256, .i32⟩
  | .hbm, ⟨52, _⟩ => ⟨S1x1x256, .i1⟩
  | .hbm, ⟨53, _⟩ => ⟨S32x1x256, .i1⟩
  | .hbm, ⟨54, _⟩ => ⟨S32x1x256, .i1⟩
  | .hbm, ⟨55, _⟩ => ⟨S32x1x256, .i1⟩
  | .hbm, ⟨56, _⟩ => ⟨S32x128x256, .i1⟩
  | .hbm, ⟨57, _⟩ => ⟨S32x128x256, .i1⟩
  | .hbm, ⟨58, _⟩ => ⟨S32x128x256, .i1⟩
  | .hbm, ⟨59, _⟩ => ⟨S1x32x1x1x128x256, .i1⟩
  | .hbm, ⟨60, _⟩ => ⟨S_, .f32⟩
  | .hbm, ⟨61, _⟩ => ⟨S_, .f32⟩
  | .hbm, ⟨62, _⟩ => ⟨S1x32x2x8x128x256, .i1⟩
  | .hbm, ⟨63, _⟩ => ⟨S1x32x2x8x128x256, .f32⟩
  | .hbm, ⟨64, _⟩ => ⟨S1x32x2x8x128x256, .f32⟩
  | .hbm, ⟨65, _⟩ => ⟨S2x8, .f32⟩
  | .hbm, ⟨66, _⟩ => ⟨S1x1x2x8x1x1, .f32⟩
  | .hbm, ⟨67, _⟩ => ⟨S_, .f32⟩
  | .hbm, ⟨68, _⟩ => ⟨S1x32x2x8x128, .f32⟩
  | .hbm, ⟨69, _⟩ => ⟨S1x32x2x8x128x1, .f32⟩
  | .hbm, ⟨70, _⟩ => ⟨S1x32x2x8x128x1, .f32⟩
  | .hbm, ⟨71, _⟩ => ⟨S1x32x2x8x128x1, .f32⟩
  | .hbm, ⟨72, _⟩ => ⟨S1x32x2x8x128x256, .f32⟩
  | .hbm, ⟨73, _⟩ => ⟨S1x32x2x8x128x256, .f32⟩
  | .hbm, ⟨74, _⟩ => ⟨S1x32x2x8x128x256, .f32⟩
  | .hbm, ⟨75, _⟩ => ⟨S_, .f32⟩
  | .hbm, ⟨76, _⟩ => ⟨S1x32x2x8x128, .f32⟩
  | .hbm, ⟨77, _⟩ => ⟨S1x32x2x8x128x1, .f32⟩
  | .hbm, ⟨78, _⟩ => ⟨S1x32x2x8x128x1, .f32⟩
  | .hbm, ⟨79, _⟩ => ⟨S1x32x2x8x128x1, .f32⟩
  | .hbm, ⟨80, _⟩ => ⟨S1x32x2x8x128x1, .f32⟩
  | .hbm, ⟨81, _⟩ => ⟨S1x32x2x8x128x1, .f32⟩
  | .hbm, ⟨82, _⟩ => ⟨S1x32x2x8x128x256, .f32⟩
  | .hbm, ⟨83, _⟩ => ⟨S1x32x2x8x128x256, .f32⟩
  | .hbm, ⟨84, _⟩ => ⟨S1x32x2x64x8x128, .f32⟩
  | .hbm, ⟨85, _⟩ => ⟨S1x32x128x2x8x64, .f32⟩
  | .hbm, ⟨86, _⟩ => ⟨S1x4096x1024, .f32⟩
  | .hbm, ⟨87, _⟩ => ⟨S4096x1024, .f32⟩
  | .hbm, ⟨88, _⟩ => ⟨S4096x1024, .bf16⟩
  | .hbm, ⟨89, _⟩ => ⟨S4096x2048, .bf16⟩
  | _, _ => ⟨S4096x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Proof.DownBwd.lean ====
module

public import proofs.«01_k».proof.Defs
public import proofs.«01_k».proof.Proof.Gen.DownBwdIdeal.Value
public import proofs.«01_k».proof.Proof.Gen.DownBwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownBwdIdeal.Result

open Cert.DownBwdIdeal Cert.DownBwdIdeal.Gen

variable (m : (ℓ : Loc nD τ sig) → Buf (Elt Ideal) ℓ)

/-- The reference's result over this program's arguments. -/
abbrev REF (X : FVec Ideal S4096x2048 .bf16) (Y : FVec Ideal S8192x2048 .bf16) (Z : FVec Ideal S4096x8192 .f32) : FVec Ideal S4096x8192 .bf16 :=
  Cert.DownBwdRefIdeal.Read.val_main_v14 (F := Ideal) X Y Z

/-- Where each window's block lies, at every grid point. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- The activation the call reads, computed from its argument before the launch. -/
theorem V_act (c : Dev nD) : V m c main_v2 = (fun i => max (m ((c : Thread nD τ).loc main_arg2) i : EReal) (0 : EReal) : S4096x8192.Idx → EReal) := by
  unfold V; after_results
  funext i
  pointwise

/-- The squared ReLU's derivative: where the activation is zero the product with it is zero as well. -/
theorem gate (a k u : EReal) : (if 0 < u then a * (k * max u 0) else 0) = a * (k * max u 0) := by
  split
  · rfl
  · rename_i h
    rw [max_eq_right (not_lt.mp h), mul_zero, mul_zero]

/-- What the body stores at `y` of its block is the reference's result at the place of `y` in the array. -/
theorem point (c : Dev nD) (t : Fin cfg0.N) (y : S1024x1024.Idx) :
    out0_3 (F := Ideal) (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [REF, Cert.DownBwdRefIdeal.Read.val_main_v0, Cert.DownBwdRefIdeal.Read.val_main_call0_cst, Cert.DownBwdRefIdeal.Read.val_main_call0_v0, Cert.DownBwdRefIdeal.Read.val_main_v1, Cert.DownBwdRefIdeal.Read.val_main_cst, Cert.DownBwdRefIdeal.Read.val_main_v2, Cert.DownBwdRefIdeal.Read.val_main_v3, Cert.DownBwdRefIdeal.Read.val_main_cst_0, Cert.DownBwdRefIdeal.Read.val_main_v4, Cert.DownBwdRefIdeal.Read.val_main_v5, Cert.DownBwdRefIdeal.Read.val_main_cst_1, Cert.DownBwdRefIdeal.Read.val_main_v6, Cert.DownBwdRefIdeal.Read.val_main_v7, Cert.DownBwdRefIdeal.Read.val_main_v8, Cert.DownBwdRefIdeal.Read.val_main_v9, Cert.DownBwdRefIdeal.Read.val_main_v10, Cert.DownBwdRefIdeal.Read.val_main_v11, Cert.DownBwdRefIdeal.Read.val_main_cst_2, Cert.DownBwdRefIdeal.Read.val_main_v12, Cert.DownBwdRefIdeal.Read.val_main_v13, Cert.DownBwdRefIdeal.Read.val_main_v14]
  canon_tiles x h
  all_goals
    open_payloads
    pointwise
  all_goals
    refine Eq.trans ?_ (gate _ _ _).symm
    blk_point [iblk, V_act m c, V_main_arg0, V_main_arg1, idx t]
    congr 3
    blk_ext [idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.DownBwdIdeal.Result

namespace Cert.Proof

/-- The idealized call computes the reference's result. -/
theorem algebraic_DownBwd [h : Cert.DownBwdIdeal.Facts] [h' : Cert.DownBwdRefIdeal.Facts] :
    Cert.algebraic_DownBwdIdeal_DownBwdRefIdeal := by
  pair_intro
  · run_from Cert.DownBwdIdeal.Gen.run_main m g
  · run_from Cert.DownBwdRefIdeal.Value.run m' g'
    exact (Cert.DownBwdIdeal.Result.final m c).symm

end Cert.Proof

end
-- ==== Proof.GradDown.lean ====
/- The weight gradient of the MLP's second product: the tiled call against the derivative of the product. -/
module

public import proofs.«01_k».proof.Defs
public import proofs.«01_k».proof.Proof.Gen.GradDownIdeal.Value
public import proofs.«01_k».proof.Proof.Gen.GradDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradDownIdeal.Result

open Cert.GradDownIdeal Cert.GradDownIdeal.Gen

variable (m : (ℓ : Loc nD τ sig) → Buf (Elt Ideal) ℓ)

/-- The reference's result over this program's arguments. -/
abbrev REF (X : FVec Ideal S4096x8192 .bf16) (Y : FVec Ideal S4096x2048 .bf16) : FVec Ideal S8x1024x2048 .f32 :=
  Cert.GradDownRefIdeal.Read.val_main_v6 (F := Ideal) X Y

/-- Where each window's block lies, at every grid point. -/
theorem idx : ∀ t : Fin cfg0.N, win0_0.index t = ![0, t.val % 8] ∧ win0_1.index t = ![0, t.val / 8]
    ∧ win0_2.index t = ![t.val % 8, 0, t.val / 8] :=
  (by decide +kernel : ∀ t : Fin grid0.N, _)

/-- What the body stores at `y` of its block is the reference's result at the place of `y` in the array. -/
theorem point (c : Dev nD) (t : Fin cfg0.N) (y : S1x1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF, Cert.GradDownRefIdeal.Read.val_main_cst, Cert.GradDownRefIdeal.Read.val_main_v0, Cert.GradDownRefIdeal.Read.val_main_v1, Cert.GradDownRefIdeal.Read.val_main_v2, Cert.GradDownRefIdeal.Read.val_main_v3, Cert.GradDownRefIdeal.Read.val_main_v4, Cert.GradDownRefIdeal.Read.val_main_v5, Cert.GradDownRefIdeal.Read.val_main_v6]
  refine Fin.sum_fin_congr fun x => ?_
  rw [mul_comm]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GradDownIdeal.Result

namespace Cert.Proof

/-- The idealized call computes the reference's result. -/
theorem algebraic_GradDown [h : Cert.GradDownIdeal.Facts] [h' : Cert.GradDownRefIdeal.Facts] :
    Cert.algebraic_GradDownIdeal_GradDownRefIdeal := by
  pair_intro
  · run_from Cert.GradDownIdeal.Gen.run_main m g
  · run_from Cert.GradDownRefIdeal.Value.run m' g'
    exact (Cert.GradDownIdeal.Result.final m c).symm

end Cert.Proof

end
-- ==== Proof.GradUp.lean ====
/- The weight gradient of the MLP's first product: the tiled call against the derivative of the product. -/
module

public import proofs.«01_k».proof.Defs
public import proofs.«01_k».proof.Proof.Gen.GradUpIdeal.Value
public import proofs.«01_k».proof.Proof.Gen.GradUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradUpIdeal.Result

open Cert.GradUpIdeal Cert.GradUpIdeal.Gen

variable (m : (ℓ : Loc nD τ sig) → Buf (Elt Ideal) ℓ)

/-- The reference's result over this program's arguments. -/
abbrev REF (X : FVec Ideal S4096x2048 .bf16) (Y : FVec Ideal S4096x8192 .bf16) : FVec Ideal S8x2048x1024 .f32 :=
  Cert.GradUpRefIdeal.Read.val_main_v7 (F := Ideal) X Y

/-- Where each window's block lies, at every grid point. -/
theorem idx : ∀ t : Fin cfg0.N, win0_0.index t = ![0, t.val % 2] ∧ win0_1.index t = ![0, t.val / 2]
    ∧ win0_2.index t = ![t.val / 2, t.val % 2, 0] :=
  (by decide +kernel : ∀ t : Fin grid0.N, _)

/-- What the body stores at `y` of its block is the reference's result at the place of `y` in the array. -/
theorem point (c : Dev nD) (t : Fin cfg0.N) (y : S1x1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF, Cert.GradUpRefIdeal.Read.val_main_cst, Cert.GradUpRefIdeal.Read.val_main_v0, Cert.GradUpRefIdeal.Read.val_main_v1, Cert.GradUpRefIdeal.Read.val_main_v2, Cert.GradUpRefIdeal.Read.val_main_v3, Cert.GradUpRefIdeal.Read.val_main_v4, Cert.GradUpRefIdeal.Read.val_main_v5, Cert.GradUpRefIdeal.Read.val_main_v6, Cert.GradUpRefIdeal.Read.val_main_v7]
  refine Fin.sum_fin_congr fun x => ?_
  rw [mul_comm]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GradUpIdeal.Result

namespace Cert.Proof

/-- The idealized call computes the reference's result. -/
theorem algebraic_GradUp [h : Cert.GradUpIdeal.Facts] [h' : Cert.GradUpRefIdeal.Facts] :
    Cert.algebraic_GradUpIdeal_GradUpRefIdeal := by
  pair_intro
  · run_from Cert.GradUpIdeal.Gen.run_main m g
  · run_from Cert.GradUpRefIdeal.Value.run m' g'
    exact (Cert.GradUpIdeal.Result.final m c).symm

end Cert.Proof

end
-- ==== Proof.GradOut.lean ====
/- The weight gradient of the output projection: the tiled call against the derivative of the product. -/
module

public import proofs.«01_k».proof.Defs
public import proofs.«01_k».proof.Proof.Gen.GradOutIdeal.Value
public import proofs.«01_k».proof.Proof.Gen.GradOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradOutIdeal.Result

open Cert.GradOutIdeal Cert.GradOutIdeal.Gen

variable (m : (ℓ : Loc nD τ sig) → Buf (Elt Ideal) ℓ)

/-- The reference's result over this program's arguments. -/
abbrev REF (X : FVec Ideal S4096x2048 .bf16) (Y : FVec Ideal S4096x2048 .bf16) : FVec Ideal S8x256x2048 .f32 :=
  Cert.GradOutRefIdeal.Read.val_main_v6 (F := Ideal) X Y

/-- Where each window's block lies, at every grid point. -/
theorem idx : ∀ t : Fin cfg0.N, win0_0.index t = ![0, t.val / 2] ∧ win0_1.index t = ![0, t.val % 2]
    ∧ win0_2.index t = ![t.val / 2, 0, t.val % 2] :=
  (by decide +kernel : ∀ t : Fin grid0.N, _)

/-- What the body stores at `y` of its block is the reference's result at the place of `y` in the array. -/
theorem point (c : Dev nD) (t : Fin cfg0.N) (y : S4x256x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF, Cert.GradOutRefIdeal.Read.val_main_cst, Cert.GradOutRefIdeal.Read.val_main_v0, Cert.GradOutRefIdeal.Read.val_main_v1, Cert.GradOutRefIdeal.Read.val_main_v2, Cert.GradOutRefIdeal.Read.val_main_v3, Cert.GradOutRefIdeal.Read.val_main_v4, Cert.GradOutRefIdeal.Read.val_main_v5, Cert.GradOutRefIdeal.Read.val_main_v6]
  refine Fin.sum_fin_congr fun x => ?_
  rw [mul_comm]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GradOutIdeal.Result

namespace Cert.Proof

/-- The idealized call computes the reference's result. -/
theorem algebraic_GradOut [h : Cert.GradOutIdeal.Facts] [h' : Cert.GradOutRefIdeal.Facts] :
    Cert.algebraic_GradOutIdeal_GradOutRefIdeal := by
  pair_intro
  · run_from Cert.GradOutIdeal.Gen.run_main m g
  · run_from Cert.GradOutRefIdeal.Value.run m' g'
    exact (Cert.GradOutIdeal.Result.final m c).symm

end Cert.Proof

end
-- ==== Proof.GradIn.lean ====
/- The weight gradient of the input projection: the tiled call against the derivative of the product. -/
module

public import proofs.«01_k».proof.Defs
public import proofs.«01_k».proof.Proof.Gen.GradInIdeal.Value
public import proofs.«01_k».proof.Proof.Gen.GradInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradInIdeal.Result

open Cert.GradInIdeal Cert.GradInIdeal.Gen

variable (m : (ℓ : Loc nD τ sig) → Buf (Elt Ideal) ℓ)

/-- The reference's result over this program's arguments. -/
abbrev REF (X : FVec Ideal S4096x2048 .bf16) (Y : FVec Ideal S4096x4480 .bf16) : FVec Ideal S4368x2048 .f32 :=
  Cert.GradInRefIdeal.Read.val_main_v7 (F := Ideal) X Y

/-- Where each window's block lies, at every grid point. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- What the body stores at `y` of its block is the reference's result at the place `j` of `y` in the array. -/
theorem point (c : Dev nD) (t : Fin cfg0.N) (y : S896x1024.Idx) (j : S4368x2048.Idx)
    (hj0 : (j 0 : ℕ) = t.val / 2 * 896 + y 0) (hj1 : (j 1 : ℕ) = t.val % 2 * 1024 + y 1) :
    k0_pay1 (F := Ideal) (iblk m c 0 t) (iblk m c 1 t) y
      = REF (m ((c : Thread nD τ).loc main_arg0)) (m ((c : Thread nD τ).loc main_arg1)) j := by
  pointwise [k0_pay1, REF, Cert.GradInRefIdeal.Read.val_main_cst, Cert.GradInRefIdeal.Read.val_main_v0, Cert.GradInRefIdeal.Read.val_main_v1, Cert.GradInRefIdeal.Read.val_main_v2, Cert.GradInRefIdeal.Read.val_main_v3, Cert.GradInRefIdeal.Read.val_main_v4, Cert.GradInRefIdeal.Read.val_main_v5, Cert.GradInRefIdeal.Read.val_main_v6, Cert.GradInRefIdeal.Read.val_main_v7]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t _ _ ?_ ?_ <;> (blk_simp [idx t]; try rfl)

end Cert.GradInIdeal.Result

namespace Cert.Proof

/-- The idealized call computes the reference's result. -/
theorem algebraic_GradIn [h : Cert.GradInIdeal.Facts] [h' : Cert.GradInRefIdeal.Facts] :
    Cert.algebraic_GradInIdeal_GradInRefIdeal := by
  pair_intro
  · run_from Cert.GradInIdeal.Gen.run_main m g
  · run_from Cert.GradInRefIdeal.Value.run m' g'
    exact (Cert.GradInIdeal.Result.final m c).symm

end Cert.Proof

end
-- ==== Proof.Dcat.lean ====
/- The gradient of the output projection in its input: the tiled call against the derivative of the product. -/
module

public import proofs.«01_k».proof.Defs
public import proofs.«01_k».proof.Proof.Gen.DcatIdeal.Value
public import proofs.«01_k».proof.Proof.Gen.DcatRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DcatIdeal.Result

open Cert.DcatIdeal Cert.DcatIdeal.Gen

variable (m : (ℓ : Loc nD τ sig) → Buf (Elt Ideal) ℓ)

/-- The reference's result over this program's arguments. -/
abbrev REF (X : FVec Ideal S4096x2048 .bf16) (Y : FVec Ideal S2048x2048 .bf16) : FVec Ideal S4096x2048 .f32 :=
  Cert.DcatRefIdeal.Read.val_main_v4 (F := Ideal) X Y

/-- Where each window's block lies, at every grid point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What the body stores at `y` of its block is the reference's result at the place of `y` in the array. -/
theorem point (c : Dev nD) (t : Fin cfg0.N) (y : S1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF, Cert.DcatRefIdeal.Read.val_main_cst, Cert.DcatRefIdeal.Read.val_main_v0, Cert.DcatRefIdeal.Read.val_main_v1, Cert.DcatRefIdeal.Read.val_main_v2, Cert.DcatRefIdeal.Read.val_main_v3, Cert.DcatRefIdeal.Read.val_main_v4]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DcatIdeal.Result

namespace Cert.Proof

/-- The idealized call computes the reference's result. -/
theorem algebraic_Dcat [h : Cert.DcatIdeal.Facts] [h' : Cert.DcatRefIdeal.Facts] :
    Cert.algebraic_DcatIdeal_DcatRefIdeal := by
  pair_intro
  · run_from Cert.DcatIdeal.Gen.run_main m g
  · run_from Cert.DcatRefIdeal.Value.run m' g'
    exact (Cert.DcatIdeal.Result.final m c).symm

end Cert.Proof

end
-- ==== Proof.GradX.lean ====
/- The gradient of the layer's input: the tiled call against the derivative of the projection and of the residual. -/
module

public import proofs.«01_k».proof.Defs
public import proofs.«01_k».proof.Proof.Gen.GradXIdeal.Value
public import proofs.«01_k».proof.Proof.Gen.GradXRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradXIdeal.Result

open Cert.GradXIdeal Cert.GradXIdeal.Gen

variable (m : (ℓ : Loc nD τ sig) → Buf (Elt Ideal) ℓ)

/-- The reference's result over this program's arguments. -/
abbrev REF (X : FVec Ideal S4096x4480 .bf16) (Y : FVec Ideal S4480x2048 .bf16) (Z : FVec Ideal S4096x2048 .f32) : FVec Ideal S4096x2048 .f32 :=
  Cert.GradXRefIdeal.Read.val_main_v10 (F := Ideal) X Y Z

/-- Where each window's block lies, at every grid point. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

/-- What the body stores at `y` of its block is the reference's result at the place of `y` in the array. -/
theorem point (c : Dev nD) (t : Fin cfg0.N) (y : S512x1024.Idx) :
    out0_3 (F := Ideal) (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [REF, Cert.GradXRefIdeal.Read.val_main_cst, Cert.GradXRefIdeal.Read.val_main_v0, Cert.GradXRefIdeal.Read.val_main_v1, Cert.GradXRefIdeal.Read.val_main_v2, Cert.GradXRefIdeal.Read.val_main_v3, Cert.GradXRefIdeal.Read.val_main_cst_0, Cert.GradXRefIdeal.Read.val_main_v4, Cert.GradXRefIdeal.Read.val_main_v5, Cert.GradXRefIdeal.Read.val_main_v6, Cert.GradXRefIdeal.Read.val_main_cst_1, Cert.GradXRefIdeal.Read.val_main_v7, Cert.GradXRefIdeal.Read.val_main_v8, Cert.GradXRefIdeal.Read.val_main_v9, Cert.GradXRefIdeal.Read.val_main_v10]
  canon_tiles x h
  all_goals
    open_payloads
    pointwise
  all_goals blk_point [iblk, V, idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.GradXIdeal.Result

namespace Cert.Proof

/-- The idealized call computes the reference's result. -/
theorem algebraic_GradX [h : Cert.GradXIdeal.Facts] [h' : Cert.GradXRefIdeal.Facts] :
    Cert.algebraic_GradXIdeal_GradXRefIdeal := by
  pair_intro
  · run_from Cert.GradXIdeal.Gen.run_main m g
  · run_from Cert.GradXRefIdeal.Value.run m' g'
    exact (Cert.GradXIdeal.Result.final m c).symm

end Cert.Proof

end
-- ==== Proof.Proj.lean ====
/- The input projection: the tiled call against the product. -/
module

public import proofs.«01_k».proof.Defs
public import proofs.«01_k».proof.Proof.Gen.ProjIdeal.Value
public import proofs.«01_k».proof.Proof.Gen.ProjRefIdeal.Read
public import proofs.«01_k».proof.Proof.Gen.ProjRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Result

open Cert.ProjIdeal Cert.ProjIdeal.Gen

variable (m : (ℓ : Loc nD τ sig) → Buf (Elt Ideal) ℓ)

/-- The reference's result over this program's arguments. -/
abbrev REF (X : FVec Ideal S4096x2048 .bf16) (Y : FVec Ideal S4480x2048 .bf16) : FVec Ideal S4096x4480 .f32 :=
  Cert.ProjRefIdeal.Read.val_main_v3 (F := Ideal) X Y

/-- Where each window's block lies, at every grid point. -/
theorem idx : ∀ t : Fin cfg0.N, win0_0.index t = ![t.val / 5, 0] ∧ win0_1.index t = ![t.val % 5, 0] ∧ win0_2.index t = ![t.val / 5, t.val % 5] :=
  (by decide +kernel : ∀ t : Fin grid0.N, _)

/-- What the body stores at `y` of its block is the reference's result at the place of `y` in the array. -/
theorem point (c : Dev nD) (t : Fin cfg0.N) (y : S2048x896.Idx) :
    out0_2 (F := Ideal) (iblk m c 0 t) (iblk m c 1 t) y
      = REF (m ((c : Thread nD τ).loc main_arg0)) (m ((c : Thread nD τ).loc main_arg1)) (((cfg0.win 2).blk t).view.emb y) := by
  frame_out
  pointwise [k0_pay1, REF, Cert.ProjRefIdeal.Read.val_main_v0, Cert.ProjRefIdeal.Read.val_main_v1, Cert.ProjRefIdeal.Read.val_main_v2, Cert.ProjRefIdeal.Read.val_main_v3]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.ProjIdeal.Result

namespace Cert.Proof

/-- The idealized call computes the reference's result. -/
theorem algebraic_Proj [h : Cert.ProjIdeal.Facts] [h' : Cert.ProjRefIdeal.Facts] :
    Cert.algebraic_ProjIdeal_ProjRefIdeal := by
  pair_intro
  · run_from Cert.ProjIdeal.Gen.run_main m g
  · run_from Cert.ProjRefIdeal.Value.run m' g'
    exact (Cert.ProjIdeal.Result.final m c).symm

end Cert.Proof

end
-- ==== Proof.Up.lean ====
module

public import proofs.«01_k».proof.Defs
public import proofs.«01_k».proof.Proof.Gen.UpIdeal.Value
public import proofs.«01_k».proof.Proof.Gen.UpRefIdeal.Read
public import proofs.«01_k».proof.Proof.Gen.UpRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Result

open Cert.UpIdeal Cert.UpIdeal.Gen

variable (m : (ℓ : Loc nD τ sig) → Buf (Elt Ideal) ℓ)

/-- The reference's result 0 over this program's arguments. -/
abbrev REF0 (X : FVec Ideal S4096x2048 .bf16) (Y : FVec Ideal S8x2048x1024 .bf16) : FVec Ideal S4096x8192 .bf16 :=
  Cert.UpRefIdeal.Read.val_main_v6 (F := Ideal) X Y

/-- The reference's result 1 over this program's arguments. -/
abbrev REF1 (X : FVec Ideal S4096x2048 .bf16) (Y : FVec Ideal S8x2048x1024 .bf16) : FVec Ideal S4096x8192 .bf16 :=
  Cert.UpRefIdeal.Read.val_main_v8 (F := Ideal) X Y

/-- Where each window's block lies, at every grid point. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

/-- What the body stores at `y` of its block is the reference's result 0 at the place of `y` in the array. -/
theorem point0 (c : Dev nD) (t : Fin cfg0.N) (y : S1024x1024.Idx) :
    out0_2 (F := Ideal) (iblk m c 0 t) (iblk m c 1 t) y
      = REF0 (m ((c : Thread nD τ).loc main_arg0)) (m ((c : Thread nD τ).loc main_arg1)) (((cfg0.win 2).blk t).view.emb y) := by
  pointwise [REF0, Cert.UpRefIdeal.Read.val_main_v0, Cert.UpRefIdeal.Read.val_main_v1, Cert.UpRefIdeal.Read.val_main_v2, Cert.UpRefIdeal.Read.val_main_v3, Cert.UpRefIdeal.Read.val_main_v4, Cert.UpRefIdeal.Read.val_main_call0_cst, Cert.UpRefIdeal.Read.val_main_call0_v0, Cert.UpRefIdeal.Read.val_main_v5, Cert.UpRefIdeal.Read.val_main_v6, Cert.UpRefIdeal.Read.val_main_v7, Cert.UpRefIdeal.Read.val_main_v8]
  canon_tiles x h
  all_goals
    open_payloads
    pointwise
  all_goals blk_point [iblk, V, idx t]

/-- The result array after the run is the reference's result 0. -/
theorem final0 (c : Dev nD) : (dats m 0 c).arrAt 2 (cfgs 0).N
    = REF0 (m ((c : Thread nD τ).loc main_arg0)) (m ((c : Thread nD τ).loc main_arg1)) := by
  refine (dats m 0 c).arrAt_eq_of_covers 2 _ (by decide +kernel) fun t _ y => ?_
  blk_simp
  rw [after0_2]
  exact point0 m c t y

/-- What the body stores at `y` of its block is the reference's result 1 at the place of `y` in the array. -/
theorem point1 (c : Dev nD) (t : Fin cfg0.N) (y : S1024x1024.Idx) :
    out0_3 (F := Ideal) (iblk m c 0 t) (iblk m c 1 t) y
      = REF1 (m ((c : Thread nD τ).loc main_arg0)) (m ((c : Thread nD τ).loc main_arg1)) (((cfg0.win 3).blk t).view.emb y) := by
  pointwise [REF1, Cert.UpRefIdeal.Read.val_main_v0, Cert.UpRefIdeal.Read.val_main_v1, Cert.UpRefIdeal.Read.val_main_v2, Cert.UpRefIdeal.Read.val_main_v3, Cert.UpRefIdeal.Read.val_main_v4, Cert.UpRefIdeal.Read.val_main_call0_cst, Cert.UpRefIdeal.Read.val_main_call0_v0, Cert.UpRefIdeal.Read.val_main_v5, Cert.UpRefIdeal.Read.val_main_v6, Cert.UpRefIdeal.Read.val_main_v7, Cert.UpRefIdeal.Read.val_main_v8]
  canon_tiles x h
  all_goals
    open_payloads
    pointwise
  all_goals blk_point [iblk, V, idx t]

/-- The result array after the run is the reference's result 1. -/
theorem final1 (c : Dev nD) : (dats m 0 c).arrAt 3 (cfgs 0).N
    = REF1 (m ((c : Thread nD τ).loc main_arg0)) (m ((c : Thread nD τ).loc main_arg1)) := by
  refine (dats m 0 c).arrAt_eq_of_covers 3 _ (by decide +kernel) fun t _ y => ?_
  blk_simp
  rw [after0_3]
  exact point1 m c t y

end Cert.UpIdeal.Result

namespace Cert.Proof

/-- The idealized call computes the reference's results. -/
theorem algebraic_Up [h : Cert.UpIdeal.Facts] [h' : Cert.UpRefIdeal.Facts] :
    Cert.algebraic_UpIdeal_UpRefIdeal := by
  pair_intro
  · run_from Cert.UpIdeal.Gen.run_main m g
  · run_from Cert.UpRefIdeal.Value.run m' g'
    · exact (Cert.UpIdeal.Result.final0 m c).symm
    · exact (Cert.UpIdeal.Result.final1 m c).symm

end Cert.Proof

end
-- ==== Proof.UpBwd.lean ====
/- The gradient of the MLP's first product in its input: the tiled call against the derivative of the product. -/
module

public import proofs.«01_k».proof.Defs
public import proofs.«01_k».proof.Proof.Gen.UpBwdIdeal.Value
public import proofs.«01_k».proof.Proof.Gen.UpBwdRefIdeal.Read
public import proofs.«01_k».proof.Proof.Gen.UpBwdRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpBwdIdeal.Result

open Cert.UpBwdIdeal Cert.UpBwdIdeal.Gen

variable (m : (ℓ : Loc nD τ sig) → Buf (Elt Ideal) ℓ)

/-- The reference's result over this program's arguments. -/
abbrev REF (X : FVec Ideal S4096x8192 .bf16) (Y : FVec Ideal S8x2048x1024 .bf16) : FVec Ideal S4096x2048 .f32 :=
  Cert.UpBwdRefIdeal.Read.val_main_v6 (F := Ideal) X Y

/-- Where each window's block lies, at every grid point. -/
theorem idx : ∀ t : Fin cfg0.N, win0_0.index t = ![t.val / 4, t.val % 2] ∧ win0_1.index t = ![t.val % 2, t.val / 2 % 2, 0]
    ∧ win0_2.index t = ![t.val / 4, t.val / 2 % 2] :=
  (by decide +kernel : ∀ t : Fin grid0.N, _)

/-- The product of the two blocks of one point: four slabs of the weight beside each other. -/
def part (X0 : FVec Ideal S1024x4096 .bf16) (X1 : FVec Ideal S4x1024x1024 .bf16) (j : S1024x1024.Idx) : EReal :=
  ∑ k : Fin 4096, X0 (ix2 (j 0) k) * X1 (ix3 ⟨k.val / 1024, by omega⟩ (j 1) ⟨k.val % 1024, by omega⟩)

/-- The same product, slab by slab. -/
theorem part_eq (X0 : FVec Ideal S1024x4096 .bf16) (X1 : FVec Ideal S4x1024x1024 .bf16) (j : S1024x1024.Idx) :
    ∑ d : Fin 4, ∑ k : Fin 1024, X0 (ix2 (j 0) ⟨d.val * 1024 + k.val, by omega⟩) * X1 (ix3 d (j 1) k) = part X0 X1 j := by
  unfold part
  refine Fin.sum_mul_add_congr fun s k hl => ?_
  blk_point []

/-- The first point of a run stores its product. -/
theorem hpay (X0 : Vec Ideal S1024x4096 .bf16) (X1 : Vec Ideal S4x1024x1024 .bf16) (j : S1024x1024.Idx) :
    k0_pay1 (F := Ideal) (View.ld X0 (Rect.unit ![0, 0] ![1024, 1024] inb_S1024x4096_S1024x1024_0_0))
      (View.ld X1 (Rect.unit ![0, 0, 0] ![1, 1024, 1024] inb_S4x1024x1024_S1x1024x1024_0_0_0)) (View.ld X0 (Rect.unit ![0, 1024] ![1024, 1024] inb_S1024x4096_S1024x1024_0_1024))
      (View.ld X1 (Rect.unit ![1, 0, 0] ![1, 1024, 1024] inb_S4x1024x1024_S1x1024x1024_1_0_0)) (View.ld X0 (Rect.unit ![0, 2048] ![1024, 1024] inb_S1024x4096_S1024x1024_0_2048))
      (View.ld X1 (Rect.unit ![2, 0, 0] ![1, 1024, 1024] inb_S4x1024x1024_S1x1024x1024_2_0_0)) (View.ld X0 (Rect.unit ![0, 3072] ![1024, 1024] inb_S1024x4096_S1024x1024_0_3072))
      (View.ld X1 (Rect.unit ![3, 0, 0] ![1, 1024, 1024] inb_S4x1024x1024_S1x1024x1024_3_0_0)) j = part X0 X1 j := by
  rw [← part_eq, Fin.sum_univ_four]
  pointwise [k0_pay1]

/-- The second point adds its product to what the first left. -/
theorem hstep (X0 : Vec Ideal S1024x4096 .bf16) (X1 : Vec Ideal S4x1024x1024 .bf16) (A : FVec Ideal S1024x1024 .f32) (j : S1024x1024.Idx) :
    k0_pay2 (F := Ideal) (View.ld X0 (Rect.unit ![0, 0] ![1024, 1024] inb_S1024x4096_S1024x1024_0_0))
      (View.ld X1 (Rect.unit ![0, 0, 0] ![1, 1024, 1024] inb_S4x1024x1024_S1x1024x1024_0_0_0)) (View.ld X0 (Rect.unit ![0, 1024] ![1024, 1024] inb_S1024x4096_S1024x1024_0_1024))
      (View.ld X1 (Rect.unit ![1, 0, 0] ![1, 1024, 1024] inb_S4x1024x1024_S1x1024x1024_1_0_0)) (View.ld X0 (Rect.unit ![0, 2048] ![1024, 1024] inb_S1024x4096_S1024x1024_0_2048))
      (View.ld X1 (Rect.unit ![2, 0, 0] ![1, 1024, 1024] inb_S4x1024x1024_S1x1024x1024_2_0_0)) (View.ld X0 (Rect.unit ![0, 3072] ![1024, 1024] inb_S1024x4096_S1024x1024_0_3072))
      (View.ld X1 (Rect.unit ![3, 0, 0] ![1, 1024, 1024] inb_S4x1024x1024_S1x1024x1024_3_0_0)) A j = A j + part X0 X1 j := by
  rw [← part_eq, Fin.sum_univ_four]
  pointwise [k0_pay2, k0_pay1]

/-- The reference's result at one index. -/
theorem href (X : FVec Ideal S4096x8192 .bf16) (Y : FVec Ideal S8x2048x1024 .bf16) (j : S4096x2048.Idx) :
    REF X Y j = ∑ l : Fin 8192, X (ix2 (j 0) l) * Y (ix3 ⟨l.val / 1024, by omega⟩ (j 1) ⟨l.val % 1024, by omega⟩) := by
  pointwise [REF, Cert.UpBwdRefIdeal.Read.val_main_cst, Cert.UpBwdRefIdeal.Read.val_main_v0, Cert.UpBwdRefIdeal.Read.val_main_v1, Cert.UpBwdRefIdeal.Read.val_main_v2, Cert.UpBwdRefIdeal.Read.val_main_v3, Cert.UpBwdRefIdeal.Read.val_main_v4, Cert.UpBwdRefIdeal.Read.val_main_v5, Cert.UpBwdRefIdeal.Read.val_main_v6]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => part (iblk m c 0 p) (iblk m c 1 p) j)
    (fun t h j => by rw [outsAt0_A m c t h (by omega)]; frame_out; rw [hpay]; exact (zero_add _).symm)
    (fun t h j => by rw [outsAt0_B m c t h (by omega)]; frame_out; rw [hstep])
    t ((flush0_2 t).mp hf) _, zero_add, href]
  unfold part
  refine Fin.sum_mul_add_congr fun s k hl => ?_
  blk_point [iblk, V, idx t, idx ⟨_, Pipeline.run_point_lt_of_flush t ((flush0_2 t).mp hf) s⟩]

end Cert.UpBwdIdeal.Result

namespace Cert.Proof

/-- The idealized call computes the reference's result. -/
theorem algebraic_UpBwd [h : Cert.UpBwdIdeal.Facts] [h' : Cert.UpBwdRefIdeal.Facts] :
    Cert.algebraic_UpBwdIdeal_UpBwdRefIdeal := by
  pair_intro
  · run_from Cert.UpBwdIdeal.Gen.run_main m g
  · run_from Cert.UpBwdRefIdeal.Value.run m' g'
    exact (Cert.UpBwdIdeal.Result.final m c).symm

end Cert.Proof

end
-- ==== Proof.Down.lean ====
/- The second product of the MLP: the tiled call, its contraction cut in two, against the product. -/
module

public import proofs.«01_k».proof.Defs
public import proofs.«01_k».proof.Proof.Gen.DownIdeal.Value
public import proofs.«01_k».proof.Proof.Gen.DownRefIdeal.Read
public import proofs.«01_k».proof.Proof.Gen.DownRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Result

open Cert.DownIdeal Cert.DownIdeal.Gen

variable (m : (ℓ : Loc nD τ sig) → Buf (Elt Ideal) ℓ)

/-- The reference's result over this program's arguments. -/
abbrev REF (X : FVec Ideal S4096x8192 .bf16) (Y : FVec Ideal S8192x2048 .bf16) : FVec Ideal S4096x2048 .f32 :=
  Cert.DownRefIdeal.Read.val_main_v2 (F := Ideal) X Y

/-- Where each window's block lies, at every grid point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The product of the two blocks of one point. -/
def part (X0 : FVec Ideal S1024x4096 .bf16) (X1 : FVec Ideal S4096x1024 .bf16) (j : S1024x1024.Idx) : EReal :=
  ∑ k : Fin 4096, X0 (ix2 (j 0) k) * X1 (ix2 k (j 1))

/-- The first point of a run stores its product. -/
theorem hpay (X0 : FVec Ideal S1024x4096 .bf16) (X1 : FVec Ideal S4096x1024 .bf16) (j : S1024x1024.Idx) :
    k0_pay1 (F := Ideal) X0 X1 j = part X0 X1 j := by
  pointwise [k0_pay1, part]

/-- The second point adds its product to what the first left. -/
theorem hstep (X0 : FVec Ideal S1024x4096 .bf16) (X1 : FVec Ideal S4096x1024 .bf16) (A : FVec Ideal S1024x1024 .f32) (j : S1024x1024.Idx) :
    k0_pay2 (F := Ideal) X0 X1 A j = A j + part X0 X1 j := by
  pointwise [k0_pay2, k0_pay1, part]

/-- The reference's result at one index. -/
theorem href (X : FVec Ideal S4096x8192 .bf16) (Y : FVec Ideal S8192x2048 .bf16) (j : S4096x2048.Idx) :
    REF X Y j = ∑ l : Fin 8192, X (ix2 (j 0) l) * Y (ix2 l (j 1)) := by
  pointwise [REF, Cert.DownRefIdeal.Read.val_main_v0, Cert.DownRefIdeal.Read.val_main_v1, Cert.DownRefIdeal.Read.val_main_v2]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => part (iblk m c 0 p) (iblk m c 1 p) j)
    (fun t h j => by rw [outsAt0_A m c t h (by omega)]; frame_out; rw [hpay]; exact (zero_add _).symm)
    (fun t h j => by rw [outsAt0_B m c t h (by omega)]; frame_out; rw [hstep])
    t ((flush0_2 t).mp hf) _, zero_add, href]
  unfold part
  refine Fin.sum_mul_add_congr fun s k hl => ?_
  blk_point [iblk, V, idx t, idx ⟨_, Pipeline.run_point_lt_of_flush t ((flush0_2 t).mp hf) s⟩]

end Cert.DownIdeal.Result

namespace Cert.Proof

/-- The idealized call computes the reference's result. -/
theorem algebraic_Down [h : Cert.DownIdeal.Facts] [h' : Cert.DownRefIdeal.Facts] :
    Cert.algebraic_DownIdeal_DownRefIdeal := by
  pair_intro
  · run_from Cert.DownIdeal.Gen.run_main m g
  · run_from Cert.DownRefIdeal.Value.run m' g'
    exact (Cert.DownIdeal.Result.final m c).symm

end Cert.Proof

end
-- ==== Proof.Mix.lean ====
module

public import proofs.«01_k».proof.Defs
public import proofs.«01_k».proof.Proof.Gen.MixIdeal.Value
public import proofs.«01_k».proof.Proof.Gen.MixRefIdeal.Read
public import proofs.«01_k».proof.Proof.Gen.MixRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Result

open Cert.MixIdeal Cert.MixIdeal.Gen

variable (m : (ℓ : Loc nD τ sig) → Buf (Elt Ideal) ℓ)

/-- The reference's result 0 over this program's arguments. -/
abbrev REF0 (X : FVec Ideal S4096x2048 .bf16) (Y : FVec Ideal S2048x2048 .bf16) (Z : FVec Ideal S4096x2048 .f32) (U : FVec Ideal S1x2048 .f32) (W : FVec Ideal S1x2048 .f32) : FVec Ideal S4096x2048 .f32 :=
  Cert.MixRefIdeal.Read.val_main_v5 (F := Ideal) X Y Z

/-- The reference's result 1 over this program's arguments. -/
abbrev REF1 (X : FVec Ideal S4096x2048 .bf16) (Y : FVec Ideal S2048x2048 .bf16) (Z : FVec Ideal S4096x2048 .f32) (U : FVec Ideal S1x2048 .f32) (W : FVec Ideal S1x2048 .f32) : FVec Ideal S4096x2048 .f32 :=
  Cert.MixRefIdeal.Read.val_main_v27 (F := Ideal) X Y Z U W

/-- The reference's result 2 over this program's arguments. -/
abbrev REF2 (X : FVec Ideal S4096x2048 .bf16) (Y : FVec Ideal S2048x2048 .bf16) (Z : FVec Ideal S4096x2048 .f32) (U : FVec Ideal S1x2048 .f32) (W : FVec Ideal S1x2048 .f32) : FVec Ideal S4096x2048 .bf16 :=
  Cert.MixRefIdeal.Read.val_main_v28 (F := Ideal) X Y Z U W

/-- Where each window's block lies, at every grid point. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- What the body stores at `y` of its block is the reference's result 0 at the place of `y` in the array. -/
theorem point0 (c : Dev nD) (t : Fin cfg0.N) (y : S256x2048.Idx) :
    out0_5 (F := Ideal) (iblk m c 0 t) (iblk m c 1 t) (iblk m c 2 t) (iblk m c 3 t) (iblk m c 4 t) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [REF0, Cert.MixRefIdeal.Read.val_main_cst, Cert.MixRefIdeal.Read.val_main_v0, Cert.MixRefIdeal.Read.val_main_v1, Cert.MixRefIdeal.Read.val_main_v2, Cert.MixRefIdeal.Read.val_main_v3, Cert.MixRefIdeal.Read.val_main_v4, Cert.MixRefIdeal.Read.val_main_v5, Cert.MixRefIdeal.Read.val_main_cst_0, Cert.MixRefIdeal.Read.val_main_v6, Cert.MixRefIdeal.Read.val_main_v7, Cert.MixRefIdeal.Read.val_main_cst_1, Cert.MixRefIdeal.Read.val_main_v8, Cert.MixRefIdeal.Read.val_main_v9, Cert.MixRefIdeal.Read.val_main_v10, Cert.MixRefIdeal.Read.val_main_v11, Cert.MixRefIdeal.Read.val_main_v12, Cert.MixRefIdeal.Read.val_main_cst_2, Cert.MixRefIdeal.Read.val_main_v13, Cert.MixRefIdeal.Read.val_main_v14, Cert.MixRefIdeal.Read.val_main_cst_3, Cert.MixRefIdeal.Read.val_main_v15, Cert.MixRefIdeal.Read.val_main_v16, Cert.MixRefIdeal.Read.val_main_v17, Cert.MixRefIdeal.Read.val_main_v18, Cert.MixRefIdeal.Read.val_main_cst_4, Cert.MixRefIdeal.Read.val_main_v19, Cert.MixRefIdeal.Read.val_main_v20, Cert.MixRefIdeal.Read.val_main_v21, Cert.MixRefIdeal.Read.val_main_v22, Cert.MixRefIdeal.Read.val_main_v23, Cert.MixRefIdeal.Read.val_main_v24, Cert.MixRefIdeal.Read.val_main_v25, Cert.MixRefIdeal.Read.val_main_v26, Cert.MixRefIdeal.Read.val_main_v27, Cert.MixRefIdeal.Read.val_main_v28]
  canon_tiles x h
  all_goals
    open_payloads
    pointwise
  all_goals blk_point [iblk, V, idx t]

/-- The result array after the run is the reference's result 0. -/
theorem final0 (c : Dev nD) : (dats m 0 c).arrAt 5 (cfgs 0).N
    = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point0 m c t y

/-- What the body stores at `y` of its block is the reference's result 1 at the place of `y` in the array. -/
theorem point1 (c : Dev nD) (t : Fin cfg0.N) (y : S256x2048.Idx) :
    out0_6 (F := Ideal) (iblk m c 0 t) (iblk m c 1 t) (iblk m c 2 t) (iblk m c 3 t) (iblk m c 4 t) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [REF1, Cert.MixRefIdeal.Read.val_main_cst, Cert.MixRefIdeal.Read.val_main_v0, Cert.MixRefIdeal.Read.val_main_v1, Cert.MixRefIdeal.Read.val_main_v2, Cert.MixRefIdeal.Read.val_main_v3, Cert.MixRefIdeal.Read.val_main_v4, Cert.MixRefIdeal.Read.val_main_v5, Cert.MixRefIdeal.Read.val_main_cst_0, Cert.MixRefIdeal.Read.val_main_v6, Cert.MixRefIdeal.Read.val_main_v7, Cert.MixRefIdeal.Read.val_main_cst_1, Cert.MixRefIdeal.Read.val_main_v8, Cert.MixRefIdeal.Read.val_main_v9, Cert.MixRefIdeal.Read.val_main_v10, Cert.MixRefIdeal.Read.val_main_v11, Cert.MixRefIdeal.Read.val_main_v12, Cert.MixRefIdeal.Read.val_main_cst_2, Cert.MixRefIdeal.Read.val_main_v13, Cert.MixRefIdeal.Read.val_main_v14, Cert.MixRefIdeal.Read.val_main_cst_3, Cert.MixRefIdeal.Read.val_main_v15, Cert.MixRefIdeal.Read.val_main_v16, Cert.MixRefIdeal.Read.val_main_v17, Cert.MixRefIdeal.Read.val_main_v18, Cert.MixRefIdeal.Read.val_main_cst_4, Cert.MixRefIdeal.Read.val_main_v19, Cert.MixRefIdeal.Read.val_main_v20, Cert.MixRefIdeal.Read.val_main_v21, Cert.MixRefIdeal.Read.val_main_v22, Cert.MixRefIdeal.Read.val_main_v23, Cert.MixRefIdeal.Read.val_main_v24, Cert.MixRefIdeal.Read.val_main_v25, Cert.MixRefIdeal.Read.val_main_v26, Cert.MixRefIdeal.Read.val_main_v27, Cert.MixRefIdeal.Read.val_main_v28]
  canon_tiles x h
  all_goals
    open_payloads
    pointwise
  all_goals blk_point [iblk, V, idx t]

/-- The result array after the run is the reference's result 1. -/
theorem final1 (c : Dev nD) : (dats m 0 c).arrAt 6 (cfgs 0).N
    = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point1 m c t y

/-- What the body stores at `y` of its block is the reference's result 2 at the place of `y` in the array. -/
theorem point2 (c : Dev nD) (t : Fin cfg0.N) (y : S256x2048.Idx) :
    out0_7 (F := Ideal) (iblk m c 0 t) (iblk m c 1 t) (iblk m c 2 t) (iblk m c 3 t) (iblk m c 4 t) y
      = REF2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [REF2, Cert.MixRefIdeal.Read.val_main_cst, Cert.MixRefIdeal.Read.val_main_v0, Cert.MixRefIdeal.Read.val_main_v1, Cert.MixRefIdeal.Read.val_main_v2, Cert.MixRefIdeal.Read.val_main_v3, Cert.MixRefIdeal.Read.val_main_v4, Cert.MixRefIdeal.Read.val_main_v5, Cert.MixRefIdeal.Read.val_main_cst_0, Cert.MixRefIdeal.Read.val_main_v6, Cert.MixRefIdeal.Read.val_main_v7, Cert.MixRefIdeal.Read.val_main_cst_1, Cert.MixRefIdeal.Read.val_main_v8, Cert.MixRefIdeal.Read.val_main_v9, Cert.MixRefIdeal.Read.val_main_v10, Cert.MixRefIdeal.Read.val_main_v11, Cert.MixRefIdeal.Read.val_main_v12, Cert.MixRefIdeal.Read.val_main_cst_2, Cert.MixRefIdeal.Read.val_main_v13, Cert.MixRefIdeal.Read.val_main_v14, Cert.MixRefIdeal.Read.val_main_cst_3, Cert.MixRefIdeal.Read.val_main_v15, Cert.MixRefIdeal.Read.val_main_v16, Cert.MixRefIdeal.Read.val_main_v17, Cert.MixRefIdeal.Read.val_main_v18, Cert.MixRefIdeal.Read.val_main_cst_4, Cert.MixRefIdeal.Read.val_main_v19, Cert.MixRefIdeal.Read.val_main_v20, Cert.MixRefIdeal.Read.val_main_v21, Cert.MixRefIdeal.Read.val_main_v22, Cert.MixRefIdeal.Read.val_main_v23, Cert.MixRefIdeal.Read.val_main_v24, Cert.MixRefIdeal.Read.val_main_v25, Cert.MixRefIdeal.Read.val_main_v26, Cert.MixRefIdeal.Read.val_main_v27, Cert.MixRefIdeal.Read.val_main_v28]
  canon_tiles x h
  all_goals
    open_payloads
    pointwise
  all_goals blk_point [iblk, V, idx t]

/-- The result array after the run is the reference's result 2. -/
theorem final2 (c : Dev nD) : (dats m 0 c).arrAt 7 (cfgs 0).N
    = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact point2 m c t y

end Cert.MixIdeal.Result

namespace Cert.Proof

/-- The idealized call computes the reference's results. -/
theorem algebraic_Mix [h : Cert.MixIdeal.Facts] [h' : Cert.MixRefIdeal.Facts] :
    Cert.algebraic_MixIdeal_MixRefIdeal := by
  pair_intro
  · run_from Cert.MixIdeal.Gen.run_main m g
  · run_from Cert.MixRefIdeal.Value.run m' g'
    · exact (Cert.MixIdeal.Result.final0 m c).symm
    · exact (Cert.MixIdeal.Result.final1 m c).symm
    · exact (Cert.MixIdeal.Result.final2 m c).symm

end Cert.Proof

end
-- ==== Proof.SwaBwdIdealRun.lean ====
/- The gradient of the sliding-window attention: what the body stores at a block, found by running it. -/
module

public import proofs.«01_k».proof.Proof.Gen.SwaBwdIdeal.Frame
public import proofs.«01_k».proof.Proof.Gen.SwaBwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SwaBwdIdeal.Hand

open Cert.SwaBwdIdeal Cert.SwaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block is the first one, as the body's first branch computes it. -/
abbrev first (i : grid0.Coords) : Prop :=
  Scalar.cmpi .ne (Scalar.extui (Scalar.cmpi .eq (BitVec.ofNat 32 (i 0).val) 0#32) : BitVec 32) 0#32 = 1#1
/-- The block is a later one, as the body's last branch computes it. -/
abbrev later (i : grid0.Coords) : Prop := k0_cond2 i = 1#1

/-- At a later block the rows of the block before begin 128 rows earlier. -/
theorem off2_eq : ∀ i : grid0.Coords, later i → k0_off2 i = ![128 * ((i 0).val - 1), 0] := by decide +kernel
instance closedOff_k0_off2 (i : grid0.Coords) [h : Fact (later i)] : ClosedOff (k0_off2 i) :=
  ⟨![128 * ((i 0).val - 1), 0], off2_eq i h.out⟩
/-- A later block's number is positive. -/
theorem pos_of_later : ∀ i : grid0.Coords, later i → 0 < (i 0).val := by decide +kernel

set_option maxHeartbeats 8000000 in
/-- The body at the first block: every accumulated gradient is zeroed, then the block is added. The stores of each result, last first, are the witness the run finds. -/
noncomputable def runA (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .f32) (harg7 : arg7.IsWhole) (arg8 : Memref sig .tc .vmem S128x1024 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (h0 : first i) (h1 : ¬later i)
    (x0 : Vec F S16 .f32) (x1 : Vec F S128x1024 .f32) (x2 : Vec F S128x128 .f32) (x3 : Vec F S128x128 .f32) (x4 : Vec F S128x128 .f32) (x5 : Vec F S128x128 .f32) (x6 : Vec F S128x1024 .f32) :
    { L : List (View.Piece (Elt F) S128x1024 .bf16) × List (View.Piece (Elt F) S4096x128 .f32) × List (View.Piece (Elt F) S4096x128 .f32) × List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d : Vec F S128x1024 .bf16, owns (c : Thread nD τ) arg8 fullShare d) ∗ (∃ d : Vec F S4096x128 .f32, owns (c : Thread nD τ) arg9 fullShare d) ∗ (∃ d : Vec F S4096x128 .f32, owns (c : Thread nD τ) arg10 fullShare d) ∗ (∃ d : Vec F S1x128 .f32, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2.1) ∗ (∃ f, arg11.view.loc (c : Thread nD τ) ↦[arg11.view.set]{fullShare} arg11.view.writes (Elt F) f L.2.2.2)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11) K } := by
  refine ⟨⟨?_, ?_, ?_, ?_⟩, fun E K => ?run⟩
  case run =>
    simp only [cc0_swa_bwd_eq_skeleton]; unfold cc0_swa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; iexact H8
    isplitl [H9]
    · iexists _; iexact H9
    iexists _; iexact H10

set_option maxHeartbeats 8000000 in
/-- The body at a later block: the accumulated gradients as the block before left them, this block and the one before it added to. -/
noncomputable def runB (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .f32) (harg7 : arg7.IsWhole) (arg8 : Memref sig .tc .vmem S128x1024 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (h0 : ¬first i) (h1 : later i)
    (x0 : Vec F S16 .f32) (x1 : Vec F S128x1024 .f32) (x2 : Vec F S128x128 .f32) (x3 : Vec F S128x128 .f32) (x4 : Vec F S128x128 .f32) (x5 : Vec F S128x128 .f32) (x6 : Vec F S128x1024 .f32) (o8 : Vec F S4096x128 .f32) (o9 : Vec F S4096x128 .f32) (o10 : Vec F S1x128 .f32) :
    { L : List (View.Piece (Elt F) S128x1024 .bf16) × List (View.Piece (Elt F) S4096x128 .f32) × List (View.Piece (Elt F) S4096x128 .f32) × List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d : Vec F S128x1024 .bf16, owns (c : Thread nD τ) arg8 fullShare d) ∗ owns (c : Thread nD τ) arg9 fullShare o8 ∗ owns (c : Thread nD τ) arg10 fullShare o9 ∗ owns (c : Thread nD τ) arg11 fullShare o10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (arg9.view.loc (c : Thread nD τ) ↦[arg9.view.set]{fullShare} arg9.view.writes (Elt F) (harg9.unread o8) L.2.1) ∗ (arg10.view.loc (c : Thread nD τ) ↦[arg10.view.set]{fullShare} arg10.view.writes (Elt F) (harg10.unread o9) L.2.2.1) ∗ (∃ f, arg11.view.loc (c : Thread nD τ) ↦[arg11.view.set]{fullShare} arg11.view.writes (Elt F) f L.2.2.2)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11) K } := by
  refine ⟨⟨?_, ?_, ?_, ?_⟩, fun E K => ?run⟩
  case run =>
    simp only [cc0_swa_bwd_eq_skeleton]; unfold cc0_swa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10
    haveI : Fact (later i) := ⟨h1⟩
    have hpos := pos_of_later i h1
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexact H8
    isplitl [H9]
    · iexact H9
    iexists _; iexact H10

end Cert.SwaBwdIdeal.Hand

end
-- ==== Proof.SwaBwdIdealFrame.lean ====
/- The gradient of the sliding-window attention: what its results hold block by block, and the frame. -/
module

public import proofs.«01_k».proof.Proof.SwaBwdIdealRun
public import Idealize.ShloMosaic.Lib.Claim
public import Idealize.ShloMosaic.Lib.Pipeline.TableIdle

@[expose] public section

set_option maxRecDepth 16384

noncomputable section

namespace Cert.SwaBwdIdeal.Hand

open Cert.SwaBwdIdeal Cert.SwaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Window 0's staging memref at point `t`, and its wholeness. -/
abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
/-- Window 1's staging memref at point `t`, and its wholeness. -/
abbrev ms1 (t : Fin cfg0.N) : Memref sig .tc .vmem S128x1024 .f32 := win0_1.stage (cfg0.slots t 1)
abbrev hs1 (t : Fin cfg0.N) : (ms1 t).IsWhole := hstage0_1 ((cfg0.slots t 1).cast nbuf0_1)
/-- Window 2's staging memref at point `t`, and its wholeness. -/
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
/-- Window 3's staging memref at point `t`, and its wholeness. -/
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
/-- Window 4's staging memref at point `t`, and its wholeness. -/
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
/-- Window 5's staging memref at point `t`, and its wholeness. -/
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
/-- Window 6's staging memref at point `t`, and its wholeness. -/
abbrev ms6 (t : Fin cfg0.N) : Memref sig .tc .vmem S128x1024 .f32 := win0_6.stage (cfg0.slots t 6)
abbrev hs6 (t : Fin cfg0.N) : (ms6 t).IsWhole := hstage0_6 ((cfg0.slots t 6).cast nbuf0_6)
/-- Window 7's staging memref at point `t`, and its wholeness. -/
abbrev ms7 (t : Fin cfg0.N) : Memref sig .tc .vmem S128x1024 .bf16 := win0_7.stage (cfg0.slots t 7)
abbrev hs7 (t : Fin cfg0.N) : (ms7 t).IsWhole := hstage0_7 ((cfg0.slots t 7).cast nbuf0_7)
/-- Window 8's staging memref at point `t`, and its wholeness. -/
abbrev ms8 (t : Fin cfg0.N) : Memref sig .tc .vmem S4096x128 .f32 := win0_8.stage (cfg0.slots t 8)
abbrev hs8 (t : Fin cfg0.N) : (ms8 t).IsWhole := hstage0_8 ((cfg0.slots t 8).cast nbuf0_8)
/-- Window 9's staging memref at point `t`, and its wholeness. -/
abbrev ms9 (t : Fin cfg0.N) : Memref sig .tc .vmem S4096x128 .f32 := win0_9.stage (cfg0.slots t 9)
abbrev hs9 (t : Fin cfg0.N) : (ms9 t).IsWhole := hstage0_9 ((cfg0.slots t 9).cast nbuf0_9)
/-- Window 10's staging memref at point `t`, and its wholeness. -/
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)

variable (m : (ℓ : Loc nD τ sig) → Buf (Elt F) ℓ) (ρ : Dev nD → PrngReg)

theorem first_iff : ∀ t : Fin cfg0.N, first (grid0.coords t) ↔ t.val = 0 :=
  (by decide +kernel : ∀ t : Fin grid0.N, first (grid0.coords t) ↔ t.val = 0)
theorem later_iff : ∀ t : Fin cfg0.N, later (grid0.coords t) ↔ t.val ≠ 0 :=
  (by decide +kernel : ∀ t : Fin grid0.N, later (grid0.coords t) ↔ t.val ≠ 0)

/-- What the four results' staging buffers hold. -/
abbrev Outs (F : FTy → Type) : Type := Vec F S128x1024 .bf16 × Vec F S4096x128 .f32 × Vec F S4096x128 .f32 × Vec F S1x128 .f32

/-- The stores of the first block. -/
def piecesA (c : Dev nD) (t : Fin cfg0.N) (h : t.val = 0) :=
  (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((first_iff t).mpr h) (fun q => (later_iff t).mp q h) (iblk m c 0 t) (X0_1 m c t) (iblk m c 2 t) (iblk m c 3 t) (iblk m c 4 t) (iblk m c 5 t) (iblk m c 6 t)).1
/-- The stores of a later block, over the accumulated gradients. -/
def piecesB (c : Dev nD) (t : Fin cfg0.N) (h : t.val ≠ 0) (o8 : Vec F S4096x128 .f32) (o9 : Vec F S4096x128 .f32) (o10 : Vec F S1x128 .f32) :=
  (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun q => h ((first_iff t).mp q)) ((later_iff t).mpr h) (iblk m c 0 t) (X0_1 m c t) (iblk m c 2 t) (iblk m c 3 t) (iblk m c 4 t) (iblk m c 5 t) (iblk m c 6 t) o8 o9 o10).1

/-- What the first block leaves. -/
def outA (c : Dev nD) (t : Fin cfg0.N) (h : t.val = 0) : Outs F :=
  ⟨(ms7 t).view.read (Elt F) ((ms7 t).view.writes (Elt F) (ms7 t).view.junk (piecesA m c t h).1),
    (ms8 t).view.read (Elt F) ((ms8 t).view.writes (Elt F) (ms8 t).view.junk (piecesA m c t h).2.1),
    (ms9 t).view.read (Elt F) ((ms9 t).view.writes (Elt F) (ms9 t).view.junk (piecesA m c t h).2.2.1),
    (ms10 t).view.read (Elt F) ((ms10 t).view.writes (Elt F) (ms10 t).view.junk (piecesA m c t h).2.2.2)⟩
/-- What a later block leaves over the accumulated gradients. -/
def outB (c : Dev nD) (t : Fin cfg0.N) (h : t.val ≠ 0) (o8 : Vec F S4096x128 .f32) (o9 : Vec F S4096x128 .f32) (o10 : Vec F S1x128 .f32) : Outs F :=
  ⟨(ms7 t).view.read (Elt F) ((ms7 t).view.writes (Elt F) (ms7 t).view.junk (piecesB m c t h o8 o9 o10).1),
    (ms8 t).view.read (Elt F) ((ms8 t).view.writes (Elt F) ((hs8 t).unread o8) (piecesB m c t h o8 o9 o10).2.1),
    (ms9 t).view.read (Elt F) ((ms9 t).view.writes (Elt F) ((hs9 t).unread o9) (piecesB m c t h o8 o9 o10).2.2.1),
    (ms10 t).view.read (Elt F) ((ms10 t).view.writes (Elt F) (ms10 t).view.junk (piecesB m c t h o8 o9 o10).2.2.2)⟩
/-- What the results' staging buffers hold after the body at position `n`. -/
def outs (c : Dev nD) : (n : ℕ) → n < cfg0.N → Outs F
  | 0, hn => outA m c ⟨0, hn⟩ rfl
  | n + 1, hn => outB m c ⟨n + 1, hn⟩ (Nat.succ_ne_zero n) (outs c n (Nat.lt_of_succ_lt hn)).2.1
      (outs c n (Nat.lt_of_succ_lt hn)).2.2.1 (outs c n (Nat.lt_of_succ_lt hn)).2.2.2
theorem outs_first (c : Dev nD) (t : Fin cfg0.N) (h : t.val = 0) : outs m c t.val t.isLt = outA m c t h := by
  obtain ⟨n, hn⟩ := t
  cases n with
  | zero => rfl
  | succ n => exact absurd h (Nat.succ_ne_zero n)
theorem outs_later (c : Dev nD) (t : Fin cfg0.N) (h : t.val ≠ 0) :
    outs m c t.val t.isLt = outB m c t h (outs m c (t.val - 1) (Nat.lt_of_le_of_lt (Nat.sub_le _ _) t.isLt)).2.1
      (outs m c (t.val - 1) (Nat.lt_of_le_of_lt (Nat.sub_le _ _) t.isLt)).2.2.1
      (outs m c (t.val - 1) (Nat.lt_of_le_of_lt (Nat.sub_le _ _) t.isLt)).2.2.2 := by
  obtain ⟨n, hn⟩ := t
  cases n with
  | zero => exact absurd rfl h
  | succ n => rfl

/-! ### The stores cover the results that do not carry -/

theorem coverA7 (c : Dev nD) (t : Fin cfg0.N) (h : t.val = 0) (y : S128x1024.Idx) :
    ∃ pc ∈ (piecesA m c t h).1, y ∈ pc.1.set := by
  refine View.cover_of_tiledL _ ![128, 128] ?_ y
  unfold piecesA
  sl_kernel_rfl
theorem coverA8 (c : Dev nD) (t : Fin cfg0.N) (h : t.val = 0) (y : S4096x128.Idx) :
    ∃ pc ∈ (piecesA m c t h).2.1, y ∈ pc.1.set := by
  refine View.cover_of_wholeMem _ ?_ y
  unfold piecesA
  sl_whole_mem
theorem coverA9 (c : Dev nD) (t : Fin cfg0.N) (h : t.val = 0) (y : S4096x128.Idx) :
    ∃ pc ∈ (piecesA m c t h).2.2.1, y ∈ pc.1.set := by
  refine View.cover_of_wholeMem _ ?_ y
  unfold piecesA
  sl_whole_mem
theorem coverA10 (c : Dev nD) (t : Fin cfg0.N) (h : t.val = 0) (y : S1x128.Idx) :
    ∃ pc ∈ (piecesA m c t h).2.2.2, y ∈ pc.1.set := by
  refine View.cover_of_wholeMem _ ?_ y
  unfold piecesA
  sl_whole_mem
theorem coverB7 (c : Dev nD) (t : Fin cfg0.N) (h : t.val ≠ 0) (o8 : Vec F S4096x128 .f32) (o9 : Vec F S4096x128 .f32) (o10 : Vec F S1x128 .f32) (y : S128x1024.Idx) :
    ∃ pc ∈ (piecesB m c t h o8 o9 o10).1, y ∈ pc.1.set := by
  refine View.cover_of_tiledL _ ![128, 128] ?_ y
  unfold piecesB
  sl_kernel_rfl
theorem coverB10 (c : Dev nD) (t : Fin cfg0.N) (h : t.val ≠ 0) (o8 : Vec F S4096x128 .f32) (o9 : Vec F S4096x128 .f32) (o10 : Vec F S1x128 .f32) (y : S1x128.Idx) :
    ∃ pc ∈ (piecesB m c t h o8 o9 o10).2.2.2, y ∈ pc.1.set := by
  refine View.cover_of_wholeMem _ ?_ y
  unfold piecesB
  sl_whole_mem

/-! ### The proof data -/

/-- The proof data of the pipeline: each input's buffer at its block, the results' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outs m c t.val t.isLt).1 := by dsimp only [dats]
theorem after8 (c : Dev nD) (t : Fin cfg0.N) : (dats m 0 c).after 8 t = (outs m c t.val t.isLt).2.1 := by dsimp only [dats]
theorem after9 (c : Dev nD) (t : Fin cfg0.N) : (dats m 0 c).after 9 t = (outs m c t.val t.isLt).2.2.1 := by dsimp only [dats]
theorem after10 (c : Dev nD) (t : Fin cfg0.N) : (dats m 0 c).after 10 t = (outs m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel

/-- Whether an accumulated gradient's buffer is fresh at a position: at the first only, and after the last write-back. -/
def freshTab : ℕ → Bool
  | 0 => true
  | n + 1 => (0x80000000 : ℕ).testBit n
theorem freshTab_step8 : ∀ t : Fin cfg0.N,
    freshTab (t.val + 1) = ((cfg0.win 8).flush t || (cfg0.idle 8 (cfg0.grid.coords t) && freshTab t.val)) := by decide +kernel
theorem notFresh8 : ∀ t : Fin cfg0.N, t.val ≠ 0 → cfg0.fresh 8 t.val = false := by
  intro t h
  rw [Pipeline.Cfg.fresh_tab cfg0 8 freshTab rfl freshTab_step8 t.val (Nat.le_of_lt t.isLt)]
  revert t; decide +kernel
/-- At a later block the accumulated gradient is what the block before left. -/
theorem before8 (c : Dev nD) (t : Fin cfg0.N) (h : t.val ≠ 0) (d) :
    (dats m 0 c).before 8 t d = (outs m c (t.val - 1) (Nat.lt_of_le_of_lt (Nat.sub_le _ _) t.isLt)).2.1 := by
  rw [Dat.before_out_traj _ 8 rfl (fun _ _ => rfl)
      (fun s _ hi _ => absurd (hi.symm.trans (live8 s)) Bool.noConfusion) t.val t rfl d,
    if_neg (by rw [notFresh8 t h]; exact Bool.false_ne_true)]
  dsimp only [dats]
theorem freshTab_step9 : ∀ t : Fin cfg0.N,
    freshTab (t.val + 1) = ((cfg0.win 9).flush t || (cfg0.idle 9 (cfg0.grid.coords t) && freshTab t.val)) := by decide +kernel
theorem notFresh9 : ∀ t : Fin cfg0.N, t.val ≠ 0 → cfg0.fresh 9 t.val = false := by
  intro t h
  rw [Pipeline.Cfg.fresh_tab cfg0 9 freshTab rfl freshTab_step9 t.val (Nat.le_of_lt t.isLt)]
  revert t; decide +kernel
/-- At a later block the accumulated gradient is what the block before left. -/
theorem before9 (c : Dev nD) (t : Fin cfg0.N) (h : t.val ≠ 0) (d) :
    (dats m 0 c).before 9 t d = (outs m c (t.val - 1) (Nat.lt_of_le_of_lt (Nat.sub_le _ _) t.isLt)).2.2.1 := by
  rw [Dat.before_out_traj _ 9 rfl (fun _ _ => rfl)
      (fun s _ hi _ => absurd (hi.symm.trans (live9 s)) Bool.noConfusion) t.val t rfl d,
    if_neg (by rw [notFresh9 t h]; exact Bool.false_ne_true)]
  dsimp only [dats]
theorem freshTab_step10 : ∀ t : Fin cfg0.N,
    freshTab (t.val + 1) = ((cfg0.win 10).flush t || (cfg0.idle 10 (cfg0.grid.coords t) && freshTab t.val)) := by decide +kernel
theorem notFresh10 : ∀ t : Fin cfg0.N, t.val ≠ 0 → cfg0.fresh 10 t.val = false := by
  intro t h
  rw [Pipeline.Cfg.fresh_tab cfg0 10 freshTab rfl freshTab_step10 t.val (Nat.le_of_lt t.isLt)]
  revert t; decide +kernel
/-- At a later block the accumulated gradient is what the block before left. -/
theorem before10 (c : Dev nD) (t : Fin cfg0.N) (h : t.val ≠ 0) (d) :
    (dats m 0 c).before 10 t d = (outs m c (t.val - 1) (Nat.lt_of_le_of_lt (Nat.sub_le _ _) t.isLt)).2.2.2 := by
  rw [Dat.before_out_traj _ 10 rfl (fun _ _ => rfl)
      (fun s _ hi _ => absurd (hi.symm.trans (live10 s)) Bool.noConfusion) t.val t rfl d,
    if_neg (by rw [notFresh10 t h]; exact Bool.false_ne_true)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  by_cases h : t.val = 0
  ·
    simp only [outs_first m c t h]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ((first_iff t).mpr h) (fun q => (later_iff t).mp q h) (iblk m c 0 t) (X0_1 m c t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA7 m c t h)
    isplitl [H8]
    · unfold owns; iexists _; isplitr
      swap; · iexact H8
      ipureintro; exact View.read_writes_of_cover _ _ _ _ _ (coverA8 m c t h)
    isplitl [H9]
    · unfold owns; iexists _; isplitr
      swap; · iexact H9
      ipureintro; exact View.read_writes_of_cover _ _ _ _ _ (coverA9 m c t h)
    · unfold owns; iexists _; isplitr
      swap; · iexact H10
      ipureintro; exact View.read_writes_of_cover _ _ _ _ _ (coverA10 m c t h)
  ·
    simp only [outs_later m c t h]
    simp only [before8 m c t h, before9 m c t h, before10 m c t h]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (fun q => h ((first_iff t).mp q)) ((later_iff t).mpr h) (iblk m c 0 t) (X0_1 m c t) (iblk m c 2 t) (iblk m c 3 t) (iblk m c 4 t) (iblk m c 5 t) (iblk m c 6 t) _ _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, ⟨%e7, H7⟩, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB7 m c t h _ _ _)
    isplitl [H8]
    · unfold owns; iexists _; isplitr
      swap; · iexact H8
      ipureintro; rfl
    isplitl [H9]
    · unfold owns; iexists _; isplitr
      swap; · iexact H9
      ipureintro; rfl
    · unfold owns; iexists _; isplitr
      swap; · iexact H10
      ipureintro; exact View.read_writes_of_cover _ _ _ _ _ (coverB10 m c t h _ _ _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with the arrays at what the proof data compute and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.SwaBwdIdeal.Hand

end
-- ==== Proof.SwaRow.lean ====
/- One row of the windowed softmax and its gradient: the kernel's arithmetic against the derivative's, over finite scores. -/
module

public import Idealize.ShloMosaic.Lib.StableHlo
public import Idealize.ShloMosaic.PureOps.Ideal
public import Mathlib.Tactic.FieldSimp
public import Mathlib.Tactic.Linarith
public import Mathlib.Data.EReal.Operations

@[expose] public section

noncomputable section

open Idealize.ShloMosaic

namespace Cert.SwaRow

variable (W D : Fin 256 → EReal) (σ : EReal)

/-- The row's maximum, the sink's logit included. -/
def mx : EReal := max (Finset.univ.fold max ⊥ W) σ

/-- The shifted exponential of a score. -/
def ex (k : Fin 256) : EReal := Ideal.exp (W k - mx W σ)

/-- The shifted exponential of the sink's logit. -/
def es : EReal := Ideal.exp (σ - mx W σ)

/-- The row's denominator. -/
def den : EReal := (∑ k, ex W σ k) + es W σ

/-- The kernel's weights: the exponentials times the reciprocal. -/
def pn (k : Fin 256) : EReal := ex W σ k * Ideal.div 1 (den W σ)

/-- The kernel's row sum of the weights times their cotangents. -/
def drow : EReal := ∑ k, D k * pn W σ k

/-- The kernel's gradient of a score, scaled. -/
def ds (k : Fin 256) : EReal := pn W σ k * (D k - drow W D σ) * ((1 / 8 : ℝ) : EReal)

/-- The kernel's share of the sink in the row sum. -/
def sk : EReal := es W σ * Ideal.div 1 (den W σ) * drow W D σ

/-- The derivative's cotangent of the denominator. -/
def nrow : EReal := -∑ k, D k * Ideal.div 1 (den W σ * den W σ) * ex W σ k

/-- The derivative's cotangent of a shifted score. -/
def gs (k : Fin 256) : EReal := (Ideal.div (D k) (den W σ) + nrow W D σ) * ex W σ k

/-- The derivative's cotangent of the sink's shifted logit. -/
def gk : EReal := nrow W D σ * es W σ

/-- The derivative's cotangent of the maximum. -/
def gm : EReal := -gk W D σ + ∑ k, -gs W D σ k

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

section Real

variable {W D σ} {ok : Fin 256 → Prop} [DecidablePred ok] {s d : Fin 256 → ℝ} {z : ℝ}

theorem fold_lt_top {ι : Type} (f : ι → EReal) (t : Finset ι) (h : ∀ i, f i < ⊤) : t.fold max ⊥ f < ⊤ := by
  classical
  induction t using Finset.induction_on with
  | empty => simp
  | insert a t ha ih => rw [Finset.fold_insert ha]; exact max_lt (h a) ih

/-- The maximum of finite scores is finite. -/
theorem mx_real (hW : ∀ k, W k = if ok k then ((s k : ℝ) : EReal) else ⊥) (hσ : σ = (z : EReal)) :
    ∃ M : ℝ, mx W σ = (M : EReal) := by
  have h1 : mx W σ < ⊤ := max_lt (fold_lt_top W _ fun k => by rw [hW]; split <;> simp [EReal.coe_lt_top]) (by rw [hσ]; exact EReal.coe_lt_top z)
  have h2 : ⊥ < mx W σ := lt_of_lt_of_le (by rw [hσ]; exact EReal.bot_lt_coe z) (le_max_right _ _)
  exact ⟨(mx W σ).toReal, (EReal.coe_toReal h1.ne h2.ne').symm⟩

/-- The row's exponentials are real numbers, the sink's and the denominator positive. -/
theorem row_real (hW : ∀ k, W k = if ok k then ((s k : ℝ) : EReal) else ⊥) (hσ : σ = (z : EReal)) :
    ∃ (e : Fin 256 → ℝ) (t : ℝ), (∀ k, ex W σ k = (e k : EReal)) ∧ (∀ k, ¬ ok k → e k = 0) ∧ es W σ = (t : EReal)
      ∧ den W σ = ((∑ k, e k + t : ℝ) : EReal) ∧ 0 < ∑ k, e k + t := by
  obtain ⟨M, hM⟩ := mx_real hW hσ
  have he : ∀ k, ex W σ k = ((if ok k then Real.exp (s k - M) else 0 : ℝ) : EReal) := by
    intro k
    unfold ex
    rw [hM, hW]
    split
    · rw [← EReal.coe_sub, Ideal.exp_coe]
    · rw [EReal.bot_sub, Ideal.exp_bot]; rfl
  have ht : es W σ = ((Real.exp (z - M) : ℝ) : EReal) := by
    unfold es
    rw [hM, hσ, ← EReal.coe_sub, Ideal.exp_coe]
  refine ⟨fun k => if ok k then Real.exp (s k - M) else 0, Real.exp (z - M), he, fun k hk => by simp [hk], ht, ?_, ?_⟩
  · unfold den
    rw [ht, Finset.sum_congr rfl fun k _ => he k, coe_sum, ← EReal.coe_add]
  · have : 0 ≤ ∑ k, (if ok k then Real.exp (s k - M) else 0 : ℝ) := Finset.sum_nonneg fun k _ => by
      split
      · exact (Real.exp_pos _).le
      · exact le_refl _
    have := Real.exp_pos (z - M)
    linarith

end Real

/-- The kernel's and the derivative's row, for scores that are finite where `ok` and excluded elsewhere, over
    cotangents `D` and `D'` that are finite and agree where `ok`. -/
theorem row {W D D' : Fin 256 → EReal} {σ : EReal} (ok : Fin 256 → Prop) [DecidablePred ok] (s d d' : Fin 256 → ℝ) (z : ℝ)
    (hW : ∀ k, W k = if ok k then ((s k : ℝ) : EReal) else ⊥) (hσ : σ = (z : EReal))
    (hD : ∀ k, D k = (d k : EReal)) (hD' : ∀ k, D' k = (d' k : EReal)) (hd : ∀ k, ok k → d k = d' k) :
    (∀ k, pn W σ k = Ideal.div (ex W σ k) (den W σ))
    ∧ (∀ k, ¬ ok k → pn W σ k = 0)
    ∧ (∀ k, ¬ ok k → ds W D σ k = 0)
    ∧ (∀ k, ok k → ds W D σ k = gs W D' σ k * ((1 / 8 : ℝ) : EReal))
    ∧ (∃ r : ℝ, sk W D σ = (r : EReal) ∧ gk W D' σ = ((-r : ℝ) : EReal))
    ∧ gm W D' σ = 0 := by
  obtain ⟨e, t, he, he0, ht, hden, hpos⟩ := row_real hW hσ
  set L : ℝ := ∑ k, e k + t with hL
  have hne : L ≠ 0 := hpos.ne'
  have hpn : ∀ k, pn W σ k = ((e k * (1 / L) : ℝ) : EReal) := by
    intro k
    unfold pn
    rw [he, hden, Ideal.div_coe hne, one_mul, ← EReal.coe_mul]
  have hdrow : drow W D σ = ((∑ k, d k * (e k * (1 / L)) : ℝ) : EReal) := by
    unfold drow
    rw [← coe_sum]
    exact Finset.sum_congr rfl fun k _ => by rw [hpn, hD, ← EReal.coe_mul]
  have hds : ∀ k, ds W D σ k = ((e k * (1 / L) * (d k - ∑ k, d k * (e k * (1 / L))) * (1 / 8) : ℝ) : EReal) := by
    intro k
    unfold ds
    rw [hpn, hD, hdrow, ← EReal.coe_sub, ← EReal.coe_mul, ← EReal.coe_mul]
  have hdd : ∀ k, d k * e k = d' k * e k := by
    intro k
    by_cases hk : ok k
    · rw [hd k hk]
    · rw [he0 k hk, mul_zero, mul_zero]
  have hn : nrow W D' σ = ((-∑ k, d k * e k * (1 / (L * L)) : ℝ) : EReal) := by
    unfold nrow
    rw [EReal.coe_neg, ← coe_sum]
    congr 1
    refine Finset.sum_congr rfl fun k _ => ?_
    rw [hden, ← EReal.coe_mul, Ideal.div_coe (mul_ne_zero hne hne), one_mul, he, hD', ← EReal.coe_mul, ← EReal.coe_mul, hdd]
    congr 1
    ring
  have hgs : ∀ k, gs W D' σ k = (((d k * e k) * (1 / L) - (∑ k, d k * e k * (1 / (L * L))) * e k : ℝ) : EReal) := by
    intro k
    unfold gs
    rw [hden, Ideal.div_coe hne, hD', hn, he, ← EReal.coe_mul, ← EReal.coe_add, ← EReal.coe_mul, hdd]
    congr 1
    ring
  have hgk : gk W D' σ = ((-(∑ k, d k * e k * (1 / (L * L))) * t : ℝ) : EReal) := by
    unfold gk
    rw [hn, ht, ← EReal.coe_mul]
  refine ⟨?_, ?_, ?_, ?_, ?_, ?_⟩
  · intro k
    rw [hpn, hden, Ideal.div_coe hne, he, EReal.coe_mul]
  · intro k hk
    rw [hpn, he0 k hk, zero_mul]; rfl
  · intro k hk
    rw [hds, he0 k hk, zero_mul, zero_mul, zero_mul]; rfl
  · intro k hk
    rw [hds, hgs, ← EReal.coe_mul]
    congr 2
    have : ∑ k, d k * e k * (1 / (L * L)) = (∑ k, d k * (e k * (1 / L))) * (1 / L) := by
      rw [Finset.sum_mul]
      refine Finset.sum_congr rfl fun k _ => ?_
      field_simp
    rw [this]
    ring
  · refine ⟨(∑ k, d k * e k * (1 / (L * L))) * t, ?_, ?_⟩
    · unfold sk
      rw [hden, Ideal.div_coe hne, one_mul, ht, hdrow, ← EReal.coe_mul, ← EReal.coe_mul]
      congr 1
      have : ∑ k, d k * e k * (1 / (L * L)) = (∑ k, d k * (e k * (1 / L))) * (1 / L) := by
        rw [Finset.sum_mul]
        refine Finset.sum_congr rfl fun k _ => ?_
        field_simp
      rw [this]
      ring
    · rw [hgk, neg_mul]
  · unfold gm
    have h0 : ∀ k, -gs W D' σ k = ((-(d k * e k * (1 / L) - (∑ k, d k * e k * (1 / (L * L))) * e k) : ℝ) : EReal) := by
      intro k
      rw [hgs, EReal.coe_neg]
    rw [hgk, Finset.sum_congr rfl fun k _ => h0 k, coe_sum, ← EReal.coe_neg, ← EReal.coe_add]
    rw [show (0 : EReal) = ((0 : ℝ) : EReal) from rfl]
    congr 1
    have h1 : ∑ k, -((d k * e k) * (1 / L) - (∑ k, d k * e k * (1 / (L * L))) * e k)
        = -((∑ k, d k * e k) * (1 / L)) + (∑ k, d k * e k * (1 / (L * L))) * ∑ k, e k := by
      rw [Finset.sum_neg_distrib, Finset.sum_sub_distrib, ← Finset.sum_mul, ← Finset.mul_sum]
      ring
    have h2 : ∑ k, d k * e k * (1 / (L * L)) = (∑ k, d k * e k) * (1 / (L * L)) := by rw [Finset.sum_mul]
    rw [h1, h2]
    have h3 : ∑ k, e k = L - t := by rw [hL]; ring
    rw [h3]
    field_simp
    ring

end Cert.SwaRow
-- ==== Proof.SwaBlk.lean ====
/- One block of queries of the windowed attention's gradient, over plain functions of row and column numbers. -/
module

public import proofs.«01_k».proof.Proof.SwaRow
public import Idealize.ShloMosaic.Lib.Pipeline.ValueKit

@[expose] public section

noncomputable section

open Idealize.ShloMosaic

namespace Cert.SwaRow

theorem ofBits_eighth : Ideal.ofBits .f32 1040187392#32 = ((1 / 8 : ℝ) : EReal) := by
  simp [Ideal.ofBits, Ideal.ieee]
  rw [← EReal.coe_mul]
  norm_num

theorem ofBits_bot : Ideal.ofBits .f32 4286578688#32 = ⊥ := by
  simp [Ideal.ofBits, Ideal.ieee]

/-- The element of a matrix at two numbers; zero outside. -/
def at2 {a b : ℕ} (x : Vec Ideal ⟨2, ![a, b]⟩ .f32) (i j : ℕ) : EReal :=
  if h : i < a ∧ j < b then (x (ix2 ⟨i, h.1⟩ ⟨j, h.2⟩) : EReal) else 0

/-- The element of a vector at a number; zero outside. -/
def at1 {a : ℕ} (x : Vec Ideal ⟨1, ![a]⟩ .f32) (i : ℕ) : EReal :=
  if h : i < a then (x (ix1 ⟨i, h⟩) : EReal) else 0

theorem at2_ix {a b : ℕ} (x : Vec Ideal ⟨2, ![a, b]⟩ .f32) (i : Fin a) (j : Fin b) : at2 x i.val j.val = x (ix2 i j) := by
  unfold at2
  rw [dif_pos ⟨i.2, j.2⟩]

theorem at2_lt {a b : ℕ} (x : Vec Ideal ⟨2, ![a, b]⟩ .f32) (i j : ℕ) (hi : i < a) (hj : j < b) :
    at2 x i j = x (ix2 ⟨i, hi⟩ ⟨j, hj⟩) := dif_pos ⟨hi, hj⟩

theorem at1_lt {a : ℕ} (x : Vec Ideal ⟨1, ![a]⟩ .f32) (i : ℕ) (hi : i < a) :
    at1 x i = x (ix1 ⟨i, hi⟩) := dif_pos hi

/-- A query of the block looks at a slot. -/
def ok (b q k : ℕ) : Prop := q < k ∧ k ≤ q + 128 ∧ (0 < b ∨ 128 ≤ k)

instance (b q k : ℕ) : Decidable (ok b q k) := by unfold ok; infer_instance

/-- Two blocks of keys, one under the other. -/
def two (P C : ℕ → ℕ → EReal) (k l : ℕ) : EReal := if k < 128 then P k l else C (k - 128) l

variable (b : ℕ) (Q K V C : ℕ → ℕ → EReal) (Z : ℕ → EReal)

/-- A scaled score of head `e`, `⊥` where the query does not look. -/
def W (e q k : ℕ) : EReal :=
  if ok b q k then (∑ d : Fin 64, Q q (64 * e + d) * K k (64 * (e / 8) + d)) * ((1 / 8 : ℝ) : EReal) else ⊥

/-- The cotangent of a weight of head `e`. -/
def DP (e q k : ℕ) : EReal := ∑ d : Fin 64, C q (64 * e + d) * V k (64 * (e / 8) + d)

/-- The kernel's weight. -/
def PN (e q : ℕ) (k : Fin 256) : EReal := pn (fun k => W b Q K e q k) (Z e) k

/-- The kernel's gradient of a score. -/
def DS (e q : ℕ) (k : Fin 256) : EReal := ds (fun k => W b Q K e q k) (fun k => DP V C e q k) (Z e) k

/-- The kernel's share of the sink. -/
def SK (e q : ℕ) : EReal := sk (fun k => W b Q K e q k) (fun k => DP V C e q k) (Z e)

/-- The block's gradient of the queries. -/
def dqv (q c : ℕ) : EReal := ∑ k : Fin 256, DS b Q K V C Z (c / 64) q k * K k (64 * (c / 64 / 8) + c % 64)

/-- The block's gradient of the keys. -/
def dkv (k : Fin 256) (l : ℕ) : EReal :=
  ∑ g : Fin 8, ∑ q : Fin 128, DS b Q K V C Z (8 * (l / 64) + g) q k * Q q (64 * (8 * (l / 64) + g) + l % 64)

/-- The block's gradient of the values. -/
def dvv (k : Fin 256) (l : ℕ) : EReal :=
  ∑ g : Fin 8, ∑ q : Fin 128, PN b Q K Z (8 * (l / 64) + g) q k * C q (64 * (8 * (l / 64) + g) + l % 64)

/-- The block's gradient of the sinks. -/
def dsv (l : ℕ) : EReal := if l < 16 then 0 - ∑ q : Fin 128, SK b Q K V C Z l q else 0

/-- A row of 1024 is a head of eight and a query of 128. -/
theorem sum_rows (f : ℕ → EReal) : ∑ r : Fin 1024, f r = ∑ g : Fin 8, ∑ q : Fin 128, f (128 * g + q) := by
  rw [← Fintype.sum_prod_type' (f := fun (g : Fin 8) (q : Fin 128) => f (128 * g + q))]
  rw [← (finProdFinEquiv (m := 8) (n := 128)).sum_comp]
  refine Finset.sum_congr rfl fun x _ => ?_
  congr 1
  show (x.2 : ℕ) + 128 * x.1 = 128 * x.1 + x.2
  omega

/-- A sum over 128 lanes of which only one half counts is a sum over 64. -/
theorem sum_lanes (P : Prop) [Decidable P] (A B : ℕ → EReal) :
    ∑ l : Fin 128, (if (l.val < 64 ↔ P) then A (l.val % 64) else 0) * B (l.val % 64) = ∑ d : Fin 64, A d * B d := by
  rw [Fin.sum_univ_add (a := 64) (b := 64)]
  have h1 : ∀ i : Fin 64, ((Fin.castAdd 64 i : Fin 128) : ℕ) = i := fun i => rfl
  have h2 : ∀ i : Fin 64, ((Fin.natAdd 64 i : Fin 128) : ℕ) = 64 + i := fun i => rfl
  simp only [h1, h2]
  have h3 : ∀ i : Fin 64, (i : ℕ) % 64 = i := fun i => Nat.mod_eq_of_lt i.2
  have h4 : ∀ i : Fin 64, (64 + (i : ℕ)) % 64 = i := fun i => by have := i.2; omega
  have h5 : ∀ i : Fin 64, (i : ℕ) < 64 := fun i => i.2
  have h6 : ∀ i : Fin 64, ¬ (64 + (i : ℕ) < 64) := fun i => by omega
  simp only [h3, h4, h5, h6, true_iff, false_iff]
  by_cases hP : P <;> simp [hP]

/-- Of two lanes 64 apart one counts. -/
theorem sum_halves (D X : ℕ → EReal) (P P' : ℕ → Prop) [DecidablePred P] [DecidablePred P'] (h : ∀ r, P' r ↔ ¬ P r) :
    (∑ r : Fin 1024, D r * (if P r then X r else 0)) + (∑ r : Fin 1024, D r * (if P' r then X r else 0))
      = ∑ r : Fin 1024, D r * X r := by
  rw [← Finset.sum_add_distrib]
  refine Finset.sum_congr rfl fun r _ => ?_
  by_cases hP : P r
  · rw [if_pos hP, if_neg (by rw [h]; exact not_not.mpr hP), mul_zero, add_zero]
  · rw [if_neg hP, if_pos (by rw [h]; exact hP), mul_zero, zero_add]

/-- The sixteen lanes of the sinks, added up one at a time. -/
theorem lanes16 (S : ℕ → EReal) (l : ℕ) :
    0 + (if l = 0 then S 0 else 0) + (if l = 1 then S 1 else 0) + (if l = 2 then S 2 else 0) + (if l = 3 then S 3 else 0)
      + (if l = 4 then S 4 else 0) + (if l = 5 then S 5 else 0) + (if l = 6 then S 6 else 0) + (if l = 7 then S 7 else 0)
      + (if l = 8 then S 8 else 0) + (if l = 9 then S 9 else 0) + (if l = 10 then S 10 else 0) + (if l = 11 then S 11 else 0)
      + (if l = 12 then S 12 else 0) + (if l = 13 then S 13 else 0) + (if l = 14 then S 14 else 0) + (if l = 15 then S 15 else 0)
    = if l < 16 then S l else 0 := by
  by_cases h : l < 16
  · rw [if_pos h]
    interval_cases l <;> simp
  · rw [if_neg h]
    have : ∀ n, n < 16 → ¬ l = n := fun n hn hl => h (hl ▸ hn)
    simp [this]

theorem slt_lane {α : Type} (n : ℕ) (h : n < 128) (x y : α) :
    Scalar.select (IntOp.cmpi .slt (BitVec.ofNat 32 n) 64#32) x y = if n < 64 then x else y := by
  have : ∀ n : Fin 128, IntOp.cmpi .slt (BitVec.ofNat 32 n.val) 64#32 = if n.val < 64 then 1#1 else 0#1 := by decide +kernel
  rw [this ⟨n, h⟩]
  dsimp only
  split <;> rfl

theorem eq_lane {α : Type} (n e : ℕ) (h : n < 128) (he : e < 128) (x y : α) :
    Scalar.select (IntOp.cmpi .eq (BitVec.ofNat 32 n) (BitVec.ofNat 32 e)) x y = if n = e then x else y := by
  have : ∀ n e : Fin 128, IntOp.cmpi .eq (BitVec.ofNat 32 n.val) (BitVec.ofNat 32 e.val) = if n.val = e.val then 1#1 else 0#1 := by
    decide +kernel
  rw [this ⟨n, h⟩ ⟨e, he⟩]
  dsimp only
  split <;> rfl

theorem lane_and (r : ℕ) (h : r < 1024) : IntOp.andi (BitVec.ofNat 32 r) 127#32 = BitVec.ofNat 32 (r % 128) := by
  have : ∀ r : Fin 1024, IntOp.andi (BitVec.ofNat 32 r.val) 127#32 = BitVec.ofNat 32 (r.val % 128) := by decide +kernel
  exact this ⟨r, h⟩

theorem ok_sgt (k q : ℕ) (hk : k < 256) (hq : q < 128) :
    IntOp.cmpi .sgt (BitVec.ofNat 32 k) (BitVec.ofNat 32 q) = if q < k then 1#1 else 0#1 := by
  have : ∀ (k : Fin 256) (q : Fin 128), IntOp.cmpi .sgt (BitVec.ofNat 32 k.val) (BitVec.ofNat 32 q.val) = if q.val < k.val then 1#1 else 0#1 := by
    decide +kernel
  exact this ⟨k, hk⟩ ⟨q, hq⟩

theorem ok_sle (k q : ℕ) (hk : k < 256) (hq : q < 128) :
    IntOp.cmpi .sle (BitVec.ofNat 32 k) (IntOp.addi (BitVec.ofNat 32 q) 128#32) = if k ≤ q + 128 then 1#1 else 0#1 := by
  have : ∀ (k : Fin 256) (q : Fin 128), IntOp.cmpi .sle (BitVec.ofNat 32 k.val) (IntOp.addi (BitVec.ofNat 32 q.val) 128#32) = if k.val ≤ q.val + 128 then 1#1 else 0#1 := by
    decide +kernel
  exact this ⟨k, hk⟩ ⟨q, hq⟩

theorem ok_sge (k : ℕ) (hk : k < 256) :
    IntOp.cmpi .sge (BitVec.ofNat 32 k) 128#32 = if 128 ≤ k then 1#1 else 0#1 := by
  have : ∀ (k : Fin 256), IntOp.cmpi .sge (BitVec.ofNat 32 k.val) 128#32 = if 128 ≤ k.val then 1#1 else 0#1 := by
    decide +kernel
  exact this ⟨k, hk⟩

theorem ok_pos (b : ℕ) (hb : b < 32) :
    IntOp.cmpi .sgt (BitVec.ofNat 32 b) 0#32 = if 0 < b then 1#1 else 0#1 := by
  have : ∀ (b : Fin 32), IntOp.cmpi .sgt (BitVec.ofNat 32 b.val) 0#32 = if 0 < b.val then 1#1 else 0#1 := by
    decide +kernel
  exact this ⟨b, hb⟩

/-- The kernel's mask, from its four comparisons. -/
theorem ok_mask {α : Type} (b q k : ℕ) (hb : b < 32) (hq : q < 128) (hk : k < 256) (x y : α) :
    Scalar.select (IntOp.andi (IntOp.andi (IntOp.cmpi .sgt (BitVec.ofNat 32 k) (BitVec.ofNat 32 q))
        (IntOp.cmpi .sle (BitVec.ofNat 32 k) (IntOp.addi (BitVec.ofNat 32 q) 128#32)))
      (IntOp.ori (Scalar.cmpi .sgt (BitVec.ofNat 32 b) 0#32) (IntOp.cmpi .sge (BitVec.ofNat 32 k) 128#32))) x y
    = if ok b q k then x else y := by
  change Scalar.select (IntOp.andi _ (IntOp.ori (IntOp.cmpi .sgt (BitVec.ofNat 32 b) 0#32) _)) x y = _
  rw [ok_sgt k q hk hq, ok_sle k q hk hq, ok_sge k hk, ok_pos b hb]
  unfold ok
  by_cases h1 : q < k <;> by_cases h2 : k ≤ q + 128 <;> by_cases h3 : 0 < b <;> by_cases h4 : 128 ≤ k <;>
    simp only [h1, h2, h3, h4, if_true, if_false, true_and, false_and, and_true, and_false, or_true, true_or, or_false] <;> rfl

end Cert.SwaRow
-- ==== Proof.SwaBwdIdealBlkA.lean ====
/- One grid point of the windowed attention's gradient, the first: the values its operations make, in plain numbers. -/
module

import all proofs.«01_k».proof.Proof.SwaBwdIdealRun
public import proofs.«01_k».proof.Proof.SwaBwdIdealRun
public import proofs.«01_k».proof.Proof.SwaBlk
public import Idealize.ShloMosaic.Lib.Pipeline.ValueKit
public import Idealize.ShloMosaic.Lib.WholeRead

@[expose] public section

set_option maxRecDepth 16384

noncomputable section

open Idealize.ShloMosaic Idealize.ShloMosaic.TcCoe

namespace Cert.SwaBwdIdeal.BlkA

open Cert.SwaBwdIdeal Cert.SwaBwdIdeal.Gen Cert.SwaBwdIdeal.Hand Cert.SwaRow

variable (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .f32) (harg7 : arg7.IsWhole)
variable (x0 : Vec Ideal S16 .f32) (x1 : Vec Ideal S128x1024 .f32) (x2 x3 x4 x5 : Vec Ideal S128x128 .f32) (x6 : Vec Ideal S128x1024 .f32)

/-- A load of 128 columns of a block of 1024. -/
theorem rdW (A : Memref sig .tc .vmem S128x1024 .f32) (hA : A.IsWhole) (x : Vec Ideal S128x1024 .f32) (o : ℕ)
    (p : ∀ d, (![0, o] : Fin 2 → ℕ) d + (![128, 128] : Fin 2 → ℕ) d ≤ S128x1024.size d) (a b : Fin 128) :
    View.readAt (Elt Ideal) A.view (Rect.unit (s := S128x1024) ![0, o] ![128, 128] p).toLoadRect (hA.unread x) (ix2 a b) = at2 x a.val (o + b.val) := by
  rw [Memref.IsWhole.readAt_unread]
  have hb : o + b.val < 1024 := by
    have h1 := p 1
    have h2 : o + 128 ≤ 1024 := h1
    have := b.2
    omega
  rw [at2_lt x a.val (o + b.val) a.2 hb]
  congr 1
  funext d
  refine Fin.cases ?_ (fun d => Fin.cases ?_ (fun d => d.elim0) d) d
  · exact Fin.ext (by show 0 + 1 * a.val = a.val; omega)
  · exact Fin.ext (by show o + 1 * b.val = o + b.val; omega)

/-- A load of a whole block of 128 columns. -/
theorem rdB (A : Memref sig .tc .vmem S128x128 .f32) (hA : A.IsWhole) (x : Vec Ideal S128x128 .f32)
    (p : ∀ d, (![0, 0] : Fin 2 → ℕ) d + (![128, 128] : Fin 2 → ℕ) d ≤ S128x128.size d) (a b : Fin 128) :
    View.readAt (Elt Ideal) A.view (Rect.unit (s := S128x128) ![0, 0] ![128, 128] p).toLoadRect (hA.unread x) (ix2 a b) = at2 x a.val b.val := by
  rw [Memref.IsWhole.readAt_unread]
  rw [at2_lt x a.val b.val a.2 b.2]
  congr 1
  funext d
  refine Fin.cases ?_ (fun d => Fin.cases ?_ (fun d => d.elim0) d) d
  · exact Fin.ext (by show 0 + 1 * a.val = a.val; omega)
  · exact Fin.ext (by show 0 + 1 * b.val = b.val; omega)

/-- A load of one sink. -/
theorem rdS (A : Memref sig .tc .smem S16 .f32) (hA : A.IsWhole) (x : Vec Ideal S16 .f32) (o : ℕ)
    (p : ∀ d, (![o] : Fin 1 → ℕ) d + (![1] : Fin 1 → ℕ) d ≤ S16.size d) (h : 0 < (Rect.unit (s := S16) ![o] ![1] p).toLoadRect.shape.numel) :
    View.readAt (Elt Ideal) A.view (Rect.unit (s := S16) ![o] ![1] p).toLoadRect (hA.unread x) (Shape.Idx.first h) = at1 x o := by
  rw [Memref.IsWhole.readAt_unread]
  have ho : o < 16 := by
    have h1 := p 0
    have h2 : o + 1 ≤ 16 := h1
    omega
  rw [at1_lt x o ho]
  congr 1
  funext d
  refine Fin.cases ?_ (fun d => d.elim0) d
  exact Fin.ext (by show o + 1 * 0 = o; omega)

theorem Q0 (r : Fin 1024) (l : Fin 128) : ((runA.sl.v88 (F := Ideal) c arg2 harg2 x1) (ix2 r l) : EReal)
    = if (l.val < 64 ↔ r.val / 128 % 2 = 0) then (at2 x1) (r.val % 128) (64 * (r.val / 128) + l.val % 64) else 0 := by
  have h0 : r.val < 1024 := r.isLt
  have h1 : l.val < 128 := l.isLt
  simp only [runA.sl.v88, runA.sl.v49, runA.sl.v48, runA.sl.v35, runA.sl.v23, runA.sl.v24, runA.sl.v47, runA.sl.cst_176, runA.sl.v54, runA.sl.v53, runA.sl.v60, runA.sl.v59, runA.sl.v65, runA.sl.v64, runA.sl.v71, runA.sl.v70, runA.sl.v76, runA.sl.v75, runA.sl.v82, runA.sl.v81, runA.sl.v87, runA.sl.v86, runA.sl.r]
  pointwise []
  simp only [rdW, slt_lane _ h1]
  split_ifs <;> first
    | with_reducible rfl
    | (exfalso; omega)
    | (congr 1 <;> omega)

theorem C0 (r : Fin 1024) (l : Fin 128) : ((runA.sl.r_10 (F := Ideal) c arg7 harg7 x6) (ix2 r l) : EReal)
    = if (l.val < 64 ↔ r.val / 128 % 2 = 0) then (at2 x6) (r.val % 128) (64 * (r.val / 128) + l.val % 64) else 0 := by
  have h0 : r.val < 1024 := r.isLt
  have h1 : l.val < 128 := l.isLt
  simp only [runA.sl.r_10, runA.sl.v23, runA.sl.v24, runA.sl.v94, runA.sl.v93, runA.sl.v35, runA.sl.v47, runA.sl.cst_176, runA.sl.v99, runA.sl.v98, runA.sl.v105, runA.sl.v104, runA.sl.v110, runA.sl.v109, runA.sl.v116, runA.sl.v115, runA.sl.v121, runA.sl.v120, runA.sl.r_1, runA.sl.v127, runA.sl.v126]
  pointwise [k0_pay31]
  simp only [rdW, slt_lane _ h1]
  split_ifs <;> first
    | with_reducible rfl
    | (exfalso; omega)
    | (congr 1 <;> omega)

theorem K0 (k : Fin 256) (l : Fin 128) : ((runA.sl.v38 (F := Ideal) c arg3 harg3 arg4 harg4 x2 x3) (ix2 k l) : EReal) = (two (at2 x2) (at2 x3)) k.val (64 * 0 + l.val % 64) := by
  have h0 : k.val < 256 := k.isLt
  have h1 : l.val < 128 := l.isLt
  simp only [runA.sl.v38, runA.sl.v37, runA.sl.v35, runA.sl.v23, runA.sl.v24, runA.sl.v29, runA.sl.v34]
  pointwise []
  simp only [rdB, slt_lane _ h1, two]
  split_ifs <;> first
    | with_reducible rfl
    | (exfalso; omega)
    | (congr 1 <;> omega)

theorem V0 (k : Fin 256) (l : Fin 128) : ((runA.sl.v43 (F := Ideal) c arg5 harg5 arg6 harg6 x4 x5) (ix2 k l) : EReal) = (two (at2 x4) (at2 x5)) k.val (64 * 0 + l.val % 64) := by
  have h0 : k.val < 256 := k.isLt
  have h1 : l.val < 128 := l.isLt
  simp only [runA.sl.v43, runA.sl.v42, runA.sl.v35, runA.sl.v23, runA.sl.v24, runA.sl.v32, runA.sl.v39]
  pointwise []
  simp only [rdB, slt_lane _ h1, two]
  split_ifs <;> first
    | with_reducible rfl
    | (exfalso; omega)
    | (congr 1 <;> omega)

theorem Z0 (r : Fin 1024) : ((k0_pay32 (F := Ideal) (runA.sl.r_2 (F := Ideal) c arg1 harg1 x0) (runA.sl.r_3 (F := Ideal) c arg1 harg1 x0) (runA.sl.r_4 (F := Ideal) c arg1 harg1 x0) (runA.sl.r_5 (F := Ideal) c arg1 harg1 x0) (runA.sl.r_6 (F := Ideal) c arg1 harg1 x0) (runA.sl.r_7 (F := Ideal) c arg1 harg1 x0) (runA.sl.r_8 (F := Ideal) c arg1 harg1 x0) (runA.sl.r_9 (F := Ideal) c arg1 harg1 x0)) (ix2 r 0) : EReal) = (at1 x0) (r.val / 128) := by
  have h0 : r.val < 1024 := r.isLt
  simp only [runA.sl.r_2, runA.sl.r_3, runA.sl.r_4, runA.sl.r_5, runA.sl.r_6, runA.sl.r_7, runA.sl.r_8, runA.sl.r_9]
  pointwise [k0_pay32]
  simp only [rdS]
  split_ifs <;> first
    | with_reducible rfl
    | (exfalso; omega)
    | (congr 1 <;> omega)

theorem SC0 (r : Fin 1024) (k : Fin 256) : ((k0_pay33 (F := Ideal) (runA.sl.v22 i) (runA.sl.v38 (F := Ideal) c arg3 harg3 arg4 harg4 x2 x3) (runA.sl.v88 (F := Ideal) c arg2 harg2 x1)) (ix2 r k) : EReal) = W (i 0).val (at2 x1) (two (at2 x2) (at2 x3)) (r.val / 128) (r.val % 128) k.val := by
  have h0 : r.val < 1024 := r.isLt
  have h1 : (i 0).val < 32 := (i 0).isLt
  have h2 : r.val % 128 < 128 := Nat.mod_lt _ (by omega)
  have h3 : (r.val / 128) / 8 = 0 := by omega
  simp only [runA.sl.v22, runA.sl.v9, runA.sl.v6, runA.sl.v8, runA.sl.v3, runA.sl.v4, runA.sl.v14, runA.sl.v11, runA.sl.v10, runA.sl.v21, runA.sl.v20, runA.sl.v19, runA.sl.v16, runA.sl.v17]
  pointwise [k0_pay33]
  rw [lane_and _ h0]
  refine (ok_mask _ _ _ h1 h2 k.isLt _ _).trans ?_
  unfold W
  rw [ofBits_eighth, h3]
  refine if_congr Iff.rfl ?_ rfl
  congr 1
  refine Eq.trans ?_ (sum_lanes (r.val / 128 % 2 = 0) (fun d => (at2 x1) (r.val % 128) (64 * (r.val / 128) + d)) (fun d => (two (at2 x2) (at2 x3)) k.val (64 * 0 + d)))
  refine Finset.sum_congr rfl fun l _ => ?_
  rw [Q0, K0]

theorem PN0 (r : Fin 1024) (k : Fin 256) : ((runA.sl.r_11 (F := Ideal) c i arg1 harg1 arg2 harg2 arg3 harg3 arg4 harg4 x0 x1 x2 x3) (ix2 r k) : EReal) = PN (i 0).val (at2 x1) (two (at2 x2) (at2 x3)) (at1 x0) (r.val / 128) (r.val % 128) k := by
  simp only [runA.sl.r_11]
  pointwise [k0_pay34, k0_pay35, k0_pay36, k0_pay37, k0_pay38]
  simp only [SC0, Z0, ofBits_bot]
  rfl

theorem DP0 (r : Fin 1024) (k : Fin 256) : ((runA.sl.r_13 (F := Ideal) c arg5 harg5 arg6 harg6 arg7 harg7 x4 x5 x6) (ix2 r k) : EReal) = DP (two (at2 x4) (at2 x5)) (at2 x6) (r.val / 128) (r.val % 128) k.val := by
  have h0 : r.val < 1024 := r.isLt
  have h3 : (r.val / 128) / 8 = 0 := by omega
  simp only [runA.sl.r_13]
  pointwise [k0_pay40]
  unfold DP
  rw [h3]
  refine Eq.trans ?_ (sum_lanes (r.val / 128 % 2 = 0) (fun d => (at2 x6) (r.val % 128) (64 * (r.val / 128) + d)) (fun d => (two (at2 x4) (at2 x5)) k.val (64 * 0 + d)))
  refine Finset.sum_congr rfl fun l _ => ?_
  exact congrArg₂ (· * ·) (C0 _ _ _ _ _ _) (V0 _ _ _ _ _ _ _ _ _)

theorem DR0 (r : Fin 1024) : ((runA.sl.v175 (F := Ideal) c i arg1 harg1 arg2 harg2 arg3 harg3 arg4 harg4 arg5 harg5 arg6 harg6 arg7 harg7 x0 x1 x2 x3 x4 x5 x6) (ix2 r 0) : EReal)
    = drow (fun k => W (i 0).val (at2 x1) (two (at2 x2) (at2 x3)) (r.val / 128) (r.val % 128) k.val) (fun k => DP (two (at2 x4) (at2 x5)) (at2 x6) (r.val / 128) (r.val % 128) k.val) ((at1 x0) (r.val / 128)) := by
  simp only [runA.sl.v175, runA.sl.v174, runA.sl.v173]
  pointwise []
  simp only [PN0, DP0]
  rfl

theorem SK0 (r : Fin 1024) : ((runA.sl.v176 (F := Ideal) c i arg1 harg1 arg2 harg2 arg3 harg3 arg4 harg4 arg5 harg5 arg6 harg6 arg7 harg7 x0 x1 x2 x3 x4 x5 x6) (ix2 r 0) : EReal) = SK (i 0).val (at2 x1) (two (at2 x2) (at2 x3)) (two (at2 x4) (at2 x5)) (at2 x6) (at1 x0) (r.val / 128) (r.val % 128) := by
  simp only [runA.sl.v176, runA.sl.r_12]
  pointwise [k0_pay34, k0_pay35, k0_pay36, k0_pay37, k0_pay39]
  simp only [SC0, Z0, DR0, ofBits_bot]
  rfl

theorem DS0 (r : Fin 1024) (k : Fin 256) : ((runA.sl.v278 (F := Ideal) c i arg1 harg1 arg2 harg2 arg3 harg3 arg4 harg4 arg5 harg5 arg6 harg6 arg7 harg7 x0 x1 x2 x3 x4 x5 x6) (ix2 r k) : EReal) = DS (i 0).val (at2 x1) (two (at2 x2) (at2 x3)) (two (at2 x4) (at2 x5)) (at2 x6) (at1 x0) (r.val / 128) (r.val % 128) k := by
  simp only [runA.sl.v278, runA.sl.v277, runA.sl.v275, runA.sl.v274, runA.sl.v273, runA.sl.v276, runA.sl.cst_75]
  pointwise []
  simp only [PN0, DP0, DR0, ofBits_eighth]
  rfl

theorem DQ0 (r : Fin 1024) (l : Fin 128) : ((runA.sl.v279 (F := Ideal) c i arg1 harg1 arg2 harg2 arg3 harg3 arg4 harg4 arg5 harg5 arg6 harg6 arg7 harg7 x0 x1 x2 x3 x4 x5 x6) (ix2 r l) : EReal) = dqv (i 0).val (at2 x1) (two (at2 x2) (at2 x3)) (two (at2 x4) (at2 x5)) (at2 x6) (at1 x0) (r.val % 128) (64 * (r.val / 128) + l.val % 64) := by
  have h0 : r.val < 1024 := r.isLt
  have h1 : (64 * (r.val / 128) + l.val % 64) / 64 = r.val / 128 := by omega
  have h2 : (64 * (r.val / 128) + l.val % 64) % 64 = l.val % 64 := by omega
  have h3 : (r.val / 128) / 8 = 0 := by omega
  simp only [runA.sl.v279, runA.sl.cst_76]
  pointwise []
  unfold dqv
  rw [h1, h2, h3]
  refine Finset.sum_congr rfl fun k _ => ?_
  rw [DS0, K0]

theorem DK0 (k : Fin 256) (l : Fin 128) : ((runA.sl.v312 (F := Ideal) c i arg1 harg1 arg2 harg2 arg3 harg3 arg4 harg4 arg5 harg5 arg6 harg6 arg7 harg7 x0 x1 x2 x3 x4 x5 x6) (ix2 k l) : EReal)
    = ∑ g : Fin 8, ∑ q : Fin 128, DS (i 0).val (at2 x1) (two (at2 x2) (at2 x3)) (two (at2 x4) (at2 x5)) (at2 x6) (at1 x0) (g.val) q.val k * (at2 x1) q.val (64 * (g.val) + l.val % 64) := by
  have h1 : l.val < 128 := l.isLt
  simp only [runA.sl.v312, runA.sl.v308, runA.sl.cst_85, runA.sl.v311]
  pointwise []
  have e1 : ∀ r : Fin 1024, ((runA.sl.v278 (F := Ideal) c i arg1 harg1 arg2 harg2 arg3 harg3 arg4 harg4 arg5 harg5 arg6 harg6 arg7 harg7 x0 x1 x2 x3 x4 x5 x6) (ix2 r k) : EReal) * (runA.sl.v88 (F := Ideal) c arg2 harg2 x1) (ix2 r l)
      = DS (i 0).val (at2 x1) (two (at2 x2) (at2 x3)) (two (at2 x4) (at2 x5)) (at2 x6) (at1 x0) (r.val / 128) (r.val % 128) k * (if (l.val < 64 ↔ r.val / 128 % 2 = 0) then (at2 x1) (r.val % 128) (64 * (r.val / 128) + l.val % 64) else 0) := by
    intro r
    rw [DS0, Q0]
  have e2 : ∀ (r : Fin 1024) (p : (l.val + 128 - 64) % 128 < 128), ((runA.sl.v278 (F := Ideal) c i arg1 harg1 arg2 harg2 arg3 harg3 arg4 harg4 arg5 harg5 arg6 harg6 arg7 harg7 x0 x1 x2 x3 x4 x5 x6) (ix2 r k) : EReal) * (runA.sl.v88 (F := Ideal) c arg2 harg2 x1) (ix2 r ⟨(l.val + 128 - 64) % 128, p⟩)
      = DS (i 0).val (at2 x1) (two (at2 x2) (at2 x3)) (two (at2 x4) (at2 x5)) (at2 x6) (at1 x0) (r.val / 128) (r.val % 128) k * (if ((l.val + 128 - 64) % 128 < 64 ↔ r.val / 128 % 2 = 0) then (at2 x1) (r.val % 128) (64 * (r.val / 128) + l.val % 64) else 0) := by
    intro r p
    rw [DS0, Q0]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => DS (i 0).val (at2 x1) (two (at2 x2) (at2 x3)) (two (at2 x4) (at2 x5)) (at2 x6) (at1 x0) (r / 128) (r % 128) k) (fun r => (at2 x1) (r % 128) (64 * (r / 128) + l.val % 64)) (fun r => l.val < 64 ↔ r / 128 % 2 = 0) (fun r => (l.val + 128 - 64) % 128 < 64 ↔ r / 128 % 2 = 0) fun r => by omega).trans ?_
  refine (sum_rows fun r => DS (i 0).val (at2 x1) (two (at2 x2) (at2 x3)) (two (at2 x4) (at2 x5)) (at2 x6) (at1 x0) (r / 128) (r % 128) k * (at2 x1) (r % 128) (64 * (r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem DV0 (k : Fin 256) (l : Fin 128) : ((runA.sl.v314 (F := Ideal) c i arg1 harg1 arg2 harg2 arg3 harg3 arg4 harg4 arg7 harg7 x0 x1 x2 x3 x6) (ix2 k l) : EReal)
    = ∑ g : Fin 8, ∑ q : Fin 128, PN (i 0).val (at2 x1) (two (at2 x2) (at2 x3)) (at1 x0) (g.val) q.val k * (at2 x6) q.val (64 * (g.val) + l.val % 64) := by
  have h1 : l.val < 128 := l.isLt
  simp only [runA.sl.v314, runA.sl.v310, runA.sl.v309, runA.sl.cst_85, runA.sl.v313]
  pointwise []
  have e1 : ∀ r : Fin 1024, ((runA.sl.r_11 (F := Ideal) c i arg1 harg1 arg2 harg2 arg3 harg3 arg4 harg4 x0 x1 x2 x3) (ix2 r k) : EReal) * (runA.sl.r_10 (F := Ideal) c arg7 harg7 x6) (ix2 r l)
      = PN (i 0).val (at2 x1) (two (at2 x2) (at2 x3)) (at1 x0) (r.val / 128) (r.val % 128) k * (if (l.val < 64 ↔ r.val / 128 % 2 = 0) then (at2 x6) (r.val % 128) (64 * (r.val / 128) + l.val % 64) else 0) := by
    intro r
    rw [PN0, C0]
  have e2 : ∀ (r : Fin 1024) (p : (l.val + 128 - 64) % 128 < 128), ((runA.sl.r_11 (F := Ideal) c i arg1 harg1 arg2 harg2 arg3 harg3 arg4 harg4 x0 x1 x2 x3) (ix2 r k) : EReal) * (runA.sl.r_10 (F := Ideal) c arg7 harg7 x6) (ix2 r ⟨(l.val + 128 - 64) % 128, p⟩)
      = PN (i 0).val (at2 x1) (two (at2 x2) (at2 x3)) (at1 x0) (r.val / 128) (r.val % 128) k * (if ((l.val + 128 - 64) % 128 < 64 ↔ r.val / 128 % 2 = 0) then (at2 x6) (r.val % 128) (64 * (r.val / 128) + l.val % 64) else 0) := by
    intro r p
    rw [PN0, C0]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => PN (i 0).val (at2 x1) (two (at2 x2) (at2 x3)) (at1 x0) (r / 128) (r % 128) k) (fun r => (at2 x6) (r % 128) (64 * (r / 128) + l.val % 64)) (fun r => l.val < 64 ↔ r / 128 % 2 = 0) (fun r => (l.val + 128 - 64) % 128 < 64 ↔ r / 128 % 2 = 0) fun r => by omega).trans ?_
  refine (sum_rows fun r => PN (i 0).val (at2 x1) (two (at2 x2) (at2 x3)) (at1 x0) (r / 128) (r % 128) k * (at2 x6) (r % 128) (64 * (r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem dq0 (q l : Fin 128) : ((runA.sl.v285 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (l.val) := by
  have h0 : q.val < 128 := q.isLt
  have h1 : l.val < 128 := l.isLt
  simp only [runA.sl.v285, runA.sl.v284, runA.sl.v35, runA.sl.v23, runA.sl.v24, runA.sl.v280, runA.sl.v281]
  pointwise []
  simp only [slt_lane _ h1, DQ0]
  split_ifs <;> (congr 1 <;> omega)

theorem dq1 (q l : Fin 128) : ((runA.sl.v292 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (128 + l.val) := by
  have h0 : q.val < 128 := q.isLt
  have h1 : l.val < 128 := l.isLt
  simp only [runA.sl.v292, runA.sl.v291, runA.sl.v35, runA.sl.v23, runA.sl.v24, runA.sl.v287, runA.sl.v288]
  pointwise []
  simp only [slt_lane _ h1, DQ0]
  split_ifs <;> (congr 1 <;> omega)

theorem dq2 (q l : Fin 128) : ((runA.sl.v299 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (256 + l.val) := by
  have h0 : q.val < 128 := q.isLt
  have h1 : l.val < 128 := l.isLt
  simp only [runA.sl.v299, runA.sl.v298, runA.sl.v35, runA.sl.v23, runA.sl.v24, runA.sl.v294, runA.sl.v295]
  pointwise []
  simp only [slt_lane _ h1, DQ0]
  split_ifs <;> (congr 1 <;> omega)

theorem dq3 (q l : Fin 128) : ((runA.sl.v306 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (384 + l.val) := by
  have h0 : q.val < 128 := q.isLt
  have h1 : l.val < 128 := l.isLt
  simp only [runA.sl.v306, runA.sl.v305, runA.sl.v35, runA.sl.v23, runA.sl.v24, runA.sl.v301, runA.sl.v302]
  pointwise []
  simp only [slt_lane _ h1, DQ0]
  split_ifs <;> (congr 1 <;> omega)

theorem Q1 (r : Fin 1024) (l : Fin 128) : ((runA.sl.v369 (F := Ideal) c arg2 harg2 x1) (ix2 r l) : EReal)
    = if (l.val < 64 ↔ r.val / 128 % 2 = 0) then (at2 x1) (r.val % 128) (64 * (8 + r.val / 128) + l.val % 64) else 0 := by
  have h0 : r.val < 1024 := r.isLt
  have h1 : l.val < 128 := l.isLt
  simp only [runA.sl.v369, runA.sl.v330, runA.sl.v329, runA.sl.v35, runA.sl.v23, runA.sl.v24, runA.sl.v47, runA.sl.cst_176, runA.sl.v335, runA.sl.v334, runA.sl.v341, runA.sl.v340, runA.sl.v346, runA.sl.v345, runA.sl.v352, runA.sl.v351, runA.sl.r_14, runA.sl.v357, runA.sl.v356, runA.sl.v363, runA.sl.v362, runA.sl.v368, runA.sl.v367]
  pointwise []
  simp only [rdW, slt_lane _ h1]
  split_ifs <;> first
    | with_reducible rfl
    | (exfalso; omega)
    | (congr 1 <;> omega)

theorem C1 (r : Fin 1024) (l : Fin 128) : ((runA.sl.r_24 (F := Ideal) c arg7 harg7 x6) (ix2 r l) : EReal)
    = if (l.val < 64 ↔ r.val / 128 % 2 = 0) then (at2 x6) (r.val % 128) (64 * (8 + r.val / 128) + l.val % 64) else 0 := by
  have h0 : r.val < 1024 := r.isLt
  have h1 : l.val < 128 := l.isLt
  simp only [runA.sl.r_24, runA.sl.v23, runA.sl.v24, runA.sl.v375, runA.sl.v374, runA.sl.v35, runA.sl.v47, runA.sl.cst_176, runA.sl.v380, runA.sl.v379, runA.sl.v386, runA.sl.v385, runA.sl.v391, runA.sl.v390, runA.sl.r_15]
  pointwise [k0_pay69]
  simp only [rdW, slt_lane _ h1]
  split_ifs <;> first
    | with_reducible rfl
    | (exfalso; omega)
    | (congr 1 <;> omega)

theorem K1 (k : Fin 256) (l : Fin 128) : ((runA.sl.v319 (F := Ideal) c arg3 harg3 arg4 harg4 x2 x3) (ix2 k l) : EReal) = (two (at2 x2) (at2 x3)) k.val (64 * 1 + l.val % 64) := by
  have h0 : k.val < 256 := k.isLt
  have h1 : l.val < 128 := l.isLt
  simp only [runA.sl.v319, runA.sl.v318, runA.sl.v35, runA.sl.v23, runA.sl.v24, runA.sl.v34, runA.sl.v29]
  pointwise []
  simp only [rdB, slt_lane _ h1, two]
  split_ifs <;> first
    | with_reducible rfl
    | (exfalso; omega)
    | (congr 1 <;> omega)

theorem V1 (k : Fin 256) (l : Fin 128) : ((runA.sl.v324 (F := Ideal) c arg5 harg5 arg6 harg6 x4 x5) (ix2 k l) : EReal) = (two (at2 x4) (at2 x5)) k.val (64 * 1 + l.val % 64) := by
  have h0 : k.val < 256 := k.isLt
  have h1 : l.val < 128 := l.isLt
  simp only [runA.sl.v324, runA.sl.v323, runA.sl.v35, runA.sl.v23, runA.sl.v24, runA.sl.v39, runA.sl.v32]
  pointwise []
  simp only [rdB, slt_lane _ h1, two]
  split_ifs <;> first
    | with_reducible rfl
    | (exfalso; omega)
    | (congr 1 <;> omega)

theorem Z1 (r : Fin 1024) : ((runA.sl.r_25 (F := Ideal) c arg1 harg1 x0) (ix2 r 0) : EReal) = (at1 x0) (8 + r.val / 128) := by
  have h0 : r.val < 1024 := r.isLt
  simp only [runA.sl.r_25, runA.sl.r_16, runA.sl.r_17, runA.sl.r_18, runA.sl.r_19, runA.sl.r_20, runA.sl.r_21, runA.sl.r_22, runA.sl.r_23]
  pointwise [k0_pay70]
  simp only [rdS]
  split_ifs <;> first
    | with_reducible rfl
    | (exfalso; omega)
    | (congr 1 <;> omega)

theorem SC1 (r : Fin 1024) (k : Fin 256) : ((runA.sl.r_26 (F := Ideal) c i arg2 harg2 arg3 harg3 arg4 harg4 x1 x2 x3) (ix2 r k) : EReal) = W (i 0).val (at2 x1) (two (at2 x2) (at2 x3)) (8 + r.val / 128) (r.val % 128) k.val := by
  have h0 : r.val < 1024 := r.isLt
  have h1 : (i 0).val < 32 := (i 0).isLt
  have h2 : r.val % 128 < 128 := Nat.mod_lt _ (by omega)
  have h3 : (8 + r.val / 128) / 8 = 1 := by omega
  simp only [runA.sl.r_26, runA.sl.v22, runA.sl.v9, runA.sl.v6, runA.sl.v8, runA.sl.v3, runA.sl.v4, runA.sl.v14, runA.sl.v11, runA.sl.v10, runA.sl.v21, runA.sl.v20, runA.sl.v19, runA.sl.v16, runA.sl.v17]
  pointwise [k0_pay71]
  rw [lane_and _ h0]
  refine (ok_mask _ _ _ h1 h2 k.isLt _ _).trans ?_
  unfold W
  rw [ofBits_eighth, h3]
  refine if_congr Iff.rfl ?_ rfl
  congr 1
  refine Eq.trans ?_ (sum_lanes (r.val / 128 % 2 = 0) (fun d => (at2 x1) (r.val % 128) (64 * (8 + r.val / 128) + d)) (fun d => (two (at2 x2) (at2 x3)) k.val (64 * 1 + d)))
  refine Finset.sum_congr rfl fun l _ => ?_
  rw [Q1, K1]

theorem PN1 (r : Fin 1024) (k : Fin 256) : ((runA.sl.v451 (F := Ideal) c i arg1 harg1 arg2 harg2 arg3 harg3 arg4 harg4 x0 x1 x2 x3) (ix2 r k) : EReal) = PN (i 0).val (at2 x1) (two (at2 x2) (at2 x3)) (at1 x0) (8 + r.val / 128) (r.val % 128) k := by
  simp only [runA.sl.v451, runA.sl.v442, runA.sl.v441, runA.sl.v440, runA.sl.v439, runA.sl.v438, runA.sl.v437, runA.sl.v450, runA.sl.v449, runA.sl.v448, runA.sl.cst_124, runA.sl.v447, runA.sl.v446, runA.sl.v445, runA.sl.v444, runA.sl.v443]
  pointwise []
  simp only [SC1, Z1, ofBits_bot]
  rfl

theorem DP1 (r : Fin 1024) (k : Fin 256) : ((runA.sl.v453 (F := Ideal) c arg5 harg5 arg6 harg6 arg7 harg7 x4 x5 x6) (ix2 r k) : EReal) = DP (two (at2 x4) (at2 x5)) (at2 x6) (8 + r.val / 128) (r.val % 128) k.val := by
  have h0 : r.val < 1024 := r.isLt
  have h3 : (8 + r.val / 128) / 8 = 1 := by omega
  simp only [runA.sl.v453, runA.sl.cst_125]
  pointwise []
  unfold DP
  rw [h3]
  refine Eq.trans ?_ (sum_lanes (r.val / 128 % 2 = 0) (fun d => (at2 x6) (r.val % 128) (64 * (8 + r.val / 128) + d)) (fun d => (two (at2 x4) (at2 x5)) k.val (64 * 1 + d)))
  refine Finset.sum_congr rfl fun l _ => ?_
  exact congrArg₂ (· * ·) (C1 _ _ _ _ _ _) (V1 _ _ _ _ _ _ _ _ _)

theorem DR1 (r : Fin 1024) : ((runA.sl.v456 (F := Ideal) c i arg1 harg1 arg2 harg2 arg3 harg3 arg4 harg4 arg5 harg5 arg6 harg6 arg7 harg7 x0 x1 x2 x3 x4 x5 x6) (ix2 r 0) : EReal)
    = drow (fun k => W (i 0).val (at2 x1) (two (at2 x2) (at2 x3)) (8 + r.val / 128) (r.val % 128) k.val) (fun k => DP (two (at2 x4) (at2 x5)) (at2 x6) (8 + r.val / 128) (r.val % 128) k.val) ((at1 x0) (8 + r.val / 128)) := by
  simp only [runA.sl.v456, runA.sl.v455, runA.sl.v454]
  pointwise []
  simp only [PN1, DP1]
  rfl

theorem SK1 (r : Fin 1024) : ((runA.sl.v457 (F := Ideal) c i arg1 harg1 arg2 harg2 arg3 harg3 arg4 harg4 arg5 harg5 arg6 harg6 arg7 harg7 x0 x1 x2 x3 x4 x5 x6) (ix2 r 0) : EReal) = SK (i 0).val (at2 x1) (two (at2 x2) (at2 x3)) (two (at2 x4) (at2 x5)) (at2 x6) (at1 x0) (8 + r.val / 128) (r.val % 128) := by
  simp only [runA.sl.v457, runA.sl.v452, runA.sl.v444, runA.sl.v443, runA.sl.v439, runA.sl.v438, runA.sl.v437, runA.sl.v449, runA.sl.v448, runA.sl.cst_124, runA.sl.v447, runA.sl.v446, runA.sl.v445, runA.sl.v442, runA.sl.v441, runA.sl.v440]
  pointwise []
  simp only [SC1, Z1, DR1, ofBits_bot]
  rfl

theorem DS1 (r : Fin 1024) (k : Fin 256) : ((runA.sl.v559 (F := Ideal) c i arg1 harg1 arg2 harg2 arg3 harg3 arg4 harg4 arg5 harg5 arg6 harg6 arg7 harg7 x0 x1 x2 x3 x4 x5 x6) (ix2 r k) : EReal) = DS (i 0).val (at2 x1) (two (at2 x2) (at2 x3)) (two (at2 x4) (at2 x5)) (at2 x6) (at1 x0) (8 + r.val / 128) (r.val % 128) k := by
  simp only [runA.sl.v559, runA.sl.v558, runA.sl.v556, runA.sl.v555, runA.sl.v554, runA.sl.v276, runA.sl.cst_75]
  pointwise []
  simp only [PN1, DP1, DR1, ofBits_eighth]
  rfl

theorem DQ1 (r : Fin 1024) (l : Fin 128) : ((runA.sl.v560 (F := Ideal) c i arg1 harg1 arg2 harg2 arg3 harg3 arg4 harg4 arg5 harg5 arg6 harg6 arg7 harg7 x0 x1 x2 x3 x4 x5 x6) (ix2 r l) : EReal) = dqv (i 0).val (at2 x1) (two (at2 x2) (at2 x3)) (two (at2 x4) (at2 x5)) (at2 x6) (at1 x0) (r.val % 128) (64 * (8 + r.val / 128) + l.val % 64) := by
  have h0 : r.val < 1024 := r.isLt
  have h1 : (64 * (8 + r.val / 128) + l.val % 64) / 64 = 8 + r.val / 128 := by omega
  have h2 : (64 * (8 + r.val / 128) + l.val % 64) % 64 = l.val % 64 := by omega
  have h3 : (8 + r.val / 128) / 8 = 1 := by omega
  simp only [runA.sl.v560, runA.sl.cst_76]
  pointwise []
  unfold dqv
  rw [h1, h2, h3]
  refine Finset.sum_congr rfl fun k _ => ?_
  rw [DS1, K1]

theorem DK1 (k : Fin 256) (l : Fin 128) : ((runA.sl.v593 (F := Ideal) c i arg1 harg1 arg2 harg2 arg3 harg3 arg4 harg4 arg5 harg5 arg6 harg6 arg7 harg7 x0 x1 x2 x3 x4 x5 x6) (ix2 k l) : EReal)
    = ∑ g : Fin 8, ∑ q : Fin 128, DS (i 0).val (at2 x1) (two (at2 x2) (at2 x3)) (two (at2 x4) (at2 x5)) (at2 x6) (at1 x0) (8 + g.val) q.val k * (at2 x1) q.val (64 * (8 + g.val) + l.val % 64) := by
  have h1 : l.val < 128 := l.isLt
  simp only [runA.sl.v593, runA.sl.v589, runA.sl.cst_85, runA.sl.v592]
  pointwise []
  have e1 : ∀ r : Fin 1024, ((runA.sl.v559 (F := Ideal) c i arg1 harg1 arg2 harg2 arg3 harg3 arg4 harg4 arg5 harg5 arg6 harg6 arg7 harg7 x0 x1 x2 x3 x4 x5 x6) (ix2 r k) : EReal) * (runA.sl.v369 (F := Ideal) c arg2 harg2 x1) (ix2 r l)
      = DS (i 0).val (at2 x1) (two (at2 x2) (at2 x3)) (two (at2 x4) (at2 x5)) (at2 x6) (at1 x0) (8 + r.val / 128) (r.val % 128) k * (if (l.val < 64 ↔ r.val / 128 % 2 = 0) then (at2 x1) (r.val % 128) (64 * (8 + r.val / 128) + l.val % 64) else 0) := by
    intro r
    rw [DS1, Q1]
  have e2 : ∀ (r : Fin 1024) (p : (l.val + 128 - 64) % 128 < 128), ((runA.sl.v559 (F := Ideal) c i arg1 harg1 arg2 harg2 arg3 harg3 arg4 harg4 arg5 harg5 arg6 harg6 arg7 harg7 x0 x1 x2 x3 x4 x5 x6) (ix2 r k) : EReal) * (runA.sl.v369 (F := Ideal) c arg2 harg2 x1) (ix2 r ⟨(l.val + 128 - 64) % 128, p⟩)
      = DS (i 0).val (at2 x1) (two (at2 x2) (at2 x3)) (two (at2 x4) (at2 x5)) (at2 x6) (at1 x0) (8 + r.val / 128) (r.val % 128) k * (if ((l.val + 128 - 64) % 128 < 64 ↔ r.val / 128 % 2 = 0) then (at2 x1) (r.val % 128) (64 * (8 + r.val / 128) + l.val % 64) else 0) := by
    intro r p
    rw [DS1, Q1]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => DS (i 0).val (at2 x1) (two (at2 x2) (at2 x3)) (two (at2 x4) (at2 x5)) (at2 x6) (at1 x0) (8 + r / 128) (r % 128) k) (fun r => (at2 x1) (r % 128) (64 * (8 + r / 128) + l.val % 64)) (fun r => l.val < 64 ↔ r / 128 % 2 = 0) (fun r => (l.val + 128 - 64) % 128 < 64 ↔ r / 128 % 2 = 0) fun r => by omega).trans ?_
  refine (sum_rows fun r => DS (i 0).val (at2 x1) (two (at2 x2) (at2 x3)) (two (at2 x4) (at2 x5)) (at2 x6) (at1 x0) (8 + r / 128) (r % 128) k * (at2 x1) (r % 128) (64 * (8 + r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem DV1 (k : Fin 256) (l : Fin 128) : ((runA.sl.v595 (F := Ideal) c i arg1 harg1 arg2 harg2 arg3 harg3 arg4 harg4 arg7 harg7 x0 x1 x2 x3 x6) (ix2 k l) : EReal)
    = ∑ g : Fin 8, ∑ q : Fin 128, PN (i 0).val (at2 x1) (two (at2 x2) (at2 x3)) (at1 x0) (8 + g.val) q.val k * (at2 x6) q.val (64 * (8 + g.val) + l.val % 64) := by
  have h1 : l.val < 128 := l.isLt
  simp only [runA.sl.v595, runA.sl.v591, runA.sl.v590, runA.sl.cst_85, runA.sl.v594]
  pointwise []
  have e1 : ∀ r : Fin 1024, ((runA.sl.v451 (F := Ideal) c i arg1 harg1 arg2 harg2 arg3 harg3 arg4 harg4 x0 x1 x2 x3) (ix2 r k) : EReal) * (runA.sl.r_24 (F := Ideal) c arg7 harg7 x6) (ix2 r l)
      = PN (i 0).val (at2 x1) (two (at2 x2) (at2 x3)) (at1 x0) (8 + r.val / 128) (r.val % 128) k * (if (l.val < 64 ↔ r.val / 128 % 2 = 0) then (at2 x6) (r.val % 128) (64 * (8 + r.val / 128) + l.val % 64) else 0) := by
    intro r
    rw [PN1, C1]
  have e2 : ∀ (r : Fin 1024) (p : (l.val + 128 - 64) % 128 < 128), ((runA.sl.v451 (F := Ideal) c i arg1 harg1 arg2 harg2 arg3 harg3 arg4 harg4 x0 x1 x2 x3) (ix2 r k) : EReal) * (runA.sl.r_24 (F := Ideal) c arg7 harg7 x6) (ix2 r ⟨(l.val + 128 - 64) % 128, p⟩)
      = PN (i 0).val (at2 x1) (two (at2 x2) (at2 x3)) (at1 x0) (8 + r.val / 128) (r.val % 128) k * (if ((l.val + 128 - 64) % 128 < 64 ↔ r.val / 128 % 2 = 0) then (at2 x6) (r.val % 128) (64 * (8 + r.val / 128) + l.val % 64) else 0) := by
    intro r p
    rw [PN1, C1]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => PN (i 0).val (at2 x1) (two (at2 x2) (at2 x3)) (at1 x0) (8 + r / 128) (r % 128) k) (fun r => (at2 x6) (r % 128) (64 * (8 + r / 128) + l.val % 64)) (fun r => l.val < 64 ↔ r / 128 % 2 = 0) (fun r => (l.val + 128 - 64) % 128 < 64 ↔ r / 128 % 2 = 0) fun r => by omega).trans ?_
  refine (sum_rows fun r => PN (i 0).val (at2 x1) (two (at2 x2) (at2 x3)) (at1 x0) (8 + r / 128) (r % 128) k * (at2 x6) (r % 128) (64 * (8 + r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem dq4 (q l : Fin 128) : ((runA.sl.v566 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (512 + l.val) := by
  have h0 : q.val < 128 := q.isLt
  have h1 : l.val < 128 := l.isLt
  simp only [runA.sl.v566, runA.sl.v565, runA.sl.v35, runA.sl.v23, runA.sl.v24, runA.sl.v561, runA.sl.v562]
  pointwise []
  simp only [slt_lane _ h1, DQ1]
  split_ifs <;> (congr 1 <;> omega)

theorem dq5 (q l : Fin 128) : ((runA.sl.v573 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (640 + l.val) := by
  have h0 : q.val < 128 := q.isLt
  have h1 : l.val < 128 := l.isLt
  simp only [runA.sl.v573, runA.sl.v572, runA.sl.v35, runA.sl.v23, runA.sl.v24, runA.sl.v568, runA.sl.v569]
  pointwise []
  simp only [slt_lane _ h1, DQ1]
  split_ifs <;> (congr 1 <;> omega)

theorem dq6 (q l : Fin 128) : ((runA.sl.v580 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (768 + l.val) := by
  have h0 : q.val < 128 := q.isLt
  have h1 : l.val < 128 := l.isLt
  simp only [runA.sl.v580, runA.sl.v579, runA.sl.v35, runA.sl.v23, runA.sl.v24, runA.sl.v575, runA.sl.v576]
  pointwise []
  simp only [slt_lane _ h1, DQ1]
  split_ifs <;> (congr 1 <;> omega)

theorem dq7 (q l : Fin 128) : ((runA.sl.v587 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (896 + l.val) := by
  have h0 : q.val < 128 := q.isLt
  have h1 : l.val < 128 := l.isLt
  simp only [runA.sl.v587, runA.sl.v586, runA.sl.v35, runA.sl.v23, runA.sl.v24, runA.sl.v582, runA.sl.v583]
  pointwise []
  simp only [slt_lane _ h1, DQ1]
  split_ifs <;> (congr 1 <;> omega)

theorem dk (k : Fin 256) (l : Fin 128) : ((runA.sl.v598 (F := Ideal) c i arg1 harg1 arg2 harg2 arg3 harg3 arg4 harg4 arg5 harg5 arg6 harg6 arg7 harg7 x0 x1 x2 x3 x4 x5 x6) (ix2 k l) : EReal) = dkv (i 0).val (at2 x1) (two (at2 x2) (at2 x3)) (two (at2 x4) (at2 x5)) (at2 x6) (at1 x0) k l.val := by
  have h1 : l.val < 128 := l.isLt
  simp only [runA.sl.v598, runA.sl.v35, runA.sl.v23, runA.sl.v24]
  pointwise []
  simp only [slt_lane _ h1, DK0, DK1]
  unfold dkv
  split_ifs with hl
  · rw [show l.val / 64 = 0 by omega]
    simp only [Nat.mul_zero, Nat.zero_add]
  · rw [show l.val / 64 = 1 by omega]

theorem dv (k : Fin 256) (l : Fin 128) : ((runA.sl.v601 (F := Ideal) c i arg1 harg1 arg2 harg2 arg3 harg3 arg4 harg4 arg7 harg7 x0 x1 x2 x3 x6) (ix2 k l) : EReal) = dvv (i 0).val (at2 x1) (two (at2 x2) (at2 x3)) (at2 x6) (at1 x0) k l.val := by
  have h1 : l.val < 128 := l.isLt
  simp only [runA.sl.v601, runA.sl.v35, runA.sl.v23, runA.sl.v24]
  pointwise []
  simp only [slt_lane _ h1, DV0, DV1]
  unfold dvv
  split_ifs with hl
  · rw [show l.val / 64 = 0 by omega]
    simp only [Nat.mul_zero, Nat.zero_add]
  · rw [show l.val / 64 = 1 by omega]

theorem dsink (l : Fin 128) : ((runA.sl.v553 (F := Ideal) c i arg1 harg1 arg2 harg2 arg3 harg3 arg4 harg4 arg5 harg5 arg6 harg6 arg7 harg7 x0 x1 x2 x3 x4 x5 x6) (ix2 0 l) : EReal) = dsv (i 0).val (at2 x1) (two (at2 x2) (at2 x3)) (two (at2 x4) (at2 x5)) (at2 x6) (at1 x0) l.val := by
  have h1 : l.val < 128 := l.isLt
  have m0 : ∀ q : Fin 128, q.val / 128 = 0 ∧ q.val % 128 = q.val := fun q => by have := q.isLt; omega
  have m1 : ∀ q : Fin 128, (128 + q.val) / 128 = 1 ∧ (128 + q.val) % 128 = q.val := fun q => by have := q.isLt; omega
  have m2 : ∀ q : Fin 128, (256 + q.val) / 128 = 2 ∧ (256 + q.val) % 128 = q.val := fun q => by have := q.isLt; omega
  have m3 : ∀ q : Fin 128, (384 + q.val) / 128 = 3 ∧ (384 + q.val) % 128 = q.val := fun q => by have := q.isLt; omega
  have m4 : ∀ q : Fin 128, (512 + q.val) / 128 = 4 ∧ (512 + q.val) % 128 = q.val := fun q => by have := q.isLt; omega
  have m5 : ∀ q : Fin 128, (640 + q.val) / 128 = 5 ∧ (640 + q.val) % 128 = q.val := fun q => by have := q.isLt; omega
  have m6 : ∀ q : Fin 128, (768 + q.val) / 128 = 6 ∧ (768 + q.val) % 128 = q.val := fun q => by have := q.isLt; omega
  have m7 : ∀ q : Fin 128, (896 + q.val) / 128 = 7 ∧ (896 + q.val) % 128 = q.val := fun q => by have := q.isLt; omega
  simp only [runA.sl.v553, runA.sl.v541, runA.sl.v529, runA.sl.v517, runA.sl.v505, runA.sl.v493, runA.sl.v481, runA.sl.v469, runA.sl.v272, runA.sl.v260, runA.sl.v248, runA.sl.v236, runA.sl.v224, runA.sl.v212, runA.sl.v200, runA.sl.v188, runA.sl.v629, runA.sl.cst_176, runA.sl.v187, runA.sl.v23, runA.sl.v177, runA.sl.v185, runA.sl.v184, runA.sl.v183, runA.sl.v182, runA.sl.v181, runA.sl.v180, runA.sl.v179, runA.sl.v199, runA.sl.v189, runA.sl.v197, runA.sl.v196, runA.sl.v195, runA.sl.v194, runA.sl.v193, runA.sl.v192, runA.sl.v191, runA.sl.v211, runA.sl.v201, runA.sl.v209, runA.sl.v208, runA.sl.v207, runA.sl.v206, runA.sl.v205, runA.sl.v204, runA.sl.v203, runA.sl.v223, runA.sl.v213, runA.sl.v221, runA.sl.v220, runA.sl.v219, runA.sl.v218, runA.sl.v217, runA.sl.v216, runA.sl.v215, runA.sl.v235, runA.sl.v225, runA.sl.v233, runA.sl.v232, runA.sl.v231, runA.sl.v230, runA.sl.v229, runA.sl.v228, runA.sl.v227, runA.sl.v247, runA.sl.v237, runA.sl.v245, runA.sl.v244, runA.sl.v243, runA.sl.v242, runA.sl.v241, runA.sl.v240, runA.sl.v239, runA.sl.v259, runA.sl.v249, runA.sl.v257, runA.sl.v256, runA.sl.v255, runA.sl.v254, runA.sl.v253, runA.sl.v252, runA.sl.v251, runA.sl.v271, runA.sl.v261, runA.sl.v269, runA.sl.v268, runA.sl.v267, runA.sl.v266, runA.sl.v265, runA.sl.v264, runA.sl.v263, runA.sl.v468, runA.sl.v458, runA.sl.v466, runA.sl.v465, runA.sl.v464, runA.sl.v463, runA.sl.v462, runA.sl.v461, runA.sl.v460, runA.sl.v480, runA.sl.v470, runA.sl.v478, runA.sl.v477, runA.sl.v476, runA.sl.v475, runA.sl.v474, runA.sl.v473, runA.sl.v472, runA.sl.v492, runA.sl.v482, runA.sl.v490, runA.sl.v489, runA.sl.v488, runA.sl.v487, runA.sl.v486, runA.sl.v485, runA.sl.v484, runA.sl.v504, runA.sl.v494, runA.sl.v502, runA.sl.v501, runA.sl.v500, runA.sl.v499, runA.sl.v498, runA.sl.v497, runA.sl.v496, runA.sl.v516, runA.sl.v506, runA.sl.v514, runA.sl.v513, runA.sl.v512, runA.sl.v511, runA.sl.v510, runA.sl.v509, runA.sl.v508, runA.sl.v528, runA.sl.v518, runA.sl.v526, runA.sl.v525, runA.sl.v524, runA.sl.v523, runA.sl.v522, runA.sl.v521, runA.sl.v520, runA.sl.v540, runA.sl.v530, runA.sl.v538, runA.sl.v537, runA.sl.v536, runA.sl.v535, runA.sl.v534, runA.sl.v533, runA.sl.v532, runA.sl.v552, runA.sl.v542, runA.sl.v550, runA.sl.v549, runA.sl.v548, runA.sl.v547, runA.sl.v546, runA.sl.v545, runA.sl.v544]
  pointwise []
  simp only [SK0, SK1, (m0 _).1, (m0 _).2, (m1 _).1, (m1 _).2, (m2 _).1, (m2 _).2, (m3 _).1, (m3 _).2, (m4 _).1, (m4 _).2, (m5 _).1, (m5 _).2, (m6 _).1, (m6 _).2, (m7 _).1, (m7 _).2, Finset.sum_const, Finset.card_univ, Fintype.card_fin, one_smul]
  simp only [eq_lane l.val 0 h1 (by omega), eq_lane l.val 1 h1 (by omega), eq_lane l.val 2 h1 (by omega), eq_lane l.val 3 h1 (by omega), eq_lane l.val 4 h1 (by omega), eq_lane l.val 5 h1 (by omega), eq_lane l.val 6 h1 (by omega), eq_lane l.val 7 h1 (by omega), eq_lane l.val 8 h1 (by omega), eq_lane l.val 9 h1 (by omega), eq_lane l.val 10 h1 (by omega), eq_lane l.val 11 h1 (by omega), eq_lane l.val 12 h1 (by omega), eq_lane l.val 13 h1 (by omega), eq_lane l.val 14 h1 (by omega), eq_lane l.val 15 h1 (by omega)]
  have key := lanes16 (fun l => 0 - ∑ q : Fin 128, SK (i 0).val (at2 x1) (two (at2 x2) (at2 x3)) (two (at2 x4) (at2 x5)) (at2 x6) (at1 x0) l q.val) l.val
  simp only [zero_add, Nat.reduceAdd] at key ⊢
  unfold dsv
  exact key

end Cert.SwaBwdIdeal.BlkA
-- ==== Proof.SwaBwdIdealBlkB.lean ====
/- One grid point of the windowed attention's gradient, a later one: the values its operations make, in plain numbers. -/
module

import all proofs.«01_k».proof.Proof.SwaBwdIdealRun
public import proofs.«01_k».proof.Proof.SwaBwdIdealRun
public import proofs.«01_k».proof.Proof.SwaBlk
public import Idealize.ShloMosaic.Lib.Pipeline.ValueKit
public import Idealize.ShloMosaic.Lib.WholeRead

@[expose] public section

set_option maxRecDepth 16384

noncomputable section

open Idealize.ShloMosaic Idealize.ShloMosaic.TcCoe

namespace Cert.SwaBwdIdeal.BlkB

open Cert.SwaBwdIdeal Cert.SwaBwdIdeal.Gen Cert.SwaBwdIdeal.Hand Cert.SwaRow

variable (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .f32) (harg7 : arg7.IsWhole)
variable (x0 : Vec Ideal S16 .f32) (x1 : Vec Ideal S128x1024 .f32) (x2 x3 x4 x5 : Vec Ideal S128x128 .f32) (x6 : Vec Ideal S128x1024 .f32)

/-- A load of 128 columns of a block of 1024. -/
theorem rdW (A : Memref sig .tc .vmem S128x1024 .f32) (hA : A.IsWhole) (x : Vec Ideal S128x1024 .f32) (o : ℕ)
    (p : ∀ d, (![0, o] : Fin 2 → ℕ) d + (![128, 128] : Fin 2 → ℕ) d ≤ S128x1024.size d) (a b : Fin 128) :
    View.readAt (Elt Ideal) A.view (Rect.unit (s := S128x1024) ![0, o] ![128, 128] p).toLoadRect (hA.unread x) (ix2 a b) = at2 x a.val (o + b.val) := by
  rw [Memref.IsWhole.readAt_unread]
  have hb : o + b.val < 1024 := by
    have h1 := p 1
    have h2 : o + 128 ≤ 1024 := h1
    have := b.2
    omega
  rw [at2_lt x a.val (o + b.val) a.2 hb]
  congr 1
  funext d
  refine Fin.cases ?_ (fun d => Fin.cases ?_ (fun d => d.elim0) d) d
  · exact Fin.ext (by show 0 + 1 * a.val = a.val; omega)
  · exact Fin.ext (by show o + 1 * b.val = o + b.val; omega)

/-- A load of a whole block of 128 columns. -/
theorem rdB (A : Memref sig .tc .vmem S128x128 .f32) (hA : A.IsWhole) (x : Vec Ideal S128x128 .f32)
    (p : ∀ d, (![0, 0] : Fin 2 → ℕ) d + (![128, 128] : Fin 2 → ℕ) d ≤ S128x128.size d) (a b : Fin 128) :
    View.readAt (Elt Ideal) A.view (Rect.unit (s := S128x128) ![0, 0] ![128, 128] p).toLoadRect (hA.unread x) (ix2 a b) = at2 x a.val b.val := by
  rw [Memref.IsWhole.readAt_unread]
  rw [at2_lt x a.val b.val a.2 b.2]
  congr 1
  funext d
  refine Fin.cases ?_ (fun d => Fin.cases ?_ (fun d => d.elim0) d) d
  · exact Fin.ext (by show 0 + 1 * a.val = a.val; omega)
  · exact Fin.ext (by show 0 + 1 * b.val = b.val; omega)

/-- A load of one sink. -/
theorem rdS (A : Memref sig .tc .smem S16 .f32) (hA : A.IsWhole) (x : Vec Ideal S16 .f32) (o : ℕ)
    (p : ∀ d, (![o] : Fin 1 → ℕ) d + (![1] : Fin 1 → ℕ) d ≤ S16.size d) (h : 0 < (Rect.unit (s := S16) ![o] ![1] p).toLoadRect.shape.numel) :
    View.readAt (Elt Ideal) A.view (Rect.unit (s := S16) ![o] ![1] p).toLoadRect (hA.unread x) (Shape.Idx.first h) = at1 x o := by
  rw [Memref.IsWhole.readAt_unread]
  have ho : o < 16 := by
    have h1 := p 0
    have h2 : o + 1 ≤ 16 := h1
    omega
  rw [at1_lt x o ho]
  congr 1
  funext d
  refine Fin.cases ?_ (fun d => d.elim0) d
  exact Fin.ext (by show o + 1 * 0 = o; omega)

theorem Q0 (r : Fin 1024) (l : Fin 128) : ((runB.sl.v88 (F := Ideal) c arg2 harg2 x1) (ix2 r l) : EReal)
    = if (l.val < 64 ↔ r.val / 128 % 2 = 0) then (at2 x1) (r.val % 128) (64 * (r.val / 128) + l.val % 64) else 0 := by
  have h0 : r.val < 1024 := r.isLt
  have h1 : l.val < 128 := l.isLt
  simp only [runB.sl.v88, runB.sl.v49, runB.sl.v48, runB.sl.v35, runB.sl.v23, runB.sl.v24, runB.sl.v47, runB.sl.cst, runB.sl.v54, runB.sl.v53, runB.sl.v60, runB.sl.v59, runB.sl.v65, runB.sl.v64, runB.sl.v71, runB.sl.v70, runB.sl.v76, runB.sl.v75, runB.sl.v82, runB.sl.v81, runB.sl.v87, runB.sl.v86, runB.sl.r]
  pointwise []
  simp only [rdW, slt_lane _ h1]
  split_ifs <;> first
    | with_reducible rfl
    | (exfalso; omega)
    | (congr 1 <;> omega)

theorem C0 (r : Fin 1024) (l : Fin 128) : ((runB.sl.r_10 (F := Ideal) c arg7 harg7 x6) (ix2 r l) : EReal)
    = if (l.val < 64 ↔ r.val / 128 % 2 = 0) then (at2 x6) (r.val % 128) (64 * (r.val / 128) + l.val % 64) else 0 := by
  have h0 : r.val < 1024 := r.isLt
  have h1 : l.val < 128 := l.isLt
  simp only [runB.sl.r_10, runB.sl.v23, runB.sl.v24, runB.sl.v94, runB.sl.v93, runB.sl.v35, runB.sl.v47, runB.sl.cst, runB.sl.v99, runB.sl.v98, runB.sl.v105, runB.sl.v104, runB.sl.v110, runB.sl.v109, runB.sl.v116, runB.sl.v115, runB.sl.v121, runB.sl.v120, runB.sl.r_1, runB.sl.v127, runB.sl.v126]
  pointwise [k0_pay31]
  simp only [rdW, slt_lane _ h1]
  split_ifs <;> first
    | with_reducible rfl
    | (exfalso; omega)
    | (congr 1 <;> omega)

theorem K0 (k : Fin 256) (l : Fin 128) : ((runB.sl.v38 (F := Ideal) c arg3 harg3 arg4 harg4 x2 x3) (ix2 k l) : EReal) = (two (at2 x2) (at2 x3)) k.val (64 * 0 + l.val % 64) := by
  have h0 : k.val < 256 := k.isLt
  have h1 : l.val < 128 := l.isLt
  simp only [runB.sl.v38, runB.sl.v37, runB.sl.v35, runB.sl.v23, runB.sl.v24, runB.sl.v29, runB.sl.v34]
  pointwise []
  simp only [rdB, slt_lane _ h1, two]
  split_ifs <;> first
    | with_reducible rfl
    | (exfalso; omega)
    | (congr 1 <;> omega)

theorem V0 (k : Fin 256) (l : Fin 128) : ((runB.sl.v43 (F := Ideal) c arg5 harg5 arg6 harg6 x4 x5) (ix2 k l) : EReal) = (two (at2 x4) (at2 x5)) k.val (64 * 0 + l.val % 64) := by
  have h0 : k.val < 256 := k.isLt
  have h1 : l.val < 128 := l.isLt
  simp only [runB.sl.v43, runB.sl.v42, runB.sl.v35, runB.sl.v23, runB.sl.v24, runB.sl.v32, runB.sl.v39]
  pointwise []
  simp only [rdB, slt_lane _ h1, two]
  split_ifs <;> first
    | with_reducible rfl
    | (exfalso; omega)
    | (congr 1 <;> omega)

theorem Z0 (r : Fin 1024) : ((k0_pay32 (F := Ideal) (runB.sl.r_2 (F := Ideal) c arg1 harg1 x0) (runB.sl.r_3 (F := Ideal) c arg1 harg1 x0) (runB.sl.r_4 (F := Ideal) c arg1 harg1 x0) (runB.sl.r_5 (F := Ideal) c arg1 harg1 x0) (runB.sl.r_6 (F := Ideal) c arg1 harg1 x0) (runB.sl.r_7 (F := Ideal) c arg1 harg1 x0) (runB.sl.r_8 (F := Ideal) c arg1 harg1 x0) (runB.sl.r_9 (F := Ideal) c arg1 harg1 x0)) (ix2 r 0) : EReal) = (at1 x0) (r.val / 128) := by
  have h0 : r.val < 1024 := r.isLt
  simp only [runB.sl.r_2, runB.sl.r_3, runB.sl.r_4, runB.sl.r_5, runB.sl.r_6, runB.sl.r_7, runB.sl.r_8, runB.sl.r_9]
  pointwise [k0_pay32]
  simp only [rdS]
  split_ifs <;> first
    | with_reducible rfl
    | (exfalso; omega)
    | (congr 1 <;> omega)

theorem SC0 (r : Fin 1024) (k : Fin 256) : ((k0_pay33 (F := Ideal) (runB.sl.v22 i) (runB.sl.v38 (F := Ideal) c arg3 harg3 arg4 harg4 x2 x3) (runB.sl.v88 (F := Ideal) c arg2 harg2 x1)) (ix2 r k) : EReal) = W (i 0).val (at2 x1) (two (at2 x2) (at2 x3)) (r.val / 128) (r.val % 128) k.val := by
  have h0 : r.val < 1024 := r.isLt
  have h1 : (i 0).val < 32 := (i 0).isLt
  have h2 : r.val % 128 < 128 := Nat.mod_lt _ (by omega)
  have h3 : (r.val / 128) / 8 = 0 := by omega
  simp only [runB.sl.v22, runB.sl.v9, runB.sl.v6, runB.sl.v8, runB.sl.v3, runB.sl.v4, runB.sl.v14, runB.sl.v11, runB.sl.v10, runB.sl.v21, runB.sl.v20, runB.sl.v19, runB.sl.v16, runB.sl.v17]
  pointwise [k0_pay33]
  rw [lane_and _ h0]
  refine (ok_mask _ _ _ h1 h2 k.isLt _ _).trans ?_
  unfold W
  rw [ofBits_eighth, h3]
  refine if_congr Iff.rfl ?_ rfl
  congr 1
  refine Eq.trans ?_ (sum_lanes (r.val / 128 % 2 = 0) (fun d => (at2 x1) (r.val % 128) (64 * (r.val / 128) + d)) (fun d => (two (at2 x2) (at2 x3)) k.val (64 * 0 + d)))
  refine Finset.sum_congr rfl fun l _ => ?_
  rw [Q0, K0]

theorem PN0 (r : Fin 1024) (k : Fin 256) : ((runB.sl.r_11 (F := Ideal) c i arg1 harg1 arg2 harg2 arg3 harg3 arg4 harg4 x0 x1 x2 x3) (ix2 r k) : EReal) = PN (i 0).val (at2 x1) (two (at2 x2) (at2 x3)) (at1 x0) (r.val / 128) (r.val % 128) k := by
  simp only [runB.sl.r_11]
  pointwise [k0_pay34, k0_pay35, k0_pay36, k0_pay37, k0_pay38]
  simp only [SC0, Z0, ofBits_bot]
  rfl

theorem DP0 (r : Fin 1024) (k : Fin 256) : ((runB.sl.r_13 (F := Ideal) c arg5 harg5 arg6 harg6 arg7 harg7 x4 x5 x6) (ix2 r k) : EReal) = DP (two (at2 x4) (at2 x5)) (at2 x6) (r.val / 128) (r.val % 128) k.val := by
  have h0 : r.val < 1024 := r.isLt
  have h3 : (r.val / 128) / 8 = 0 := by omega
  simp only [runB.sl.r_13]
  pointwise [k0_pay40]
  unfold DP
  rw [h3]
  refine Eq.trans ?_ (sum_lanes (r.val / 128 % 2 = 0) (fun d => (at2 x6) (r.val % 128) (64 * (r.val / 128) + d)) (fun d => (two (at2 x4) (at2 x5)) k.val (64 * 0 + d)))
  refine Finset.sum_congr rfl fun l _ => ?_
  exact congrArg₂ (· * ·) (C0 _ _ _ _ _ _) (V0 _ _ _ _ _ _ _ _ _)

theorem DR0 (r : Fin 1024) : ((runB.sl.v175 (F := Ideal) c i arg1 harg1 arg2 harg2 arg3 harg3 arg4 harg4 arg5 harg5 arg6 harg6 arg7 harg7 x0 x1 x2 x3 x4 x5 x6) (ix2 r 0) : EReal)
    = drow (fun k => W (i 0).val (at2 x1) (two (at2 x2) (at2 x3)) (r.val / 128) (r.val % 128) k.val) (fun k => DP (two (at2 x4) (at2 x5)) (at2 x6) (r.val / 128) (r.val % 128) k.val) ((at1 x0) (r.val / 128)) := by
  simp only [runB.sl.v175, runB.sl.v174, runB.sl.v173]
  pointwise []
  simp only [PN0, DP0]
  rfl

theorem SK0 (r : Fin 1024) : ((runB.sl.v176 (F := Ideal) c i arg1 harg1 arg2 harg2 arg3 harg3 arg4 harg4 arg5 harg5 arg6 harg6 arg7 harg7 x0 x1 x2 x3 x4 x5 x6) (ix2 r 0) : EReal) = SK (i 0).val (at2 x1) (two (at2 x2) (at2 x3)) (two (at2 x4) (at2 x5)) (at2 x6) (at1 x0) (r.val / 128) (r.val % 128) := by
  simp only [runB.sl.v176, runB.sl.r_12]
  pointwise [k0_pay34, k0_pay35, k0_pay36, k0_pay37, k0_pay39]
  simp only [SC0, Z0, DR0, ofBits_bot]
  rfl

theorem DS0 (r : Fin 1024) (k : Fin 256) : ((runB.sl.v278 (F := Ideal) c i arg1 harg1 arg2 harg2 arg3 harg3 arg4 harg4 arg5 harg5 arg6 harg6 arg7 harg7 x0 x1 x2 x3 x4 x5 x6) (ix2 r k) : EReal) = DS (i 0).val (at2 x1) (two (at2 x2) (at2 x3)) (two (at2 x4) (at2 x5)) (at2 x6) (at1 x0) (r.val / 128) (r.val % 128) k := by
  simp only [runB.sl.v278, runB.sl.v277, runB.sl.v275, runB.sl.v274, runB.sl.v273, runB.sl.v276, runB.sl.cst_75]
  pointwise []
  simp only [PN0, DP0, DR0, ofBits_eighth]
  rfl

theorem DQ0 (r : Fin 1024) (l : Fin 128) : ((runB.sl.v279 (F := Ideal) c i arg1 harg1 arg2 harg2 arg3 harg3 arg4 harg4 arg5 harg5 arg6 harg6 arg7 harg7 x0 x1 x2 x3 x4 x5 x6) (ix2 r l) : EReal) = dqv (i 0).val (at2 x1) (two (at2 x2) (at2 x3)) (two (at2 x4) (at2 x5)) (at2 x6) (at1 x0) (r.val % 128) (64 * (r.val / 128) + l.val % 64) := by
  have h0 : r.val < 1024 := r.isLt
  have h1 : (64 * (r.val / 128) + l.val % 64) / 64 = r.val / 128 := by omega
  have h2 : (64 * (r.val / 128) + l.val % 64) % 64 = l.val % 64 := by omega
  have h3 : (r.val / 128) / 8 = 0 := by omega
  simp only [runB.sl.v279, runB.sl.cst_76]
  pointwise []
  unfold dqv
  rw [h1, h2, h3]
  refine Finset.sum_congr rfl fun k _ => ?_
  rw [DS0, K0]

theorem DK0 (k : Fin 256) (l : Fin 128) : ((runB.sl.v312 (F := Ideal) c i arg1 harg1 arg2 harg2 arg3 harg3 arg4 harg4 arg5 harg5 arg6 harg6 arg7 harg7 x0 x1 x2 x3 x4 x5 x6) (ix2 k l) : EReal)
    = ∑ g : Fin 8, ∑ q : Fin 128, DS (i 0).val (at2 x1) (two (at2 x2) (at2 x3)) (two (at2 x4) (at2 x5)) (at2 x6) (at1 x0) (g.val) q.val k * (at2 x1) q.val (64 * (g.val) + l.val % 64) := by
  have h1 : l.val < 128 := l.isLt
  simp only [runB.sl.v312, runB.sl.v308, runB.sl.cst_85, runB.sl.v311]
  pointwise []
  have e1 : ∀ r : Fin 1024, ((runB.sl.v278 (F := Ideal) c i arg1 harg1 arg2 harg2 arg3 harg3 arg4 harg4 arg5 harg5 arg6 harg6 arg7 harg7 x0 x1 x2 x3 x4 x5 x6) (ix2 r k) : EReal) * (runB.sl.v88 (F := Ideal) c arg2 harg2 x1) (ix2 r l)
      = DS (i 0).val (at2 x1) (two (at2 x2) (at2 x3)) (two (at2 x4) (at2 x5)) (at2 x6) (at1 x0) (r.val / 128) (r.val % 128) k * (if (l.val < 64 ↔ r.val / 128 % 2 = 0) then (at2 x1) (r.val % 128) (64 * (r.val / 128) + l.val % 64) else 0) := by
    intro r
    rw [DS0, Q0]
  have e2 : ∀ (r : Fin 1024) (p : (l.val + 128 - 64) % 128 < 128), ((runB.sl.v278 (F := Ideal) c i arg1 harg1 arg2 harg2 arg3 harg3 arg4 harg4 arg5 harg5 arg6 harg6 arg7 harg7 x0 x1 x2 x3 x4 x5 x6) (ix2 r k) : EReal) * (runB.sl.v88 (F := Ideal) c arg2 harg2 x1) (ix2 r ⟨(l.val + 128 - 64) % 128, p⟩)
      = DS (i 0).val (at2 x1) (two (at2 x2) (at2 x3)) (two (at2 x4) (at2 x5)) (at2 x6) (at1 x0) (r.val / 128) (r.val % 128) k * (if ((l.val + 128 - 64) % 128 < 64 ↔ r.val / 128 % 2 = 0) then (at2 x1) (r.val % 128) (64 * (r.val / 128) + l.val % 64) else 0) := by
    intro r p
    rw [DS0, Q0]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => DS (i 0).val (at2 x1) (two (at2 x2) (at2 x3)) (two (at2 x4) (at2 x5)) (at2 x6) (at1 x0) (r / 128) (r % 128) k) (fun r => (at2 x1) (r % 128) (64 * (r / 128) + l.val % 64)) (fun r => l.val < 64 ↔ r / 128 % 2 = 0) (fun r => (l.val + 128 - 64) % 128 < 64 ↔ r / 128 % 2 = 0) fun r => by omega).trans ?_
  refine (sum_rows fun r => DS (i 0).val (at2 x1) (two (at2 x2) (at2 x3)) (two (at2 x4) (at2 x5)) (at2 x6) (at1 x0) (r / 128) (r % 128) k * (at2 x1) (r % 128) (64 * (r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem DV0 (k : Fin 256) (l : Fin 128) : ((runB.sl.v314 (F := Ideal) c i arg1 harg1 arg2 harg2 arg3 harg3 arg4 harg4 arg7 harg7 x0 x1 x2 x3 x6) (ix2 k l) : EReal)
    = ∑ g : Fin 8, ∑ q : Fin 128, PN (i 0).val (at2 x1) (two (at2 x2) (at2 x3)) (at1 x0) (g.val) q.val k * (at2 x6) q.val (64 * (g.val) + l.val % 64) := by
  have h1 : l.val < 128 := l.isLt
  simp only [runB.sl.v314, runB.sl.v310, runB.sl.v309, runB.sl.cst_85, runB.sl.v313]
  pointwise []
  have e1 : ∀ r : Fin 1024, ((runB.sl.r_11 (F := Ideal) c i arg1 harg1 arg2 harg2 arg3 harg3 arg4 harg4 x0 x1 x2 x3) (ix2 r k) : EReal) * (runB.sl.r_10 (F := Ideal) c arg7 harg7 x6) (ix2 r l)
      = PN (i 0).val (at2 x1) (two (at2 x2) (at2 x3)) (at1 x0) (r.val / 128) (r.val % 128) k * (if (l.val < 64 ↔ r.val / 128 % 2 = 0) then (at2 x6) (r.val % 128) (64 * (r.val / 128) + l.val % 64) else 0) := by
    intro r
    rw [PN0, C0]
  have e2 : ∀ (r : Fin 1024) (p : (l.val + 128 - 64) % 128 < 128), ((runB.sl.r_11 (F := Ideal) c i arg1 harg1 arg2 harg2 arg3 harg3 arg4 harg4 x0 x1 x2 x3) (ix2 r k) : EReal) * (runB.sl.r_10 (F := Ideal) c arg7 harg7 x6) (ix2 r ⟨(l.val + 128 - 64) % 128, p⟩)
      = PN (i 0).val (at2 x1) (two (at2 x2) (at2 x3)) (at1 x0) (r.val / 128) (r.val % 128) k * (if ((l.val + 128 - 64) % 128 < 64 ↔ r.val / 128 % 2 = 0) then (at2 x6) (r.val % 128) (64 * (r.val / 128) + l.val % 64) else 0) := by
    intro r p
    rw [PN0, C0]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => PN (i 0).val (at2 x1) (two (at2 x2) (at2 x3)) (at1 x0) (r / 128) (r % 128) k) (fun r => (at2 x6) (r % 128) (64 * (r / 128) + l.val % 64)) (fun r => l.val < 64 ↔ r / 128 % 2 = 0) (fun r => (l.val + 128 - 64) % 128 < 64 ↔ r / 128 % 2 = 0) fun r => by omega).trans ?_
  refine (sum_rows fun r => PN (i 0).val (at2 x1) (two (at2 x2) (at2 x3)) (at1 x0) (r / 128) (r % 128) k * (at2 x6) (r % 128) (64 * (r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem dq0 (q l : Fin 128) : ((runB.sl.v285 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (l.val) := by
  have h0 : q.val < 128 := q.isLt
  have h1 : l.val < 128 := l.isLt
  simp only [runB.sl.v285, runB.sl.v284, runB.sl.v35, runB.sl.v23, runB.sl.v24, runB.sl.v280, runB.sl.v281]
  pointwise []
  simp only [slt_lane _ h1, DQ0]
  split_ifs <;> (congr 1 <;> omega)

theorem dq1 (q l : Fin 128) : ((runB.sl.v292 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (128 + l.val) := by
  have h0 : q.val < 128 := q.isLt
  have h1 : l.val < 128 := l.isLt
  simp only [runB.sl.v292, runB.sl.v291, runB.sl.v35, runB.sl.v23, runB.sl.v24, runB.sl.v287, runB.sl.v288]
  pointwise []
  simp only [slt_lane _ h1, DQ0]
  split_ifs <;> (congr 1 <;> omega)

theorem dq2 (q l : Fin 128) : ((runB.sl.v299 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (256 + l.val) := by
  have h0 : q.val < 128 := q.isLt
  have h1 : l.val < 128 := l.isLt
  simp only [runB.sl.v299, runB.sl.v298, runB.sl.v35, runB.sl.v23, runB.sl.v24, runB.sl.v294, runB.sl.v295]
  pointwise []
  simp only [slt_lane _ h1, DQ0]
  split_ifs <;> (congr 1 <;> omega)

theorem dq3 (q l : Fin 128) : ((runB.sl.v306 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (384 + l.val) := by
  have h0 : q.val < 128 := q.isLt
  have h1 : l.val < 128 := l.isLt
  simp only [runB.sl.v306, runB.sl.v305, runB.sl.v35, runB.sl.v23, runB.sl.v24, runB.sl.v301, runB.sl.v302]
  pointwise []
  simp only [slt_lane _ h1, DQ0]
  split_ifs <;> (congr 1 <;> omega)

theorem Q1 (r : Fin 1024) (l : Fin 128) : ((runB.sl.v369 (F := Ideal) c arg2 harg2 x1) (ix2 r l) : EReal)
    = if (l.val < 64 ↔ r.val / 128 % 2 = 0) then (at2 x1) (r.val % 128) (64 * (8 + r.val / 128) + l.val % 64) else 0 := by
  have h0 : r.val < 1024 := r.isLt
  have h1 : l.val < 128 := l.isLt
  simp only [runB.sl.v369, runB.sl.v330, runB.sl.v329, runB.sl.v35, runB.sl.v23, runB.sl.v24, runB.sl.v47, runB.sl.cst, runB.sl.v335, runB.sl.v334, runB.sl.v341, runB.sl.v340, runB.sl.v346, runB.sl.v345, runB.sl.v352, runB.sl.v351, runB.sl.r_14, runB.sl.v357, runB.sl.v356, runB.sl.v363, runB.sl.v362, runB.sl.v368, runB.sl.v367]
  pointwise []
  simp only [rdW, slt_lane _ h1]
  split_ifs <;> first
    | with_reducible rfl
    | (exfalso; omega)
    | (congr 1 <;> omega)

theorem C1 (r : Fin 1024) (l : Fin 128) : ((runB.sl.r_24 (F := Ideal) c arg7 harg7 x6) (ix2 r l) : EReal)
    = if (l.val < 64 ↔ r.val / 128 % 2 = 0) then (at2 x6) (r.val % 128) (64 * (8 + r.val / 128) + l.val % 64) else 0 := by
  have h0 : r.val < 1024 := r.isLt
  have h1 : l.val < 128 := l.isLt
  simp only [runB.sl.r_24, runB.sl.v23, runB.sl.v24, runB.sl.v375, runB.sl.v374, runB.sl.v35, runB.sl.v47, runB.sl.cst, runB.sl.v380, runB.sl.v379, runB.sl.v386, runB.sl.v385, runB.sl.v391, runB.sl.v390, runB.sl.r_15]
  pointwise [k0_pay69]
  simp only [rdW, slt_lane _ h1]
  split_ifs <;> first
    | with_reducible rfl
    | (exfalso; omega)
    | (congr 1 <;> omega)

theorem K1 (k : Fin 256) (l : Fin 128) : ((runB.sl.v319 (F := Ideal) c arg3 harg3 arg4 harg4 x2 x3) (ix2 k l) : EReal) = (two (at2 x2) (at2 x3)) k.val (64 * 1 + l.val % 64) := by
  have h0 : k.val < 256 := k.isLt
  have h1 : l.val < 128 := l.isLt
  simp only [runB.sl.v319, runB.sl.v318, runB.sl.v35, runB.sl.v23, runB.sl.v24, runB.sl.v34, runB.sl.v29]
  pointwise []
  simp only [rdB, slt_lane _ h1, two]
  split_ifs <;> first
    | with_reducible rfl
    | (exfalso; omega)
    | (congr 1 <;> omega)

theorem V1 (k : Fin 256) (l : Fin 128) : ((runB.sl.v324 (F := Ideal) c arg5 harg5 arg6 harg6 x4 x5) (ix2 k l) : EReal) = (two (at2 x4) (at2 x5)) k.val (64 * 1 + l.val % 64) := by
  have h0 : k.val < 256 := k.isLt
  have h1 : l.val < 128 := l.isLt
  simp only [runB.sl.v324, runB.sl.v323, runB.sl.v35, runB.sl.v23, runB.sl.v24, runB.sl.v39, runB.sl.v32]
  pointwise []
  simp only [rdB, slt_lane _ h1, two]
  split_ifs <;> first
    | with_reducible rfl
    | (exfalso; omega)
    | (congr 1 <;> omega)

theorem Z1 (r : Fin 1024) : ((runB.sl.r_25 (F := Ideal) c arg1 harg1 x0) (ix2 r 0) : EReal) = (at1 x0) (8 + r.val / 128) := by
  have h0 : r.val < 1024 := r.isLt
  simp only [runB.sl.r_25, runB.sl.r_16, runB.sl.r_17, runB.sl.r_18, runB.sl.r_19, runB.sl.r_20, runB.sl.r_21, runB.sl.r_22, runB.sl.r_23]
  pointwise [k0_pay70]
  simp only [rdS]
  split_ifs <;> first
    | with_reducible rfl
    | (exfalso; omega)
    | (congr 1 <;> omega)

theorem SC1 (r : Fin 1024) (k : Fin 256) : ((runB.sl.r_26 (F := Ideal) c i arg2 harg2 arg3 harg3 arg4 harg4 x1 x2 x3) (ix2 r k) : EReal) = W (i 0).val (at2 x1) (two (at2 x2) (at2 x3)) (8 + r.val / 128) (r.val % 128) k.val := by
  have h0 : r.val < 1024 := r.isLt
  have h1 : (i 0).val < 32 := (i 0).isLt
  have h2 : r.val % 128 < 128 := Nat.mod_lt _ (by omega)
  have h3 : (8 + r.val / 128) / 8 = 1 := by omega
  simp only [runB.sl.r_26, runB.sl.v22, runB.sl.v9, runB.sl.v6, runB.sl.v8, runB.sl.v3, runB.sl.v4, runB.sl.v14, runB.sl.v11, runB.sl.v10, runB.sl.v21, runB.sl.v20, runB.sl.v19, runB.sl.v16, runB.sl.v17]
  pointwise [k0_pay71]
  rw [lane_and _ h0]
  refine (ok_mask _ _ _ h1 h2 k.isLt _ _).trans ?_
  unfold W
  rw [ofBits_eighth, h3]
  refine if_congr Iff.rfl ?_ rfl
  congr 1
  refine Eq.trans ?_ (sum_lanes (r.val / 128 % 2 = 0) (fun d => (at2 x1) (r.val % 128) (64 * (8 + r.val / 128) + d)) (fun d => (two (at2 x2) (at2 x3)) k.val (64 * 1 + d)))
  refine Finset.sum_congr rfl fun l _ => ?_
  rw [Q1, K1]

theorem PN1 (r : Fin 1024) (k : Fin 256) : ((runB.sl.v451 (F := Ideal) c i arg1 harg1 arg2 harg2 arg3 harg3 arg4 harg4 x0 x1 x2 x3) (ix2 r k) : EReal) = PN (i 0).val (at2 x1) (two (at2 x2) (at2 x3)) (at1 x0) (8 + r.val / 128) (r.val % 128) k := by
  simp only [runB.sl.v451, runB.sl.v442, runB.sl.v441, runB.sl.v440, runB.sl.v439, runB.sl.v438, runB.sl.v437, runB.sl.v450, runB.sl.v449, runB.sl.v448, runB.sl.cst_124, runB.sl.v447, runB.sl.v446, runB.sl.v445, runB.sl.v444, runB.sl.v443]
  pointwise []
  simp only [SC1, Z1, ofBits_bot]
  rfl

theorem DP1 (r : Fin 1024) (k : Fin 256) : ((runB.sl.v453 (F := Ideal) c arg5 harg5 arg6 harg6 arg7 harg7 x4 x5 x6) (ix2 r k) : EReal) = DP (two (at2 x4) (at2 x5)) (at2 x6) (8 + r.val / 128) (r.val % 128) k.val := by
  have h0 : r.val < 1024 := r.isLt
  have h3 : (8 + r.val / 128) / 8 = 1 := by omega
  simp only [runB.sl.v453, runB.sl.cst_125]
  pointwise []
  unfold DP
  rw [h3]
  refine Eq.trans ?_ (sum_lanes (r.val / 128 % 2 = 0) (fun d => (at2 x6) (r.val % 128) (64 * (8 + r.val / 128) + d)) (fun d => (two (at2 x4) (at2 x5)) k.val (64 * 1 + d)))
  refine Finset.sum_congr rfl fun l _ => ?_
  exact congrArg₂ (· * ·) (C1 _ _ _ _ _ _) (V1 _ _ _ _ _ _ _ _ _)

theorem DR1 (r : Fin 1024) : ((runB.sl.v456 (F := Ideal) c i arg1 harg1 arg2 harg2 arg3 harg3 arg4 harg4 arg5 harg5 arg6 harg6 arg7 harg7 x0 x1 x2 x3 x4 x5 x6) (ix2 r 0) : EReal)
    = drow (fun k => W (i 0).val (at2 x1) (two (at2 x2) (at2 x3)) (8 + r.val / 128) (r.val % 128) k.val) (fun k => DP (two (at2 x4) (at2 x5)) (at2 x6) (8 + r.val / 128) (r.val % 128) k.val) ((at1 x0) (8 + r.val / 128)) := by
  simp only [runB.sl.v456, runB.sl.v455, runB.sl.v454]
  pointwise []
  simp only [PN1, DP1]
  rfl

theorem SK1 (r : Fin 1024) : ((runB.sl.v457 (F := Ideal) c i arg1 harg1 arg2 harg2 arg3 harg3 arg4 harg4 arg5 harg5 arg6 harg6 arg7 harg7 x0 x1 x2 x3 x4 x5 x6) (ix2 r 0) : EReal) = SK (i 0).val (at2 x1) (two (at2 x2) (at2 x3)) (two (at2 x4) (at2 x5)) (at2 x6) (at1 x0) (8 + r.val / 128) (r.val % 128) := by
  simp only [runB.sl.v457, runB.sl.v452, runB.sl.v444, runB.sl.v443, runB.sl.v439, runB.sl.v438, runB.sl.v437, runB.sl.v449, runB.sl.v448, runB.sl.cst_124, runB.sl.v447, runB.sl.v446, runB.sl.v445, runB.sl.v442, runB.sl.v441, runB.sl.v440]
  pointwise []
  simp only [SC1, Z1, DR1, ofBits_bot]
  rfl

theorem DS1 (r : Fin 1024) (k : Fin 256) : ((runB.sl.v559 (F := Ideal) c i arg1 harg1 arg2 harg2 arg3 harg3 arg4 harg4 arg5 harg5 arg6 harg6 arg7 harg7 x0 x1 x2 x3 x4 x5 x6) (ix2 r k) : EReal) = DS (i 0).val (at2 x1) (two (at2 x2) (at2 x3)) (two (at2 x4) (at2 x5)) (at2 x6) (at1 x0) (8 + r.val / 128) (r.val % 128) k := by
  simp only [runB.sl.v559, runB.sl.v558, runB.sl.v556, runB.sl.v555, runB.sl.v554, runB.sl.v276, runB.sl.cst_75]
  pointwise []
  simp only [PN1, DP1, DR1, ofBits_eighth]
  rfl

theorem DQ1 (r : Fin 1024) (l : Fin 128) : ((runB.sl.v560 (F := Ideal) c i arg1 harg1 arg2 harg2 arg3 harg3 arg4 harg4 arg5 harg5 arg6 harg6 arg7 harg7 x0 x1 x2 x3 x4 x5 x6) (ix2 r l) : EReal) = dqv (i 0).val (at2 x1) (two (at2 x2) (at2 x3)) (two (at2 x4) (at2 x5)) (at2 x6) (at1 x0) (r.val % 128) (64 * (8 + r.val / 128) + l.val % 64) := by
  have h0 : r.val < 1024 := r.isLt
  have h1 : (64 * (8 + r.val / 128) + l.val % 64) / 64 = 8 + r.val / 128 := by omega
  have h2 : (64 * (8 + r.val / 128) + l.val % 64) % 64 = l.val % 64 := by omega
  have h3 : (8 + r.val / 128) / 8 = 1 := by omega
  simp only [runB.sl.v560, runB.sl.cst_76]
  pointwise []
  unfold dqv
  rw [h1, h2, h3]
  refine Finset.sum_congr rfl fun k _ => ?_
  rw [DS1, K1]

theorem DK1 (k : Fin 256) (l : Fin 128) : ((runB.sl.v593 (F := Ideal) c i arg1 harg1 arg2 harg2 arg3 harg3 arg4 harg4 arg5 harg5 arg6 harg6 arg7 harg7 x0 x1 x2 x3 x4 x5 x6) (ix2 k l) : EReal)
    = ∑ g : Fin 8, ∑ q : Fin 128, DS (i 0).val (at2 x1) (two (at2 x2) (at2 x3)) (two (at2 x4) (at2 x5)) (at2 x6) (at1 x0) (8 + g.val) q.val k * (at2 x1) q.val (64 * (8 + g.val) + l.val % 64) := by
  have h1 : l.val < 128 := l.isLt
  simp only [runB.sl.v593, runB.sl.v589, runB.sl.cst_85, runB.sl.v592]
  pointwise []
  have e1 : ∀ r : Fin 1024, ((runB.sl.v559 (F := Ideal) c i arg1 harg1 arg2 harg2 arg3 harg3 arg4 harg4 arg5 harg5 arg6 harg6 arg7 harg7 x0 x1 x2 x3 x4 x5 x6) (ix2 r k) : EReal) * (runB.sl.v369 (F := Ideal) c arg2 harg2 x1) (ix2 r l)
      = DS (i 0).val (at2 x1) (two (at2 x2) (at2 x3)) (two (at2 x4) (at2 x5)) (at2 x6) (at1 x0) (8 + r.val / 128) (r.val % 128) k * (if (l.val < 64 ↔ r.val / 128 % 2 = 0) then (at2 x1) (r.val % 128) (64 * (8 + r.val / 128) + l.val % 64) else 0) := by
    intro r
    rw [DS1, Q1]
  have e2 : ∀ (r : Fin 1024) (p : (l.val + 128 - 64) % 128 < 128), ((runB.sl.v559 (F := Ideal) c i arg1 harg1 arg2 harg2 arg3 harg3 arg4 harg4 arg5 harg5 arg6 harg6 arg7 harg7 x0 x1 x2 x3 x4 x5 x6) (ix2 r k) : EReal) * (runB.sl.v369 (F := Ideal) c arg2 harg2 x1) (ix2 r ⟨(l.val + 128 - 64) % 128, p⟩)
      = DS (i 0).val (at2 x1) (two (at2 x2) (at2 x3)) (two (at2 x4) (at2 x5)) (at2 x6) (at1 x0) (8 + r.val / 128) (r.val % 128) k * (if ((l.val + 128 - 64) % 128 < 64 ↔ r.val / 128 % 2 = 0) then (at2 x1) (r.val % 128) (64 * (8 + r.val / 128) + l.val % 64) else 0) := by
    intro r p
    rw [DS1, Q1]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => DS (i 0).val (at2 x1) (two (at2 x2) (at2 x3)) (two (at2 x4) (at2 x5)) (at2 x6) (at1 x0) (8 + r / 128) (r % 128) k) (fun r => (at2 x1) (r % 128) (64 * (8 + r / 128) + l.val % 64)) (fun r => l.val < 64 ↔ r / 128 % 2 = 0) (fun r => (l.val + 128 - 64) % 128 < 64 ↔ r / 128 % 2 = 0) fun r => by omega).trans ?_
  refine (sum_rows fun r => DS (i 0).val (at2 x1) (two (at2 x2) (at2 x3)) (two (at2 x4) (at2 x5)) (at2 x6) (at1 x0) (8 + r / 128) (r % 128) k * (at2 x1) (r % 128) (64 * (8 + r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem DV1 (k : Fin 256) (l : Fin 128) : ((runB.sl.v595 (F := Ideal) c i arg1 harg1 arg2 harg2 arg3 harg3 arg4 harg4 arg7 harg7 x0 x1 x2 x3 x6) (ix2 k l) : EReal)
    = ∑ g : Fin 8, ∑ q : Fin 128, PN (i 0).val (at2 x1) (two (at2 x2) (at2 x3)) (at1 x0) (8 + g.val) q.val k * (at2 x6) q.val (64 * (8 + g.val) + l.val % 64) := by
  have h1 : l.val < 128 := l.isLt
  simp only [runB.sl.v595, runB.sl.v591, runB.sl.v590, runB.sl.cst_85, runB.sl.v594]
  pointwise []
  have e1 : ∀ r : Fin 1024, ((runB.sl.v451 (F := Ideal) c i arg1 harg1 arg2 harg2 arg3 harg3 arg4 harg4 x0 x1 x2 x3) (ix2 r k) : EReal) * (runB.sl.r_24 (F := Ideal) c arg7 harg7 x6) (ix2 r l)
      = PN (i 0).val (at2 x1) (two (at2 x2) (at2 x3)) (at1 x0) (8 + r.val / 128) (r.val % 128) k * (if (l.val < 64 ↔ r.val / 128 % 2 = 0) then (at2 x6) (r.val % 128) (64 * (8 + r.val / 128) + l.val % 64) else 0) := by
    intro r
    rw [PN1, C1]
  have e2 : ∀ (r : Fin 1024) (p : (l.val + 128 - 64) % 128 < 128), ((runB.sl.v451 (F := Ideal) c i arg1 harg1 arg2 harg2 arg3 harg3 arg4 harg4 x0 x1 x2 x3) (ix2 r k) : EReal) * (runB.sl.r_24 (F := Ideal) c arg7 harg7 x6) (ix2 r ⟨(l.val + 128 - 64) % 128, p⟩)
      = PN (i 0).val (at2 x1) (two (at2 x2) (at2 x3)) (at1 x0) (8 + r.val / 128) (r.val % 128) k * (if ((l.val + 128 - 64) % 128 < 64 ↔ r.val / 128 % 2 = 0) then (at2 x6) (r.val % 128) (64 * (8 + r.val / 128) + l.val % 64) else 0) := by
    intro r p
    rw [PN1, C1]
    have : (l.val + 128 - 64) % 128 % 64 = l.val % 64 := by omega
    dsimp only
    rw [this]
  refine (congrArg₂ (· + ·) (Finset.sum_congr rfl fun r _ => e1 r) (Finset.sum_congr rfl fun r _ => e2 r _)).trans ?_
  refine (sum_halves (fun r => PN (i 0).val (at2 x1) (two (at2 x2) (at2 x3)) (at1 x0) (8 + r / 128) (r % 128) k) (fun r => (at2 x6) (r % 128) (64 * (8 + r / 128) + l.val % 64)) (fun r => l.val < 64 ↔ r / 128 % 2 = 0) (fun r => (l.val + 128 - 64) % 128 < 64 ↔ r / 128 % 2 = 0) fun r => by omega).trans ?_
  refine (sum_rows fun r => PN (i 0).val (at2 x1) (two (at2 x2) (at2 x3)) (at1 x0) (8 + r / 128) (r % 128) k * (at2 x6) (r % 128) (64 * (8 + r / 128) + l.val % 64)).trans ?_
  refine Finset.sum_congr rfl fun g _ => Finset.sum_congr rfl fun q _ => ?_
  have hq := q.isLt
  rw [show (128 * g.val + q.val) / 128 = g.val by omega, show (128 * g.val + q.val) % 128 = q.val by omega]

theorem dq4 (q l : Fin 128) : ((runB.sl.v566 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (512 + l.val) := by
  have h0 : q.val < 128 := q.isLt
  have h1 : l.val < 128 := l.isLt
  simp only [runB.sl.v566, runB.sl.v565, runB.sl.v35, runB.sl.v23, runB.sl.v24, runB.sl.v561, runB.sl.v562]
  pointwise []
  simp only [slt_lane _ h1, DQ1]
  split_ifs <;> (congr 1 <;> omega)

theorem dq5 (q l : Fin 128) : ((runB.sl.v573 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (640 + l.val) := by
  have h0 : q.val < 128 := q.isLt
  have h1 : l.val < 128 := l.isLt
  simp only [runB.sl.v573, runB.sl.v572, runB.sl.v35, runB.sl.v23, runB.sl.v24, runB.sl.v568, runB.sl.v569]
  pointwise []
  simp only [slt_lane _ h1, DQ1]
  split_ifs <;> (congr 1 <;> omega)

theorem dq6 (q l : Fin 128) : ((runB.sl.v580 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (768 + l.val) := by
  have h0 : q.val < 128 := q.isLt
  have h1 : l.val < 128 := l.isLt
  simp only [runB.sl.v580, runB.sl.v579, runB.sl.v35, runB.sl.v23, runB.sl.v24, runB.sl.v575, runB.sl.v576]
  pointwise []
  simp only [slt_lane _ h1, DQ1]
  split_ifs <;> (congr 1 <;> omega)

theorem dq7 (q l : Fin 128) : ((runB.sl.v587 (F := Ideal) c i arg1 harg1 arg2 harg2 arg3 harg3 arg4 harg4 arg5 harg5 arg6 harg6 arg7 harg7 x0 x1 x2 x3 x4 x5 x6) (ix2 q l) : EReal) = dqv (i 0).val (at2 x1) (two (at2 x2) (at2 x3)) (two (at2 x4) (at2 x5)) (at2 x6) (at1 x0) q.val (896 + l.val) := by
  have h0 : q.val < 128 := q.isLt
  have h1 : l.val < 128 := l.isLt
  simp only [runB.sl.v587, runB.sl.v586, runB.sl.v35, runB.sl.v23, runB.sl.v24, runB.sl.v582, runB.sl.v583]
  pointwise []
  simp only [slt_lane _ h1, DQ1]
  split_ifs <;> (congr 1 <;> omega)

theorem dk (k : Fin 256) (l : Fin 128) : ((runB.sl.v598 (F := Ideal) c i arg1 harg1 arg2 harg2 arg3 harg3 arg4 harg4 arg5 harg5 arg6 harg6 arg7 harg7 x0 x1 x2 x3 x4 x5 x6) (ix2 k l) : EReal) = dkv (i 0).val (at2 x1) (two (at2 x2) (at2 x3)) (two (at2 x4) (at2 x5)) (at2 x6) (at1 x0) k l.val := by
  have h1 : l.val < 128 := l.isLt
  simp only [runB.sl.v598, runB.sl.v35, runB.sl.v23, runB.sl.v24]
  pointwise []
  simp only [slt_lane _ h1, DK0, DK1]
  unfold dkv
  split_ifs with hl
  · rw [show l.val / 64 = 0 by omega]
    simp only [Nat.mul_zero, Nat.zero_add]
  · rw [show l.val / 64 = 1 by omega]

theorem dv (k : Fin 256) (l : Fin 128) : ((runB.sl.v601 (F := Ideal) c i arg1 harg1 arg2 harg2 arg3 harg3 arg4 harg4 arg7 harg7 x0 x1 x2 x3 x6) (ix2 k l) : EReal) = dvv (i 0).val (at2 x1) (two (at2 x2) (at2 x3)) (at2 x6) (at1 x0) k l.val := by
  have h1 : l.val < 128 := l.isLt
  simp only [runB.sl.v601, runB.sl.v35, runB.sl.v23, runB.sl.v24]
  pointwise []
  simp only [slt_lane _ h1, DV0, DV1]
  unfold dvv
  split_ifs with hl
  · rw [show l.val / 64 = 0 by omega]
    simp only [Nat.mul_zero, Nat.zero_add]
  · rw [show l.val / 64 = 1 by omega]

theorem dsink (l : Fin 128) : ((runB.sl.v553 (F := Ideal) c i arg1 harg1 arg2 harg2 arg3 harg3 arg4 harg4 arg5 harg5 arg6 harg6 arg7 harg7 x0 x1 x2 x3 x4 x5 x6) (ix2 0 l) : EReal) = dsv (i 0).val (at2 x1) (two (at2 x2) (at2 x3)) (two (at2 x4) (at2 x5)) (at2 x6) (at1 x0) l.val := by
  have h1 : l.val < 128 := l.isLt
  have m0 : ∀ q : Fin 128, q.val / 128 = 0 ∧ q.val % 128 = q.val := fun q => by have := q.isLt; omega
  have m1 : ∀ q : Fin 128, (128 + q.val) / 128 = 1 ∧ (128 + q.val) % 128 = q.val := fun q => by have := q.isLt; omega
  have m2 : ∀ q : Fin 128, (256 + q.val) / 128 = 2 ∧ (256 + q.val) % 128 = q.val := fun q => by have := q.isLt; omega
  have m3 : ∀ q : Fin 128, (384 + q.val) / 128 = 3 ∧ (384 + q.val) % 128 = q.val := fun q => by have := q.isLt; omega
  have m4 : ∀ q : Fin 128, (512 + q.val) / 128 = 4 ∧ (512 + q.val) % 128 = q.val := fun q => by have := q.isLt; omega
  have m5 : ∀ q : Fin 128, (640 + q.val) / 128 = 5 ∧ (640 + q.val) % 128 = q.val := fun q => by have := q.isLt; omega
  have m6 : ∀ q : Fin 128, (768 + q.val) / 128 = 6 ∧ (768 + q.val) % 128 = q.val := fun q => by have := q.isLt; omega
  have m7 : ∀ q : Fin 128, (896 + q.val) / 128 = 7 ∧ (896 + q.val) % 128 = q.val := fun q => by have := q.isLt; omega
  simp only [runB.sl.v553, runB.sl.v541, runB.sl.v529, runB.sl.v517, runB.sl.v505, runB.sl.v493, runB.sl.v481, runB.sl.v469, runB.sl.v272, runB.sl.v260, runB.sl.v248, runB.sl.v236, runB.sl.v224, runB.sl.v212, runB.sl.v200, runB.sl.v188, runB.sl.v33, runB.sl.cst, runB.sl.v187, runB.sl.v23, runB.sl.v177, runB.sl.v185, runB.sl.v184, runB.sl.v183, runB.sl.v182, runB.sl.v181, runB.sl.v180, runB.sl.v179, runB.sl.v199, runB.sl.v189, runB.sl.v197, runB.sl.v196, runB.sl.v195, runB.sl.v194, runB.sl.v193, runB.sl.v192, runB.sl.v191, runB.sl.v211, runB.sl.v201, runB.sl.v209, runB.sl.v208, runB.sl.v207, runB.sl.v206, runB.sl.v205, runB.sl.v204, runB.sl.v203, runB.sl.v223, runB.sl.v213, runB.sl.v221, runB.sl.v220, runB.sl.v219, runB.sl.v218, runB.sl.v217, runB.sl.v216, runB.sl.v215, runB.sl.v235, runB.sl.v225, runB.sl.v233, runB.sl.v232, runB.sl.v231, runB.sl.v230, runB.sl.v229, runB.sl.v228, runB.sl.v227, runB.sl.v247, runB.sl.v237, runB.sl.v245, runB.sl.v244, runB.sl.v243, runB.sl.v242, runB.sl.v241, runB.sl.v240, runB.sl.v239, runB.sl.v259, runB.sl.v249, runB.sl.v257, runB.sl.v256, runB.sl.v255, runB.sl.v254, runB.sl.v253, runB.sl.v252, runB.sl.v251, runB.sl.v271, runB.sl.v261, runB.sl.v269, runB.sl.v268, runB.sl.v267, runB.sl.v266, runB.sl.v265, runB.sl.v264, runB.sl.v263, runB.sl.v468, runB.sl.v458, runB.sl.v466, runB.sl.v465, runB.sl.v464, runB.sl.v463, runB.sl.v462, runB.sl.v461, runB.sl.v460, runB.sl.v480, runB.sl.v470, runB.sl.v478, runB.sl.v477, runB.sl.v476, runB.sl.v475, runB.sl.v474, runB.sl.v473, runB.sl.v472, runB.sl.v492, runB.sl.v482, runB.sl.v490, runB.sl.v489, runB.sl.v488, runB.sl.v487, runB.sl.v486, runB.sl.v485, runB.sl.v484, runB.sl.v504, runB.sl.v494, runB.sl.v502, runB.sl.v501, runB.sl.v500, runB.sl.v499, runB.sl.v498, runB.sl.v497, runB.sl.v496, runB.sl.v516, runB.sl.v506, runB.sl.v514, runB.sl.v513, runB.sl.v512, runB.sl.v511, runB.sl.v510, runB.sl.v509, runB.sl.v508, runB.sl.v528, runB.sl.v518, runB.sl.v526, runB.sl.v525, runB.sl.v524, runB.sl.v523, runB.sl.v522, runB.sl.v521, runB.sl.v520, runB.sl.v540, runB.sl.v530, runB.sl.v538, runB.sl.v537, runB.sl.v536, runB.sl.v535, runB.sl.v534, runB.sl.v533, runB.sl.v532, runB.sl.v552, runB.sl.v542, runB.sl.v550, runB.sl.v549, runB.sl.v548, runB.sl.v547, runB.sl.v546, runB.sl.v545, runB.sl.v544]
  pointwise []
  simp only [SK0, SK1, (m0 _).1, (m0 _).2, (m1 _).1, (m1 _).2, (m2 _).1, (m2 _).2, (m3 _).1, (m3 _).2, (m4 _).1, (m4 _).2, (m5 _).1, (m5 _).2, (m6 _).1, (m6 _).2, (m7 _).1, (m7 _).2, Finset.sum_const, Finset.card_univ, Fintype.card_fin, one_smul]
  simp only [eq_lane l.val 0 h1 (by omega), eq_lane l.val 1 h1 (by omega), eq_lane l.val 2 h1 (by omega), eq_lane l.val 3 h1 (by omega), eq_lane l.val 4 h1 (by omega), eq_lane l.val 5 h1 (by omega), eq_lane l.val 6 h1 (by omega), eq_lane l.val 7 h1 (by omega), eq_lane l.val 8 h1 (by omega), eq_lane l.val 9 h1 (by omega), eq_lane l.val 10 h1 (by omega), eq_lane l.val 11 h1 (by omega), eq_lane l.val 12 h1 (by omega), eq_lane l.val 13 h1 (by omega), eq_lane l.val 14 h1 (by omega), eq_lane l.val 15 h1 (by omega)]
  have key := lanes16 (fun l => 0 - ∑ q : Fin 128, SK (i 0).val (at2 x1) (two (at2 x2) (at2 x3)) (two (at2 x4) (at2 x5)) (at2 x6) (at1 x0) l q.val) l.val
  simp only [zero_add, Nat.reduceAdd] at key ⊢
  unfold dsv
  exact key

end Cert.SwaBwdIdeal.BlkB
-- ==== Proof.SwaCross.lean ====
/- A block's gradients do not look at the keys and values the mask hides, and are the derivative's own terms. -/
module

public import proofs.«01_k».proof.Proof.SwaBlk

@[expose] public section

noncomputable section

open Idealize.ShloMosaic

namespace Cert.SwaRow

/-- Rows of block `b` of a matrix, `w` columns from column `o`. -/
def blk (X : ℕ → ℕ → EReal) (o w b : ℕ) (q c : ℕ) : EReal := if q < 128 ∧ c < w then X (128 * b + q) (o + c) else 0

/-- The block before and the block, as the reference has them: zeros before the first. -/
def keysR (X : ℕ → ℕ → EReal) (o b : ℕ) : ℕ → ℕ → EReal :=
  two (fun k l => if b = 0 then 0 else blk X o 128 (b - 1) k l) (blk X o 128 b)

/-- The block before and the block, as the kernel has them: the first before the first. -/
def keysK (X : ℕ → ℕ → EReal) (o b : ℕ) : ℕ → ℕ → EReal := two (blk X o 128 (b - 1)) (blk X o 128 b)

theorem keys_eq (X : ℕ → ℕ → EReal) (o b k l : ℕ) (h : 0 < b ∨ 128 ≤ k) : keysK X o b k l = keysR X o b k l := by
  unfold keysK keysR two
  split_ifs with h1 h2
  · omega
  · rfl
  · rfl

/-- Every element is a real number. -/
def Re (f : ℕ → ℕ → EReal) : Prop := ∀ i j, ∃ r : ℝ, f i j = (r : EReal)

theorem Re.blk {X : ℕ → ℕ → EReal} (h : Re X) (o w b : ℕ) : Re (blk X o w b) := by
  intro q c
  unfold Cert.SwaRow.blk
  split_ifs
  · exact h _ _
  · exact ⟨0, rfl⟩

theorem Re.two {P C : ℕ → ℕ → EReal} (hP : Re P) (hC : Re C) : Re (two P C) := by
  intro k l
  unfold Cert.SwaRow.two
  split_ifs
  · exact hP _ _
  · exact hC _ _

theorem Re.keysR {X : ℕ → ℕ → EReal} (h : Re X) (o b : ℕ) : Re (keysR X o b) := by
  refine Re.two ?_ (h.blk _ _ _)
  intro k l
  dsimp only
  split_ifs
  · exact ⟨0, rfl⟩
  · exact h.blk _ _ _ _ _

theorem Re.keysK {X : ℕ → ℕ → EReal} (h : Re X) (o b : ℕ) : Re (keysK X o b) := Re.two (h.blk _ _ _) (h.blk _ _ _)

variable {b : ℕ} {Q K K' V V' C : ℕ → ℕ → EReal} {Z : ℕ → EReal}

theorem W_real (hQ : Re Q) (hK : Re K) (e q : ℕ) :
    ∃ s : Fin 256 → ℝ, ∀ k : Fin 256, W b Q K e q k = if ok b q k then ((s k : ℝ) : EReal) else ⊥ := by
  choose Q' hQ using hQ
  choose K' hK using hK
  refine ⟨fun k => (∑ d : Fin 64, Q' q (64 * e + d) * K' k (64 * (e / 8) + d)) * (1 / 8), fun k => ?_⟩
  unfold W
  simp only [hQ, hK, ← EReal.coe_mul, coe_sum]

theorem DP_real (hV : Re V) (hC : Re C) (e q : ℕ) : ∃ d : Fin 256 → ℝ, ∀ k : Fin 256, DP V C e q k = ((d k : ℝ) : EReal) := by
  choose V' hV using hV
  choose C' hC using hC
  refine ⟨fun k => ∑ d : Fin 64, C' q (64 * e + d) * V' k (64 * (e / 8) + d), fun k => ?_⟩
  unfold DP
  simp only [hV, hC, ← EReal.coe_mul, coe_sum]

theorem W_cross (hk : ∀ k l, (0 < b ∨ 128 ≤ k) → K k l = K' k l) (e q k : ℕ) : W b Q K e q k = W b Q K' e q k := by
  unfold W
  split_ifs with h
  · have : ∀ l, K k l = K' k l := fun l => hk k l h.2.2
    simp only [this]
  · rfl

theorem DP_cross (hv : ∀ k l, (0 < b ∨ 128 ≤ k) → V k l = V' k l) (e q k : ℕ) (h : ok b q k) : DP V C e q k = DP V' C e q k := by
  unfold DP
  have : ∀ l, V k l = V' k l := fun l => hv k l h.2.2
  simp only [this]

/-- The terms of the derivative, in one row. -/
theorem derivative (hQ : Re Q) (hK : Re K) (hV : Re V) (hC : Re C) (hZ : ∀ e, ∃ r : ℝ, Z e = (r : EReal)) (e q : ℕ) :
    (∀ k : Fin 256, PN b Q K Z e q k = Ideal.div (ex (fun k : Fin 256 => W b Q K e q k) (Z e) k) (den (fun k : Fin 256 => W b Q K e q k) (Z e)))
    ∧ (∀ k : Fin 256, ¬ ok b q k → PN b Q K Z e q k = 0)
    ∧ (∀ k : Fin 256, ¬ ok b q k → DS b Q K V C Z e q k = 0)
    ∧ (∀ k : Fin 256, ok b q k → DS b Q K V C Z e q k = gs (fun k : Fin 256 => W b Q K e q k) (fun k : Fin 256 => DP V C e q k) (Z e) k * ((1 / 8 : ℝ) : EReal))
    ∧ (∃ r : ℝ, SK b Q K V C Z e q = (r : EReal) ∧ gk (fun k : Fin 256 => W b Q K e q k) (fun k : Fin 256 => DP V C e q k) (Z e) = ((-r : ℝ) : EReal))
    ∧ gm (fun k : Fin 256 => W b Q K e q k) (fun k : Fin 256 => DP V C e q k) (Z e) = 0 := by
  obtain ⟨s, hs⟩ := W_real (b := b) hQ hK e q
  obtain ⟨d, hd⟩ := DP_real hV hC e q
  obtain ⟨z, hz⟩ := hZ e
  exact row (fun k : Fin 256 => ok b q k) s d d z hs hz hd hd fun k _ => rfl

/-- What the mask hides does not count, in one row. -/
theorem hidden (hQ : Re Q) (hK : Re K) (hV : Re V) (hV' : Re V') (hC : Re C) (hZ : ∀ e, ∃ r : ℝ, Z e = (r : EReal))
    (hk : ∀ k l, (0 < b ∨ 128 ≤ k) → K k l = K' k l) (hv : ∀ k l, (0 < b ∨ 128 ≤ k) → V k l = V' k l) (e q : ℕ) :
    (∀ k : Fin 256, PN b Q K Z e q k = PN b Q K' Z e q k) ∧ (∀ k : Fin 256, ¬ ok b q k → DS b Q K V C Z e q k = 0)
    ∧ (∀ k : Fin 256, DS b Q K V C Z e q k = DS b Q K' V' C Z e q k) ∧ SK b Q K V C Z e q = SK b Q K' V' C Z e q := by
  obtain ⟨s, hs⟩ := W_real (b := b) hQ hK e q
  obtain ⟨d, hd⟩ := DP_real hV hC e q
  obtain ⟨d', hd'⟩ := DP_real hV' hC e q
  obtain ⟨z, hz⟩ := hZ e
  have hW : (fun k : Fin 256 => W b Q K' e q k) = fun k : Fin 256 => W b Q K e q k := funext fun k => (W_cross hk e q k).symm
  have hdd : ∀ k : Fin 256, ok b q k → d k = d' k := fun k h => by
    have := DP_cross (C := C) hv e q k h
    rw [hd, hd'] at this
    exact EReal.coe_injective this
  obtain ⟨-, a2, a3, a4, ⟨r, a5, a5'⟩, -⟩ := row (fun k : Fin 256 => ok b q k) s d d' z hs hz hd hd' hdd
  obtain ⟨-, b2, b3, b4, ⟨r', b5, b5'⟩, -⟩ := row (fun k : Fin 256 => ok b q k) s d' d' z hs hz hd' hd' fun k _ => rfl
  refine ⟨fun k => by unfold PN; rw [hW], a3, fun k => ?_, ?_⟩
  · show ds _ _ _ k = ds _ _ _ k
    rw [hW]
    by_cases h : ok b q k
    · rw [a4 k h, b4 k h]
    · rw [a3 k h, b3 k h]
  · show sk _ _ _ = sk _ _ _
    rw [hW, a5, b5]
    rw [a5'] at b5'
    have := EReal.coe_injective b5'
    congr 1
    linarith

section Cross

variable (hQ : Re Q) (hK : Re K) (hV : Re V) (hV' : Re V') (hC : Re C) (hZ : ∀ e, ∃ r : ℝ, Z e = (r : EReal))
  (hk : ∀ k l, (0 < b ∨ 128 ≤ k) → K k l = K' k l) (hv : ∀ k l, (0 < b ∨ 128 ≤ k) → V k l = V' k l)

include hQ hK hV hV' hC hZ hk hv

theorem dqv_cross (q c : ℕ) : dqv b Q K V C Z q c = dqv b Q K' V' C Z q c := by
  unfold dqv
  obtain ⟨-, h2, h3, -⟩ := hidden hQ hK hV hV' hC hZ hk hv (c / 64) q
  refine Finset.sum_congr rfl fun k _ => ?_
  by_cases h : ok b q k
  · rw [h3 k, hk k _ h.2.2]
  · rw [← h3 k, h2 k h, zero_mul, zero_mul]

theorem dkv_cross (k : Fin 256) (l : ℕ) : dkv b Q K V C Z k l = dkv b Q K' V' C Z k l := by
  unfold dkv
  refine Finset.sum_congr rfl fun g _ => Finset.sum_congr rfl fun q _ => ?_
  rw [(hidden hQ hK hV hV' hC hZ hk hv _ _).2.2.1 k]

theorem dvv_cross (k : Fin 256) (l : ℕ) : dvv b Q K C Z k l = dvv b Q K' C Z k l := by
  unfold dvv
  refine Finset.sum_congr rfl fun g _ => Finset.sum_congr rfl fun q _ => ?_
  rw [(hidden hQ hK hV hV' hC hZ hk hv _ _).1 k]

theorem dsv_cross (l : ℕ) : dsv b Q K V C Z l = dsv b Q K' V' C Z l := by
  unfold dsv
  split_ifs
  · congr 1
    exact Finset.sum_congr rfl fun q _ => (hidden hQ hK hV hV' hC hZ hk hv _ _).2.2.2
  · rfl

end Cross

end Cert.SwaRow
-- ==== Proof.SwaBwdIdealAcc.lean ====
/- The windowed attention's gradient over the grid: what the four results hold after every block. -/
module

import all proofs.«01_k».proof.Proof.SwaBwdIdealRun
import all proofs.«01_k».proof.Proof.SwaBwdIdealFrame
public import proofs.«01_k».proof.Proof.SwaBwdIdealFrame
public import proofs.«01_k».proof.Proof.SwaBwdIdealBlkA
public import proofs.«01_k».proof.Proof.SwaBwdIdealBlkB
public import proofs.«01_k».proof.Proof.SwaCross
public import Idealize.ShloMosaic.Lib.Pipeline.ValueKit
public import Idealize.ShloMosaic.Lib.WholeRead
public import Idealize.ShloMosaic.Lib.WritesUnit

@[expose] public section

set_option maxRecDepth 16384

noncomputable section

open Idealize.ShloMosaic Idealize.ShloMosaic.TcCoe
open Idealize.ShloMosaic.Pipeline (Dat)

namespace Cert.SwaBwdIdeal.Acc

open Cert.SwaBwdIdeal Cert.SwaBwdIdeal.Gen Cert.SwaBwdIdeal.Hand Cert.SwaRow

variable (m : (ℓ : Loc nD τ sig) → Buf (Elt Ideal) ℓ) (c : Dev nD)

/-- Where each window's block lies, at every grid point. -/
theorem idx : ∀ t : Fin cfg0.N, win0_0.index t = ![0] ∧ win0_1.index t = ![t.val, 3] ∧ win0_2.index t = ![t.val - 1, 32]
    ∧ win0_3.index t = ![t.val, 32] ∧ win0_4.index t = ![t.val - 1, 33] ∧ win0_5.index t = ![t.val, 33] ∧ win0_6.index t = ![t.val, 1]
    ∧ win0_7.index t = ![t.val, 0] ∧ win0_8.index t = ![0, 0] ∧ win0_9.index t = ![0, 0] ∧ win0_10.index t = ![0, 0] :=
  (by decide +kernel : ∀ t : Fin grid0.N, _)

/-- A grid point's one coordinate is its number. -/
theorem coord : ∀ t : Fin cfg0.N, ((grid0.coords t) 0).val = t.val := (by decide +kernel : ∀ t : Fin grid0.N, _)

/-- The projections, the cotangent, the sinks. -/
abbrev PX : Vec Ideal S4096x4480 .f32 := m ((c : Thread nD τ).loc main_arg0)
abbrev PC : Vec Ideal S4096x2048 .f32 := m ((c : Thread nD τ).loc main_arg1)
abbrev PZ : Vec Ideal S16 .f32 := m ((c : Thread nD τ).loc main_arg2)

theorem lt32 (t : Fin cfg0.N) : t.val < 32 := t.isLt

theorem w2 (t : Fin cfg0.N) (k l : Fin 128) :
    (iblk m c 2 t (ix2 k l) : EReal) = PX m c (ix2 ⟨128 * (t.val - 1) + k.val, by have := lt32 t; omega⟩ ⟨4096 + l.val, by omega⟩) := by
  have := lt32 t
  blk_point [iblk, V, idx t]

theorem w0 (t : Fin cfg0.N) (e : Fin 16) :
    (iblk m c 0 t (ix1 e) : EReal) = PZ m c (ix1 e) := by
  blk_point [iblk, V, idx t]

theorem w6 (t : Fin cfg0.N) (q : Fin 128) (l : Fin 1024) :
    (iblk m c 6 t (ix2 q l) : EReal) = PC m c (ix2 ⟨128 * t.val + q.val, by have := lt32 t; omega⟩ ⟨1024 + l.val, by omega⟩) := by
  have := lt32 t
  blk_point [iblk, V, idx t]

theorem w1 (t : Fin cfg0.N) (q : Fin 128) (l : Fin 1024) :
    (X0_1 m c t (ix2 q l) : EReal) = PX m c (ix2 ⟨128 * t.val + q.val, by have := lt32 t; omega⟩ ⟨3072 + l.val, by omega⟩) := by
  have := lt32 t
  unfold X0_1 Pipeline.Window.fill
  rw [dif_pos (moved0_1 t (ix2 q l))]
  blk_point [iblk, V, idx t]

theorem w3 (t : Fin cfg0.N) (k l : Fin 128) :
    (iblk m c 3 t (ix2 k l) : EReal) = PX m c (ix2 ⟨128 * t.val + k.val, by have := lt32 t; omega⟩ ⟨4096 + l.val, by omega⟩) := by
  have := lt32 t
  blk_point [iblk, V, idx t]

theorem w4 (t : Fin cfg0.N) (k l : Fin 128) :
    (iblk m c 4 t (ix2 k l) : EReal) = PX m c (ix2 ⟨128 * (t.val - 1) + k.val, by have := lt32 t; omega⟩ ⟨4224 + l.val, by omega⟩) := by
  have := lt32 t
  blk_point [iblk, V, idx t]

theorem w5 (t : Fin cfg0.N) (k l : Fin 128) :
    (iblk m c 5 t (ix2 k l) : EReal) = PX m c (ix2 ⟨128 * t.val + k.val, by have := lt32 t; omega⟩ ⟨4224 + l.val, by omega⟩) := by
  have := lt32 t
  blk_point [iblk, V, idx t]

/-- A block whose elements are those of an array is that array's block. -/
theorem blk_of {R C w : ℕ} (X : Vec Ideal ⟨2, ![R, C]⟩ .f32) (x : Vec Ideal ⟨2, ![128, w]⟩ .f32) (o b : ℕ) (hb : 128 * b + 128 ≤ R) (ho : o + w ≤ C)
    (h : ∀ (q : Fin 128) (l : Fin w), (x (ix2 q l) : EReal) = X (ix2 ⟨128 * b + q.val, by omega⟩ ⟨o + l.val, by omega⟩)) :
    at2 x = blk (at2 X) o w b := by
  funext q l
  unfold blk
  by_cases e : q < 128 ∧ l < w
  · rw [if_pos e, at2_lt x q l e.1 e.2, at2_lt X _ _ (by omega) (by omega)]
    exact h ⟨q, e.1⟩ ⟨l, e.2⟩
  · rw [if_neg e]
    unfold at2
    rw [dif_neg e]

theorem op1 (t : Fin cfg0.N) : at2 (a := 128) (b := 1024) (X0_1 m c t) = blk (at2 (PX m c)) 3072 1024 t.val :=
  blk_of (PX m c) _ _ _ (by have := lt32 t; omega) (by omega) (w1 m c t)
theorem op23 (t : Fin cfg0.N) : two (at2 (a := 128) (b := 128) (iblk m c 2 t)) (at2 (a := 128) (b := 128) (iblk m c 3 t)) = keysK (at2 (PX m c)) 4096 t.val := by
  rw [blk_of (PX m c) (iblk m c 2 t) 4096 (t.val - 1) (by have := lt32 t; omega) (by omega) (w2 m c t), blk_of (PX m c) (iblk m c 3 t) 4096 t.val (by have := lt32 t; omega) (by omega) (w3 m c t)]
  unfold keysK
  with_reducible rfl
theorem op45 (t : Fin cfg0.N) : two (at2 (a := 128) (b := 128) (iblk m c 4 t)) (at2 (a := 128) (b := 128) (iblk m c 5 t)) = keysK (at2 (PX m c)) 4224 t.val := by
  rw [blk_of (PX m c) (iblk m c 4 t) 4224 (t.val - 1) (by have := lt32 t; omega) (by omega) (w4 m c t), blk_of (PX m c) (iblk m c 5 t) 4224 t.val (by have := lt32 t; omega) (by omega) (w5 m c t)]
  unfold keysK
  with_reducible rfl
theorem op6 (t : Fin cfg0.N) : at2 (a := 128) (b := 1024) (iblk m c 6 t) = blk (at2 (PC m c)) 1024 1024 t.val :=
  blk_of (PC m c) _ _ _ (by have := lt32 t; omega) (by omega) (w6 m c t)
theorem op0 (t : Fin cfg0.N) : at1 (a := 16) (iblk m c 0 t) = at1 (PZ m c) := by
  funext e
  unfold at1
  split_ifs with h
  · exact w0 m c t ⟨e, h⟩
  · rfl

/-- The block's gradients, of the arguments. -/
abbrev Dq (b q l : ℕ) : EReal := dqv b (blk (at2 (PX m c)) 3072 1024 b) (keysK (at2 (PX m c)) 4096 b) (keysK (at2 (PX m c)) 4224 b) (blk (at2 (PC m c)) 1024 1024 b) (at1 (PZ m c)) q l
abbrev Dk (b : ℕ) (k : Fin 256) (l : ℕ) : EReal := dkv b (blk (at2 (PX m c)) 3072 1024 b) (keysK (at2 (PX m c)) 4096 b) (keysK (at2 (PX m c)) 4224 b) (blk (at2 (PC m c)) 1024 1024 b) (at1 (PZ m c)) k l
abbrev Dv (b : ℕ) (k : Fin 256) (l : ℕ) : EReal := dvv b (blk (at2 (PX m c)) 3072 1024 b) (keysK (at2 (PX m c)) 4096 b) (blk (at2 (PC m c)) 1024 1024 b) (at1 (PZ m c)) k l
abbrev Ds (b l : ℕ) : EReal := dsv b (blk (at2 (PX m c)) 3072 1024 b) (keysK (at2 (PX m c)) 4096 b) (keysK (at2 (PX m c)) 4224 b) (blk (at2 (PC m c)) 1024 1024 b) (at1 (PZ m c)) l

/-- A load of 128 rows of an accumulated gradient. -/
theorem rd {M : Memref sig .tc .vmem S4096x128 .f32} (f : M.view.ty.Contents (Elt Ideal)) {off : Fin 2 → ℕ} {o : ℕ} (hoff : off = ![o, 0])
    (inb : ∀ a : Fin 2, off a + (![128, 128] : Fin 2 → ℕ) a ≤ (![4096, 128] : Fin 2 → ℕ) a) (a b : Fin 128) (r : Fin 4096) (hr : r.val = o + a.val) :
    View.readAt (Elt Ideal) M.view (Rect.unit (s := S4096x128) off ![128, 128] inb).toLoadRect f (ix2 a b) = M.view.read (Elt Ideal) f (ix2 r b) := by
  subst hoff
  show M.view.read (Elt Ideal) f _ = _
  refine congrArg _ ?_
  funext d
  refine Fin.cases ?_ (fun d => Fin.cases ?_ (fun d => d.elim0) d) d
  · exact Fin.ext (by show o + 1 * a.val = r.val; omega)
  · exact Fin.ext (by show 0 + 1 * b.val = b.val; omega)

theorem off1 (t : Fin cfg0.N) : k0_off1 (grid0.coords t) = ![128 * t.val, 0] := by rw [k0_off1_eq, coord]
theorem off2 (t : Fin cfg0.N) (h : t.val ≠ 0) : k0_off2 (grid0.coords t) = ![128 * (t.val - 1), 0] := by rw [off2_eq _ ((later_iff t).mpr h), coord]

/-- The newest store, read at a row it holds, -/
theorem hit {M : Memref sig .tc .vmem S4096x128 .f32} (f : M.view.ty.Contents (Elt Ideal)) {off : Fin 2 → ℕ} {o : ℕ} (hoff : off = ![o, 0])
    (inb : ∀ a : Fin 2, off a + (![128, 128] : Fin 2 → ℕ) a ≤ (![4096, 128] : Fin 2 → ℕ) a) (w : S128x128.Idx → Elt Ideal .f32)
    (L : List (View.Piece (Elt Ideal) S4096x128 .f32)) (r : Fin 4096) (l q : Fin 128) (hr : r.val = o + q.val) :
    M.view.read (Elt Ideal) (M.view.writes (Elt Ideal) f (⟨Rect.unit (s := S4096x128) off ![128, 128] inb, w⟩ :: L)) (ix2 r l) = w (ix2 q l) :=
  View.read_writes_cons_rows_of_mem _ _ inb w L (ix2 r l : S4096x128.Idx) (ix2 q l : S128x128.Idx) hoff hr rfl
/-- and at a row it does not hold. -/
theorem miss {M : Memref sig .tc .vmem S4096x128 .f32} (f : M.view.ty.Contents (Elt Ideal)) {off : Fin 2 → ℕ} {o : ℕ} (hoff : off = ![o, 0])
    (inb : ∀ a : Fin 2, off a + (![128, 128] : Fin 2 → ℕ) a ≤ (![4096, 128] : Fin 2 → ℕ) a) (w : S128x128.Idx → Elt Ideal .f32)
    (L : List (View.Piece (Elt Ideal) S4096x128 .f32)) (r : Fin 4096) (l : Fin 128) (hr : r.val < o ∨ o + 128 ≤ r.val) :
    M.view.read (Elt Ideal) (M.view.writes (Elt Ideal) f (⟨Rect.unit (s := S4096x128) off ![128, 128] inb, w⟩ :: L)) (ix2 r l)
      = M.view.read (Elt Ideal) (M.view.writes (Elt Ideal) f L) (ix2 r l) :=
  View.read_writes_cons_rows_of_not_mem _ _ inb w L (ix2 r l : S4096x128.Idx) hoff rfl hr
/-- A store of every row. -/
theorem all {M : Memref sig .tc .vmem S4096x128 .f32} (f : M.view.ty.Contents (Elt Ideal))
    (inb : ∀ a : Fin 2, (![0, 0] : Fin 2 → ℕ) a + (![4096, 128] : Fin 2 → ℕ) a ≤ (![4096, 128] : Fin 2 → ℕ) a) (w : S4096x128.Idx → Elt Ideal .f32)
    (L : List (View.Piece (Elt Ideal) S4096x128 .f32)) (r : Fin 4096) (l : Fin 128) :
    M.view.read (Elt Ideal) (M.view.writes (Elt Ideal) f (⟨Rect.unit (s := S4096x128) ![0, 0] ![4096, 128] inb, w⟩ :: L)) (ix2 r l) = w (ix2 r l) :=
  View.read_writes_cons_rows_of_mem (o := 0) _ _ inb w L (ix2 r l : S4096x128.Idx) (ix2 r l : S4096x128.Idx) rfl (Nat.zero_add _).symm rfl
/-- A store of the whole row of the sinks' gradient. -/
theorem all1 {M : Memref sig .tc .vmem S1x128 .f32} (f : M.view.ty.Contents (Elt Ideal))
    (inb : ∀ a : Fin 2, (![0, 0] : Fin 2 → ℕ) a + (![1, 128] : Fin 2 → ℕ) a ≤ (![1, 128] : Fin 2 → ℕ) a) (w : S1x128.Idx → Elt Ideal .f32)
    (L : List (View.Piece (Elt Ideal) S1x128 .f32)) (l : Fin 128) :
    M.view.read (Elt Ideal) (M.view.writes (Elt Ideal) f (⟨Rect.unit (s := S1x128) ![0, 0] ![1, 128] inb, w⟩ :: L)) (ix2 0 l) = w (ix2 0 l) :=
  View.read_writes_cons_rows_of_mem (o := 0) _ _ inb w L (ix2 0 l : S1x128.Idx) (ix2 0 l : S1x128.Idx) rfl rfl rfl
/-- A load of it. -/
theorem rd1 {M : Memref sig .tc .vmem S1x128 .f32} (f : M.view.ty.Contents (Elt Ideal))
    (inb : ∀ a : Fin 2, (![0, 0] : Fin 2 → ℕ) a + (![1, 128] : Fin 2 → ℕ) a ≤ (![1, 128] : Fin 2 → ℕ) a) (l : Fin 128) :
    View.readAt (Elt Ideal) M.view (Rect.unit (s := S1x128) ![0, 0] ![1, 128] inb).toLoadRect f (ix2 0 l) = M.view.read (Elt Ideal) f (ix2 0 l) := by
  show M.view.read (Elt Ideal) f _ = _
  refine congrArg _ ?_
  funext d
  refine Fin.cases ?_ (fun d => Fin.cases ?_ (fun d => d.elim0) d) d
  · exact Fin.ext (by show 0 + 1 * 0 = 0; omega)
  · exact Fin.ext (by show 0 + 1 * l.val = l.val; omega)

theorem dkA (t : Fin cfg0.N) (k : Fin 256) (l : Fin 128) : (runA.sl.v598 (F := Ideal) c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (ix2 k l) : EReal) = Dk m c t.val k l.val := by
  rw [BlkA.dk, coord, op1, op23, op45, op6, op0]
theorem dvA (t : Fin cfg0.N) (k : Fin 256) (l : Fin 128) : (runA.sl.v601 (F := Ideal) c (grid0.coords t) (ms0 t) (hs0 t) (ms1 t) (hs1 t) (ms2 t) (hs2 t) (ms3 t) (hs3 t) (ms6 t) (hs6 t) (iblk m c 0 t) (X0_1 m c t) (iblk m c 2 t) (iblk m c 3 t) (iblk m c 6 t) (ix2 k l) : EReal) = Dv m c t.val k l.val := by
  rw [BlkA.dv, coord, op1, op23, op6, op0]
theorem dsA (t : Fin cfg0.N) (l : Fin 128) : (runA.sl.v553 (F := Ideal) c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (ix2 0 l) : EReal) = Ds m c t.val l.val := by
  rw [BlkA.dsink, coord, op1, op23, op45, op6, op0]

theorem dkB (t : Fin cfg0.N) (k : Fin 256) (l : Fin 128) : (runB.sl.v598 (F := Ideal) c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (ix2 k l) : EReal) = Dk m c t.val k l.val := by
  rw [BlkB.dk, coord, op1, op23, op45, op6, op0]
theorem dvB (t : Fin cfg0.N) (k : Fin 256) (l : Fin 128) : (runB.sl.v601 (F := Ideal) c (grid0.coords t) (ms0 t) (hs0 t) (ms1 t) (hs1 t) (ms2 t) (hs2 t) (ms3 t) (hs3 t) (ms6 t) (hs6 t) (iblk m c 0 t) (X0_1 m c t) (iblk m c 2 t) (iblk m c 3 t) (iblk m c 6 t) (ix2 k l) : EReal) = Dv m c t.val k l.val := by
  rw [BlkB.dv, coord, op1, op23, op6, op0]
theorem dsB (t : Fin cfg0.N) (l : Fin 128) : (runB.sl.v553 (F := Ideal) c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (ix2 0 l) : EReal) = Ds m c t.val l.val := by
  rw [BlkB.dsink, coord, op1, op23, op45, op6, op0]

theorem outB8 (t : Fin cfg0.N) (h : t.val ≠ 0) (o8 o9 : Vec Ideal S4096x128 .f32) (o10 : Vec Ideal S1x128 .f32) (r : Fin 4096) (l : Fin 128) :
    ((outB m c t h o8 o9 o10).2.1 (ix2 r l) : EReal)
      = if r.val / 128 = t.val then (o8 (ix2 r l) : EReal) + Dk m c t.val ⟨128 + r.val % 128, by omega⟩ l.val
        else if r.val / 128 + 1 = t.val then (o8 (ix2 r l) : EReal) + Dk m c t.val ⟨r.val % 128, by omega⟩ l.val else o8 (ix2 r l) := by
  have ht := lt32 t
  unfold outB piecesB runB
  dsimp only
  unfold runB.sl.H8_1
  by_cases e : r.val / 128 = t.val
  · rw [if_pos e]
    refine (miss _ (off2 t h) _ _ _ r l (Or.inr (by omega))).trans ?_
    refine (hit _ (off1 t) _ _ _ r l ⟨r.val % 128, by omega⟩ (by dsimp only; omega)).trans ?_
    pointwise [runB.sl.v612, runB.sl.v611, runB.sl.v610]
    rw [dkB]
    refine congrArg (fun a : EReal => a + _) ?_
    refine (rd _ (off1 t) _ _ _ r (by dsimp only; omega)).trans ?_
    rw [Memref.IsWhole.read_unread]
  · by_cases e' : r.val / 128 + 1 = t.val
    · rw [if_neg e, if_pos e']
      refine (hit _ (off2 t h) _ _ _ r l ⟨r.val % 128, by omega⟩ (by dsimp only; omega)).trans ?_
      pointwise [k0_pay2]
      rw [dkB]
      refine congrArg (fun a : EReal => a + _) ?_
      refine (rd _ (off2 t h) _ _ _ r (by dsimp only; omega)).trans ?_
      refine (miss _ (off1 t) _ _ _ r l (Or.inl (by omega))).trans ?_
      rw [View.writes_nil, Memref.IsWhole.read_unread]
    · rw [if_neg e, if_neg e']
      refine (miss _ (off2 t h) _ _ _ r l (by omega)).trans ?_
      refine (miss _ (off1 t) _ _ _ r l (by omega)).trans ?_
      rw [View.writes_nil, Memref.IsWhole.read_unread]

theorem outA8 (t : Fin cfg0.N) (h : t.val = 0) (r : Fin 4096) (l : Fin 128) :
    ((outA m c t h).2.1 (ix2 r l) : EReal)
      = if r.val / 128 = 0 then Dk m c t.val ⟨128 + r.val % 128, by omega⟩ l.val else 0 := by
  unfold outA piecesA runA
  dsimp only
  unfold runA.sl.H8_1
  by_cases e : r.val / 128 = 0
  · rw [if_pos e]
    refine (hit _ (off1 t) _ _ _ r l ⟨r.val % 128, by omega⟩ (by dsimp only; omega)).trans ?_
    pointwise [runA.sl.v612, runA.sl.v611, runA.sl.v610]
    rw [dkA]
    refine Eq.trans (congrArg (fun a : EReal => a + _) (a₂ := (0 : EReal)) ?_) (zero_add _)
    refine (rd _ (off1 t) _ _ _ r (by dsimp only; omega)).trans ?_
    unfold runA.sl.H8_1
    refine (all _ _ _ _ r l).trans ?_
    pointwise [runA.sl.v625, runA.sl.cst_176]
  · rw [if_neg e]
    refine (miss _ (off1 t) _ _ _ r l (by omega)).trans ?_
    refine (all _ _ _ _ r l).trans ?_
    pointwise [runA.sl.v625, runA.sl.cst_176]

theorem outB9 (t : Fin cfg0.N) (h : t.val ≠ 0) (o8 o9 : Vec Ideal S4096x128 .f32) (o10 : Vec Ideal S1x128 .f32) (r : Fin 4096) (l : Fin 128) :
    ((outB m c t h o8 o9 o10).2.2.1 (ix2 r l) : EReal)
      = if r.val / 128 = t.val then (o9 (ix2 r l) : EReal) + Dv m c t.val ⟨128 + r.val % 128, by omega⟩ l.val
        else if r.val / 128 + 1 = t.val then (o9 (ix2 r l) : EReal) + Dv m c t.val ⟨r.val % 128, by omega⟩ l.val else o9 (ix2 r l) := by
  have ht := lt32 t
  unfold outB piecesB runB
  dsimp only
  unfold runB.sl.H9_1
  by_cases e : r.val / 128 = t.val
  · rw [if_pos e]
    refine (miss _ (off2 t h) _ _ _ r l (Or.inr (by omega))).trans ?_
    refine (hit _ (off1 t) _ _ _ r l ⟨r.val % 128, by omega⟩ (by dsimp only; omega)).trans ?_
    pointwise [k0_pay1]
    rw [dvB]
    refine congrArg (fun a : EReal => a + _) ?_
    refine (rd _ (off1 t) _ _ _ r (by dsimp only; omega)).trans ?_
    rw [Memref.IsWhole.read_unread]
  · by_cases e' : r.val / 128 + 1 = t.val
    · rw [if_neg e, if_pos e']
      refine (hit _ (off2 t h) _ _ _ r l ⟨r.val % 128, by omega⟩ (by dsimp only; omega)).trans ?_
      pointwise [k0_pay3]
      rw [dvB]
      refine congrArg (fun a : EReal => a + _) ?_
      refine (rd _ (off2 t h) _ _ _ r (by dsimp only; omega)).trans ?_
      refine (miss _ (off1 t) _ _ _ r l (Or.inl (by omega))).trans ?_
      rw [View.writes_nil, Memref.IsWhole.read_unread]
    · rw [if_neg e, if_neg e']
      refine (miss _ (off2 t h) _ _ _ r l (by omega)).trans ?_
      refine (miss _ (off1 t) _ _ _ r l (by omega)).trans ?_
      rw [View.writes_nil, Memref.IsWhole.read_unread]

theorem outA9 (t : Fin cfg0.N) (h : t.val = 0) (r : Fin 4096) (l : Fin 128) :
    ((outA m c t h).2.2.1 (ix2 r l) : EReal)
      = if r.val / 128 = 0 then Dv m c t.val ⟨128 + r.val % 128, by omega⟩ l.val else 0 := by
  unfold outA piecesA runA
  dsimp only
  unfold runA.sl.H8_1
  by_cases e : r.val / 128 = 0
  · rw [if_pos e]
    refine (hit _ (off1 t) _ _ _ r l ⟨r.val % 128, by omega⟩ (by dsimp only; omega)).trans ?_
    pointwise [k0_pay1]
    rw [dvA]
    refine Eq.trans (congrArg (fun a : EReal => a + _) (a₂ := (0 : EReal)) ?_) (zero_add _)
    refine (rd _ (off1 t) _ _ _ r (by dsimp only; omega)).trans ?_

    refine (all _ _ _ _ r l).trans ?_
    pointwise [runA.sl.v625, runA.sl.cst_176]
  · rw [if_neg e]
    refine (miss _ (off1 t) _ _ _ r l (by omega)).trans ?_
    refine (all _ _ _ _ r l).trans ?_
    pointwise [runA.sl.v625, runA.sl.cst_176]

theorem outB10 (t : Fin cfg0.N) (h : t.val ≠ 0) (o8 o9 : Vec Ideal S4096x128 .f32) (o10 : Vec Ideal S1x128 .f32) (l : Fin 128) :
    ((outB m c t h o8 o9 o10).2.2.2 (ix2 0 l) : EReal) = (o10 (ix2 0 l) : EReal) + Ds m c t.val l.val := by
  unfold outB piecesB runB
  dsimp only
  refine (all1 _ _ _ _ l).trans ?_
  pointwise [runB.sl.v604, runB.sl.v603]
  rw [dsB]
  refine congrArg (fun a : EReal => a + _) ?_
  refine (rd1 _ _ l).trans ?_
  rw [Memref.IsWhole.read_unread]

theorem outA10 (t : Fin cfg0.N) (h : t.val = 0) (l : Fin 128) :
    ((outA m c t h).2.2.2 (ix2 0 l) : EReal) = Ds m c t.val l.val := by
  unfold outA piecesA runA
  dsimp only
  refine (all1 _ _ _ _ l).trans ?_
  pointwise [runA.sl.v604, runA.sl.v603]
  rw [dsA]
  refine Eq.trans (congrArg (fun a : EReal => a + _) (a₂ := (0 : EReal)) ?_) (zero_add _)
  unfold runA.sl.v602 runA.sl.H10_1
  refine (rd1 _ _ l).trans ?_
  refine (all1 _ _ _ _ l).trans ?_
  pointwise [runA.sl.v629, runA.sl.cst_176]

/-- The tile of the queries' gradient at a block. -/
def Gq (t : ℕ) : Vec Ideal S128x1024 .bf16 := fun y => Dq m c t (y 0).val (y 1).val

theorem outA7 (t : Fin cfg0.N) (h : t.val = 0) (q : Fin 128) (l : Fin 1024) :
    ((outA m c t h).1 (ix2 q l) : EReal) = Dq m c t.val q.val l.val := by
  unfold outA piecesA runA
  dsimp only
  have hl := l.isLt
  refine Eq.trans ?_ (show (Gq m c t.val (ix2 q l) : EReal) = Dq m c t.val q.val l.val from rfl)
  refine View.read_writes_apply_of_pieces (ms7 t).view _ (Gq m c t.val) _ ?_ (ix2 q l) ?_
  · simp only [List.forall_mem_cons]
    refine ⟨fun x => ?_, fun x => ?_, fun x => ?_, fun x => ?_, fun x => ?_, fun x => ?_, fun x => ?_, fun x => ?_, ?_⟩
    · refine (congrArg _ (show x = ix2 (x 0) (x 1) from by funext a; exact Fin.cases rfl (fun a => Fin.cases rfl (fun a => a.elim0) a) a)).trans ?_
      refine (BlkA.dq7 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 896 + (x 1).val = 896 + 1 * (x 1).val; omega
    · refine (congrArg _ (show x = ix2 (x 0) (x 1) from by funext a; exact Fin.cases rfl (fun a => Fin.cases rfl (fun a => a.elim0) a) a)).trans ?_
      refine (BlkA.dq6 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 768 + (x 1).val = 768 + 1 * (x 1).val; omega
    · refine (congrArg _ (show x = ix2 (x 0) (x 1) from by funext a; exact Fin.cases rfl (fun a => Fin.cases rfl (fun a => a.elim0) a) a)).trans ?_
      refine (BlkA.dq5 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 640 + (x 1).val = 640 + 1 * (x 1).val; omega
    · refine (congrArg _ (show x = ix2 (x 0) (x 1) from by funext a; exact Fin.cases rfl (fun a => Fin.cases rfl (fun a => a.elim0) a) a)).trans ?_
      refine (BlkA.dq4 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 512 + (x 1).val = 512 + 1 * (x 1).val; omega
    · refine (congrArg _ (show x = ix2 (x 0) (x 1) from by funext a; exact Fin.cases rfl (fun a => Fin.cases rfl (fun a => a.elim0) a) a)).trans ?_
      refine (BlkA.dq3 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 384 + (x 1).val = 384 + 1 * (x 1).val; omega
    · refine (congrArg _ (show x = ix2 (x 0) (x 1) from by funext a; exact Fin.cases rfl (fun a => Fin.cases rfl (fun a => a.elim0) a) a)).trans ?_
      refine (BlkA.dq2 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 256 + (x 1).val = 256 + 1 * (x 1).val; omega
    · refine (congrArg _ (show x = ix2 (x 0) (x 1) from by funext a; exact Fin.cases rfl (fun a => Fin.cases rfl (fun a => a.elim0) a) a)).trans ?_
      refine (BlkA.dq1 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 128 + (x 1).val = 128 + 1 * (x 1).val; omega
    · refine (congrArg _ (show x = ix2 (x 0) (x 1) from by funext a; exact Fin.cases rfl (fun a => Fin.cases rfl (fun a => a.elim0) a) a)).trans ?_
      refine (BlkA.dq0 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show (x 1).val = 0 + 1 * (x 1).val; omega
    · exact fun _ hp => absurd hp List.not_mem_nil
  · exact coverA7 m c t h (ix2 q l)

theorem outB7 (t : Fin cfg0.N) (h : t.val ≠ 0) (o8 o9 : Vec Ideal S4096x128 .f32) (o10 : Vec Ideal S1x128 .f32) (q : Fin 128) (l : Fin 1024) :
    ((outB m c t h o8 o9 o10).1 (ix2 q l) : EReal) = Dq m c t.val q.val l.val := by
  unfold outB piecesB runB
  dsimp only
  have hl := l.isLt
  refine Eq.trans ?_ (show (Gq m c t.val (ix2 q l) : EReal) = Dq m c t.val q.val l.val from rfl)
  refine View.read_writes_apply_of_pieces (ms7 t).view _ (Gq m c t.val) _ ?_ (ix2 q l) ?_
  · simp only [List.forall_mem_cons]
    refine ⟨fun x => ?_, fun x => ?_, fun x => ?_, fun x => ?_, fun x => ?_, fun x => ?_, fun x => ?_, fun x => ?_, ?_⟩
    · refine (congrArg _ (show x = ix2 (x 0) (x 1) from by funext a; exact Fin.cases rfl (fun a => Fin.cases rfl (fun a => a.elim0) a) a)).trans ?_
      refine (BlkB.dq7 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 896 + (x 1).val = 896 + 1 * (x 1).val; omega
    · refine (congrArg _ (show x = ix2 (x 0) (x 1) from by funext a; exact Fin.cases rfl (fun a => Fin.cases rfl (fun a => a.elim0) a) a)).trans ?_
      refine (BlkB.dq6 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 768 + (x 1).val = 768 + 1 * (x 1).val; omega
    · refine (congrArg _ (show x = ix2 (x 0) (x 1) from by funext a; exact Fin.cases rfl (fun a => Fin.cases rfl (fun a => a.elim0) a) a)).trans ?_
      refine (BlkB.dq5 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 640 + (x 1).val = 640 + 1 * (x 1).val; omega
    · refine (congrArg _ (show x = ix2 (x 0) (x 1) from by funext a; exact Fin.cases rfl (fun a => Fin.cases rfl (fun a => a.elim0) a) a)).trans ?_
      refine (BlkB.dq4 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 512 + (x 1).val = 512 + 1 * (x 1).val; omega
    · refine (congrArg _ (show x = ix2 (x 0) (x 1) from by funext a; exact Fin.cases rfl (fun a => Fin.cases rfl (fun a => a.elim0) a) a)).trans ?_
      refine (BlkB.dq3 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 384 + (x 1).val = 384 + 1 * (x 1).val; omega
    · refine (congrArg _ (show x = ix2 (x 0) (x 1) from by funext a; exact Fin.cases rfl (fun a => Fin.cases rfl (fun a => a.elim0) a) a)).trans ?_
      refine (BlkB.dq2 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 256 + (x 1).val = 256 + 1 * (x 1).val; omega
    · refine (congrArg _ (show x = ix2 (x 0) (x 1) from by funext a; exact Fin.cases rfl (fun a => Fin.cases rfl (fun a => a.elim0) a) a)).trans ?_
      refine (BlkB.dq1 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show 128 + (x 1).val = 128 + 1 * (x 1).val; omega
    · refine (congrArg _ (show x = ix2 (x 0) (x 1) from by funext a; exact Fin.cases rfl (fun a => Fin.cases rfl (fun a => a.elim0) a) a)).trans ?_
      refine (BlkB.dq0 c (grid0.coords t) (ms0 t) (hs0 t) (ms1 t) (hs1 t) (ms2 t) (hs2 t) (ms3 t) (hs3 t) (ms4 t) (hs4 t) (ms5 t) (hs5 t) (ms6 t) (hs6 t) (iblk m c 0 t) (X0_1 m c t) (iblk m c 2 t) (iblk m c 3 t) (iblk m c 4 t) (iblk m c 5 t) (iblk m c 6 t) (x 0) (x 1)).trans ?_
      rw [coord, op1, op23, op45, op6, op0]
      refine congrArg₂ (Dq m c t.val) ?_ ?_
      · show (x 0).val = 0 + 1 * (x 0).val; omega
      · show (x 1).val = 0 + 1 * (x 1).val; omega
    · exact fun _ hp => absurd hp List.not_mem_nil
  · exact coverB7 m c t h o8 o9 o10 (ix2 q l)

theorem dk_after (n : ℕ) (hn : n < cfg0.N) (r : Fin 4096) (l : Fin 128) :
    ((outs m c n hn).2.1 (ix2 r l) : EReal)
      = if r.val / 128 ≤ n then Dk m c (r.val / 128) ⟨128 + r.val % 128, by omega⟩ l.val
          + (if r.val / 128 + 1 ≤ n then Dk m c (r.val / 128 + 1) ⟨r.val % 128, by omega⟩ l.val else 0) else 0 := by
  induction n with
  | zero =>
    have e := congrArg (fun o : Outs Ideal => o.2.1 (ix2 r l)) (outs_first m c ⟨0, hn⟩ rfl)
    refine Eq.trans e ((outA8 m c ⟨0, hn⟩ rfl r l).trans ?_)
    by_cases h : r.val / 128 = 0
    · rw [if_pos h, if_pos (by omega), if_neg (by omega), add_zero, h]
    · rw [if_neg h, if_neg (by omega)]
  | succ n ih =>
    have e := congrArg (fun o : Outs Ideal => o.2.1 (ix2 r l)) (outs_later m c ⟨n + 1, hn⟩ (Nat.succ_ne_zero n))
    refine Eq.trans e ((outB8 m c ⟨n + 1, hn⟩ (Nat.succ_ne_zero n) _ _ _ r l).trans ?_)
    have ih' := ih (Nat.lt_of_succ_lt hn)
    dsimp only [Nat.add_sub_cancel]
    by_cases h : r.val / 128 = n + 1
    · rw [if_neg (by omega)] at ih'
      rw [if_pos h, if_pos (by omega), if_neg (by omega), add_zero, h]
      exact (congrArg (fun a : EReal => a + _) ih').trans (zero_add _)
    · by_cases h' : r.val / 128 + 1 = n + 1
      · rw [if_pos (by omega), if_neg (by omega), add_zero] at ih'
        rw [if_neg h, if_pos h', if_pos (by omega), if_pos (by omega), h']
        exact congrArg (fun a : EReal => a + _) ih'
      · rw [if_neg h, if_neg h']
        refine Eq.trans ih' ?_
        exact if_congr (by omega) (congrArg (fun a : EReal => Dk m c (r.val / 128) ⟨128 + r.val % 128, by omega⟩ l.val + a) (if_congr (by omega) rfl rfl)) rfl

theorem dv_after (n : ℕ) (hn : n < cfg0.N) (r : Fin 4096) (l : Fin 128) :
    ((outs m c n hn).2.2.1 (ix2 r l) : EReal)
      = if r.val / 128 ≤ n then Dv m c (r.val / 128) ⟨128 + r.val % 128, by omega⟩ l.val
          + (if r.val / 128 + 1 ≤ n then Dv m c (r.val / 128 + 1) ⟨r.val % 128, by omega⟩ l.val else 0) else 0 := by
  induction n with
  | zero =>
    have e := congrArg (fun o : Outs Ideal => o.2.2.1 (ix2 r l)) (outs_first m c ⟨0, hn⟩ rfl)
    refine Eq.trans e ((outA9 m c ⟨0, hn⟩ rfl r l).trans ?_)
    by_cases h : r.val / 128 = 0
    · rw [if_pos h, if_pos (by omega), if_neg (by omega), add_zero, h]
    · rw [if_neg h, if_neg (by omega)]
  | succ n ih =>
    have e := congrArg (fun o : Outs Ideal => o.2.2.1 (ix2 r l)) (outs_later m c ⟨n + 1, hn⟩ (Nat.succ_ne_zero n))
    refine Eq.trans e ((outB9 m c ⟨n + 1, hn⟩ (Nat.succ_ne_zero n) _ _ _ r l).trans ?_)
    have ih' := ih (Nat.lt_of_succ_lt hn)
    dsimp only [Nat.add_sub_cancel]
    by_cases h : r.val / 128 = n + 1
    · rw [if_neg (by omega)] at ih'
      rw [if_pos h, if_pos (by omega), if_neg (by omega), add_zero, h]
      exact (congrArg (fun a : EReal => a + _) ih').trans (zero_add _)
    · by_cases h' : r.val / 128 + 1 = n + 1
      · rw [if_pos (by omega), if_neg (by omega), add_zero] at ih'
        rw [if_neg h, if_pos h', if_pos (by omega), if_pos (by omega), h']
        exact congrArg (fun a : EReal => a + _) ih'
      · rw [if_neg h, if_neg h']
        refine Eq.trans ih' ?_
        exact if_congr (by omega) (congrArg (fun a : EReal => Dv m c (r.val / 128) ⟨128 + r.val % 128, by omega⟩ l.val + a) (if_congr (by omega) rfl rfl)) rfl

theorem ds_after (n : ℕ) (hn : n < cfg0.N) (l : Fin 128) :
    ((outs m c n hn).2.2.2 (ix2 0 l) : EReal) = ∑ b ∈ Finset.range (n + 1), Ds m c b l.val := by
  induction n with
  | zero =>
    have e := congrArg (fun o : Outs Ideal => o.2.2.2 (ix2 0 l)) (outs_first m c ⟨0, hn⟩ rfl)
    refine Eq.trans e ((outA10 m c ⟨0, hn⟩ rfl l).trans ?_)
    rw [Finset.sum_range_one]
  | succ n ih =>
    have e := congrArg (fun o : Outs Ideal => o.2.2.2 (ix2 0 l)) (outs_later m c ⟨n + 1, hn⟩ (Nat.succ_ne_zero n))
    refine Eq.trans e ((outB10 m c ⟨n + 1, hn⟩ (Nat.succ_ne_zero n) _ _ _ l).trans ?_)
    rw [Finset.sum_range_succ]
    exact congrArg (fun a : EReal => a + _) (ih (Nat.lt_of_succ_lt hn))

theorem dq_at (t : Fin cfg0.N) (q : Fin 128) (l : Fin 1024) :
    ((outs m c t.val t.isLt).1 (ix2 q l) : EReal) = Dq m c t.val q.val l.val := by
  by_cases h : t.val = 0
  · rw [outs_first m c t h]
    exact outA7 m c t h q l
  · rw [outs_later m c t h]
    exact outB7 m c t h _ _ _ q l

/-- The grid's last point. -/
def lastPt : Fin cfg0.N := ⟨31, by decide⟩

/-- The result arrays after the run. -/
def F7 : Vec Ideal S4096x1024 .bf16 := fun i => Dq m c ((i 0).val / 128) ((i 0).val % 128) (i 1).val
def F8 : Vec Ideal S4096x128 .f32 := fun i => (outs m c lastPt.val lastPt.isLt).2.1 i
def F9 : Vec Ideal S4096x128 .f32 := fun i => (outs m c lastPt.val lastPt.isLt).2.2.1 i
def F10 : Vec Ideal S1x128 .f32 := fun i => (outs m c lastPt.val lastPt.isLt).2.2.2 i

theorem fin7 : (dats m 0 c).arrAt 7 cfg0.N = F7 m c := by
  refine (dats m 0 c).arrAt_eq_of_covers 7 _ (by decide +kernel) fun t hf y => ?_
  blk_simp
  rw [after7]
  refine Eq.trans (congrArg _ (ix2_eta (y : S128x1024.Idx))).symm ?_
  refine (dq_at m c t (y 0) (y 1)).trans ?_
  have h0 : (y 0).val < 128 := (y 0).isLt
  unfold F7
  dsimp only
  have e : ∀ q q' l l' b b' : ℕ, b = b' → q = q' → l = l' → Dq m c b q l = Dq m c b' q' l' := by
    intro q q' l l' b b' h1 h2 h3
    rw [h1, h2, h3]
  apply e
  · blk_simp
    simp only [idx t, Matrix.cons_val_zero]
    omega
  · blk_simp
    simp only [idx t, Matrix.cons_val_zero]
    omega
  · blk_simp
    simp only [idx t, Matrix.cons_val_one, Matrix.cons_val_zero]
    omega

theorem fin8 : (dats m 0 c).arrAt 8 cfg0.N = F8 m c := by
  refine (dats m 0 c).arrAt_eq_of_after_last 8 lastPt (by decide +kernel) _ fun j => ?_
  blk_simp
  rw [after8]
  unfold F8
  generalize outs m c lastPt.val lastPt.isLt = o
  refine congrArg _ ?_
  blk_ext [idx lastPt]

theorem fin9 : (dats m 0 c).arrAt 9 cfg0.N = F9 m c := by
  refine (dats m 0 c).arrAt_eq_of_after_last 9 lastPt (by decide +kernel) _ fun j => ?_
  blk_simp
  rw [after9]
  unfold F9
  generalize outs m c lastPt.val lastPt.isLt = o
  refine congrArg _ ?_
  blk_ext [idx lastPt]

theorem fin10 : (dats m 0 c).arrAt 10 cfg0.N = F10 m c := by
  refine (dats m 0 c).arrAt_eq_of_after_last 10 lastPt (by decide +kernel) _ fun j => ?_
  blk_simp
  rw [after10]
  unfold F10
  generalize outs m c lastPt.val lastPt.isLt = o
  refine congrArg _ ?_
  blk_ext [idx lastPt]

end Cert.SwaBwdIdeal.Acc
-- ==== Proof.SwaBwdRef.lean ====
/- The windowed attention's gradient as the reference computes it, read at an index. -/
module

public import proofs.«01_k».proof.Proof.Gen.SwaBwdRefIdeal.Read
public import Idealize.ShloMosaic.Lib.KernelVsHost
public import proofs.«01_k».proof.Proof.SwaCross

@[expose] public section

set_option maxRecDepth 16384

noncomputable section

open Idealize.ShloMosaic
open Cert.SwaRow

namespace Cert.SwaBwdRefIdeal.Ref

open Cert.SwaBwdRefIdeal Cert.SwaBwdRefIdeal.Gen Cert.SwaBwdRefIdeal.Read

variable (x0 : Vec Ideal S4096x4480 .f32) (x1 : Vec Ideal S4096x2048 .f32) (x2 : Vec Ideal S16 .f32)

/-- The queries of a block. -/
abbrev Qb (b : ℕ) : ℕ → ℕ → EReal := blk (at2 x0) 3072 1024 b
/-- The keys a block looks at. -/
abbrev Kb (b : ℕ) : ℕ → ℕ → EReal := keysR (at2 x0) 4096 b
/-- The values a block looks at. -/
abbrev Vb (b : ℕ) : ℕ → ℕ → EReal := keysR (at2 x0) 4224 b
/-- The cotangent of a block. -/
abbrev Cb (b : ℕ) : ℕ → ℕ → EReal := blk (at2 x1) 1024 1024 b

theorem v8 (b : Fin 32) (q : Fin 128) (h : Fin 2) (g : Fin 8) (d : Fin 64) :
    (val_main_v8 (F := Ideal) x0 (ix6 0 b q h g d) : EReal) = Qb x0 b.val q.val (64 * (8 * h.val + g.val) + d.val) := by
  unfold val_main_v8 Qb blk
  pointwise [val_main_v1, val_main_v0]
  rw [if_pos (by omega), at2_lt _ _ _ (by omega) (by omega)]
  blk_ext

theorem v15 (b : Fin 32) (k : Fin 256) (h : Fin 2) (d : Fin 64) :
    (val_main_v15 (F := Ideal) x0 (ix5 0 b k h d) : EReal) = Kb x0 b.val k.val (64 * h.val + d.val) := by
  unfold val_main_v15 val_main_v13 Kb keysR two blk
  pointwise [val_main_v9, val_main_v3, val_main_v2, val_main_v10, val_main_v12, val_main_v11, val_main_cst]
  by_cases h1 : k.val < 128
  · rw [dif_pos h1, if_pos h1]
    by_cases h2 : b.val < 1
    · rw [dif_pos h2]
      exact (if_pos (show b.val = 0 by omega)).symm
    · rw [dif_neg h2]
      refine Eq.trans ?_ (if_neg (show ¬ b.val = 0 by omega)).symm
      refine Eq.trans ?_ (if_pos (show k.val < 128 ∧ 64 * h.val + d.val < 128 by omega)).symm
      rw [at2_lt _ _ _ (by omega) (by omega)]
      blk_ext
  · rw [dif_neg h1, if_neg h1]
    refine Eq.trans ?_ (if_pos (show k.val - 128 < 128 ∧ 64 * h.val + d.val < 128 by omega)).symm
    rw [at2_lt _ _ _ (by omega) (by omega)]
    blk_ext

theorem v22 (b : Fin 32) (k : Fin 256) (h : Fin 2) (d : Fin 64) :
    (val_main_v22 (F := Ideal) x0 (ix5 0 b k h d) : EReal) = Vb x0 b.val k.val (64 * h.val + d.val) := by
  unfold val_main_v22 val_main_v20 Vb keysR two blk
  pointwise [val_main_v16, val_main_v5, val_main_v4, val_main_v17, val_main_v19, val_main_v18, val_main_cst_1]
  by_cases h1 : k.val < 128
  · rw [dif_pos h1, if_pos h1]
    by_cases h2 : b.val < 1
    · rw [dif_pos h2]
      exact (if_pos (show b.val = 0 by omega)).symm
    · rw [dif_neg h2]
      refine Eq.trans ?_ (if_neg (show ¬ b.val = 0 by omega)).symm
      refine Eq.trans ?_ (if_pos (show k.val < 128 ∧ 64 * h.val + d.val < 128 by omega)).symm
      rw [at2_lt _ _ _ (by omega) (by omega)]
      blk_ext
  · rw [dif_neg h1, if_neg h1]
    refine Eq.trans ?_ (if_pos (show k.val - 128 < 128 ∧ 64 * h.val + d.val < 128 by omega)).symm
    rw [at2_lt _ _ _ (by omega) (by omega)]
    blk_ext

theorem v102 (b : Fin 32) (q : Fin 128) (h : Fin 2) (g : Fin 8) (d : Fin 64) :
    (val_main_v102 (F := Ideal) x1 (ix6 0 b q h g d) : EReal) = Cb x1 b.val q.val (64 * (8 * h.val + g.val) + d.val) := by
  unfold val_main_v102 Cb blk
  pointwise [val_main_v7, val_main_v6]
  rw [if_pos (by omega), at2_lt _ _ _ (by omega) (by omega)]
  blk_ext

theorem v57 (h : Fin 2) (g : Fin 8) :
    (val_main_v57 (F := Ideal) x2 (ix6 0 0 h g 0 0) : EReal) = at1 x2 (8 * h.val + g.val) := by
  pointwise [val_main_v57, val_main_v56]
  rw [at1_lt _ _ (by omega)]
  blk_ext

theorem v26 (b : Fin 32) (h : Fin 2) (g : Fin 8) (q : Fin 128) (k : Fin 256) :
    (val_main_v26 (F := Ideal) x0 (ix6 0 b h g q k) : EReal)
      = (∑ d : Fin 64, Qb x0 b.val q.val (64 * (8 * h.val + g.val) + d.val) * Kb x0 b.val k.val (64 * ((8 * h.val + g.val) / 8) + d.val)) * ((1 / 8 : ℝ) : EReal) := by
  pointwise [val_main_v26, val_main_v25, val_main_v24, val_main_v23, val_main_cst_3]
  rw [ofBits_eighth]
  congr 1
  refine Finset.sum_congr rfl fun d _ => ?_
  rw [v15, v8, mul_comm, show (8 * h.val + g.val) / 8 = h.val by omega]

theorem mask {α : Type} (b : Fin 32) (h : Fin 2) (g : Fin 8) (q : Fin 128) (k : Fin 256) (x y : α) :
    Scalar.select (val_main_v55_1 (F := Ideal) (ix6 0 b h g q k)) x y = if ok b.val q.val k.val then x else y := by
  refine Eq.trans ?_ (ok_mask b.val q.val k.val b.isLt q.isLt k.isLt x y)
  pointwise [val_main_v55_1, val_main_v54, val_main_v53,val_main_v52,val_main_v51,val_main_v50,val_main_v49,val_main_v48,val_main_v47,val_main_v46,val_main_v45,val_main_v44,val_main_v43,val_main_v42,val_main_v41,val_main_v40,val_main_v39,val_main_v38,val_main_v37,val_main_v36,val_main_v35,val_main_v34,val_main_v33,val_main_v32,val_main_v31,val_main_v30,val_main_v29,val_main_v28,val_main_v27,val_main_c, val_main_c_4,val_main_c_5]
  rfl

theorem v55 (b : Fin 32) (h : Fin 2) (g : Fin 8) (q : Fin 128) (k : Fin 256) :
    (val_main_v55_0 (F := Ideal) x0 (ix6 0 b h g q k) : EReal) = W b.val (Qb x0 b.val) (Kb x0 b.val) (8 * h.val + g.val) q.val k.val := by
  rw [val_main_v55_0_apply]
  refine (mask b h g q k _ _).trans ?_
  unfold W
  rw [v26]
  split_ifs
  · rfl
  · pointwise [val_main_call0_v2, val_main_call0_v0, val_main_cst_6]
    exact ofBits_bot

theorem v58 (b : Fin 32) (h : Fin 2) (g : Fin 8) (q : Fin 128) :
    (val_main_v58 (F := Ideal) x0 (ix5 0 b h g q) : EReal)
      = Finset.univ.fold max ⊥ (fun k : Fin 256 => W b.val (Qb x0 b.val) (Kb x0 b.val) (8 * h.val + g.val) q.val k.val) := by
  pointwise [val_main_v58]
  refine (Finset.fold_filter_eq_fold_of_fiber max _ (fun k : Fin 256 => (ix6 0 b h g q k : S1x32x2x8x128x256.Idx)) (fun _ _ e => congrFun e 5) (fun i => ?_) _ _).trans ?_
  · constructor
    · intro e
      refine ⟨i 5, ?_⟩
      funext a
      match a with
      | ⟨0, _⟩ => exact (congrFun e ⟨0, by decide⟩).symm
      | ⟨1, _⟩ => exact (congrFun e ⟨1, by decide⟩).symm
      | ⟨2, _⟩ => exact (congrFun e ⟨2, by decide⟩).symm
      | ⟨3, _⟩ => exact (congrFun e ⟨3, by decide⟩).symm
      | ⟨4, _⟩ => exact (congrFun e ⟨4, by decide⟩).symm
      | ⟨5, _⟩ => rfl
    · rintro ⟨k, rfl⟩
      funext a
      match a with
      | ⟨0, _⟩ => rfl
      | ⟨1, _⟩ => rfl
      | ⟨2, _⟩ => rfl
      | ⟨3, _⟩ => rfl
      | ⟨4, _⟩ => rfl
  · simp only [v55]
    rw [show (val_main_cst_7 (F := Ideal) (Shape.Idx.first h_S_) : EReal) = ⊥ from ofBits_bot]

theorem v66 (b : Fin 32) (h : Fin 2) (g : Fin 8) (q : Fin 128) :
    (val_main_v66 (F := Ideal) x0 x2 (ix6 0 b h g q 0) : EReal)
      = mx (fun k : Fin 256 => W b.val (Qb x0 b.val) (Kb x0 b.val) (8 * h.val + g.val) q.val k.val) (at1 x2 (8 * h.val + g.val)) := by
  have e : idx_main_v64 (ix6 0 b h g q 0) = ix5 0 b h g q := by
    funext a
    match a with
    | ⟨0, _⟩ => rfl
    | ⟨1, _⟩ => rfl
    | ⟨2, _⟩ => rfl
    | ⟨3, _⟩ => rfl
    | ⟨4, _⟩ => rfl
  have e' : idx_main_v65 (ix6 0 b h g q 0) = ix6 0 0 h g 0 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v66_apply, val_main_v65_apply, val_main_v64_apply, e, e', v58, v57, Ideal.maximumf_eq_max]
  unfold mx
  with_reducible rfl

theorem v87 (b : Fin 32) (h : Fin 2) (g : Fin 8) (q : Fin 128) (k : Fin 256) :
    (val_main_v87 (F := Ideal) x0 x2 (ix6 0 b h g q k) : EReal)
      = ex (fun k : Fin 256 => W b.val (Qb x0 b.val) (Kb x0 b.val) (8 * h.val + g.val) q.val k.val) (at1 x2 (8 * h.val + g.val)) k := by
  pointwise [val_main_v87, val_main_v86, val_main_v85]
  rw [v55, v66]
  rfl

theorem v92 (b : Fin 32) (h : Fin 2) (g : Fin 8) (q : Fin 128) :
    (val_main_v92 (F := Ideal) x0 x2 (ix6 0 b h g q 0) : EReal)
      = es (fun k : Fin 256 => W b.val (Qb x0 b.val) (Kb x0 b.val) (8 * h.val + g.val) q.val k.val) (at1 x2 (8 * h.val + g.val)) := by
  pointwise [val_main_v92, val_main_v91, val_main_v90]
  rw [v57, v66]
  rfl

theorem v93 (b : Fin 32) (h : Fin 2) (g : Fin 8) (q : Fin 128) :
    (val_main_v93 (F := Ideal) x0 x2 (ix6 0 b h g q 0) : EReal)
      = den (fun k : Fin 256 => W b.val (Qb x0 b.val) (Kb x0 b.val) (8 * h.val + g.val) q.val k.val) (at1 x2 (8 * h.val + g.val)) := by
  rw [val_main_v93_apply, val_main_v89_apply, val_main_v88_apply]
  pointwise [val_main_cst_15]
  rw [v92]
  unfold den
  congr 1
  refine Finset.sum_congr rfl fun k _ => ?_
  refine Eq.trans ?_ (v87 x0 x2 b h g q k)
  blk_ext

theorem v104 (b : Fin 32) (h : Fin 2) (g : Fin 8) (q : Fin 128) (k : Fin 256) :
    (val_main_v104 (F := Ideal) x0 x1 (ix6 0 b h g q k) : EReal) = DP (Vb x0 b.val) (Cb x1 b.val) (8 * h.val + g.val) q.val k.val := by
  pointwise [val_main_v104, val_main_v103]
  unfold DP
  refine Finset.sum_congr rfl fun d _ => ?_
  rw [v22, v102, show (8 * h.val + g.val) / 8 = h.val by omega]

theorem v112 (b : Fin 32) (h : Fin 2) (g : Fin 8) (q : Fin 128) :
    (val_main_v112 (F := Ideal) x0 x1 x2 (ix6 0 b h g q 0) : EReal)
      = nrow (fun k : Fin 256 => W b.val (Qb x0 b.val) (Kb x0 b.val) (8 * h.val + g.val) q.val k.val) (fun k : Fin 256 => DP (Vb x0 b.val) (Cb x1 b.val) (8 * h.val + g.val) q.val k.val) (at1 x2 (8 * h.val + g.val)) := by
  have h1 : (val_main_v111 (F := Ideal) x0 x1 x2 (ix6 0 b h g q 0) : EReal) = val_main_v110 (F := Ideal) x0 x1 x2 (ix5 0 b h g q) := by
    pointwise [val_main_v111]
  rw [val_main_v112_apply, h1, val_main_v110_apply]
  pointwise [val_main_v109, val_main_v108, val_main_v107, val_main_v98, val_main_v97, val_main_v96, val_main_cst_16, val_main_cst_17]
  unfold nrow
  rw [v93]
  refine congrArg Neg.neg (Finset.sum_congr rfl fun k _ => ?_)
  have e : idx_main_v110 (ix5 0 b h g q) k = ix6 0 b h g q k := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e, v104, v87]

theorem v95 (b : Fin 32) (h : Fin 2) (g : Fin 8) (q : Fin 128) (k : Fin 256) :
    (val_main_v95 (F := Ideal) x0 x2 (ix6 0 b h g q k) : EReal) = Ideal.div (ex (fun k : Fin 256 => W b.val (Qb x0 b.val) (Kb x0 b.val) (8 * h.val + g.val) q.val k.val) (at1 x2 (8 * h.val + g.val)) k) (den (fun k : Fin 256 => W b.val (Qb x0 b.val) (Kb x0 b.val) (8 * h.val + g.val) q.val k.val) (at1 x2 (8 * h.val + g.val))) := by
  pointwise [val_main_v95, val_main_v94]
  rw [v87, v93]

theorem v115 (b : Fin 32) (h : Fin 2) (g : Fin 8) (q : Fin 128) :
    (val_main_v115 (F := Ideal) x0 x1 x2 (ix6 0 b h g q 0) : EReal) = gk (fun k : Fin 256 => W b.val (Qb x0 b.val) (Kb x0 b.val) (8 * h.val + g.val) q.val k.val) (fun k : Fin 256 => DP (Vb x0 b.val) (Cb x1 b.val) (8 * h.val + g.val) q.val k.val) (at1 x2 (8 * h.val + g.val)) := by
  pointwise [val_main_v115]
  unfold gk
  rw [v112, v92]

theorem v119 (b : Fin 32) (h : Fin 2) (g : Fin 8) (q : Fin 128) :
    (val_main_v119 (F := Ideal) x0 x1 x2 (ix4 b h g q) : EReal) = nrow (fun k : Fin 256 => W b.val (Qb x0 b.val) (Kb x0 b.val) (8 * h.val + g.val) q.val k.val) (fun k : Fin 256 => DP (Vb x0 b.val) (Cb x1 b.val) (8 * h.val + g.val) q.val k.val) (at1 x2 (8 * h.val + g.val)) := by
  pointwise [val_main_v119, val_main_cst_19]
  unfold Ideal.hostReduceAdd
  rw [zero_add]
  refine (Finset.sum_filter_eq_sum_of_fiber _ (fun _ : Fin 1 => (ix6 0 b h g q 0 : S1x32x2x8x128x1.Idx)) (fun _ _ _ => Subsingleton.elim _ _) (fun i => ?_) _).trans ?_
  · constructor
    · intro e
      refine ⟨0, ?_⟩
      funext a
      match a with
      | ⟨0, _⟩ => exact Subsingleton.elim (α := Fin 1) _ _
      | ⟨1, _⟩ => exact (congrFun e ⟨0, by decide⟩).symm
      | ⟨2, _⟩ => exact (congrFun e ⟨1, by decide⟩).symm
      | ⟨3, _⟩ => exact (congrFun e ⟨2, by decide⟩).symm
      | ⟨4, _⟩ => exact (congrFun e ⟨3, by decide⟩).symm
      | ⟨5, _⟩ => exact Subsingleton.elim (α := Fin 1) _ _
    · rintro ⟨k, rfl⟩
      funext a
      match a with
      | ⟨0, _⟩ => rfl
      | ⟨1, _⟩ => rfl
      | ⟨2, _⟩ => rfl
      | ⟨3, _⟩ => rfl
  · rw [Fin.sum_univ_one, v112]

theorem v123 (b : Fin 32) (h : Fin 2) (g : Fin 8) (q : Fin 128) (k : Fin 256) :
    (val_main_v123 (F := Ideal) x0 x1 x2 (ix6 0 b h g q k) : EReal) = gs (fun k : Fin 256 => W b.val (Qb x0 b.val) (Kb x0 b.val) (8 * h.val + g.val) q.val k.val) (fun k : Fin 256 => DP (Vb x0 b.val) (Cb x1 b.val) (8 * h.val + g.val) q.val k.val) (at1 x2 (8 * h.val + g.val)) k := by
  pointwise [val_main_v123, val_main_v122, val_main_v121, val_main_v120, val_main_v114, val_main_v113]
  unfold gs
  rw [v119, v104, v93, v87]

theorem v127 (b : Fin 32) (h : Fin 2) (g : Fin 8) (q : Fin 128) :
    (val_main_v127 (F := Ideal) x0 x1 x2 (ix6 0 b h g q 0) : EReal) = gm (fun k : Fin 256 => W b.val (Qb x0 b.val) (Kb x0 b.val) (8 * h.val + g.val) q.val k.val) (fun k : Fin 256 => DP (Vb x0 b.val) (Cb x1 b.val) (8 * h.val + g.val) q.val k.val) (at1 x2 (8 * h.val + g.val)) := by
  have h1 : (val_main_v126 (F := Ideal) x0 x1 x2 (ix6 0 b h g q 0) : EReal) = val_main_v125 (F := Ideal) x0 x1 x2 (ix5 0 b h g q) := by
    pointwise [val_main_v126]
  rw [val_main_v127_apply, h1, val_main_v125_apply]
  pointwise [val_main_v118, val_main_v124, val_main_cst_20]
  unfold gm
  rw [v115]
  congr 1
  refine Finset.sum_congr rfl fun k _ => ?_
  have e : idx_main_v125 (ix5 0 b h g q) k = ix6 0 b h g q k := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e, v123]

theorem sum14 (h : Fin 2) (g : Fin 8) (H : S1x32x2x8x128x1.ReducesTo [1, 4] S1x2x8x1) (z : EReal) (hz : z = 0) (f : S1x32x2x8x128x1.Idx → EReal) :
    Ideal.hostReduceAdd H f z (ix4 0 h g 0) = ∑ b : Fin 32, ∑ q : Fin 128, f (ix6 0 b h g q 0) := by
  unfold Ideal.hostReduceAdd
  rw [hz, zero_add, ← Fintype.sum_prod_type' (f := fun (b : Fin 32) (q : Fin 128) => f (ix6 0 b h g q 0))]
  refine (Finset.sum_filter_eq_sum_of_fiber _ (fun p : Fin 32 × Fin 128 => (ix6 0 p.1 h g p.2 0 : S1x32x2x8x128x1.Idx)) (fun _ _ e => Prod.ext (congrFun e 1) (congrFun e 4)) (fun i => ?_) _).trans ?_
  · constructor
    · intro e
      refine ⟨(i 1, i 4), ?_⟩
      funext a
      match a with
      | ⟨0, _⟩ => exact Subsingleton.elim (α := Fin 1) _ _
      | ⟨1, _⟩ => rfl
      | ⟨2, _⟩ => exact (congrFun e ⟨1, by decide⟩).symm
      | ⟨3, _⟩ => exact (congrFun e ⟨2, by decide⟩).symm
      | ⟨4, _⟩ => rfl
      | ⟨5, _⟩ => exact Subsingleton.elim (α := Fin 1) _ _
    · rintro ⟨k, rfl⟩
      funext a
      match a with
      | ⟨0, _⟩ => rfl
      | ⟨1, _⟩ => rfl
      | ⟨2, _⟩ => rfl
      | ⟨3, _⟩ => rfl
  · rfl

theorem v133 (b : Fin 32) (h : Fin 2) (g : Fin 8) (q : Fin 128) (hz : (val_main_v127 (F := Ideal) x0 x1 x2 (ix6 0 b h g q 0) : EReal) = 0) :
    (val_main_v133 (F := Ideal) x0 x1 x2 (ix4 b h g q) : EReal) = 0 := by
  pointwise [val_main_v133, val_main_cst_22]
  unfold Ideal.hostReduceAdd
  rw [zero_add]
  refine (Finset.sum_filter_eq_sum_of_fiber _ (fun _ : Fin 1 => (ix6 0 b h g q 0 : S1x32x2x8x128x1.Idx)) (fun _ _ _ => Subsingleton.elim _ _) (fun i => ?_) _).trans ?_
  · constructor
    · intro e
      refine ⟨0, ?_⟩
      funext a
      match a with
      | ⟨0, _⟩ => exact Subsingleton.elim (α := Fin 1) _ _
      | ⟨1, _⟩ => exact (congrFun e ⟨0, by decide⟩).symm
      | ⟨2, _⟩ => exact (congrFun e ⟨1, by decide⟩).symm
      | ⟨3, _⟩ => exact (congrFun e ⟨2, by decide⟩).symm
      | ⟨4, _⟩ => exact (congrFun e ⟨3, by decide⟩).symm
      | ⟨5, _⟩ => exact Subsingleton.elim (α := Fin 1) _ _
    · rintro ⟨k, rfl⟩
      funext a
      match a with
      | ⟨0, _⟩ => rfl
      | ⟨1, _⟩ => rfl
      | ⟨2, _⟩ => rfl
      | ⟨3, _⟩ => rfl
  · rw [Fin.sum_univ_one, val_main_v132_apply, hz]
    exact zero_mul (_ : EReal)

theorem v62 (b : Fin 32) (h : Fin 2) (g : Fin 8) (q : Fin 128) (k : Fin 256) :
    (val_main_v62 (F := Ideal) x0 (ix6 0 b h g q k) : EReal) = 0 ∨ (val_main_v62 (F := Ideal) x0 (ix6 0 b h g q k) : EReal) = 1 := by
  rw [val_main_v62_apply]
  generalize val_main_v61 (F := Ideal) x0 (ix6 0 b h g q k) = v
  show (((BitVec.toNat v : ℕ) : ℝ) : EReal) = 0 ∨ (((BitVec.toNat v : ℕ) : ℝ) : EReal) = 1
  have hv : BitVec.toNat v < 2 := BitVec.isLt v
  have hn : ∀ n : ℕ, n < 2 → ((n : ℝ) : EReal) = 0 ∨ ((n : ℝ) : EReal) = 1 := fun n h => by interval_cases n <;> simp
  exact hn _ hv

theorem v63 (b : Fin 32) (h : Fin 2) (g : Fin 8) (q : Fin 128) :
    (val_main_v63 (F := Ideal) x0 (ix5 0 b h g q) : EReal) = ∑ k : Fin 256, (val_main_v62 (F := Ideal) x0 (ix6 0 b h g q k) : EReal) := by
  rw [val_main_v63_apply]
  pointwise [val_main_cst_8]
  refine Finset.sum_congr rfl fun k _ => ?_
  congr 1
  funext a
  match a with
  | ⟨0, _⟩ => rfl
  | ⟨1, _⟩ => rfl
  | ⟨2, _⟩ => rfl
  | ⟨3, _⟩ => rfl
  | ⟨4, _⟩ => rfl
  | ⟨5, _⟩ => rfl

theorem count (f : Fin 256 → EReal) (hf : ∀ k, f k = 0 ∨ f k = 1) (k : Fin 256) : Ideal.div 0 (∑ k, f k) * f k = 0 := by
  rcases hf k with h | h
  · rw [h, mul_zero]
  · have hg : ∃ g : Fin 256 → ℝ, (∀ k, f k = ((g k : ℝ) : EReal)) ∧ ∀ k, 0 ≤ g k := by
      refine ⟨fun k => if f k = 0 then 0 else 1, fun k => ?_, fun k => ?_⟩ <;> dsimp only
      · rcases hf k with h | h
        · rw [if_pos h, h]; rfl
        · rw [if_neg (show ¬ f k = 0 by rw [h]; exact one_ne_zero), h]; rfl
      · split_ifs <;> simp
    obtain ⟨g, hg, hp⟩ := hg
    have hk : g k = 1 := by have := hg k; rw [h] at this; exact_mod_cast this.symm
    have hs : 0 < ∑ k, g k := lt_of_lt_of_le (by rw [hk]; exact one_pos) (Finset.single_le_sum (fun i _ => hp i) (Finset.mem_univ k))
    simp only [hg, coe_sum]
    rw [Ideal.div_coe hs.ne', zero_mul, zero_mul]

theorem v137 (b : Fin 32) (h : Fin 2) (g : Fin 8) (q : Fin 128) (k : Fin 256) (hz : (val_main_v127 (F := Ideal) x0 x1 x2 (ix6 0 b h g q 0) : EReal) = 0) :
    (val_main_v137 (F := Ideal) x0 x1 x2 (ix6 0 b h g q k) : EReal) = 0 := by
  pointwise [val_main_v137, val_main_v136, val_main_v135, val_main_v134]
  rw [v133 x0 x1 x2 b h g q hz, v63]
  exact count _ (v62 x0 b h g q) k

theorem v116 (h : Fin 2) (g : Fin 8) :
    (val_main_v116 (F := Ideal) x0 x1 x2 (ix4 0 h g 0) : EReal) = ∑ b : Fin 32, ∑ q : Fin 128, (val_main_v115 (F := Ideal) x0 x1 x2 (ix6 0 b h g q 0) : EReal) := by
  pointwise [val_main_v116, val_main_cst_18]
  exact sum14 h g _ _ rfl (val_main_v115 (F := Ideal) x0 x1 x2)

theorem v105 (b : Fin 32) (h : Fin 2) (d : Fin 64) (k : Fin 256) :
    (val_main_v105 (F := Ideal) x0 x1 x2 (ix5 0 b h d k) : EReal)
      = ∑ g : Fin 8, ∑ q : Fin 128, Ideal.div (ex (fun k : Fin 256 => W b.val (Qb x0 b.val) (Kb x0 b.val) (8 * h.val + g.val) q.val k.val) (at1 x2 (8 * h.val + g.val)) k) (den (fun k : Fin 256 => W b.val (Qb x0 b.val) (Kb x0 b.val) (8 * h.val + g.val) q.val k.val) (at1 x2 (8 * h.val + g.val))) * Cb x1 b.val q.val (64 * (8 * h.val + g.val) + d.val) := by
  pointwise [val_main_v105, val_main_v103]
  refine Finset.sum_congr rfl fun g _ => Finset.sum_congr rfl fun q _ => ?_
  rw [v102, v95, mul_comm]

theorem v139 (h : Fin 2) (g : Fin 8) :
    (val_main_v139 (F := Ideal) x0 x1 x2 (ix2 h g) : EReal) = val_main_v131 (F := Ideal) x0 x1 x2 (ix6 0 0 h g 0 0) := by
  pointwise [val_main_v139, val_main_cst_23]
  unfold Ideal.hostReduceAdd
  rw [zero_add]
  refine (Finset.sum_filter_eq_sum_of_fiber _ (fun _ : Fin 1 => (ix6 0 0 h g 0 0 : S1x1x2x8x1x1.Idx)) (fun _ _ _ => Subsingleton.elim _ _) (fun i => ?_) _).trans ?_
  · constructor
    · intro e
      refine ⟨0, ?_⟩
      funext a
      match a with
      | ⟨0, _⟩ => exact Subsingleton.elim (α := Fin 1) _ _
      | ⟨1, _⟩ => exact Subsingleton.elim (α := Fin 1) _ _
      | ⟨2, _⟩ => exact (congrFun e ⟨0, by decide⟩).symm
      | ⟨3, _⟩ => exact (congrFun e ⟨1, by decide⟩).symm
      | ⟨4, _⟩ => exact Subsingleton.elim (α := Fin 1) _ _
      | ⟨5, _⟩ => exact Subsingleton.elim (α := Fin 1) _ _
    · rintro ⟨k, rfl⟩
      funext a
      match a with
      | ⟨0, _⟩ => rfl
      | ⟨1, _⟩ => rfl
  · rw [Fin.sum_univ_one]

theorem v147 (b : Fin 32) (h : Fin 2) (k : Fin 256) (d : Fin 64) :
    (val_main_v147 (F := Ideal) x0 x1 x2 (ix5 0 b h k d) : EReal)
      = ∑ g : Fin 8, ∑ q : Fin 128, (val_main_v143 (F := Ideal) x0 x1 x2 (ix6 0 b h g q k) : EReal) * Qb x0 b.val q.val (64 * (8 * h.val + g.val) + d.val) := by
  pointwise [val_main_v147]
  rw [Finset.sum_comm]
  refine Finset.sum_congr rfl fun g _ => Finset.sum_congr rfl fun q _ => ?_
  rw [v8]
  pointwise [val_main_v144]

theorem v160 (b : Fin 32) (k : Fin 128) (g : Fin 2) (d : Fin 64) :
    (val_main_v160 (F := Ideal) x0 x1 x2 (ix5 0 b k g d) : EReal)
      = if h : b.val < 31 then val_main_v159 (F := Ideal) x0 x1 x2 (ix5 0 ⟨b.val, h⟩ k g d) else 0 := by
  unfold val_main_v160
  generalize (val_main_v159 (F := Ideal) x0 x1 x2 : S1x31x128x2x64.Idx → EReal) = f
  by_cases h : b.val < 31
  · rw [dif_pos h]
    exact pad_apply_of_inside (lo := ![0, 0, 0, 0, 0]) (hi := ![0, 1, 0, 0, 0]) (interior := ![0, 0, 0, 0, 0]) f _ _ _ _ _ (fun a => match a with
      | ⟨0, _⟩ => rfl
      | ⟨1, _⟩ => by show b.val = 0 + b.val * (0 + 1); omega
      | ⟨2, _⟩ => by show k.val = 0 + k.val * (0 + 1); omega
      | ⟨3, _⟩ => by show g.val = 0 + g.val * (0 + 1); omega
      | ⟨4, _⟩ => by show d.val = 0 + d.val * (0 + 1); omega)
  · rw [dif_neg h]
    refine (pad_apply_of_not_inside (lo := ![0, 0, 0, 0, 0]) (hi := ![0, 1, 0, 0, 0]) (interior := ![0, 0, 0, 0, 0]) f _ _ _ _ 1 ?_).trans ?_
    · rintro ⟨-, -, h'⟩
      have h'' : (b.val - 0) / (0 + 1) < 31 := h'
      omega
    · pointwise [val_main_cst_26]

theorem v161 (b : Fin 32) (k : Fin 128) (g : Fin 2) (d : Fin 64) :
    (val_main_v161 (F := Ideal) x0 x1 x2 (ix5 0 b k g d) : EReal)
      = val_main_v147 (F := Ideal) x0 x1 x2 (ix5 0 b g ⟨128 + k.val, by omega⟩ d)
        + (if h : b.val < 31 then val_main_v147 (F := Ideal) x0 x1 x2 (ix5 0 ⟨1 + b.val, by omega⟩ g ⟨k.val, by omega⟩ d) else 0) := by
  rw [val_main_v161_apply, v160]
  refine congrArg₂ (fun a b : EReal => a + b) ?_ ?_
  · rw [val_main_v157_apply, val_main_v148_apply]
    with_reducible refine congrArg _ ?_
    funext a
    match a with
    | ⟨0, _⟩ => rfl
    | ⟨1, _⟩ => rfl
    | ⟨2, _⟩ => rfl
    | ⟨3, _⟩ => rfl
    | ⟨4, _⟩ => rfl
  · by_cases h : b.val < 31
    · rw [dif_pos h, dif_pos h, val_main_v159_apply, val_main_v156_apply, val_main_v148_apply]
      with_reducible refine congrArg _ ?_
      funext a
      match a with
      | ⟨0, _⟩ => rfl
      | ⟨1, _⟩ => rfl
      | ⟨2, _⟩ => rfl
      | ⟨3, _⟩ => rfl
      | ⟨4, _⟩ => rfl
    · rw [dif_neg h, dif_neg h]

theorem v166 (r : Fin 4096) (l : Fin 128) :
    (val_main_v166 (F := Ideal) x0 x1 x2 (ix2 r l) : EReal)
      = val_main_v161 (F := Ideal) x0 x1 x2 (ix5 0 ⟨r.val / 128, by omega⟩ ⟨r.val % 128, by omega⟩ ⟨l.val / 64, by omega⟩ ⟨l.val % 64, by omega⟩) := by
  rw [val_main_v166_apply, val_main_v162_apply]
  with_reducible refine congrArg _ ?_
  funext a
  match a with
  | ⟨0, _⟩ => rfl
  | ⟨1, _⟩ => exact Fin.ext (by show (((0 * 4096 + (r.val * 128 + l.val) / 128 % 4096) * 2 + (r.val * 128 + l.val) / 64 % 2) * 64 + (r.val * 128 + l.val) % 64) / 16384 % 32 = r.val / 128; omega)
  | ⟨2, _⟩ => exact Fin.ext (by show (((0 * 4096 + (r.val * 128 + l.val) / 128 % 4096) * 2 + (r.val * 128 + l.val) / 64 % 2) * 64 + (r.val * 128 + l.val) % 64) / 128 % 128 = r.val % 128; omega)
  | ⟨3, _⟩ => exact Fin.ext (by show (((0 * 4096 + (r.val * 128 + l.val) / 128 % 4096) * 2 + (r.val * 128 + l.val) / 64 % 2) * 64 + (r.val * 128 + l.val) % 64) / 64 % 2 = l.val / 64; omega)
  | ⟨4, _⟩ => exact Fin.ext (by show (((0 * 4096 + (r.val * 128 + l.val) / 128 % 4096) * 2 + (r.val * 128 + l.val) / 64 % 2) * 64 + (r.val * 128 + l.val) % 64) % 64 = l.val % 64; omega)

theorem v153 (b : Fin 32) (k : Fin 128) (g : Fin 2) (d : Fin 64) :
    (val_main_v153 (F := Ideal) x0 x1 x2 (ix5 0 b k g d) : EReal)
      = if h : b.val < 31 then val_main_v152 (F := Ideal) x0 x1 x2 (ix5 0 ⟨b.val, h⟩ k g d) else 0 := by
  unfold val_main_v153
  generalize (val_main_v152 (F := Ideal) x0 x1 x2 : S1x31x128x2x64.Idx → EReal) = f
  by_cases h : b.val < 31
  · rw [dif_pos h]
    exact pad_apply_of_inside (lo := ![0, 0, 0, 0, 0]) (hi := ![0, 1, 0, 0, 0]) (interior := ![0, 0, 0, 0, 0]) f _ _ _ _ _ (fun a => match a with
      | ⟨0, _⟩ => rfl
      | ⟨1, _⟩ => by show b.val = 0 + b.val * (0 + 1); omega
      | ⟨2, _⟩ => by show k.val = 0 + k.val * (0 + 1); omega
      | ⟨3, _⟩ => by show g.val = 0 + g.val * (0 + 1); omega
      | ⟨4, _⟩ => by show d.val = 0 + d.val * (0 + 1); omega)
  · rw [dif_neg h]
    refine (pad_apply_of_not_inside (lo := ![0, 0, 0, 0, 0]) (hi := ![0, 1, 0, 0, 0]) (interior := ![0, 0, 0, 0, 0]) f _ _ _ _ 1 ?_).trans ?_
    · rintro ⟨-, -, h'⟩
      have h'' : (b.val - 0) / (0 + 1) < 31 := h'
      omega
    · pointwise [val_main_cst_25]

theorem v154 (b : Fin 32) (k : Fin 128) (g : Fin 2) (d : Fin 64) :
    (val_main_v154 (F := Ideal) x0 x1 x2 (ix5 0 b k g d) : EReal)
      = val_main_v105 (F := Ideal) x0 x1 x2 (ix5 0 b g d ⟨128 + k.val, by omega⟩)
        + (if h : b.val < 31 then val_main_v105 (F := Ideal) x0 x1 x2 (ix5 0 ⟨1 + b.val, by omega⟩ g d ⟨k.val, by omega⟩) else 0) := by
  rw [val_main_v154_apply, v153]
  refine congrArg₂ (fun a b : EReal => a + b) ?_ ?_
  · rw [val_main_v150_apply, val_main_v106_apply]
    with_reducible refine congrArg _ ?_
    funext a
    match a with
    | ⟨0, _⟩ => rfl
    | ⟨1, _⟩ => rfl
    | ⟨2, _⟩ => rfl
    | ⟨3, _⟩ => rfl
    | ⟨4, _⟩ => rfl
  · by_cases h : b.val < 31
    · rw [dif_pos h, dif_pos h, val_main_v152_apply, val_main_v149_apply, val_main_v106_apply]
      with_reducible refine congrArg _ ?_
      funext a
      match a with
      | ⟨0, _⟩ => rfl
      | ⟨1, _⟩ => rfl
      | ⟨2, _⟩ => rfl
      | ⟨3, _⟩ => rfl
      | ⟨4, _⟩ => rfl
    · rw [dif_neg h, dif_neg h]

theorem v167 (r : Fin 4096) (l : Fin 128) :
    (val_main_v167 (F := Ideal) x0 x1 x2 (ix2 r l) : EReal)
      = val_main_v154 (F := Ideal) x0 x1 x2 (ix5 0 ⟨r.val / 128, by omega⟩ ⟨r.val % 128, by omega⟩ ⟨l.val / 64, by omega⟩ ⟨l.val % 64, by omega⟩) := by
  rw [val_main_v167_apply, val_main_v155_apply]
  with_reducible refine congrArg _ ?_
  funext a
  match a with
  | ⟨0, _⟩ => rfl
  | ⟨1, _⟩ => exact Fin.ext (by show (((0 * 4096 + (r.val * 128 + l.val) / 128 % 4096) * 2 + (r.val * 128 + l.val) / 64 % 2) * 64 + (r.val * 128 + l.val) % 64) / 16384 % 32 = r.val / 128; omega)
  | ⟨2, _⟩ => exact Fin.ext (by show (((0 * 4096 + (r.val * 128 + l.val) / 128 % 4096) * 2 + (r.val * 128 + l.val) / 64 % 2) * 64 + (r.val * 128 + l.val) % 64) / 128 % 128 = r.val % 128; omega)
  | ⟨3, _⟩ => exact Fin.ext (by show (((0 * 4096 + (r.val * 128 + l.val) / 128 % 4096) * 2 + (r.val * 128 + l.val) / 64 % 2) * 64 + (r.val * 128 + l.val) % 64) / 64 % 2 = l.val / 64; omega)
  | ⟨4, _⟩ => exact Fin.ext (by show (((0 * 4096 + (r.val * 128 + l.val) / 128 % 4096) * 2 + (r.val * 128 + l.val) / 64 % 2) * 64 + (r.val * 128 + l.val) % 64) % 64 = l.val % 64; omega)

theorem v165 (r : Fin 4096) (c : Fin 1024) :
    (val_main_v165 (F := Ideal) x0 x1 x2 (ix2 r c) : EReal)
      = ∑ k : Fin 256, (val_main_v143 (F := Ideal) x0 x1 x2 (ix6 0 ⟨r.val / 128, by omega⟩ ⟨c.val / 512, by omega⟩ ⟨c.val / 64 % 8, by omega⟩ ⟨r.val % 128, by omega⟩ k) : EReal) * Kb x0 (r.val / 128) k.val (64 * (c.val / 512) + c.val % 64) := by
  pointwise [val_main_v165, val_main_v164, val_main_v163, val_main_v146, val_main_v145, val_main_v144]
  refine Finset.sum_congr rfl fun k _ => ?_
  rw [v15]

theorem v169 (l : Fin 128) :
    (val_main_v169 (F := Ideal) x0 x1 x2 (ix2 0 l) : EReal)
      = if h : l.val < 16 then val_main_v139 (F := Ideal) x0 x1 x2 (ix2 ⟨l.val / 8, by omega⟩ ⟨l.val % 8, by omega⟩) else 0 := by
  pointwise [val_main_v169, val_main_v168, val_main_v140, val_main_call2_v0]
  rw [show (FloatOps.sitofp (F := Ideal) .f32 (val_main_c_27 (F := Ideal) (Shape.Idx.first h_S_)) : EReal) = 0 from by
    pointwise [val_main_c_27]
    show (((0#32).toInt : ℝ) : EReal) = 0
    simp]

theorem none_max (b : Fin 32) (h : Fin 2) (g : Fin 8) (q : Fin 128) (h0 : Re (at2 x0)) (h1 : Re (at2 x1)) (h2 : ∀ e, ∃ r : ℝ, at1 x2 e = (r : EReal)) :
    (val_main_v127 (F := Ideal) x0 x1 x2 (ix6 0 b h g q 0) : EReal) = 0 := by
  rw [v127]
  exact (derivative (h0.blk _ _ _) (h0.keysR _ _) (h0.keysR _ _) (h1.blk _ _ _) h2 _ _).2.2.2.2.2

theorem v130 (h : Fin 2) (g : Fin 8) (h0 : Re (at2 x0)) (h1 : Re (at2 x1)) (h2 : ∀ e, ∃ r : ℝ, at1 x2 e = (r : EReal)) :
    (val_main_v130 (F := Ideal) x0 x1 x2 (ix6 0 0 h g 0 0) : EReal) = 0 := by
  pointwise [val_main_v130, val_main_v129, val_main_cst_21]
  refine (sum14 h g _ _ rfl (val_main_v128 (F := Ideal) x0 x1 x2)).trans (Finset.sum_eq_zero fun b _ => Finset.sum_eq_zero fun q _ => ?_)
  rw [val_main_v128_apply, none_max x0 x1 x2 b h g q h0 h1 h2]
  exact zero_mul (_ : EReal)

theorem v131 (h : Fin 2) (g : Fin 8) (h0 : Re (at2 x0)) (h1 : Re (at2 x1)) (h2 : ∀ e, ∃ r : ℝ, at1 x2 e = (r : EReal)) :
    (val_main_v131 (F := Ideal) x0 x1 x2 (ix6 0 0 h g 0 0) : EReal) = ∑ b : Fin 32, ∑ q : Fin 128, gk (fun k : Fin 256 => W b.val (Qb x0 b.val) (Kb x0 b.val) (8 * h.val + g.val) q.val k.val) (fun k : Fin 256 => DP (Vb x0 b.val) (Cb x1 b.val) (8 * h.val + g.val) q.val k.val) (at1 x2 (8 * h.val + g.val)) := by
  rw [val_main_v131_apply, v130 x0 x1 x2 h g h0 h1 h2]
  refine (add_zero (_ : EReal)).trans ?_
  pointwise [val_main_v117]
  rw [v116]
  exact Finset.sum_congr rfl fun b _ => Finset.sum_congr rfl fun q _ => v115 x0 x1 x2 b h g q

theorem v143 (b : Fin 32) (h : Fin 2) (g : Fin 8) (q : Fin 128) (k : Fin 256) (h0 : Re (at2 x0)) (h1 : Re (at2 x1)) (h2 : ∀ e, ∃ r : ℝ, at1 x2 e = (r : EReal)) :
    (val_main_v143 (F := Ideal) x0 x1 x2 (ix6 0 b h g q k) : EReal) = DS b.val (Qb x0 b.val) (Kb x0 b.val) (Vb x0 b.val) (Cb x1 b.val) (at1 x2) (8 * h.val + g.val) q.val k := by
  have hd := derivative (b := b.val) (h0.blk 3072 1024 b.val) (h0.keysR 4096 b.val) (h0.keysR 4224 b.val) (h1.blk 1024 1024 b.val) h2 (8 * h.val + g.val) q.val
  rw [val_main_v143_apply, val_main_v141_apply, mask, val_main_v138_apply, v137 x0 x1 x2 b h g q k (none_max x0 x1 x2 b h g q h0 h1 h2), v123]
  pointwise [val_main_v142, val_main_cst_24, val_main_call1_v0, val_main_call1_cst]
  rw [ofBits_eighth]
  by_cases e : ok b.val q.val k.val
  · rw [if_pos e, hd.2.2.2.1 k e]
  · rw [if_neg e, hd.2.2.1 k e, zero_mul]

/-- The gradient of the queries. -/
theorem dq (r : Fin 4096) (c : Fin 1024) (h0 : Re (at2 x0)) (h1 : Re (at2 x1)) (h2 : ∀ e, ∃ r : ℝ, at1 x2 e = (r : EReal)) :
    (val_main_v165 (F := Ideal) x0 x1 x2 (ix2 r c) : EReal)
      = dqv (r.val / 128) (Qb x0 (r.val / 128)) (Kb x0 (r.val / 128)) (Vb x0 (r.val / 128)) (Cb x1 (r.val / 128)) (at1 x2) (r.val % 128) c.val := by
  rw [v165]
  unfold dqv
  refine Finset.sum_congr rfl fun k _ => ?_
  rw [v143 x0 x1 x2 _ _ _ _ _ h0 h1 h2]
  dsimp only
  rw [show 8 * (c.val / 512) + c.val / 64 % 8 = c.val / 64 by omega, show c.val / 512 = c.val / 64 / 8 by omega]

theorem dkb (b : Fin 32) (h : Fin 2) (k : Fin 256) (d : Fin 64) (l : ℕ) (hl : l = 64 * h.val + d.val) (h0 : Re (at2 x0)) (h1 : Re (at2 x1)) (h2 : ∀ e, ∃ r : ℝ, at1 x2 e = (r : EReal)) :
    (val_main_v147 (F := Ideal) x0 x1 x2 (ix5 0 b h k d) : EReal)
      = dkv b.val (Qb x0 b.val) (Kb x0 b.val) (Vb x0 b.val) (Cb x1 b.val) (at1 x2) k l := by
  rw [v147]
  unfold dkv
  refine Finset.sum_congr rfl fun g _ => Finset.sum_congr rfl fun q _ => ?_
  rw [v143 x0 x1 x2 _ _ _ _ _ h0 h1 h2, show l / 64 = h.val by omega, show l % 64 = d.val by omega]

theorem dvb (b : Fin 32) (h : Fin 2) (k : Fin 256) (d : Fin 64) (l : ℕ) (hl : l = 64 * h.val + d.val) (h0 : Re (at2 x0)) (h1 : Re (at2 x1)) (h2 : ∀ e, ∃ r : ℝ, at1 x2 e = (r : EReal)) :
    (val_main_v105 (F := Ideal) x0 x1 x2 (ix5 0 b h d k) : EReal)
      = dvv b.val (Qb x0 b.val) (Kb x0 b.val) (Cb x1 b.val) (at1 x2) k l := by
  rw [v105]
  unfold dvv
  refine Finset.sum_congr rfl fun g _ => Finset.sum_congr rfl fun q _ => ?_
  rw [show l / 64 = h.val by omega, show l % 64 = d.val by omega]
  rw [(derivative (b := b.val) (h0.blk 3072 1024 b.val) (h0.keysR 4096 b.val) (h0.keysR 4224 b.val) (h1.blk 1024 1024 b.val) h2 (8 * h.val + g.val) q.val).1 k]

/-- The gradient of the keys. -/
theorem dk (r : Fin 4096) (l : Fin 128) (h0 : Re (at2 x0)) (h1 : Re (at2 x1)) (h2 : ∀ e, ∃ r : ℝ, at1 x2 e = (r : EReal)) :
    (val_main_v166 (F := Ideal) x0 x1 x2 (ix2 r l) : EReal)
      = dkv (r.val / 128) (Qb x0 (r.val / 128)) (Kb x0 (r.val / 128)) (Vb x0 (r.val / 128)) (Cb x1 (r.val / 128)) (at1 x2) ⟨128 + r.val % 128, by omega⟩ l.val
        + (if r.val / 128 < 31 then dkv (r.val / 128 + 1) (Qb x0 (r.val / 128 + 1)) (Kb x0 (r.val / 128 + 1)) (Vb x0 (r.val / 128 + 1)) (Cb x1 (r.val / 128 + 1)) (at1 x2) ⟨r.val % 128, by omega⟩ l.val else 0) := by
  rw [v166, v161, dkb x0 x1 x2 _ _ _ _ l.val (by dsimp only; omega) h0 h1 h2]
  refine congrArg _ ?_
  by_cases h : r.val / 128 < 31
  · rw [dif_pos h, if_pos h, dkb x0 x1 x2 _ _ _ _ l.val (by dsimp only; omega) h0 h1 h2]
    dsimp only
    rw [Nat.add_comm 1]
  · rw [dif_neg h, if_neg h]

/-- The gradient of the values. -/
theorem dv (r : Fin 4096) (l : Fin 128) (h0 : Re (at2 x0)) (h1 : Re (at2 x1)) (h2 : ∀ e, ∃ r : ℝ, at1 x2 e = (r : EReal)) :
    (val_main_v167 (F := Ideal) x0 x1 x2 (ix2 r l) : EReal)
      = dvv (r.val / 128) (Qb x0 (r.val / 128)) (Kb x0 (r.val / 128)) (Cb x1 (r.val / 128)) (at1 x2) ⟨128 + r.val % 128, by omega⟩ l.val
        + (if r.val / 128 < 31 then dvv (r.val / 128 + 1) (Qb x0 (r.val / 128 + 1)) (Kb x0 (r.val / 128 + 1)) (Cb x1 (r.val / 128 + 1)) (at1 x2) ⟨r.val % 128, by omega⟩ l.val else 0) := by
  rw [v167, v154, dvb x0 x1 x2 _ _ _ _ l.val (by dsimp only; omega) h0 h1 h2]
  refine congrArg _ ?_
  by_cases h : r.val / 128 < 31
  · rw [dif_pos h, if_pos h, dvb x0 x1 x2 _ _ _ _ l.val (by dsimp only; omega) h0 h1 h2]
    dsimp only
    rw [Nat.add_comm 1]
  · rw [dif_neg h, if_neg h]

/-- The gradient of the sinks. -/
theorem dsink (l : Fin 128) (h0 : Re (at2 x0)) (h1 : Re (at2 x1)) (h2 : ∀ e, ∃ r : ℝ, at1 x2 e = (r : EReal)) :
    (val_main_v169 (F := Ideal) x0 x1 x2 (ix2 0 l) : EReal)
      = ∑ b : Fin 32, dsv b.val (Qb x0 b.val) (Kb x0 b.val) (Vb x0 b.val) (Cb x1 b.val) (at1 x2) l.val := by
  rw [v169]
  unfold dsv
  by_cases h : l.val < 16
  · rw [dif_pos h, v139, v131 x0 x1 x2 _ _ h0 h1 h2]
    refine Finset.sum_congr rfl fun b _ => ?_
    rw [if_pos h]
    dsimp only
    rw [show 8 * (l.val / 8) + l.val % 8 = l.val by omega]
    have hr := fun q : Fin 128 => (derivative (b := b.val) (h0.blk 3072 1024 b.val) (h0.keysR 4096 b.val) (h0.keysR 4224 b.val) (h1.blk 1024 1024 b.val) h2 l.val q.val).2.2.2.2.1
    choose r hs hg using hr
    simp only [hs, hg, coe_sum, Finset.sum_neg_distrib]
    rw [zero_sub, EReal.coe_neg]
  · rw [dif_neg h]
    exact (Finset.sum_eq_zero fun b _ => if_neg h).symm

end Cert.SwaBwdRefIdeal.Ref
-- ==== Proof.SwaBwd.lean ====
/- The gradient of the windowed attention: the call over 32 blocks against the derivative of the attention,
   where every argument is a finite number. -/
module

public import proofs.«01_k».proof.Defs
public import proofs.«01_k».proof.Proof.SwaBwdFrame
public import proofs.«01_k».proof.Proof.SwaBwdIdealFrame
public import proofs.«01_k».proof.Proof.SwaBwdIdealAcc
public import proofs.«01_k».proof.Proof.SwaBwdRef
public import proofs.«01_k».proof.Proof.Gen.SwaBwdRefIdeal.Read
public import proofs.«01_k».proof.Proof.Gen.SwaBwdRefIdeal.Run
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwaBwdIdeal.Result

open Cert.SwaBwdIdeal Cert.SwaBwdIdeal.Gen Cert.SwaBwdIdeal.Acc Cert.SwaRow

/-- An extended real below `⊤` in absolute value is a real number. -/
theorem real_of_lt (x : EReal) (h : Ideal.cmp .olt (max x (-x)) ⊤ = 1#1) : ∃ r : ℝ, x = (r : EReal) := by
  have h' : max x (-x) < ⊤ := by
    by_contra hn
    unfold Ideal.cmp at h
    simp only [decide_eq_false hn] at h
    exact absurd h (by decide)
  induction x using EReal.rec with
  | bot => exact absurd h' (by simp)
  | coe r => exact ⟨r, rfl⟩
  | top => exact absurd h' (by simp)

theorem ofBits_top : Ideal.ofBits .f32 0x7F800000#32 = ⊤ := by
  simp [Ideal.ofBits, Ideal.ieee]

/-- What the precondition says of the three arguments. -/
theorem finite [hP : Cert.Pre_finite.Facts] (X : FVec Ideal S4096x4480 .f32) (C : FVec Ideal S4096x2048 .f32) (Z : FVec Ideal S16 .f32)
    (h : Cert.Pre_finite.fn (F := Ideal) X C Z = fun _ => 1#1) :
    (∀ i, ∃ r : ℝ, (X i : EReal) = (r : EReal)) ∧ (∀ i, ∃ r : ℝ, (C i : EReal) = (r : EReal)) ∧ (∀ i, ∃ r : ℝ, (Z i : EReal) = (r : EReal)) := by
  have e := congrFun h ix0
  unfold Cert.Pre_finite.fn at e
  dsimp only at e
  obtain ⟨e1, eZ⟩ := IntOp.andi_eq_one.mp e
  obtain ⟨eX, eC⟩ := IntOp.andi_eq_one.mp e1
  haveI : Subsingleton Cert.Pre_finite.S_.Idx := ⟨fun a b => funext fun d => d.elim0⟩
  refine ⟨fun i => real_of_lt _ ?_, fun i => real_of_lt _ ?_, fun i => real_of_lt _ ?_⟩
  · have := Host.reduce_andi_all _ _ _ _ _ eX i
    rw [← ofBits_top]
    exact this
  · have := Host.reduce_andi_all _ _ _ _ _ eC i
    rw [← ofBits_top]
    exact this
  · have := Host.reduce_andi_all _ _ _ _ _ eZ i
    rw [← ofBits_top]
    exact this

theorem re_of {a b : ℕ} (x : Vec Ideal ⟨2, ![a, b]⟩ .f32) (h : ∀ i, ∃ r : ℝ, (x i : EReal) = (r : EReal)) : Re (at2 x) := by
  intro i j
  unfold at2
  split_ifs
  · exact h _
  · exact ⟨0, rfl⟩

theorem re1_of {a : ℕ} (x : Vec Ideal ⟨1, ![a]⟩ .f32) (h : ∀ i, ∃ r : ℝ, (x i : EReal) = (r : EReal)) : ∀ e, ∃ r : ℝ, at1 x e = (r : EReal) := by
  intro e
  unfold at1
  split_ifs
  · exact h _
  · exact ⟨0, rfl⟩

variable (m : (ℓ : Loc nD τ sig) → Buf (Elt Ideal) ℓ) (c : Dev nD)
variable (h0 : Re (at2 (PX m c))) (h1 : Re (at2 (PC m c))) (h2 : ∀ e, ∃ r : ℝ, at1 (PZ m c) e = (r : EReal))

include h0 h1 h2

/-- The keys before the first block do not matter. -/
theorem dq_eq (b q l : ℕ) : Dq m c b q l = dqv b (blk (at2 (PX m c)) 3072 1024 b) (keysR (at2 (PX m c)) 4096 b) (keysR (at2 (PX m c)) 4224 b) (blk (at2 (PC m c)) 1024 1024 b) (at1 (PZ m c)) q l :=
  dqv_cross (h0.blk _ _ _) (h0.keysK _ _) (h0.keysK _ _) (h0.keysR _ _) (h1.blk _ _ _) h2 (fun k l h => keys_eq _ _ _ _ _ h) (fun k l h => keys_eq _ _ _ _ _ h) q l

theorem dk_eq (b : ℕ) (k : Fin 256) (l : ℕ) : Dk m c b k l = dkv b (blk (at2 (PX m c)) 3072 1024 b) (keysR (at2 (PX m c)) 4096 b) (keysR (at2 (PX m c)) 4224 b) (blk (at2 (PC m c)) 1024 1024 b) (at1 (PZ m c)) k l :=
  dkv_cross (h0.blk _ _ _) (h0.keysK _ _) (h0.keysK _ _) (h0.keysR _ _) (h1.blk _ _ _) h2 (fun k l h => keys_eq _ _ _ _ _ h) (fun k l h => keys_eq _ _ _ _ _ h) k l

theorem dv_eq (b : ℕ) (k : Fin 256) (l : ℕ) : Dv m c b k l = dvv b (blk (at2 (PX m c)) 3072 1024 b) (keysR (at2 (PX m c)) 4096 b) (blk (at2 (PC m c)) 1024 1024 b) (at1 (PZ m c)) k l :=
  dvv_cross (h0.blk _ _ _) (h0.keysK _ _) (h0.keysK 4224 b) (h0.keysR 4224 b) (h1.blk _ _ _) h2 (fun k l h => keys_eq _ _ _ _ _ h) (fun k l h => keys_eq _ _ _ _ _ h) k l

theorem ds_eq (b l : ℕ) : Ds m c b l = dsv b (blk (at2 (PX m c)) 3072 1024 b) (keysR (at2 (PX m c)) 4096 b) (keysR (at2 (PX m c)) 4224 b) (blk (at2 (PC m c)) 1024 1024 b) (at1 (PZ m c)) l :=
  dsv_cross (h0.blk _ _ _) (h0.keysK _ _) (h0.keysK _ _) (h0.keysR _ _) (h1.blk _ _ _) h2 (fun k l h => keys_eq _ _ _ _ _ h) (fun k l h => keys_eq _ _ _ _ _ h) l

/-- The four results are the reference's. -/
theorem res0 : F7 m c = Cert.SwaBwdRefIdeal.Read.val_main_v165 (F := Ideal) (PX m c) (PC m c) (PZ m c) := by
  funext i
  obtain ⟨r, l, rfl⟩ : ∃ (r : Fin 4096) (l : Fin 1024), i = ix2 r l := ⟨i 0, i 1, eq_ix2 i⟩
  refine Eq.trans ?_ (Cert.SwaBwdRefIdeal.Ref.dq (PX m c) (PC m c) (PZ m c) r l h0 h1 h2).symm
  exact dq_eq m c h0 h1 h2 _ _ _

theorem res1 : F8 m c = Cert.SwaBwdRefIdeal.Read.val_main_v166 (F := Ideal) (PX m c) (PC m c) (PZ m c) := by
  funext i
  obtain ⟨r, l, rfl⟩ : ∃ (r : Fin 4096) (l : Fin 128), i = ix2 r l := ⟨i 0, i 1, eq_ix2 i⟩
  refine Eq.trans ?_ (Cert.SwaBwdRefIdeal.Ref.dk (PX m c) (PC m c) (PZ m c) r l h0 h1 h2).symm
  unfold F8
  rw [dk_after m c lastPt.val lastPt.isLt r l, show lastPt.val = 31 from rfl, if_pos (show r.val / 128 ≤ 31 by omega), dk_eq m c h0 h1 h2, dk_eq m c h0 h1 h2]
  exact congrArg (fun a : EReal => _ + a) (if_congr (show r.val / 128 + 1 ≤ 31 ↔ r.val / 128 < 31 by omega) rfl rfl)

theorem res2 : F9 m c = Cert.SwaBwdRefIdeal.Read.val_main_v167 (F := Ideal) (PX m c) (PC m c) (PZ m c) := by
  funext i
  obtain ⟨r, l, rfl⟩ : ∃ (r : Fin 4096) (l : Fin 128), i = ix2 r l := ⟨i 0, i 1, eq_ix2 i⟩
  refine Eq.trans ?_ (Cert.SwaBwdRefIdeal.Ref.dv (PX m c) (PC m c) (PZ m c) r l h0 h1 h2).symm
  unfold F9
  rw [dv_after m c lastPt.val lastPt.isLt r l, show lastPt.val = 31 from rfl, if_pos (show r.val / 128 ≤ 31 by omega), dv_eq m c h0 h1 h2, dv_eq m c h0 h1 h2]
  exact congrArg (fun a : EReal => _ + a) (if_congr (show r.val / 128 + 1 ≤ 31 ↔ r.val / 128 < 31 by omega) rfl rfl)

theorem res3 : F10 m c = Cert.SwaBwdRefIdeal.Read.val_main_v169 (F := Ideal) (PX m c) (PC m c) (PZ m c) := by
  funext i
  obtain ⟨l, rfl⟩ : ∃ (l : Fin 128), i = ix2 0 l := ⟨i 1, (eq_ix2 i).trans (congrArg (fun a : Fin 1 => ix2 a (i 1)) (Subsingleton.elim (α := Fin 1) _ _))⟩
  refine Eq.trans ?_ (Cert.SwaBwdRefIdeal.Ref.dsink (PX m c) (PC m c) (PZ m c) l h0 h1 h2).symm
  unfold F10
  rw [ds_after m c lastPt.val lastPt.isLt l, show lastPt.val + 1 = 32 from rfl]
  refine (Finset.sum_range (n := 32) (fun b => Ds m c b l.val)).trans ?_
  exact Finset.sum_congr rfl fun b _ => ds_eq m c h0 h1 h2 _ _

end Cert.SwaBwdIdeal.Result

namespace Cert.Proof

/-- The frames of the call and of its ideal reading. -/
theorem frame_SwaBwd [h : Cert.SwaBwd.Facts] : Cert.quiescent_SwaBwd := fun m g _ => Cert.SwaBwd.Hand.frame m g

theorem frame_SwaBwdIdeal [h : Cert.SwaBwdIdeal.Facts] : Cert.quiescent_SwaBwdIdeal := fun m g _ => Cert.SwaBwdIdeal.Hand.frame m g

/-- The idealized call computes the reference's results, where the arguments are finite. -/
theorem algebraic_SwaBwd [h : Cert.SwaBwdIdeal.Facts] [h' : Cert.SwaBwdRefIdeal.Facts] [hP : Cert.Pre_finite.Facts] :
    Cert.algebraic_SwaBwdIdeal_SwaBwdRefIdeal_pre_finite := by
  intro m g m' g' hpre hagree
  refine ⟨fun c => Cert.SwaBwdIdeal.Acc.F7 m c, fun c => Cert.SwaBwdIdeal.Acc.F8 m c, fun c => Cert.SwaBwdIdeal.Acc.F9 m c, fun c => Cert.SwaBwdIdeal.Acc.F10 m c, ?_, ?_⟩
  · refine (θ_run _ _ _).mono (fun r h c => ⟨((h.1 c).1 7).trans (Cert.SwaBwdIdeal.Acc.fin7 m c), ((h.1 c).1 8).trans (Cert.SwaBwdIdeal.Acc.fin8 m c),
      ((h.1 c).1 9).trans (Cert.SwaBwdIdeal.Acc.fin9 m c), ((h.1 c).1 10).trans (Cert.SwaBwdIdeal.Acc.fin10 m c), h.2 c⟩)
      (θ_run_and (Cert.SwaBwdIdeal.Hand.run_main m g)
        (Cert.SwaBwdIdeal.Gen.frame_of m g (Cert.SwaBwdIdeal.Hand.dats m) (Cert.SwaBwdIdeal.Hand.A_eq m) (Cert.SwaBwdIdeal.Hand.run_main m g)))
  · refine (θ_run _ _ _).mono (fun r h c => ?_) (Cert.SwaBwdRefIdeal.Value.run (F := Ideal) m' g')
    obtain ⟨e0, e1, e2, e3, a⟩ := h c
    obtain ⟨b0, b1, b2⟩ := hagree c
    obtain ⟨f0, f1, f2⟩ := Cert.SwaBwdIdeal.Result.finite _ _ _ (hpre c)
    have r0 := Cert.SwaBwdIdeal.Result.re_of _ f0
    have r1 := Cert.SwaBwdIdeal.Result.re_of _ f1
    have r2 := Cert.SwaBwdIdeal.Result.re1_of _ f2
    refine ⟨(e0.trans (Cert.SwaBwdRefIdeal.Read.val_main_v165_eq _)).trans ?_, (e1.trans (Cert.SwaBwdRefIdeal.Read.val_main_v166_eq _)).trans ?_,
      (e2.trans (Cert.SwaBwdRefIdeal.Read.val_main_v167_eq _)).trans ?_, (e3.trans (Cert.SwaBwdRefIdeal.Read.val_main_v169_eq _)).trans ?_, a⟩
    · refine Eq.trans ?_ (Cert.SwaBwdIdeal.Result.res0 m c r0 r1 r2).symm
      exact congr (congr (congrArg _ b0) b1) b2
    · refine Eq.trans ?_ (Cert.SwaBwdIdeal.Result.res1 m c r0 r1 r2).symm
      exact congr (congr (congrArg _ b0) b1) b2
    · refine Eq.trans ?_ (Cert.SwaBwdIdeal.Result.res2 m c r0 r1 r2).symm
      exact congr (congr (congrArg _ b0) b1) b2
    · refine Eq.trans ?_ (Cert.SwaBwdIdeal.Result.res3 m c r0 r1 r2).symm
      exact congr (congr (congrArg _ b0) b1) b2

end Cert.Proof

end
-- ==== Proof.NormFwd.lean ====
module

public import proofs.«01_k».proof.Defs
public import proofs.«01_k».proof.Proof.Gen.NormFwdIdeal.Value
public import proofs.«01_k».proof.Proof.Gen.NormFwdRefIdeal.Read
public import proofs.«01_k».proof.Proof.Gen.NormFwdRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwdIdeal.Result

open Cert.NormFwdIdeal Cert.NormFwdIdeal.Gen

variable (m : (ℓ : Loc nD τ sig) → Buf (Elt Ideal) ℓ)

/-- The reference's result over this program's arguments. -/
abbrev REF (X : FVec Ideal S4096x1024 .f32) (Y : FVec Ideal S4096x4480 .f32) (Z : FVec Ideal S1x256 .f32) : FVec Ideal S4096x1024 .bf16 :=
  Cert.NormFwdRefIdeal.Read.val_main_v20 (F := Ideal) X Y Z

/-- Where each window's block lies, at every grid point. -/
theorem idx : ∀ t : Fin cfg0.N, win0_0.index t = ![t.val, 0] ∧ win0_1.index t = ![t.val, 2] ∧ win0_2.index t = ![0, 0]
    ∧ win0_3.index t = ![t.val, 0] :=
  (by decide +kernel : ∀ t : Fin grid0.N, _)

/-- The gate's window at a point: the gate's columns of the projection. -/
theorem gate (c : Dev nD) (t : Fin cfg0.N) (i : S512x1024.Idx) :
    (X0_1 m c t i : EReal) = m ((c : Thread nD τ).loc main_arg1)
      (ix2 ⟨512 * t.val + (i 0).val, by have h : t.val < 8 := t.isLt; have h0 : (i 0).val < 512 := (i 0).isLt; omega⟩
        ⟨2048 + (i 1).val, by have h1 : (i 1).val < 1024 := (i 1).isLt; omega⟩) := by
  unfold X0_1 Pipeline.Window.fill
  rw [dif_pos (moved0_1 t i)]
  blk_point [iblk, V, idx t]

/-- What the body stores at `y` of its block is the reference's result at the place of `y` in the array. -/
theorem point (c : Dev nD) (t : Fin cfg0.N) (y : S512x1024.Idx) :
    outsAt0 (F := Ideal) m c t y
      = REF (m ((c : Thread nD τ).loc main_arg0)) (m ((c : Thread nD τ).loc main_arg1)) (m ((c : Thread nD τ).loc main_arg2)) (((cfg0.win 3).blk t).view.emb y) := by
  unfold outsAt0
  frame_out
  have hX := gate m c t
  generalize X0_1 m c t = X1 at hX ⊢
  pointwise [REF, Cert.NormFwdRefIdeal.Read.val_main_v0, Cert.NormFwdRefIdeal.Read.val_main_v1, Cert.NormFwdRefIdeal.Read.val_main_v2, Cert.NormFwdRefIdeal.Read.val_main_v3, Cert.NormFwdRefIdeal.Read.val_main_v4, Cert.NormFwdRefIdeal.Read.val_main_cst, Cert.NormFwdRefIdeal.Read.val_main_v5, Cert.NormFwdRefIdeal.Read.val_main_v6, Cert.NormFwdRefIdeal.Read.val_main_cst_0, Cert.NormFwdRefIdeal.Read.val_main_v7, Cert.NormFwdRefIdeal.Read.val_main_v8, Cert.NormFwdRefIdeal.Read.val_main_cst_1, Cert.NormFwdRefIdeal.Read.val_main_v9, Cert.NormFwdRefIdeal.Read.val_main_v10, Cert.NormFwdRefIdeal.Read.val_main_v11, Cert.NormFwdRefIdeal.Read.val_main_v12, Cert.NormFwdRefIdeal.Read.val_main_v13, Cert.NormFwdRefIdeal.Read.val_main_v14, Cert.NormFwdRefIdeal.Read.val_main_v15, Cert.NormFwdRefIdeal.Read.val_main_v16, Cert.NormFwdRefIdeal.Read.val_main_call0_v0, Cert.NormFwdRefIdeal.Read.val_main_call0_v1, Cert.NormFwdRefIdeal.Read.val_main_call0_cst, Cert.NormFwdRefIdeal.Read.val_main_call0_v2, Cert.NormFwdRefIdeal.Read.val_main_call0_v3, Cert.NormFwdRefIdeal.Read.val_main_call0_cst_0, Cert.NormFwdRefIdeal.Read.val_main_call0_v4, Cert.NormFwdRefIdeal.Read.val_main_call0_v5, Cert.NormFwdRefIdeal.Read.val_main_v17, Cert.NormFwdRefIdeal.Read.val_main_v18, Cert.NormFwdRefIdeal.Read.val_main_v19, Cert.NormFwdRefIdeal.Read.val_main_v20]
  canon_tiles x h
  all_goals
    open_payloads
    pointwise
    simp only [hX, Ideal.logistic]
  all_goals blk_point [iblk, V, idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.NormFwdIdeal.Result

namespace Cert.Proof

/-- The idealized call computes the reference's result. -/
theorem algebraic_NormFwd [h : Cert.NormFwdIdeal.Facts] [h' : Cert.NormFwdRefIdeal.Facts] :
    Cert.algebraic_NormFwdIdeal_NormFwdRefIdeal := by
  pair_intro
  · run_from Cert.NormFwdIdeal.Gen.run_main m g
  · run_from Cert.NormFwdRefIdeal.Value.run m' g'
    exact (Cert.NormFwdIdeal.Result.final m c).symm

end Cert.Proof

end
-- ==== Proof.AdamGk2.lean ====
module

public import proofs.«01_k».proof.Defs
public import proofs.«01_k».proof.Proof.Gen.AdamGk2Ideal.Value
public import proofs.«01_k».proof.Proof.Gen.AdamGk2RefIdeal.Read
public import proofs.«01_k».proof.Proof.Gen.AdamGk2RefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamGk2Ideal.Result

open Cert.AdamGk2Ideal Cert.AdamGk2Ideal.Gen

variable (m : (ℓ : Loc nD τ sig) → Buf (Elt Ideal) ℓ)

/-- The reference's change of the weight. -/
abbrev REF0 (X : FVec Ideal S16x64 .f32) (Y : FVec Ideal S1x16x64 .f32) (Z : FVec Ideal S1x16x64 .f32) (U : FVec Ideal S1x16x64 .f32) : FVec Ideal S16x64 .f32 :=
  Cert.AdamGk2RefIdeal.Read.val_main_v26 (F := Ideal) X Y Z U

/-- The reference's new first moment. -/
abbrev REF1 (X : FVec Ideal S16x64 .f32) (Y : FVec Ideal S1x16x64 .f32) (Z : FVec Ideal S1x16x64 .f32) (U : FVec Ideal S1x16x64 .f32) : FVec Ideal S16x64 .f32 :=
  Cert.AdamGk2RefIdeal.Read.val_main_v7 (F := Ideal) X Z

/-- The reference's new second moment. -/
abbrev REF2 (X : FVec Ideal S16x64 .f32) (Y : FVec Ideal S1x16x64 .f32) (Z : FVec Ideal S1x16x64 .f32) (U : FVec Ideal S1x16x64 .f32) : FVec Ideal S16x64 .f32 :=
  Cert.AdamGk2RefIdeal.Read.val_main_v13 (F := Ideal) X U

/-- Every window is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- What the body stores at `y` is the reference's change of the weight there. -/
theorem point0 (c : Dev nD) (t : Fin cfg0.N) (y : S16x64.Idx) :
    out0_4 (F := Ideal) (iblk m c 0 t) (iblk m c 1 t) (iblk m c 2 t) (iblk m c 3 t) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [REF0, Cert.AdamGk2RefIdeal.Read.val_main_v0, Cert.AdamGk2RefIdeal.Read.val_main_v1, Cert.AdamGk2RefIdeal.Read.val_main_v2, Cert.AdamGk2RefIdeal.Read.val_main_cst, Cert.AdamGk2RefIdeal.Read.val_main_v3, Cert.AdamGk2RefIdeal.Read.val_main_v4, Cert.AdamGk2RefIdeal.Read.val_main_cst_0, Cert.AdamGk2RefIdeal.Read.val_main_v5, Cert.AdamGk2RefIdeal.Read.val_main_v6, Cert.AdamGk2RefIdeal.Read.val_main_v7, Cert.AdamGk2RefIdeal.Read.val_main_cst_1, Cert.AdamGk2RefIdeal.Read.val_main_v8, Cert.AdamGk2RefIdeal.Read.val_main_v9, Cert.AdamGk2RefIdeal.Read.val_main_v10, Cert.AdamGk2RefIdeal.Read.val_main_cst_2, Cert.AdamGk2RefIdeal.Read.val_main_v11, Cert.AdamGk2RefIdeal.Read.val_main_v12, Cert.AdamGk2RefIdeal.Read.val_main_v13, Cert.AdamGk2RefIdeal.Read.val_main_cst_3, Cert.AdamGk2RefIdeal.Read.val_main_v14, Cert.AdamGk2RefIdeal.Read.val_main_v15, Cert.AdamGk2RefIdeal.Read.val_main_cst_4, Cert.AdamGk2RefIdeal.Read.val_main_v16, Cert.AdamGk2RefIdeal.Read.val_main_v17, Cert.AdamGk2RefIdeal.Read.val_main_v18, Cert.AdamGk2RefIdeal.Read.val_main_cst_5, Cert.AdamGk2RefIdeal.Read.val_main_v19, Cert.AdamGk2RefIdeal.Read.val_main_v20, Cert.AdamGk2RefIdeal.Read.val_main_v21, Cert.AdamGk2RefIdeal.Read.val_main_cst_6, Cert.AdamGk2RefIdeal.Read.val_main_v22, Cert.AdamGk2RefIdeal.Read.val_main_v23, Cert.AdamGk2RefIdeal.Read.val_main_v24, Cert.AdamGk2RefIdeal.Read.val_main_cst_7, Cert.AdamGk2RefIdeal.Read.val_main_v25, Cert.AdamGk2RefIdeal.Read.val_main_v26]
  canon_tiles x h
  all_goals
    open_payloads
    pointwise
  all_goals blk_point [iblk, V, idx t]

/-- The result after the run is the reference's change of the weight. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point0 m c t y

/-- What the body stores at `y` is the reference's new first moment there. -/
theorem point1 (c : Dev nD) (t : Fin cfg0.N) (y : S16x64.Idx) :
    out0_5 (F := Ideal) (iblk m c 0 t) (iblk m c 1 t) (iblk m c 2 t) (iblk m c 3 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [REF1, Cert.AdamGk2RefIdeal.Read.val_main_v0, Cert.AdamGk2RefIdeal.Read.val_main_v1, Cert.AdamGk2RefIdeal.Read.val_main_v2, Cert.AdamGk2RefIdeal.Read.val_main_cst, Cert.AdamGk2RefIdeal.Read.val_main_v3, Cert.AdamGk2RefIdeal.Read.val_main_v4, Cert.AdamGk2RefIdeal.Read.val_main_cst_0, Cert.AdamGk2RefIdeal.Read.val_main_v5, Cert.AdamGk2RefIdeal.Read.val_main_v6, Cert.AdamGk2RefIdeal.Read.val_main_v7, Cert.AdamGk2RefIdeal.Read.val_main_cst_1, Cert.AdamGk2RefIdeal.Read.val_main_v8, Cert.AdamGk2RefIdeal.Read.val_main_v9, Cert.AdamGk2RefIdeal.Read.val_main_v10, Cert.AdamGk2RefIdeal.Read.val_main_cst_2, Cert.AdamGk2RefIdeal.Read.val_main_v11, Cert.AdamGk2RefIdeal.Read.val_main_v12, Cert.AdamGk2RefIdeal.Read.val_main_v13, Cert.AdamGk2RefIdeal.Read.val_main_cst_3, Cert.AdamGk2RefIdeal.Read.val_main_v14, Cert.AdamGk2RefIdeal.Read.val_main_v15, Cert.AdamGk2RefIdeal.Read.val_main_cst_4, Cert.AdamGk2RefIdeal.Read.val_main_v16, Cert.AdamGk2RefIdeal.Read.val_main_v17, Cert.AdamGk2RefIdeal.Read.val_main_v18, Cert.AdamGk2RefIdeal.Read.val_main_cst_5, Cert.AdamGk2RefIdeal.Read.val_main_v19, Cert.AdamGk2RefIdeal.Read.val_main_v20, Cert.AdamGk2RefIdeal.Read.val_main_v21, Cert.AdamGk2RefIdeal.Read.val_main_cst_6, Cert.AdamGk2RefIdeal.Read.val_main_v22, Cert.AdamGk2RefIdeal.Read.val_main_v23, Cert.AdamGk2RefIdeal.Read.val_main_v24, Cert.AdamGk2RefIdeal.Read.val_main_cst_7, Cert.AdamGk2RefIdeal.Read.val_main_v25, Cert.AdamGk2RefIdeal.Read.val_main_v26]
  canon_tiles x h
  all_goals
    open_payloads
    pointwise
  all_goals blk_point [iblk, V, idx t]

/-- The result after the run is the reference's new first moment. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point1 m c t y

/-- What the body stores at `y` is the reference's new second moment there. -/
theorem point2 (c : Dev nD) (t : Fin cfg0.N) (y : S16x64.Idx) :
    out0_6 (F := Ideal) (iblk m c 0 t) (iblk m c 1 t) (iblk m c 2 t) (iblk m c 3 t) y
      = REF2 (m ((c : Thread nD τ).loc main_arg0)) (m ((c : Thread nD τ).loc main_arg1)) (m ((c : Thread nD τ).loc main_arg2)) (m ((c : Thread nD τ).loc main_arg3)) (((cfg0.win 6).blk t).view.emb y) := by
  pointwise [REF2, Cert.AdamGk2RefIdeal.Read.val_main_v0, Cert.AdamGk2RefIdeal.Read.val_main_v1, Cert.AdamGk2RefIdeal.Read.val_main_v2, Cert.AdamGk2RefIdeal.Read.val_main_cst, Cert.AdamGk2RefIdeal.Read.val_main_v3, Cert.AdamGk2RefIdeal.Read.val_main_v4, Cert.AdamGk2RefIdeal.Read.val_main_cst_0, Cert.AdamGk2RefIdeal.Read.val_main_v5, Cert.AdamGk2RefIdeal.Read.val_main_v6, Cert.AdamGk2RefIdeal.Read.val_main_v7, Cert.AdamGk2RefIdeal.Read.val_main_cst_1, Cert.AdamGk2RefIdeal.Read.val_main_v8, Cert.AdamGk2RefIdeal.Read.val_main_v9, Cert.AdamGk2RefIdeal.Read.val_main_v10, Cert.AdamGk2RefIdeal.Read.val_main_cst_2, Cert.AdamGk2RefIdeal.Read.val_main_v11, Cert.AdamGk2RefIdeal.Read.val_main_v12, Cert.AdamGk2RefIdeal.Read.val_main_v13, Cert.AdamGk2RefIdeal.Read.val_main_cst_3, Cert.AdamGk2RefIdeal.Read.val_main_v14, Cert.AdamGk2RefIdeal.Read.val_main_v15, Cert.AdamGk2RefIdeal.Read.val_main_cst_4, Cert.AdamGk2RefIdeal.Read.val_main_v16, Cert.AdamGk2RefIdeal.Read.val_main_v17, Cert.AdamGk2RefIdeal.Read.val_main_v18, Cert.AdamGk2RefIdeal.Read.val_main_cst_5, Cert.AdamGk2RefIdeal.Read.val_main_v19, Cert.AdamGk2RefIdeal.Read.val_main_v20, Cert.AdamGk2RefIdeal.Read.val_main_v21, Cert.AdamGk2RefIdeal.Read.val_main_cst_6, Cert.AdamGk2RefIdeal.Read.val_main_v22, Cert.AdamGk2RefIdeal.Read.val_main_v23, Cert.AdamGk2RefIdeal.Read.val_main_v24, Cert.AdamGk2RefIdeal.Read.val_main_cst_7, Cert.AdamGk2RefIdeal.Read.val_main_v25, Cert.AdamGk2RefIdeal.Read.val_main_v26]
  canon_tiles x h
  all_goals
    open_payloads
    pointwise
  all_goals blk_point [iblk, V, idx t]

/-- The result after the run is the reference's new second moment. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact point2 m c t y

end Cert.AdamGk2Ideal.Result

namespace Cert.Proof

/-- The idealized call computes the reference's results. -/
theorem algebraic_AdamGk2 [h : Cert.AdamGk2Ideal.Facts] [h' : Cert.AdamGk2RefIdeal.Facts] :
    Cert.algebraic_AdamGk2Ideal_AdamGk2RefIdeal := by
  pair_intro
  · run_from Cert.AdamGk2Ideal.Gen.run_main m g
  · run_from Cert.AdamGk2RefIdeal.Value.run m' g'
    · exact (Cert.AdamGk2Ideal.Result.final0 m c).symm
    · exact (Cert.AdamGk2Ideal.Result.final1 m c).symm
    · exact (Cert.AdamGk2Ideal.Result.final2 m c).symm

end Cert.Proof

end
-- ==== Proof.AdamRep.lean ====
module

public import proofs.«01_k».proof.Defs
public import proofs.«01_k».proof.Proof.Gen.AdamRepIdeal.Value
public import proofs.«01_k».proof.Proof.Gen.AdamRepRefIdeal.Read
public import proofs.«01_k».proof.Proof.Gen.AdamRepRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamRepIdeal.Result

open Cert.AdamRepIdeal Cert.AdamRepIdeal.Gen

variable (m : (ℓ : Loc nD τ sig) → Buf (Elt Ideal) ℓ)

/-- The reference's change of the weight. -/
abbrev REF0 (X : FVec Ideal S88x128 .f32) (Y : FVec Ideal S88x128 .f32) (Z : FVec Ideal S88x128 .f32) (U : FVec Ideal S88x128 .f32) : FVec Ideal S88x128 .f32 :=
  Cert.AdamRepRefIdeal.Read.val_main_v23 (F := Ideal) X Y Z U

/-- The reference's new first moment. -/
abbrev REF1 (X : FVec Ideal S88x128 .f32) (Y : FVec Ideal S88x128 .f32) (Z : FVec Ideal S88x128 .f32) (U : FVec Ideal S88x128 .f32) : FVec Ideal S88x128 .f32 :=
  Cert.AdamRepRefIdeal.Read.val_main_v4 (F := Ideal) X Z

/-- The reference's new second moment. -/
abbrev REF2 (X : FVec Ideal S88x128 .f32) (Y : FVec Ideal S88x128 .f32) (Z : FVec Ideal S88x128 .f32) (U : FVec Ideal S88x128 .f32) : FVec Ideal S88x128 .f32 :=
  Cert.AdamRepRefIdeal.Read.val_main_v10 (F := Ideal) X U

/-- Every window is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- What the body stores at `y` is the reference's change of the weight there. -/
theorem point0 (c : Dev nD) (t : Fin cfg0.N) (y : S88x128.Idx) :
    out0_4 (F := Ideal) (iblk m c 0 t) (iblk m c 1 t) (iblk m c 2 t) (iblk m c 3 t) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [REF0, Cert.AdamRepRefIdeal.Read.val_main_cst, Cert.AdamRepRefIdeal.Read.val_main_v0, Cert.AdamRepRefIdeal.Read.val_main_v1, Cert.AdamRepRefIdeal.Read.val_main_cst_0, Cert.AdamRepRefIdeal.Read.val_main_v2, Cert.AdamRepRefIdeal.Read.val_main_v3, Cert.AdamRepRefIdeal.Read.val_main_v4, Cert.AdamRepRefIdeal.Read.val_main_cst_1, Cert.AdamRepRefIdeal.Read.val_main_v5, Cert.AdamRepRefIdeal.Read.val_main_v6, Cert.AdamRepRefIdeal.Read.val_main_v7, Cert.AdamRepRefIdeal.Read.val_main_cst_2, Cert.AdamRepRefIdeal.Read.val_main_v8, Cert.AdamRepRefIdeal.Read.val_main_v9, Cert.AdamRepRefIdeal.Read.val_main_v10, Cert.AdamRepRefIdeal.Read.val_main_cst_3, Cert.AdamRepRefIdeal.Read.val_main_v11, Cert.AdamRepRefIdeal.Read.val_main_v12, Cert.AdamRepRefIdeal.Read.val_main_cst_4, Cert.AdamRepRefIdeal.Read.val_main_v13, Cert.AdamRepRefIdeal.Read.val_main_v14, Cert.AdamRepRefIdeal.Read.val_main_v15, Cert.AdamRepRefIdeal.Read.val_main_cst_5, Cert.AdamRepRefIdeal.Read.val_main_v16, Cert.AdamRepRefIdeal.Read.val_main_v17, Cert.AdamRepRefIdeal.Read.val_main_v18, Cert.AdamRepRefIdeal.Read.val_main_cst_6, Cert.AdamRepRefIdeal.Read.val_main_v19, Cert.AdamRepRefIdeal.Read.val_main_v20, Cert.AdamRepRefIdeal.Read.val_main_v21, Cert.AdamRepRefIdeal.Read.val_main_cst_7, Cert.AdamRepRefIdeal.Read.val_main_v22, Cert.AdamRepRefIdeal.Read.val_main_v23]
  canon_tiles x h
  all_goals
    open_payloads
    pointwise
  all_goals blk_point [iblk, V, idx t]

/-- The result after the run is the reference's change of the weight. -/
theorem final0 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point0 m c t y

/-- What the body stores at `y` is the reference's new first moment there. -/
theorem point1 (c : Dev nD) (t : Fin cfg0.N) (y : S88x128.Idx) :
    out0_5 (F := Ideal) (iblk m c 0 t) (iblk m c 1 t) (iblk m c 2 t) (iblk m c 3 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [REF1, Cert.AdamRepRefIdeal.Read.val_main_cst, Cert.AdamRepRefIdeal.Read.val_main_v0, Cert.AdamRepRefIdeal.Read.val_main_v1, Cert.AdamRepRefIdeal.Read.val_main_cst_0, Cert.AdamRepRefIdeal.Read.val_main_v2, Cert.AdamRepRefIdeal.Read.val_main_v3, Cert.AdamRepRefIdeal.Read.val_main_v4, Cert.AdamRepRefIdeal.Read.val_main_cst_1, Cert.AdamRepRefIdeal.Read.val_main_v5, Cert.AdamRepRefIdeal.Read.val_main_v6, Cert.AdamRepRefIdeal.Read.val_main_v7, Cert.AdamRepRefIdeal.Read.val_main_cst_2, Cert.AdamRepRefIdeal.Read.val_main_v8, Cert.AdamRepRefIdeal.Read.val_main_v9, Cert.AdamRepRefIdeal.Read.val_main_v10, Cert.AdamRepRefIdeal.Read.val_main_cst_3, Cert.AdamRepRefIdeal.Read.val_main_v11, Cert.AdamRepRefIdeal.Read.val_main_v12, Cert.AdamRepRefIdeal.Read.val_main_cst_4, Cert.AdamRepRefIdeal.Read.val_main_v13, Cert.AdamRepRefIdeal.Read.val_main_v14, Cert.AdamRepRefIdeal.Read.val_main_v15, Cert.AdamRepRefIdeal.Read.val_main_cst_5, Cert.AdamRepRefIdeal.Read.val_main_v16, Cert.AdamRepRefIdeal.Read.val_main_v17, Cert.AdamRepRefIdeal.Read.val_main_v18, Cert.AdamRepRefIdeal.Read.val_main_cst_6, Cert.AdamRepRefIdeal.Read.val_main_v19, Cert.AdamRepRefIdeal.Read.val_main_v20, Cert.AdamRepRefIdeal.Read.val_main_v21, Cert.AdamRepRefIdeal.Read.val_main_cst_7, Cert.AdamRepRefIdeal.Read.val_main_v22, Cert.AdamRepRefIdeal.Read.val_main_v23]
  canon_tiles x h
  all_goals
    open_payloads
    pointwise
  all_goals blk_point [iblk, V, idx t]

/-- The result after the run is the reference's new first moment. -/
theorem final1 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point1 m c t y

/-- What the body stores at `y` is the reference's new second moment there. -/
theorem point2 (c : Dev nD) (t : Fin cfg0.N) (y : S88x128.Idx) :
    out0_6 (F := Ideal) (iblk m c 0 t) (iblk m c 1 t) (iblk m c 2 t) (iblk m c 3 t) y
      = REF2 (m ((c : Thread nD τ).loc main_arg0)) (m ((c : Thread nD τ).loc main_arg1)) (m ((c : Thread nD τ).loc main_arg2)) (m ((c : Thread nD τ).loc main_arg3)) (((cfg0.win 6).blk t).view.emb y) := by
  pointwise [REF2, Cert.AdamRepRefIdeal.Read.val_main_cst, Cert.AdamRepRefIdeal.Read.val_main_v0, Cert.AdamRepRefIdeal.Read.val_main_v1, Cert.AdamRepRefIdeal.Read.val_main_cst_0, Cert.AdamRepRefIdeal.Read.val_main_v2, Cert.AdamRepRefIdeal.Read.val_main_v3, Cert.AdamRepRefIdeal.Read.val_main_v4, Cert.AdamRepRefIdeal.Read.val_main_cst_1, Cert.AdamRepRefIdeal.Read.val_main_v5, Cert.AdamRepRefIdeal.Read.val_main_v6, Cert.AdamRepRefIdeal.Read.val_main_v7, Cert.AdamRepRefIdeal.Read.val_main_cst_2, Cert.AdamRepRefIdeal.Read.val_main_v8, Cert.AdamRepRefIdeal.Read.val_main_v9, Cert.AdamRepRefIdeal.Read.val_main_v10, Cert.AdamRepRefIdeal.Read.val_main_cst_3, Cert.AdamRepRefIdeal.Read.val_main_v11, Cert.AdamRepRefIdeal.Read.val_main_v12, Cert.AdamRepRefIdeal.Read.val_main_cst_4, Cert.AdamRepRefIdeal.Read.val_main_v13, Cert.AdamRepRefIdeal.Read.val_main_v14, Cert.AdamRepRefIdeal.Read.val_main_v15, Cert.AdamRepRefIdeal.Read.val_main_cst_5, Cert.AdamRepRefIdeal.Read.val_main_v16, Cert.AdamRepRefIdeal.Read.val_main_v17, Cert.AdamRepRefIdeal.Read.val_main_v18, Cert.AdamRepRefIdeal.Read.val_main_cst_6, Cert.AdamRepRefIdeal.Read.val_main_v19, Cert.AdamRepRefIdeal.Read.val_main_v20, Cert.AdamRepRefIdeal.Read.val_main_v21, Cert.AdamRepRefIdeal.Read.val_main_cst_7, Cert.AdamRepRefIdeal.Read.val_main_v22, Cert.AdamRepRefIdeal.Read.val_main_v23]
  canon_tiles x h
  all_goals
    open_payloads
    pointwise
  all_goals blk_point [iblk, V, idx t]

/-- The result after the run is the reference's new second moment. -/
theorem final2 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact point2 m c t y

end Cert.AdamRepIdeal.Result

namespace Cert.Proof

/-- The idealized call computes the reference's results. -/
theorem algebraic_AdamRep [h : Cert.AdamRepIdeal.Facts] [h' : Cert.AdamRepRefIdeal.Facts] :
    Cert.algebraic_AdamRepIdeal_AdamRepRefIdeal := by
  pair_intro
  · run_from Cert.AdamRepIdeal.Gen.run_main m g
  · run_from Cert.AdamRepRefIdeal.Value.run m' g'
    · exact (Cert.AdamRepIdeal.Result.final0 m c).symm
    · exact (Cert.AdamRepIdeal.Result.final1 m c).symm
    · exact (Cert.AdamRepIdeal.Result.final2 m c).symm

end Cert.Proof

end
-- ==== Proof.NormReal.lean ====
/- The norm with its gate on one row, and its gradient: the kernel's arithmetic against the derivative's, over finite numbers. -/
module

public import proofs.«01_k».proof.Proof.SwaRow
public import Idealize.ShloMosaic.Lib.Pipeline.ValueKit

@[expose] public section

noncomputable section

open Idealize.ShloMosaic

namespace Cert.NormReal

open Cert.SwaRow (coe_sum)

theorem ofBits_256 : Ideal.ofBits .f32 1132462080#32 = ((256 : ℝ) : EReal) := by
  simp [Ideal.ofBits, Ideal.ieee]
  rw [← EReal.coe_mul]
  norm_num

theorem ofBits_eps : ∃ e : ℝ, 0 < e ∧ Ideal.ofBits .f32 925353388#32 = (e : EReal) := by
  refine ⟨_, ?_, by simp only [Ideal.ofBits, Ideal.ieee]; rfl⟩
  rw [if_neg (by decide)]
  positivity

theorem ofBits_neg_half : Ideal.ofBits .f32 3204448256#32 = ((-(1 / 2) : ℝ) : EReal) := by
  simp [Ideal.ofBits, Ideal.ieee]
  rw [← EReal.coe_mul]
  norm_num

theorem ofBits_two : Ideal.ofBits .f32 1073741824#32 = ((2 : ℝ) : EReal) := by
  simp [Ideal.ofBits, Ideal.ieee]
  rw [← EReal.coe_mul]
  norm_num

theorem ofBits_top : Ideal.ofBits .f32 0x7F800000#32 = ⊤ := by
  simp [Ideal.ofBits, Ideal.ieee]

/-- An extended real that compares below `⊤` in absolute value is a real number. -/
theorem real_of_lt (x : EReal) (h : Ideal.cmp .olt (max x (-x)) (Ideal.ofBits .f32 0x7F800000#32) = 1#1) : ∃ r : ℝ, x = (r : EReal) := by
  rw [ofBits_top] at h
  rcases eq_or_ne x ⊤ with rfl | ht
  · simp [Ideal.cmp] at h
  rcases eq_or_ne x ⊥ with rfl | hb
  · simp [Ideal.cmp] at h
  exact ⟨x.toReal, (EReal.coe_toReal ht hb).symm⟩

/-- The mean of the squares plus the small constant. -/
def va (o : Fin 256 → EReal) : EReal := Ideal.div (∑ x, o x * o x) (Ideal.ofBits .f32 1132462080#32) + Ideal.ofBits .f32 925353388#32

/-- The logistic function. -/
def sg (g : EReal) : EReal := Ideal.div 1 (1 + Ideal.exp (-g))

/-- The kernel's gradient in the raw output. -/
def kdo (d o g w : Fin 256 → EReal) (l : Fin 256) : EReal :=
  Ideal.rsqrt (va o) * (d l * w l * (g l * sg (g l))
    - o l * Ideal.rsqrt (va o) * Ideal.div (∑ x, d x * w x * (g x * sg (g x)) * (o x * Ideal.rsqrt (va o))) (Ideal.ofBits .f32 1132462080#32))

/-- The derivative's. -/
def rdo (d o g w : Fin 256 → EReal) (l : Fin 256) : EReal :=
  d l * (g l * sg (g l)) * w l * Ideal.rsqrt (va o)
    + Ideal.div ((∑ x, o x * (d x * (g x * sg (g x)) * w x)) * (Ideal.ofBits .f32 3204448256#32 * Ideal.div (Ideal.rsqrt (va o)) (va o)))
        (Ideal.ofBits .f32 1132462080#32) * (Ideal.ofBits .f32 1073741824#32 * o l)

/-- The kernel's gradient in the gate. -/
def kdg (d o g w : Fin 256 → EReal) (l : Fin 256) : EReal :=
  d l * (o l * Ideal.rsqrt (va o)) * w l * (sg (g l) * (1 + g l * (1 - sg (g l))))

/-- The derivative's. -/
def rdg (d o g w : Fin 256 → EReal) (l : Fin 256) : EReal :=
  o l * Ideal.rsqrt (va o) * w l * d l * sg (g l) + g l * (o l * Ideal.rsqrt (va o) * w l * d l) * (sg (g l) * (1 - sg (g l)))

/-- One row's share of the gradient in the norm's weight. -/
def kdw (d o g : Fin 256 → EReal) (l : Fin 256) : EReal := d l * (o l * Ideal.rsqrt (va o)) * (g l * sg (g l))

theorem va_coe (o : Fin 256 → ℝ) : ∃ v : ℝ, 0 < v ∧ va (fun x => (o x : EReal)) = (v : EReal) := by
  obtain ⟨e, he, hb⟩ := ofBits_eps
  refine ⟨(∑ x, o x * o x) * (1 / 256) + e, ?_, ?_⟩
  · have : 0 ≤ ∑ x, o x * o x := Finset.sum_nonneg fun x _ => mul_self_nonneg _
    positivity
  · unfold va
    simp only [← EReal.coe_mul]
    rw [hb, ofBits_256, coe_sum, Ideal.div_coe (by norm_num), ← EReal.coe_mul, ← EReal.coe_add]

theorem sg_coe (g : ℝ) : sg (g : EReal) = (((1 + Real.exp (-g))⁻¹ : ℝ) : EReal) := Ideal.logistic_coe (r := g)

theorem rsqrt_pos {v : ℝ} (hv : 0 < v) : Ideal.rsqrt (v : EReal) = (((Real.sqrt v)⁻¹ : ℝ) : EReal) := by
  rw [Ideal.rsqrt_coe, if_neg hv.not_gt, if_neg hv.ne']

theorem inv_sq {v : ℝ} (hv : 0 < v) : (Real.sqrt v)⁻¹ * (Real.sqrt v)⁻¹ = 1 / v := by
  rw [← mul_inv, Real.mul_self_sqrt hv.le, one_div]

/-- Every entry is a finite number. -/
def Fn (f : Fin 256 → EReal) : Prop := ∀ x, ∃ r : ℝ, f x = (r : EReal)

theorem do_eq {d o g w : Fin 256 → EReal} (hd : Fn d) (ho : Fn o) (hg : Fn g) (hw : Fn w) (l : Fin 256) : kdo d o g w l = rdo d o g w l := by
  choose d' hd using hd
  choose o' ho using ho
  choose g' hg using hg
  choose w' hw using hw
  obtain rfl : d = fun x => (d' x : EReal) := funext hd
  obtain rfl : o = fun x => (o' x : EReal) := funext ho
  obtain rfl : g = fun x => (g' x : EReal) := funext hg
  obtain rfl : w = fun x => (w' x : EReal) := funext hw
  obtain ⟨v, hv, ev⟩ := va_coe o'
  have hr := inv_sq hv
  unfold kdo rdo
  simp only [ev, rsqrt_pos hv, sg_coe, ofBits_256, ofBits_neg_half, ofBits_two]
  rw [Ideal.div_coe (by norm_num : (256 : ℝ) ≠ 0), Ideal.div_coe (by norm_num : (256 : ℝ) ≠ 0), Ideal.div_coe hv.ne']
  generalize (Real.sqrt v)⁻¹ = r at hr ⊢
  generalize (fun x => (1 + Real.exp (-g' x))⁻¹) = s' at *
  simp only [← EReal.coe_mul, coe_sum, ← EReal.coe_sub, ← EReal.coe_add]
  rw [← hr]
  congr 1
  have e : ∑ x, d' x * w' x * (g' x * (1 + Real.exp (-g' x))⁻¹) * (o' x * r) = r * ∑ x, o' x * (d' x * (g' x * (1 + Real.exp (-g' x))⁻¹) * w' x) := by
    rw [Finset.mul_sum]
    exact Finset.sum_congr rfl fun x _ => by ring
  rw [e]
  ring

theorem dg_eq {d o g w : Fin 256 → EReal} (hd : Fn d) (ho : Fn o) (hg : Fn g) (hw : Fn w) (l : Fin 256) : kdg d o g w l = rdg d o g w l := by
  choose d' hd using hd
  choose o' ho using ho
  choose g' hg using hg
  choose w' hw using hw
  obtain rfl : d = fun x => (d' x : EReal) := funext hd
  obtain rfl : o = fun x => (o' x : EReal) := funext ho
  obtain rfl : g = fun x => (g' x : EReal) := funext hg
  obtain rfl : w = fun x => (w' x : EReal) := funext hw
  obtain ⟨v, hv, ev⟩ := va_coe o'
  unfold kdg rdg
  simp only [ev, rsqrt_pos hv, sg_coe]
  simp only [← EReal.coe_mul, ← EReal.coe_sub, ← EReal.coe_add, ← EReal.coe_one]
  congr 1
  ring

/-- A sum over the first two of three axes. -/
theorem sum_first_two {a b n : ℕ} (h : (⟨3, ![a, b, n]⟩ : Shape).ReducesTo [0, 1] ⟨1, ![n]⟩) (v : (⟨3, ![a, b, n]⟩ : Shape).Idx → EReal) (init : EReal)
    (j : (⟨1, ![n]⟩ : Shape).Idx) : Ideal.hostReduceAdd h v init j = init + ∑ p : Fin a, ∑ q : Fin b, v (ix3 p q (j 0)) := by
  unfold Ideal.hostReduceAdd
  congr 1
  rw [← Fintype.sum_prod_type' (fun p q => v (ix3 p q (j 0)))]
  refine Finset.sum_bij' (fun i _ => (i 0, i 1)) (fun k _ => ix3 k.1 k.2 (j 0)) (fun _ _ => Finset.mem_univ _) ?_ ?_ (fun _ _ => rfl) ?_
  · intro k _
    refine Finset.mem_filter.mpr ⟨Finset.mem_univ _, ?_⟩
    funext x
    match x with
    | ⟨0, _⟩ => rfl
  · intro i hi
    have e := congrFun (Finset.mem_filter.mp hi).2 0
    conv_rhs => rw [eq_ix3 i]
    exact congrArg (ix3 (i 0) (i 1)) e.symm
  · intro i hi
    have e := congrFun (Finset.mem_filter.mp hi).2 0
    conv_lhs => rw [eq_ix3 i]
    exact congrArg (fun z => v (ix3 (i 0) (i 1) z)) e

/-- A sum over the rows is the sum over the blocks of rows. -/
theorem sum_rows (f : ℕ → EReal) : ∑ p : Fin 4096, f p.val = ∑ t : Fin 8, ∑ q : Fin 512, f (512 * t.val + q.val) := by
  rw [← (finProdFinEquiv (m := 8) (n := 512)).sum_comp, Fintype.sum_prod_type]
  refine Finset.sum_congr rfl fun t _ => Finset.sum_congr rfl fun q _ => ?_
  congr 1
  simp [finProdFinEquiv]
  omega

end Cert.NormReal

end
-- ==== Proof.NormBwdIdealPoints.lean ====
/- The backward call of the norm and of the output gate: what each grid point stores. -/
module

public import proofs.«01_k».proof.Proof.Gen.NormBwdIdeal.Value
public import proofs.«01_k».proof.Proof.NormReal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.Result

open Cert.NormBwdIdeal Cert.NormBwdIdeal.Gen Cert.NormReal

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![t.val, 2] ∧ win0_3.index t = ![0, 0]
    ∧ win0_4.index t = ![t.val, 0] ∧ win0_5.index t = ![t.val, 0] ∧ win0_6.index t = ![0, 0] :=
  (by decide +kernel : ∀ t : Fin grid0.N, _)

/-- The gate's window at a point: the gate's columns of the projection. -/
theorem gate (c : Dev nD) (t : Fin cfg0.N) (i : S512x1024.Idx) :
    (X0_2 m c t i : EReal) = m ((c : Thread nD τ).loc main_arg2)
      (ix2 ⟨512 * t.val + (i 0).val, by have h : t.val < 8 := t.isLt; have h0 : (i 0).val < 512 := (i 0).isLt; omega⟩
        ⟨2048 + (i 1).val, by have h1 : (i 1).val < 1024 := (i 1).isLt; omega⟩) := by
  unfold X0_2 Pipeline.Window.fill
  rw [dif_pos (moved0_2 t i)]
  blk_point [iblk, V, idx t]

/-- A head's row of each argument. -/
def dR (X : FVec Ideal S4096x2048 .f32) (p : Fin 4096) (h : Fin 4) (l : Fin 256) : EReal := X (ix2 p ⟨h.val * 256 + l.val, by omega⟩)
def oR (X : FVec Ideal S4096x1024 .f32) (p : Fin 4096) (h : Fin 4) (l : Fin 256) : EReal := X (ix2 p ⟨h.val * 256 + l.val, by omega⟩)
def gR (X : FVec Ideal S4096x4480 .f32) (p : Fin 4096) (h : Fin 4) (l : Fin 256) : EReal := X (ix2 p ⟨2048 + (h.val * 256 + l.val), by omega⟩)
def wR (X : FVec Ideal S1x256 .f32) (l : Fin 256) : EReal := X (ix2 0 l)

/-- The head and the lane of a column. -/
def hd (j : Fin 1024) : Fin 4 := ⟨j.val / 256, by omega⟩
def ln (j : Fin 1024) : Fin 256 := ⟨j.val % 256, by omega⟩

/-- What the kernel computes, over the arrays. -/
def KO (X0 : FVec Ideal S4096x2048 .f32) (X1 : FVec Ideal S4096x1024 .f32) (X2 : FVec Ideal S4096x4480 .f32) (X3 : FVec Ideal S1x256 .f32) (p : Fin 4096) (j : Fin 1024) : EReal :=
  kdo (dR X0 p (hd j)) (oR X1 p (hd j)) (gR X2 p (hd j)) (wR X3) (ln j)
def KG (X0 : FVec Ideal S4096x2048 .f32) (X1 : FVec Ideal S4096x1024 .f32) (X2 : FVec Ideal S4096x4480 .f32) (X3 : FVec Ideal S1x256 .f32) (p : Fin 4096) (j : Fin 1024) : EReal :=
  kdg (dR X0 p (hd j)) (oR X1 p (hd j)) (gR X2 p (hd j)) (wR X3) (ln j)
def KW (X0 : FVec Ideal S4096x2048 .f32) (X1 : FVec Ideal S4096x1024 .f32) (X2 : FVec Ideal S4096x4480 .f32) (h : Fin 4) (l : Fin 256) (p : Fin 4096) : EReal :=
  kdw (dR X0 p h) (oR X1 p h) (gR X2 p h) l

/-- Row `q` of block `t`. -/
def row (t : Fin 8) (q : Fin 512) : Fin 4096 := ⟨512 * t.val + q.val, by omega⟩

abbrev P0 (c : Dev nD) : FVec Ideal S4096x2048 .f32 := m ((c : Thread nD τ).loc main_arg0)
abbrev P1 (c : Dev nD) : FVec Ideal S4096x1024 .f32 := m ((c : Thread nD τ).loc main_arg1)
abbrev P2 (c : Dev nD) : FVec Ideal S4096x4480 .f32 := m ((c : Thread nD τ).loc main_arg2)
abbrev P3 (c : Dev nD) : FVec Ideal S1x256 .f32 := m ((c : Thread nD τ).loc main_arg3)

/-- One block's share of the weight's gradient. -/
def TW (c : Dev nD) (t : Fin 8) (j : S1x256.Idx) : EReal :=
  (∑ q : Fin 512, KW (P0 m c) (P1 m c) (P2 m c) 0 (j 1) (row t q)) + (∑ q : Fin 512, KW (P0 m c) (P1 m c) (P2 m c) 1 (j 1) (row t q))
    + (∑ q : Fin 512, KW (P0 m c) (P1 m c) (P2 m c) 2 (j 1) (row t q)) + ∑ q : Fin 512, KW (P0 m c) (P1 m c) (P2 m c) 3 (j 1) (row t q)

/-- What the body stores of the raw output's gradient. -/
theorem point4 (c : Dev nD) (t : Fin cfg0.N) (y : S512x1024.Idx) :
    ((outsAt0 (F := Ideal) m c t.val t.isLt).1 y : EReal)
      = (fun i => KO (P0 m c) (P1 m c) (P2 m c) (P3 m c) (i 0) (i 1)) (((cfg0.win 4).blk t).view.emb y) := by
  have hX := gate m c t
  by_cases h : t.val % 8 = 0
  · rw [outsAt0_A m c t h]
    frame_out
    generalize X0_2 m c t = X2 at hX ⊢
    canon_tiles x h
    all_goals
      open_payloads
      pointwise
      simp only [hX, Ideal.logistic, KO, kdo, va, sg, dR, oR, gR, wR, hd, ln]
      blk_point [iblk, V, idx t]
  · rw [outsAt0_B m c t h]
    frame_out
    generalize X0_2 m c t = X2 at hX ⊢
    canon_tiles x h
    all_goals
      open_payloads
      pointwise
      simp only [hX, Ideal.logistic, KO, kdo, va, sg, dR, oR, gR, wR, hd, ln]
      blk_point [iblk, V, idx t]

/-- What the body stores of the gate's gradient. -/
theorem point5 (c : Dev nD) (t : Fin cfg0.N) (y : S512x1024.Idx) :
    ((outsAt0 (F := Ideal) m c t.val t.isLt).2.1 y : EReal)
      = (fun i => KG (P0 m c) (P1 m c) (P2 m c) (P3 m c) (i 0) (i 1)) (((cfg0.win 5).blk t).view.emb y) := by
  have hX := gate m c t
  by_cases h : t.val % 8 = 0
  · rw [outsAt0_A m c t h]
    frame_out
    generalize X0_2 m c t = X2 at hX ⊢
    canon_tiles x h
    all_goals
      open_payloads
      pointwise
      simp only [hX, Ideal.logistic, KG, kdg, va, sg, dR, oR, gR, wR, hd, ln]
      blk_point [iblk, V, idx t]
  · rw [outsAt0_B m c t h]
    frame_out
    generalize X0_2 m c t = X2 at hX ⊢
    canon_tiles x h
    all_goals
      open_payloads
      pointwise
      simp only [hX, Ideal.logistic, KG, kdg, va, sg, dR, oR, gR, wR, hd, ln]
      blk_point [iblk, V, idx t]

/-- The first point leaves its own share of the weight's gradient. -/
theorem point6_first (c : Dev nD) (t : Fin cfg0.N) (h : t.val % 8 = 0) (y : S1x256.Idx) :
    ((outsAt0 (F := Ideal) m c t.val t.isLt).2.2 y : EReal) = 0 + TW m c t y := by
  have hX := gate m c t
  rw [outsAt0_A m c t h]
  frame_out
  generalize X0_2 m c t = X2 at hX ⊢
  open_payloads
  pointwise
  simp only [hX, Ideal.logistic, TW, row, KW, kdw, va, sg, dR, oR, gR, wR, zero_add]
  blk_point [iblk, V, idx t]

/-- Each later point adds its share. -/
theorem point6_next (c : Dev nD) (t : Fin cfg0.N) (h : ¬t.val % 8 = 0) (y : S1x256.Idx) :
    ((outsAt0 (F := Ideal) m c t.val t.isLt).2.2 y : EReal)
      = (outsAt0 m c (t.val - 1) (Nat.lt_of_le_of_lt (Nat.sub_le _ _) t.isLt)).2.2 y + TW m c t y := by
  have hX := gate m c t
  rw [outsAt0_B m c t h]
  frame_out
  generalize X0_2 m c t = X2 at hX ⊢
  generalize (outsAt0 m c (t.val - 1) (Nat.lt_of_le_of_lt (Nat.sub_le _ _) t.isLt)).2.2 = prev
  open_payloads
  pointwise
  simp only [hX, Ideal.logistic, TW, row, KW, kdw, va, sg, dR, oR, gR, wR]
  blk_point [iblk, V, idx t]

theorem final4 (c : Dev nD) : (dats m 0 c).arrAt 4 (cfgs 0).N
    = fun i => KO (P0 m c) (P1 m c) (P2 m c) (P3 m c) (i 0) (i 1) := by
  refine (dats m 0 c).arrAt_eq_of_covers 4 _ (by decide +kernel) fun t _ y => ?_
  blk_simp
  rw [after0_4]
  exact point4 m c t y

theorem final5 (c : Dev nD) : (dats m 0 c).arrAt 5 (cfgs 0).N
    = fun i => KG (P0 m c) (P1 m c) (P2 m c) (P3 m c) (i 0) (i 1) := by
  refine (dats m 0 c).arrAt_eq_of_covers 5 _ (by decide +kernel) fun t _ y => ?_
  blk_simp
  rw [after0_5]
  exact point5 m c t y

end Cert.NormBwdIdeal.Result

end
-- ==== Proof.NormBwd.lean ====
module

public import proofs.«01_k».proof.Defs
public import proofs.«01_k».proof.Proof.Gen.NormBwdIdeal.Value
public import proofs.«01_k».proof.Proof.Gen.NormBwdRefIdeal.Read
public import proofs.«01_k».proof.Proof.Gen.NormBwdRefIdeal.Run
public import proofs.«01_k».proof.Proof.NormBwdIdealPoints
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.Result

open Cert.NormBwdIdeal Cert.NormBwdIdeal.Gen Cert.NormReal

variable (m : (ℓ : Loc nD τ sig) → Buf (Elt Ideal) ℓ)

theorem final6 (c : Dev nD) : (dats m 0 c).arrAt 6 (cfgs 0).N
    = fun j => ∑ t : Fin 8, TW m c t j := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => (0 : EReal)) (fun t => TW m c t)
    (fun t h j => point6_first m c t h j) (fun t h j => point6_next m c t h j) (le_of_eq N_0) t0_7 rfl j, zero_add]
  rfl

end Cert.NormBwdIdeal.Result

namespace Cert.NormBwdIdeal.Reference

open Cert.NormBwdIdeal Cert.NormBwdIdeal.Gen Cert.NormBwdIdeal.Result Cert.NormReal

variable (X0 : FVec Ideal S4096x2048 .f32) (X1 : FVec Ideal S4096x1024 .f32) (X2 : FVec Ideal S4096x4480 .f32) (X3 : FVec Ideal S1x256 .f32)

theorem split (j : Fin 1024) : j.val / 256 * 256 + j.val % 256 = j.val := by omega

theorem ref0 (p : Fin 4096) (j : Fin 1024) : (Cert.NormBwdRefIdeal.Read.val_main_v47 (F := Ideal) X0 X1 X2 X3 (ix2 p j) : EReal)
    = rdo (dR X0 p (hd j)) (oR X1 p (hd j)) (gR X2 p (hd j)) (wR X3) (ln j) := by
  pointwise [Cert.NormBwdRefIdeal.Read.val_main_v0, Cert.NormBwdRefIdeal.Read.val_main_v1, Cert.NormBwdRefIdeal.Read.val_main_v2, Cert.NormBwdRefIdeal.Read.val_main_v3, Cert.NormBwdRefIdeal.Read.val_main_v4, Cert.NormBwdRefIdeal.Read.val_main_v5, Cert.NormBwdRefIdeal.Read.val_main_v6, Cert.NormBwdRefIdeal.Read.val_main_cst, Cert.NormBwdRefIdeal.Read.val_main_v7, Cert.NormBwdRefIdeal.Read.val_main_v8, Cert.NormBwdRefIdeal.Read.val_main_cst_0, Cert.NormBwdRefIdeal.Read.val_main_v9, Cert.NormBwdRefIdeal.Read.val_main_v10, Cert.NormBwdRefIdeal.Read.val_main_cst_1, Cert.NormBwdRefIdeal.Read.val_main_v11, Cert.NormBwdRefIdeal.Read.val_main_v12, Cert.NormBwdRefIdeal.Read.val_main_cst_2, Cert.NormBwdRefIdeal.Read.val_main_v13, Cert.NormBwdRefIdeal.Read.val_main_v14, Cert.NormBwdRefIdeal.Read.val_main_v15, Cert.NormBwdRefIdeal.Read.val_main_v16, Cert.NormBwdRefIdeal.Read.val_main_cst_3, Cert.NormBwdRefIdeal.Read.val_main_v17, Cert.NormBwdRefIdeal.Read.val_main_v18, Cert.NormBwdRefIdeal.Read.val_main_v19, Cert.NormBwdRefIdeal.Read.val_main_v20, Cert.NormBwdRefIdeal.Read.val_main_v21, Cert.NormBwdRefIdeal.Read.val_main_v22, Cert.NormBwdRefIdeal.Read.val_main_v23, Cert.NormBwdRefIdeal.Read.val_main_call0_v0, Cert.NormBwdRefIdeal.Read.val_main_call0_v1, Cert.NormBwdRefIdeal.Read.val_main_call0_cst, Cert.NormBwdRefIdeal.Read.val_main_call0_v2, Cert.NormBwdRefIdeal.Read.val_main_call0_v3, Cert.NormBwdRefIdeal.Read.val_main_call0_cst_0, Cert.NormBwdRefIdeal.Read.val_main_call0_v4, Cert.NormBwdRefIdeal.Read.val_main_v24_2, Cert.NormBwdRefIdeal.Read.val_main_call0_cst_1, Cert.NormBwdRefIdeal.Read.val_main_call0_v6, Cert.NormBwdRefIdeal.Read.val_main_call0_v7, Cert.NormBwdRefIdeal.Read.val_main_v24_1, Cert.NormBwdRefIdeal.Read.val_main_v24_0, Cert.NormBwdRefIdeal.Read.val_main_v25, Cert.NormBwdRefIdeal.Read.val_main_v26, Cert.NormBwdRefIdeal.Read.val_main_v27, Cert.NormBwdRefIdeal.Read.val_main_call1_v0, Cert.NormBwdRefIdeal.Read.val_main_call1_v1, Cert.NormBwdRefIdeal.Read.val_main_call1_v2, Cert.NormBwdRefIdeal.Read.val_main_v28, Cert.NormBwdRefIdeal.Read.val_main_v29, Cert.NormBwdRefIdeal.Read.val_main_cst_4, Cert.NormBwdRefIdeal.Read.val_main_v30, Cert.NormBwdRefIdeal.Read.val_main_v31, Cert.NormBwdRefIdeal.Read.val_main_v32, Cert.NormBwdRefIdeal.Read.val_main_v33, Cert.NormBwdRefIdeal.Read.val_main_cst_5, Cert.NormBwdRefIdeal.Read.val_main_v34, Cert.NormBwdRefIdeal.Read.val_main_v35, Cert.NormBwdRefIdeal.Read.val_main_cst_6, Cert.NormBwdRefIdeal.Read.val_main_v36, Cert.NormBwdRefIdeal.Read.val_main_v37, Cert.NormBwdRefIdeal.Read.val_main_v38, Cert.NormBwdRefIdeal.Read.val_main_v39, Cert.NormBwdRefIdeal.Read.val_main_v40, Cert.NormBwdRefIdeal.Read.val_main_cst_7, Cert.NormBwdRefIdeal.Read.val_main_v41, Cert.NormBwdRefIdeal.Read.val_main_v42, Cert.NormBwdRefIdeal.Read.val_main_cst_8, Cert.NormBwdRefIdeal.Read.val_main_v43, Cert.NormBwdRefIdeal.Read.val_main_v44, Cert.NormBwdRefIdeal.Read.val_main_v45, Cert.NormBwdRefIdeal.Read.val_main_v46, Cert.NormBwdRefIdeal.Read.val_main_v47, Cert.NormBwdRefIdeal.Read.val_main_v48, Cert.NormBwdRefIdeal.Read.val_main_v49, Cert.NormBwdRefIdeal.Read.val_main_v50]
  simp only [rdo, va, sg, dR, oR, gR, wR, hd, ln, split, Fin.sum_univ_one]

theorem ref1 (p : Fin 4096) (j : Fin 1024) : (Cert.NormBwdRefIdeal.Read.val_main_v49 (F := Ideal) X0 X1 X2 X3 (ix2 p j) : EReal)
    = rdg (dR X0 p (hd j)) (oR X1 p (hd j)) (gR X2 p (hd j)) (wR X3) (ln j) := by
  pointwise [Cert.NormBwdRefIdeal.Read.val_main_v0, Cert.NormBwdRefIdeal.Read.val_main_v1, Cert.NormBwdRefIdeal.Read.val_main_v2, Cert.NormBwdRefIdeal.Read.val_main_v3, Cert.NormBwdRefIdeal.Read.val_main_v4, Cert.NormBwdRefIdeal.Read.val_main_v5, Cert.NormBwdRefIdeal.Read.val_main_v6, Cert.NormBwdRefIdeal.Read.val_main_cst, Cert.NormBwdRefIdeal.Read.val_main_v7, Cert.NormBwdRefIdeal.Read.val_main_v8, Cert.NormBwdRefIdeal.Read.val_main_cst_0, Cert.NormBwdRefIdeal.Read.val_main_v9, Cert.NormBwdRefIdeal.Read.val_main_v10, Cert.NormBwdRefIdeal.Read.val_main_cst_1, Cert.NormBwdRefIdeal.Read.val_main_v11, Cert.NormBwdRefIdeal.Read.val_main_v12, Cert.NormBwdRefIdeal.Read.val_main_cst_2, Cert.NormBwdRefIdeal.Read.val_main_v13, Cert.NormBwdRefIdeal.Read.val_main_v14, Cert.NormBwdRefIdeal.Read.val_main_v15, Cert.NormBwdRefIdeal.Read.val_main_v16, Cert.NormBwdRefIdeal.Read.val_main_cst_3, Cert.NormBwdRefIdeal.Read.val_main_v17, Cert.NormBwdRefIdeal.Read.val_main_v18, Cert.NormBwdRefIdeal.Read.val_main_v19, Cert.NormBwdRefIdeal.Read.val_main_v20, Cert.NormBwdRefIdeal.Read.val_main_v21, Cert.NormBwdRefIdeal.Read.val_main_v22, Cert.NormBwdRefIdeal.Read.val_main_v23, Cert.NormBwdRefIdeal.Read.val_main_call0_v0, Cert.NormBwdRefIdeal.Read.val_main_call0_v1, Cert.NormBwdRefIdeal.Read.val_main_call0_cst, Cert.NormBwdRefIdeal.Read.val_main_call0_v2, Cert.NormBwdRefIdeal.Read.val_main_call0_v3, Cert.NormBwdRefIdeal.Read.val_main_call0_cst_0, Cert.NormBwdRefIdeal.Read.val_main_call0_v4, Cert.NormBwdRefIdeal.Read.val_main_v24_2, Cert.NormBwdRefIdeal.Read.val_main_call0_cst_1, Cert.NormBwdRefIdeal.Read.val_main_call0_v6, Cert.NormBwdRefIdeal.Read.val_main_call0_v7, Cert.NormBwdRefIdeal.Read.val_main_v24_1, Cert.NormBwdRefIdeal.Read.val_main_v24_0, Cert.NormBwdRefIdeal.Read.val_main_v25, Cert.NormBwdRefIdeal.Read.val_main_v26, Cert.NormBwdRefIdeal.Read.val_main_v27, Cert.NormBwdRefIdeal.Read.val_main_call1_v0, Cert.NormBwdRefIdeal.Read.val_main_call1_v1, Cert.NormBwdRefIdeal.Read.val_main_call1_v2, Cert.NormBwdRefIdeal.Read.val_main_v28, Cert.NormBwdRefIdeal.Read.val_main_v29, Cert.NormBwdRefIdeal.Read.val_main_cst_4, Cert.NormBwdRefIdeal.Read.val_main_v30, Cert.NormBwdRefIdeal.Read.val_main_v31, Cert.NormBwdRefIdeal.Read.val_main_v32, Cert.NormBwdRefIdeal.Read.val_main_v33, Cert.NormBwdRefIdeal.Read.val_main_cst_5, Cert.NormBwdRefIdeal.Read.val_main_v34, Cert.NormBwdRefIdeal.Read.val_main_v35, Cert.NormBwdRefIdeal.Read.val_main_cst_6, Cert.NormBwdRefIdeal.Read.val_main_v36, Cert.NormBwdRefIdeal.Read.val_main_v37, Cert.NormBwdRefIdeal.Read.val_main_v38, Cert.NormBwdRefIdeal.Read.val_main_v39, Cert.NormBwdRefIdeal.Read.val_main_v40, Cert.NormBwdRefIdeal.Read.val_main_cst_7, Cert.NormBwdRefIdeal.Read.val_main_v41, Cert.NormBwdRefIdeal.Read.val_main_v42, Cert.NormBwdRefIdeal.Read.val_main_cst_8, Cert.NormBwdRefIdeal.Read.val_main_v43, Cert.NormBwdRefIdeal.Read.val_main_v44, Cert.NormBwdRefIdeal.Read.val_main_v45, Cert.NormBwdRefIdeal.Read.val_main_v46, Cert.NormBwdRefIdeal.Read.val_main_v47, Cert.NormBwdRefIdeal.Read.val_main_v48, Cert.NormBwdRefIdeal.Read.val_main_v49, Cert.NormBwdRefIdeal.Read.val_main_v50]
  simp only [rdg, va, sg, dR, oR, gR, wR, hd, ln, split]

theorem ref2 (j : S1x256.Idx) : (Cert.NormBwdRefIdeal.Read.val_main_v50 (F := Ideal) X0 X1 X2 j : EReal)
    = ∑ p : Fin 4096, ∑ h : Fin 4, KW X0 X1 X2 h (j 1) p := by
  pointwise [sum_first_two, Cert.NormBwdRefIdeal.Read.val_main_v0, Cert.NormBwdRefIdeal.Read.val_main_v1, Cert.NormBwdRefIdeal.Read.val_main_v2, Cert.NormBwdRefIdeal.Read.val_main_v3, Cert.NormBwdRefIdeal.Read.val_main_v4, Cert.NormBwdRefIdeal.Read.val_main_v5, Cert.NormBwdRefIdeal.Read.val_main_v6, Cert.NormBwdRefIdeal.Read.val_main_cst, Cert.NormBwdRefIdeal.Read.val_main_v7, Cert.NormBwdRefIdeal.Read.val_main_v8, Cert.NormBwdRefIdeal.Read.val_main_cst_0, Cert.NormBwdRefIdeal.Read.val_main_v9, Cert.NormBwdRefIdeal.Read.val_main_v10, Cert.NormBwdRefIdeal.Read.val_main_cst_1, Cert.NormBwdRefIdeal.Read.val_main_v11, Cert.NormBwdRefIdeal.Read.val_main_v12, Cert.NormBwdRefIdeal.Read.val_main_cst_2, Cert.NormBwdRefIdeal.Read.val_main_v13, Cert.NormBwdRefIdeal.Read.val_main_v14, Cert.NormBwdRefIdeal.Read.val_main_v15, Cert.NormBwdRefIdeal.Read.val_main_v16, Cert.NormBwdRefIdeal.Read.val_main_cst_3, Cert.NormBwdRefIdeal.Read.val_main_v17, Cert.NormBwdRefIdeal.Read.val_main_v18, Cert.NormBwdRefIdeal.Read.val_main_v19, Cert.NormBwdRefIdeal.Read.val_main_v20, Cert.NormBwdRefIdeal.Read.val_main_v21, Cert.NormBwdRefIdeal.Read.val_main_v22, Cert.NormBwdRefIdeal.Read.val_main_v23, Cert.NormBwdRefIdeal.Read.val_main_call0_v0, Cert.NormBwdRefIdeal.Read.val_main_call0_v1, Cert.NormBwdRefIdeal.Read.val_main_call0_cst, Cert.NormBwdRefIdeal.Read.val_main_call0_v2, Cert.NormBwdRefIdeal.Read.val_main_call0_v3, Cert.NormBwdRefIdeal.Read.val_main_call0_cst_0, Cert.NormBwdRefIdeal.Read.val_main_call0_v4, Cert.NormBwdRefIdeal.Read.val_main_v24_2, Cert.NormBwdRefIdeal.Read.val_main_call0_cst_1, Cert.NormBwdRefIdeal.Read.val_main_call0_v6, Cert.NormBwdRefIdeal.Read.val_main_call0_v7, Cert.NormBwdRefIdeal.Read.val_main_v24_1, Cert.NormBwdRefIdeal.Read.val_main_v24_0, Cert.NormBwdRefIdeal.Read.val_main_v25, Cert.NormBwdRefIdeal.Read.val_main_v26, Cert.NormBwdRefIdeal.Read.val_main_v27, Cert.NormBwdRefIdeal.Read.val_main_call1_v0, Cert.NormBwdRefIdeal.Read.val_main_call1_v1, Cert.NormBwdRefIdeal.Read.val_main_call1_v2, Cert.NormBwdRefIdeal.Read.val_main_v28, Cert.NormBwdRefIdeal.Read.val_main_v29, Cert.NormBwdRefIdeal.Read.val_main_cst_4, Cert.NormBwdRefIdeal.Read.val_main_v30, Cert.NormBwdRefIdeal.Read.val_main_v31, Cert.NormBwdRefIdeal.Read.val_main_v32, Cert.NormBwdRefIdeal.Read.val_main_v33, Cert.NormBwdRefIdeal.Read.val_main_cst_5, Cert.NormBwdRefIdeal.Read.val_main_v34, Cert.NormBwdRefIdeal.Read.val_main_v35, Cert.NormBwdRefIdeal.Read.val_main_cst_6, Cert.NormBwdRefIdeal.Read.val_main_v36, Cert.NormBwdRefIdeal.Read.val_main_v37, Cert.NormBwdRefIdeal.Read.val_main_v38, Cert.NormBwdRefIdeal.Read.val_main_v39, Cert.NormBwdRefIdeal.Read.val_main_v40, Cert.NormBwdRefIdeal.Read.val_main_cst_7, Cert.NormBwdRefIdeal.Read.val_main_v41, Cert.NormBwdRefIdeal.Read.val_main_v42, Cert.NormBwdRefIdeal.Read.val_main_cst_8, Cert.NormBwdRefIdeal.Read.val_main_v43, Cert.NormBwdRefIdeal.Read.val_main_v44, Cert.NormBwdRefIdeal.Read.val_main_v45, Cert.NormBwdRefIdeal.Read.val_main_v46, Cert.NormBwdRefIdeal.Read.val_main_v47, Cert.NormBwdRefIdeal.Read.val_main_v48, Cert.NormBwdRefIdeal.Read.val_main_v49, Cert.NormBwdRefIdeal.Read.val_main_v50]
  simp only [Fin.sum_univ_one]
  refine Finset.sum_congr rfl fun p _ => Finset.sum_congr rfl fun h _ => ?_
  simp only [KW, kdw, va, sg, dR, oR, gR]
  exact (mul_left_comm _ _ _).trans (mul_assoc _ _ _).symm

variable (m : (ℓ : Loc nD τ sig) → Buf (Elt Ideal) ℓ) (c : Dev nD)

/-- The blocks' shares add up to the sum over all rows and heads. -/
theorem shares (j : S1x256.Idx) : ∑ t : Fin 8, TW m c t j = ∑ p : Fin 4096, ∑ h : Fin 4, KW (P0 m c) (P1 m c) (P2 m c) h (j 1) p := by
  have e := sum_rows fun p => if hp : p < 4096 then ∑ h : Fin 4, KW (P0 m c) (P1 m c) (P2 m c) h (j 1) ⟨p, hp⟩ else 0
  simp only [Fin.is_lt, dite_true] at e
  rw [e]
  refine Finset.sum_congr rfl fun t _ => ?_
  have hq : ∀ q : Fin 512, 512 * t.val + q.val < 4096 := fun q => by omega
  simp only [hq, dite_true, Fin.sum_univ_four, Finset.sum_add_distrib]
  rfl

/-- What the precondition says of the four arguments. -/
theorem finite [hP : Cert.Pre_finite_norm.Facts] (h : Cert.Pre_finite_norm.fn (F := Ideal) X0 X1 X2 X3 = fun _ => 1#1) :
    (∀ i, ∃ r : ℝ, (X0 i : EReal) = (r : EReal)) ∧ (∀ i, ∃ r : ℝ, (X1 i : EReal) = (r : EReal)) ∧ (∀ i, ∃ r : ℝ, (X2 i : EReal) = (r : EReal))
      ∧ (∀ i, ∃ r : ℝ, (X3 i : EReal) = (r : EReal)) := by
  have e := congrFun h ix0
  unfold Cert.Pre_finite_norm.fn Cert.Pre_finite_norm.fn_part1 at e
  dsimp only at e
  obtain ⟨e, e3⟩ := IntOp.andi_eq_one.mp e
  obtain ⟨e, e2⟩ := IntOp.andi_eq_one.mp e
  obtain ⟨e0, e1⟩ := IntOp.andi_eq_one.mp e
  haveI : Subsingleton Cert.Pre_finite_norm.S_.Idx := ⟨fun a b => funext fun d => d.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

variable (h0 : ∀ i, ∃ r : ℝ, (P0 m c i : EReal) = (r : EReal)) (h1 : ∀ i, ∃ r : ℝ, (P1 m c i : EReal) = (r : EReal))
  (h2 : ∀ i, ∃ r : ℝ, (P2 m c i : EReal) = (r : EReal)) (h3 : ∀ i, ∃ r : ℝ, (P3 m c i : EReal) = (r : EReal))

include h0 h1 h2 h3

/-- The results after the run are the reference's. -/
theorem res0 : (dats m 0 c).arrAt 4 (cfgs 0).N = Cert.NormBwdRefIdeal.Read.val_main_v47 (F := Ideal) (P0 m c) (P1 m c) (P2 m c) (P3 m c) := by
  rw [final4]
  funext i
  obtain ⟨p, j, rfl⟩ : ∃ (p : Fin 4096) (j : Fin 1024), i = ix2 p j := ⟨i 0, i 1, eq_ix2 i⟩
  exact (do_eq (fun _ => h0 _) (fun _ => h1 _) (fun _ => h2 _) (fun _ => h3 _) (ln j)).trans (ref0 (P0 m c) (P1 m c) (P2 m c) (P3 m c) p j).symm

theorem res1 : (dats m 0 c).arrAt 5 (cfgs 0).N = Cert.NormBwdRefIdeal.Read.val_main_v49 (F := Ideal) (P0 m c) (P1 m c) (P2 m c) (P3 m c) := by
  rw [final5]
  funext i
  obtain ⟨p, j, rfl⟩ : ∃ (p : Fin 4096) (j : Fin 1024), i = ix2 p j := ⟨i 0, i 1, eq_ix2 i⟩
  exact (dg_eq (fun _ => h0 _) (fun _ => h1 _) (fun _ => h2 _) (fun _ => h3 _) (ln j)).trans (ref1 (P0 m c) (P1 m c) (P2 m c) (P3 m c) p j).symm

omit h0 h1 h2 h3 in
theorem res2 : (dats m 0 c).arrAt 6 (cfgs 0).N = Cert.NormBwdRefIdeal.Read.val_main_v50 (F := Ideal) (P0 m c) (P1 m c) (P2 m c) := by
  rw [final6]
  funext j
  exact (shares m c j).trans (ref2 (P0 m c) (P1 m c) (P2 m c) j).symm

end Cert.NormBwdIdeal.Reference

namespace Cert.Proof

/-- The idealized call computes the reference's results, where the arguments are finite. -/
theorem algebraic_NormBwd [h : Cert.NormBwdIdeal.Facts] [h' : Cert.NormBwdRefIdeal.Facts] [hP : Cert.Pre_finite_norm.Facts] :
    Cert.algebraic_NormBwdIdeal_NormBwdRefIdeal_pre_finite_norm := by
  pair_intro
  · run_from Cert.NormBwdIdeal.Gen.run_main m g
  · run_from Cert.NormBwdRefIdeal.Value.run m' g'
    all_goals obtain ⟨f0, f1, f2, f3⟩ := Cert.NormBwdIdeal.Reference.finite _ _ _ _ (hpre c)
    · obtain ⟨b0, b1, b2, b3⟩ := hagree c
      refine (Cert.NormBwdRefIdeal.Read.val_main_v47_eq m' c).trans (Eq.trans ?_ (Cert.NormBwdIdeal.Reference.res0 m c f0 f1 f2 f3).symm)
      exact congr (congr (congr (congrArg _ b0) b1) b2) b3
    · exact (Cert.NormBwdIdeal.Reference.res1 m c f0 f1 f2 f3).symm
    · exact (Cert.NormBwdIdeal.Reference.res2 m c).symm

end Cert.Proof

end
-- ==== Proof.LnReal.lean ====
/- The gradient of a layer norm on one row: the kernel's arithmetic against the derivative's, over finite numbers. -/
module

public import proofs.«01_k».proof.Proof.NormReal

@[expose] public section

noncomputable section

open Idealize.ShloMosaic

namespace Cert.LnReal

open Cert.SwaRow (coe_sum)
open Cert.NormReal (ofBits_eps ofBits_neg_half ofBits_two rsqrt_pos inv_sq)

theorem ofBits_2048 : Ideal.ofBits .f32 1157627904#32 = ((2048 : ℝ) : EReal) := by
  simp [Ideal.ofBits, Ideal.ieee]
  rw [← EReal.coe_mul]
  norm_num

/-- The row's mean. -/
def mu (x : Fin 2048 → EReal) : EReal := Ideal.div (∑ k, x k) (Ideal.ofBits .f32 1157627904#32)

/-- The row's variance plus the small constant. -/
def va (x : Fin 2048 → EReal) : EReal :=
  Ideal.div (∑ k, (x k - mu x) * (x k - mu x)) (Ideal.ofBits .f32 1157627904#32) + Ideal.ofBits .f32 925353388#32

/-- The normalized row. -/
def hat (x : Fin 2048 → EReal) (l : Fin 2048) : EReal := (x l - mu x) * Ideal.rsqrt (va x)

/-- The kernel's gradient in the row, from the gradient `y` in the normalized row. -/
def kdx (y x : Fin 2048 → EReal) (l : Fin 2048) : EReal :=
  Ideal.rsqrt (va x) * (y l - Ideal.div (∑ k, y k) (Ideal.ofBits .f32 1157627904#32)
    - hat x l * Ideal.div (∑ k, y k * hat x k) (Ideal.ofBits .f32 1157627904#32))

/-- The derivative's gradient in each square, through the variance. -/
def rq (y x : Fin 2048 → EReal) : EReal :=
  Ideal.div ((∑ k, (x k - mu x) * y k) * (Ideal.ofBits .f32 3204448256#32 * Ideal.div (Ideal.rsqrt (va x)) (va x))) (Ideal.ofBits .f32 1157627904#32)

/-- The derivative's gradient in the row. -/
def rdx (y x : Fin 2048 → EReal) (l : Fin 2048) : EReal :=
  y l * Ideal.rsqrt (va x) + rq y x * (Ideal.ofBits .f32 1073741824#32 * (x l - mu x))
    + Ideal.div ((∑ k, -(y k * Ideal.rsqrt (va x))) + ∑ k, -(rq y x * (Ideal.ofBits .f32 1073741824#32 * (x k - mu x)))) (Ideal.ofBits .f32 1157627904#32)

theorem mu_coe (x : Fin 2048 → ℝ) : mu (fun k => (x k : EReal)) = (((∑ k, x k) * (1 / 2048) : ℝ) : EReal) := by
  unfold mu
  rw [ofBits_2048, coe_sum, Ideal.div_coe (by norm_num), ← EReal.coe_mul]

theorem va_coe (x : Fin 2048 → ℝ) : ∃ v : ℝ, 0 < v ∧ va (fun k => (x k : EReal)) = (v : EReal) := by
  obtain ⟨e, he, hb⟩ := ofBits_eps
  refine ⟨(∑ k, (x k - (∑ k, x k) * (1 / 2048)) * (x k - (∑ k, x k) * (1 / 2048))) * (1 / 2048) + e, ?_, ?_⟩
  · have : 0 ≤ ∑ k, (x k - (∑ k, x k) * (1 / 2048)) * (x k - (∑ k, x k) * (1 / 2048)) := Finset.sum_nonneg fun k _ => mul_self_nonneg _
    positivity
  · unfold va
    rw [mu_coe]
    simp only [← EReal.coe_sub, ← EReal.coe_mul]
    rw [hb, ofBits_2048, coe_sum, Ideal.div_coe (by norm_num), ← EReal.coe_mul, ← EReal.coe_add]

/-- The kernel's row gradient is the derivative's, where the rows are finite. -/
theorem dx_eq {y x : Fin 2048 → EReal} (hy : ∀ k, ∃ r : ℝ, y k = (r : EReal)) (hx : ∀ k, ∃ r : ℝ, x k = (r : EReal)) (l : Fin 2048) :
    kdx y x l = rdx y x l := by
  choose y' hy using hy
  choose x' hx using hx
  obtain rfl : y = fun k => (y' k : EReal) := funext hy
  obtain rfl : x = fun k => (x' k : EReal) := funext hx
  obtain ⟨v, hv, ev⟩ := va_coe x'
  have hr := inv_sq hv
  have hz : ∑ k, (x' k - (∑ k, x' k) * (1 / 2048)) = 0 := by
    rw [Finset.sum_sub_distrib, Finset.sum_const, Finset.card_univ, Fintype.card_fin, nsmul_eq_mul]
    push_cast
    ring
  unfold kdx rdx rq hat
  simp only [ev, mu_coe, rsqrt_pos hv, ofBits_2048, ofBits_neg_half, ofBits_two]
  rw [Ideal.div_coe hv.ne']
  simp only [Ideal.div_coe (by norm_num : (2048 : ℝ) ≠ 0)]
  generalize (Real.sqrt v)⁻¹ = r at hr ⊢
  generalize (∑ k, x' k) * (1 / 2048) = u at hz ⊢
  simp only [← EReal.coe_sub, ← EReal.coe_mul, ← EReal.coe_neg, coe_sum, ← EReal.coe_add]
  rw [← hr]
  congr 1
  have e1 : ∑ k, y' k * ((x' k - u) * r) = r * ∑ k, (x' k - u) * y' k := by
    rw [Finset.mul_sum]
    exact Finset.sum_congr rfl fun k _ => by ring
  have e2 : ∑ k, -(y' k * r) = -(r * ∑ k, y' k) := by
    rw [Finset.mul_sum, ← Finset.sum_neg_distrib]
    exact Finset.sum_congr rfl fun k _ => by ring
  have e3 : ∀ q : ℝ, ∑ k, -(q * (2 * (x' k - u))) = 0 := fun q => by
    have : ∑ k, -(q * (2 * (x' k - u))) = -(2 * q) * ∑ k, (x' k - u) := by
      rw [Finset.mul_sum]
      exact Finset.sum_congr rfl fun k _ => by ring
    rw [this, hz, mul_zero]
  rw [e1, e2, e3]
  ring

/-- One block's share of a sum over the rows: four tiles of 64 rows. -/
def tiles (f : Fin 4096 → EReal) (t : Fin 16) : EReal :=
  (∑ q : Fin 64, f ⟨256 * t.val + q.val, by omega⟩) + (∑ q : Fin 64, f ⟨256 * t.val + (64 + q.val), by omega⟩)
    + (∑ q : Fin 64, f ⟨256 * t.val + (128 + q.val), by omega⟩) + ∑ q : Fin 64, f ⟨256 * t.val + (192 + q.val), by omega⟩

/-- A sum over the rows is the sum of the blocks' shares. -/
theorem sum_rows (f : Fin 4096 → EReal) : ∑ p, f p = ∑ t : Fin 16, tiles f t := by
  rw [← (finProdFinEquiv (m := 16) (n := 256)).sum_comp, Fintype.sum_prod_type]
  refine Finset.sum_congr rfl fun t _ => ?_
  rw [← (finProdFinEquiv (m := 4) (n := 64)).sum_comp, Fintype.sum_prod_type, Fin.sum_univ_four]
  unfold tiles
  refine congr (congrArg _ (congr (congrArg _ (congr (congrArg _ ?_) ?_)) ?_)) ?_ <;>
    exact Finset.sum_congr rfl fun q _ => congrArg f (Fin.ext (by simp [finProdFinEquiv]; omega))

end Cert.LnReal

end
-- ==== Proof.LnBwdIdealPoints.lean ====
/- The backward call of the layer norm after the attention: what each grid point stores. -/
module

public import proofs.«01_k».proof.Proof.Gen.LnBwdIdeal.Value
public import proofs.«01_k».proof.Proof.LnReal
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnBwdIdeal.Result

open Cert.LnBwdIdeal Cert.LnBwdIdeal.Gen Cert.LnReal

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

/-- The gradient of the norm's result, over the arrays. -/
def dh (X0 X1 : FVec Ideal S4096x2048 .f32) (p : Fin 4096) (l : Fin 2048) : EReal := Ideal.ofBits .f32 1066940400#32 * X1 (ix2 p l) + X0 (ix2 p l)

/-- The row that the norm reads. -/
def xr (X2 : FVec Ideal S4096x2048 .f32) (p : Fin 4096) (l : Fin 2048) : EReal := X2 (ix2 p l)

/-- The gradient in the normalized row. -/
def yr (X0 X1 : FVec Ideal S4096x2048 .f32) (X3 : FVec Ideal S1x2048 .f32) (p : Fin 4096) (l : Fin 2048) : EReal := dh X0 X1 p l * X3 (ix2 0 l)

abbrev P0 (c : Dev nD) : FVec Ideal S4096x2048 .f32 := m ((c : Thread nD τ).loc main_arg0)
abbrev P1 (c : Dev nD) : FVec Ideal S4096x2048 .f32 := m ((c : Thread nD τ).loc main_arg1)
abbrev P2 (c : Dev nD) : FVec Ideal S4096x2048 .f32 := m ((c : Thread nD τ).loc main_arg2)
abbrev P3 (c : Dev nD) : FVec Ideal S1x2048 .f32 := m ((c : Thread nD τ).loc main_arg3)

/-- One row's share of the gain's gradient. -/
def kg (X0 X1 X2 : FVec Ideal S4096x2048 .f32) (l : Fin 2048) (p : Fin 4096) : EReal := dh X0 X1 p l * hat (xr X2 p) l

/-- What the body stores of the row's gradient. -/
theorem point4 (c : Dev nD) (t : Fin cfg0.N) (y : S256x2048.Idx) :
    ((outsAt0 (F := Ideal) m c t.val t.isLt).1 y : EReal)
      = (fun i => kdx (yr (P0 m c) (P1 m c) (P3 m c) (i 0)) (xr (P2 m c) (i 0)) (i 1)) (((cfg0.win 4).blk t).view.emb y) := by
  by_cases h : t.val % 16 = 0
  · rw [outsAt0_A m c t h]
    frame_out
    canon_tiles x h
    all_goals
      open_payloads
      pointwise
      simp only [kdx, hat, va, mu, yr, dh, xr]
      blk_point [iblk, V, idx t]
  · rw [outsAt0_B m c t h]
    frame_out
    canon_tiles x h
    all_goals
      open_payloads
      pointwise
      simp only [kdx, hat, va, mu, yr, dh, xr]
      blk_point [iblk, V, idx t]

/-- The same in bf16. -/
theorem point5 (c : Dev nD) (t : Fin cfg0.N) (y : S256x2048.Idx) :
    ((outsAt0 (F := Ideal) m c t.val t.isLt).2.1 y : EReal)
      = (fun i => kdx (yr (P0 m c) (P1 m c) (P3 m c) (i 0)) (xr (P2 m c) (i 0)) (i 1)) (((cfg0.win 5).blk t).view.emb y) := by
  by_cases h : t.val % 16 = 0
  · rw [outsAt0_A m c t h]
    frame_out
    canon_tiles x h
    all_goals
      open_payloads
      pointwise
      simp only [kdx, hat, va, mu, yr, dh, xr]
      blk_point [iblk, V, idx t]
  · rw [outsAt0_B m c t h]
    frame_out
    canon_tiles x h
    all_goals
      open_payloads
      pointwise
      simp only [kdx, hat, va, mu, yr, dh, xr]
      blk_point [iblk, V, idx t]

/-- The first point leaves its own share of the gain's gradient. -/
theorem point6_first (c : Dev nD) (t : Fin cfg0.N) (h : t.val % 16 = 0) (y : S1x2048.Idx) :
    ((outsAt0 (F := Ideal) m c t.val t.isLt).2.2.1 y : EReal) = 0 + tiles (kg (P0 m c) (P1 m c) (P2 m c) (y 1)) t := by
  rw [outsAt0_A m c t h]
  frame_out
  open_payloads
  pointwise
  simp only [tiles, kg, hat, va, mu, dh, xr, zero_add]
  blk_point [iblk, V, idx t]

/-- Each later point adds its share. -/
theorem point6_next (c : Dev nD) (t : Fin cfg0.N) (h : ¬t.val % 16 = 0) (y : S1x2048.Idx) :
    ((outsAt0 (F := Ideal) m c t.val t.isLt).2.2.1 y : EReal)
      = (outsAt0 m c (t.val - 1) (Nat.lt_of_le_of_lt (Nat.sub_le _ _) t.isLt)).2.2.1 y + tiles (kg (P0 m c) (P1 m c) (P2 m c) (y 1)) t := by
  rw [outsAt0_B m c t h]
  frame_out
  generalize (outsAt0 m c (t.val - 1) (Nat.lt_of_le_of_lt (Nat.sub_le _ _) t.isLt)).2.2.1 = prev
  open_payloads
  pointwise
  simp only [tiles, kg, hat, va, mu, dh, xr, ← add_assoc]
  blk_point [iblk, V, idx t]

/-- The first point leaves its own share of the offset's gradient. -/
theorem point7_first (c : Dev nD) (t : Fin cfg0.N) (h : t.val % 16 = 0) (y : S1x2048.Idx) :
    ((outsAt0 (F := Ideal) m c t.val t.isLt).2.2.2 y : EReal) = 0 + tiles (fun p => dh (P0 m c) (P1 m c) p (y 1)) t := by
  rw [outsAt0_A m c t h]
  frame_out
  open_payloads
  pointwise
  simp only [tiles, dh, zero_add]
  blk_point [iblk, V, idx t]

/-- Each later point adds its share. -/
theorem point7_next (c : Dev nD) (t : Fin cfg0.N) (h : ¬t.val % 16 = 0) (y : S1x2048.Idx) :
    ((outsAt0 (F := Ideal) m c t.val t.isLt).2.2.2 y : EReal)
      = (outsAt0 m c (t.val - 1) (Nat.lt_of_le_of_lt (Nat.sub_le _ _) t.isLt)).2.2.2 y + tiles (fun p => dh (P0 m c) (P1 m c) p (y 1)) t := by
  rw [outsAt0_B m c t h]
  frame_out
  generalize (outsAt0 m c (t.val - 1) (Nat.lt_of_le_of_lt (Nat.sub_le _ _) t.isLt)).2.2.2 = prev
  open_payloads
  pointwise
  simp only [tiles, dh, ← add_assoc]
  blk_point [iblk, V, idx t]

theorem final4 (c : Dev nD) : (dats m 0 c).arrAt 4 (cfgs 0).N
    = fun i => kdx (yr (P0 m c) (P1 m c) (P3 m c) (i 0)) (xr (P2 m c) (i 0)) (i 1) := by
  refine (dats m 0 c).arrAt_eq_of_covers 4 _ (by decide +kernel) fun t _ y => ?_
  blk_simp
  rw [after0_4]
  exact point4 m c t y

theorem final5 (c : Dev nD) : (dats m 0 c).arrAt 5 (cfgs 0).N
    = fun i => kdx (yr (P0 m c) (P1 m c) (P3 m c) (i 0)) (xr (P2 m c) (i 0)) (i 1) := by
  refine (dats m 0 c).arrAt_eq_of_covers 5 _ (by decide +kernel) fun t _ y => ?_
  blk_simp
  rw [after0_5]
  exact point5 m c t y

theorem final6 (c : Dev nD) : (dats m 0 c).arrAt 6 (cfgs 0).N
    = fun j => ∑ p, kg (P0 m c) (P1 m c) (P2 m c) (j 1) p := by
  refine (dats m 0 c).arrAt_eq_of_after_last 6 t0_15 (by decide +kernel) _ fun j => ?_
  blk_simp
  rw [after0_6, Pipeline.eq_sum_fin_of_reset_step_apply_last (fun n h => (outsAt0 m c n h).2.2.1) 16 (fun _ => (0 : EReal))
    (fun t j => tiles (kg (P0 m c) (P1 m c) (P2 m c) (j 1)) t)
    (fun t h j => point6_first m c t h j) (fun t h j => point6_next m c t h j) (le_of_eq N_0) t0_15 rfl j, zero_add]
  exact (sum_rows _).symm

theorem final7 (c : Dev nD) : (dats m 0 c).arrAt 7 (cfgs 0).N
    = fun j => ∑ p, dh (P0 m c) (P1 m c) p (j 1) := by
  refine (dats m 0 c).arrAt_eq_of_after_last 7 t0_15 (by decide +kernel) _ fun j => ?_
  blk_simp
  rw [after0_7, Pipeline.eq_sum_fin_of_reset_step_apply_last (fun n h => (outsAt0 m c n h).2.2.2) 16 (fun _ => (0 : EReal))
    (fun t j => tiles (fun p => dh (P0 m c) (P1 m c) p (j 1)) t)
    (fun t h j => point7_first m c t h j) (fun t h j => point7_next m c t h j) (le_of_eq N_0) t0_15 rfl j, zero_add]
  exact (sum_rows _).symm

end Cert.LnBwdIdeal.Result

end
-- ==== Proof.LnBwd.lean ====
module

public import proofs.«01_k».proof.Defs
public import proofs.«01_k».proof.Proof.Gen.LnBwdIdeal.Value
public import proofs.«01_k».proof.Proof.Gen.LnBwdRefIdeal.Read
public import proofs.«01_k».proof.Proof.Gen.LnBwdRefIdeal.Run
public import proofs.«01_k».proof.Proof.LnBwdIdealPoints
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnBwdIdeal.Result

open Cert.LnBwdIdeal Cert.LnBwdIdeal.Gen Cert.LnReal

variable (m : (ℓ : Loc nD τ sig) → Buf (Elt Ideal) ℓ)

end Cert.LnBwdIdeal.Result

namespace Cert.LnBwdIdeal.Reference

open Cert.LnBwdIdeal Cert.LnBwdIdeal.Gen Cert.LnBwdIdeal.Result Cert.LnReal
open Cert.NormReal (real_of_lt)

variable (X0 X1 X2 : FVec Ideal S4096x2048 .f32) (X3 : FVec Ideal S1x2048 .f32)

theorem ref0 (p : Fin 4096) (l : Fin 2048) : (Cert.LnBwdRefIdeal.Read.val_main_v61 (F := Ideal) X0 X1 X2 X3 (ix2 p l) : EReal)
    = rdx (yr X0 X1 X3 p) (xr X2 p) l := by
  pointwise [Cert.LnBwdRefIdeal.Read.val_main_cst, Cert.LnBwdRefIdeal.Read.val_main_v0, Cert.LnBwdRefIdeal.Read.val_main_v1, Cert.LnBwdRefIdeal.Read.val_main_v2, Cert.LnBwdRefIdeal.Read.val_main_cst_0, Cert.LnBwdRefIdeal.Read.val_main_v3, Cert.LnBwdRefIdeal.Read.val_main_cst_1, Cert.LnBwdRefIdeal.Read.val_main_v4, Cert.LnBwdRefIdeal.Read.val_main_v5, Cert.LnBwdRefIdeal.Read.val_main_cst_2, Cert.LnBwdRefIdeal.Read.val_main_v6, Cert.LnBwdRefIdeal.Read.val_main_v7, Cert.LnBwdRefIdeal.Read.val_main_v8, Cert.LnBwdRefIdeal.Read.val_main_v9, Cert.LnBwdRefIdeal.Read.val_main_v10, Cert.LnBwdRefIdeal.Read.val_main_cst_3, Cert.LnBwdRefIdeal.Read.val_main_v11, Cert.LnBwdRefIdeal.Read.val_main_v12, Cert.LnBwdRefIdeal.Read.val_main_cst_4, Cert.LnBwdRefIdeal.Read.val_main_v13, Cert.LnBwdRefIdeal.Read.val_main_v14, Cert.LnBwdRefIdeal.Read.val_main_cst_5, Cert.LnBwdRefIdeal.Read.val_main_v15, Cert.LnBwdRefIdeal.Read.val_main_v16, Cert.LnBwdRefIdeal.Read.val_main_v17, Cert.LnBwdRefIdeal.Read.val_main_v18, Cert.LnBwdRefIdeal.Read.val_main_cst_6, Cert.LnBwdRefIdeal.Read.val_main_v19, Cert.LnBwdRefIdeal.Read.val_main_v20, Cert.LnBwdRefIdeal.Read.val_main_v21, Cert.LnBwdRefIdeal.Read.val_main_v22, Cert.LnBwdRefIdeal.Read.val_main_cst_7, Cert.LnBwdRefIdeal.Read.val_main_v23, Cert.LnBwdRefIdeal.Read.val_main_v24, Cert.LnBwdRefIdeal.Read.val_main_v25, Cert.LnBwdRefIdeal.Read.val_main_v26, Cert.LnBwdRefIdeal.Read.val_main_v27, Cert.LnBwdRefIdeal.Read.val_main_v28, Cert.LnBwdRefIdeal.Read.val_main_v29, Cert.LnBwdRefIdeal.Read.val_main_v30, Cert.LnBwdRefIdeal.Read.val_main_cst_8, Cert.LnBwdRefIdeal.Read.val_main_v31, Cert.LnBwdRefIdeal.Read.val_main_v32, Cert.LnBwdRefIdeal.Read.val_main_v33, Cert.LnBwdRefIdeal.Read.val_main_cst_9, Cert.LnBwdRefIdeal.Read.val_main_v34, Cert.LnBwdRefIdeal.Read.val_main_v35, Cert.LnBwdRefIdeal.Read.val_main_v36, Cert.LnBwdRefIdeal.Read.val_main_v37, Cert.LnBwdRefIdeal.Read.val_main_v38, Cert.LnBwdRefIdeal.Read.val_main_cst_10, Cert.LnBwdRefIdeal.Read.val_main_v39, Cert.LnBwdRefIdeal.Read.val_main_v40, Cert.LnBwdRefIdeal.Read.val_main_v41, Cert.LnBwdRefIdeal.Read.val_main_v42, Cert.LnBwdRefIdeal.Read.val_main_v43, Cert.LnBwdRefIdeal.Read.val_main_v44, Cert.LnBwdRefIdeal.Read.val_main_cst_11, Cert.LnBwdRefIdeal.Read.val_main_v45, Cert.LnBwdRefIdeal.Read.val_main_v46, Cert.LnBwdRefIdeal.Read.val_main_cst_12, Cert.LnBwdRefIdeal.Read.val_main_v47, Cert.LnBwdRefIdeal.Read.val_main_v48, Cert.LnBwdRefIdeal.Read.val_main_cst_13, Cert.LnBwdRefIdeal.Read.val_main_v49, Cert.LnBwdRefIdeal.Read.val_main_v50, Cert.LnBwdRefIdeal.Read.val_main_v51, Cert.LnBwdRefIdeal.Read.val_main_v52, Cert.LnBwdRefIdeal.Read.val_main_cst_14, Cert.LnBwdRefIdeal.Read.val_main_v53, Cert.LnBwdRefIdeal.Read.val_main_v54, Cert.LnBwdRefIdeal.Read.val_main_v55, Cert.LnBwdRefIdeal.Read.val_main_v56, Cert.LnBwdRefIdeal.Read.val_main_cst_15, Cert.LnBwdRefIdeal.Read.val_main_v57, Cert.LnBwdRefIdeal.Read.val_main_v58, Cert.LnBwdRefIdeal.Read.val_main_cst_16, Cert.LnBwdRefIdeal.Read.val_main_v59, Cert.LnBwdRefIdeal.Read.val_main_v60, Cert.LnBwdRefIdeal.Read.val_main_v61, Cert.LnBwdRefIdeal.Read.val_main_v62]
  simp only [rdx, rq, va, mu, yr, dh, xr, Fin.sum_univ_one]

theorem ref1 (p : Fin 4096) (l : Fin 2048) : (Cert.LnBwdRefIdeal.Read.val_main_v62 (F := Ideal) X0 X1 X2 X3 (ix2 p l) : EReal)
    = rdx (yr X0 X1 X3 p) (xr X2 p) l := ref0 X0 X1 X2 X3 p l

theorem ref2 (j : S1x2048.Idx) : (Cert.LnBwdRefIdeal.Read.val_main_v35 (F := Ideal) X0 X1 X2 j : EReal) = ∑ p : Fin 4096, kg X0 X1 X2 (j 1) p := by
  pointwise [Cert.LnBwdRefIdeal.Read.val_main_cst, Cert.LnBwdRefIdeal.Read.val_main_v0, Cert.LnBwdRefIdeal.Read.val_main_v1, Cert.LnBwdRefIdeal.Read.val_main_v2, Cert.LnBwdRefIdeal.Read.val_main_cst_0, Cert.LnBwdRefIdeal.Read.val_main_v3, Cert.LnBwdRefIdeal.Read.val_main_cst_1, Cert.LnBwdRefIdeal.Read.val_main_v4, Cert.LnBwdRefIdeal.Read.val_main_v5, Cert.LnBwdRefIdeal.Read.val_main_cst_2, Cert.LnBwdRefIdeal.Read.val_main_v6, Cert.LnBwdRefIdeal.Read.val_main_v7, Cert.LnBwdRefIdeal.Read.val_main_v8, Cert.LnBwdRefIdeal.Read.val_main_v9, Cert.LnBwdRefIdeal.Read.val_main_v10, Cert.LnBwdRefIdeal.Read.val_main_cst_3, Cert.LnBwdRefIdeal.Read.val_main_v11, Cert.LnBwdRefIdeal.Read.val_main_v12, Cert.LnBwdRefIdeal.Read.val_main_cst_4, Cert.LnBwdRefIdeal.Read.val_main_v13, Cert.LnBwdRefIdeal.Read.val_main_v14, Cert.LnBwdRefIdeal.Read.val_main_cst_5, Cert.LnBwdRefIdeal.Read.val_main_v15, Cert.LnBwdRefIdeal.Read.val_main_v16, Cert.LnBwdRefIdeal.Read.val_main_v17, Cert.LnBwdRefIdeal.Read.val_main_v18, Cert.LnBwdRefIdeal.Read.val_main_cst_6, Cert.LnBwdRefIdeal.Read.val_main_v19, Cert.LnBwdRefIdeal.Read.val_main_v20, Cert.LnBwdRefIdeal.Read.val_main_v21, Cert.LnBwdRefIdeal.Read.val_main_v22, Cert.LnBwdRefIdeal.Read.val_main_cst_7, Cert.LnBwdRefIdeal.Read.val_main_v23, Cert.LnBwdRefIdeal.Read.val_main_v24, Cert.LnBwdRefIdeal.Read.val_main_v25, Cert.LnBwdRefIdeal.Read.val_main_v26, Cert.LnBwdRefIdeal.Read.val_main_v27, Cert.LnBwdRefIdeal.Read.val_main_v28, Cert.LnBwdRefIdeal.Read.val_main_v29, Cert.LnBwdRefIdeal.Read.val_main_v30, Cert.LnBwdRefIdeal.Read.val_main_cst_8, Cert.LnBwdRefIdeal.Read.val_main_v31, Cert.LnBwdRefIdeal.Read.val_main_v32, Cert.LnBwdRefIdeal.Read.val_main_v33, Cert.LnBwdRefIdeal.Read.val_main_cst_9, Cert.LnBwdRefIdeal.Read.val_main_v34, Cert.LnBwdRefIdeal.Read.val_main_v35, Cert.LnBwdRefIdeal.Read.val_main_v36, Cert.LnBwdRefIdeal.Read.val_main_v37, Cert.LnBwdRefIdeal.Read.val_main_v38, Cert.LnBwdRefIdeal.Read.val_main_cst_10, Cert.LnBwdRefIdeal.Read.val_main_v39, Cert.LnBwdRefIdeal.Read.val_main_v40, Cert.LnBwdRefIdeal.Read.val_main_v41, Cert.LnBwdRefIdeal.Read.val_main_v42, Cert.LnBwdRefIdeal.Read.val_main_v43, Cert.LnBwdRefIdeal.Read.val_main_v44, Cert.LnBwdRefIdeal.Read.val_main_cst_11, Cert.LnBwdRefIdeal.Read.val_main_v45, Cert.LnBwdRefIdeal.Read.val_main_v46, Cert.LnBwdRefIdeal.Read.val_main_cst_12, Cert.LnBwdRefIdeal.Read.val_main_v47, Cert.LnBwdRefIdeal.Read.val_main_v48, Cert.LnBwdRefIdeal.Read.val_main_cst_13, Cert.LnBwdRefIdeal.Read.val_main_v49, Cert.LnBwdRefIdeal.Read.val_main_v50, Cert.LnBwdRefIdeal.Read.val_main_v51, Cert.LnBwdRefIdeal.Read.val_main_v52, Cert.LnBwdRefIdeal.Read.val_main_cst_14, Cert.LnBwdRefIdeal.Read.val_main_v53, Cert.LnBwdRefIdeal.Read.val_main_v54, Cert.LnBwdRefIdeal.Read.val_main_v55, Cert.LnBwdRefIdeal.Read.val_main_v56, Cert.LnBwdRefIdeal.Read.val_main_cst_15, Cert.LnBwdRefIdeal.Read.val_main_v57, Cert.LnBwdRefIdeal.Read.val_main_v58, Cert.LnBwdRefIdeal.Read.val_main_cst_16, Cert.LnBwdRefIdeal.Read.val_main_v59, Cert.LnBwdRefIdeal.Read.val_main_v60, Cert.LnBwdRefIdeal.Read.val_main_v61, Cert.LnBwdRefIdeal.Read.val_main_v62]
  simp only [kg, hat, va, mu, dh, xr]
  exact Finset.sum_congr rfl fun p _ => mul_comm _ _

theorem ref3 (j : S1x2048.Idx) : (Cert.LnBwdRefIdeal.Read.val_main_v32 (F := Ideal) X0 X1 j : EReal) = ∑ p : Fin 4096, dh X0 X1 p (j 1) := by
  pointwise [Cert.LnBwdRefIdeal.Read.val_main_cst, Cert.LnBwdRefIdeal.Read.val_main_v0, Cert.LnBwdRefIdeal.Read.val_main_v1, Cert.LnBwdRefIdeal.Read.val_main_v2, Cert.LnBwdRefIdeal.Read.val_main_cst_0, Cert.LnBwdRefIdeal.Read.val_main_v3, Cert.LnBwdRefIdeal.Read.val_main_cst_1, Cert.LnBwdRefIdeal.Read.val_main_v4, Cert.LnBwdRefIdeal.Read.val_main_v5, Cert.LnBwdRefIdeal.Read.val_main_cst_2, Cert.LnBwdRefIdeal.Read.val_main_v6, Cert.LnBwdRefIdeal.Read.val_main_v7, Cert.LnBwdRefIdeal.Read.val_main_v8, Cert.LnBwdRefIdeal.Read.val_main_v9, Cert.LnBwdRefIdeal.Read.val_main_v10, Cert.LnBwdRefIdeal.Read.val_main_cst_3, Cert.LnBwdRefIdeal.Read.val_main_v11, Cert.LnBwdRefIdeal.Read.val_main_v12, Cert.LnBwdRefIdeal.Read.val_main_cst_4, Cert.LnBwdRefIdeal.Read.val_main_v13, Cert.LnBwdRefIdeal.Read.val_main_v14, Cert.LnBwdRefIdeal.Read.val_main_cst_5, Cert.LnBwdRefIdeal.Read.val_main_v15, Cert.LnBwdRefIdeal.Read.val_main_v16, Cert.LnBwdRefIdeal.Read.val_main_v17, Cert.LnBwdRefIdeal.Read.val_main_v18, Cert.LnBwdRefIdeal.Read.val_main_cst_6, Cert.LnBwdRefIdeal.Read.val_main_v19, Cert.LnBwdRefIdeal.Read.val_main_v20, Cert.LnBwdRefIdeal.Read.val_main_v21, Cert.LnBwdRefIdeal.Read.val_main_v22, Cert.LnBwdRefIdeal.Read.val_main_cst_7, Cert.LnBwdRefIdeal.Read.val_main_v23, Cert.LnBwdRefIdeal.Read.val_main_v24, Cert.LnBwdRefIdeal.Read.val_main_v25, Cert.LnBwdRefIdeal.Read.val_main_v26, Cert.LnBwdRefIdeal.Read.val_main_v27, Cert.LnBwdRefIdeal.Read.val_main_v28, Cert.LnBwdRefIdeal.Read.val_main_v29, Cert.LnBwdRefIdeal.Read.val_main_v30, Cert.LnBwdRefIdeal.Read.val_main_cst_8, Cert.LnBwdRefIdeal.Read.val_main_v31, Cert.LnBwdRefIdeal.Read.val_main_v32, Cert.LnBwdRefIdeal.Read.val_main_v33, Cert.LnBwdRefIdeal.Read.val_main_cst_9, Cert.LnBwdRefIdeal.Read.val_main_v34, Cert.LnBwdRefIdeal.Read.val_main_v35, Cert.LnBwdRefIdeal.Read.val_main_v36, Cert.LnBwdRefIdeal.Read.val_main_v37, Cert.LnBwdRefIdeal.Read.val_main_v38, Cert.LnBwdRefIdeal.Read.val_main_cst_10, Cert.LnBwdRefIdeal.Read.val_main_v39, Cert.LnBwdRefIdeal.Read.val_main_v40, Cert.LnBwdRefIdeal.Read.val_main_v41, Cert.LnBwdRefIdeal.Read.val_main_v42, Cert.LnBwdRefIdeal.Read.val_main_v43, Cert.LnBwdRefIdeal.Read.val_main_v44, Cert.LnBwdRefIdeal.Read.val_main_cst_11, Cert.LnBwdRefIdeal.Read.val_main_v45, Cert.LnBwdRefIdeal.Read.val_main_v46, Cert.LnBwdRefIdeal.Read.val_main_cst_12, Cert.LnBwdRefIdeal.Read.val_main_v47, Cert.LnBwdRefIdeal.Read.val_main_v48, Cert.LnBwdRefIdeal.Read.val_main_cst_13, Cert.LnBwdRefIdeal.Read.val_main_v49, Cert.LnBwdRefIdeal.Read.val_main_v50, Cert.LnBwdRefIdeal.Read.val_main_v51, Cert.LnBwdRefIdeal.Read.val_main_v52, Cert.LnBwdRefIdeal.Read.val_main_cst_14, Cert.LnBwdRefIdeal.Read.val_main_v53, Cert.LnBwdRefIdeal.Read.val_main_v54, Cert.LnBwdRefIdeal.Read.val_main_v55, Cert.LnBwdRefIdeal.Read.val_main_v56, Cert.LnBwdRefIdeal.Read.val_main_cst_15, Cert.LnBwdRefIdeal.Read.val_main_v57, Cert.LnBwdRefIdeal.Read.val_main_v58, Cert.LnBwdRefIdeal.Read.val_main_cst_16, Cert.LnBwdRefIdeal.Read.val_main_v59, Cert.LnBwdRefIdeal.Read.val_main_v60, Cert.LnBwdRefIdeal.Read.val_main_v61, Cert.LnBwdRefIdeal.Read.val_main_v62]
  simp only [dh]

variable (m : (ℓ : Loc nD τ sig) → Buf (Elt Ideal) ℓ) (c : Dev nD)

/-- What the precondition says of the four arguments. -/
theorem finite [hP : Cert.Pre_finite_ln.Facts] (h : Cert.Pre_finite_ln.fn (F := Ideal) X0 X1 X2 X3 = fun _ => 1#1) :
    (∀ i, ∃ r : ℝ, (X0 i : EReal) = (r : EReal)) ∧ (∀ i, ∃ r : ℝ, (X1 i : EReal) = (r : EReal)) ∧ (∀ i, ∃ r : ℝ, (X2 i : EReal) = (r : EReal))
      ∧ (∀ i, ∃ r : ℝ, (X3 i : EReal) = (r : EReal)) := by
  have e := congrFun h ix0
  unfold Cert.Pre_finite_ln.fn Cert.Pre_finite_ln.fn_part1 at e
  dsimp only at e
  obtain ⟨e, e3⟩ := IntOp.andi_eq_one.mp e
  obtain ⟨e, e2⟩ := IntOp.andi_eq_one.mp e
  obtain ⟨e0, e1⟩ := IntOp.andi_eq_one.mp e
  haveI : Subsingleton Cert.Pre_finite_ln.S_.Idx := ⟨fun a b => funext fun d => d.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

/-- The residual's scale is a real number. -/
theorem ofBits_alpha : ∃ a : ℝ, Ideal.ofBits .f32 1066940400#32 = (a : EReal) := by
  refine ⟨_, by simp only [Ideal.ofBits, Ideal.ieee]; rfl⟩

/-- Finite factors and terms give a finite gradient. -/
theorem yr_coe (h0 : ∀ i, ∃ r : ℝ, (X0 i : EReal) = (r : EReal)) (h1 : ∀ i, ∃ r : ℝ, (X1 i : EReal) = (r : EReal))
    (h3 : ∀ i, ∃ r : ℝ, (X3 i : EReal) = (r : EReal)) (p : Fin 4096) (l : Fin 2048) : ∃ r : ℝ, yr X0 X1 X3 p l = (r : EReal) := by
  obtain ⟨a, ha⟩ := ofBits_alpha
  obtain ⟨x0, e0⟩ := h0 (ix2 p l)
  obtain ⟨x1, e1⟩ := h1 (ix2 p l)
  obtain ⟨x3, e3⟩ := h3 (ix2 0 l)
  exact ⟨(a * x1 + x0) * x3, by unfold yr dh; rw [ha, e0, e1, e3]; push_cast; rfl⟩

variable (h0 : ∀ i, ∃ r : ℝ, (P0 m c i : EReal) = (r : EReal)) (h1 : ∀ i, ∃ r : ℝ, (P1 m c i : EReal) = (r : EReal))
  (h2 : ∀ i, ∃ r : ℝ, (P2 m c i : EReal) = (r : EReal)) (h3 : ∀ i, ∃ r : ℝ, (P3 m c i : EReal) = (r : EReal))

include h0 h1 h2 h3

/-- The results after the run are the reference's. -/
theorem res0 : (dats m 0 c).arrAt 4 (cfgs 0).N = Cert.LnBwdRefIdeal.Read.val_main_v61 (F := Ideal) (P0 m c) (P1 m c) (P2 m c) (P3 m c) := by
  rw [final4]
  funext i
  obtain ⟨p, l, rfl⟩ : ∃ (p : Fin 4096) (l : Fin 2048), i = ix2 p l := ⟨i 0, i 1, eq_ix2 i⟩
  exact (dx_eq (yr_coe _ _ _ h0 h1 h3 p) (fun _ => h2 _) l).trans (ref0 (P0 m c) (P1 m c) (P2 m c) (P3 m c) p l).symm

theorem res1 : (dats m 0 c).arrAt 5 (cfgs 0).N = Cert.LnBwdRefIdeal.Read.val_main_v62 (F := Ideal) (P0 m c) (P1 m c) (P2 m c) (P3 m c) := by
  rw [final5]
  funext i
  obtain ⟨p, l, rfl⟩ : ∃ (p : Fin 4096) (l : Fin 2048), i = ix2 p l := ⟨i 0, i 1, eq_ix2 i⟩
  exact (dx_eq (yr_coe _ _ _ h0 h1 h3 p) (fun _ => h2 _) l).trans (ref1 (P0 m c) (P1 m c) (P2 m c) (P3 m c) p l).symm

omit h0 h1 h2 h3

theorem res2 : (dats m 0 c).arrAt 6 (cfgs 0).N = Cert.LnBwdRefIdeal.Read.val_main_v35 (F := Ideal) (P0 m c) (P1 m c) (P2 m c) := by
  rw [final6]
  funext j
  exact (ref2 (P0 m c) (P1 m c) (P2 m c) j).symm

theorem res3 : (dats m 0 c).arrAt 7 (cfgs 0).N = Cert.LnBwdRefIdeal.Read.val_main_v32 (F := Ideal) (P0 m c) (P1 m c) := by
  rw [final7]
  funext j
  exact (ref3 (P0 m c) (P1 m c) j).symm

end Cert.LnBwdIdeal.Reference

namespace Cert.Proof

/-- The idealized call computes the reference's results, where the arguments are finite. -/
theorem algebraic_LnBwd [h : Cert.LnBwdIdeal.Facts] [h' : Cert.LnBwdRefIdeal.Facts] [hP : Cert.Pre_finite_ln.Facts] :
    Cert.algebraic_LnBwdIdeal_LnBwdRefIdeal_pre_finite_ln := by
  pair_intro
  · run_from Cert.LnBwdIdeal.Gen.run_main m g
  · refine Idealize.ShloMosaic.θ_run_mono (Cert.LnBwdRefIdeal.Value.run m' g') ?_
    intro r hr c
    obtain ⟨e0, e1, e2, e3, ea⟩ := hr c
    obtain ⟨b0, b1, b2, b3⟩ := hagree c
    obtain ⟨f0, f1, f2, f3⟩ := Cert.LnBwdIdeal.Reference.finite _ _ _ _ (hpre c)
    refine ⟨e0.trans ((Cert.LnBwdRefIdeal.Read.val_main_v61_eq m' c).trans (Eq.trans ?_ (Cert.LnBwdIdeal.Reference.res0 m c f0 f1 f2 f3).symm)),
      e1.trans ((Cert.LnBwdRefIdeal.Read.val_main_v62_eq m' c).trans (Eq.trans ?_ (Cert.LnBwdIdeal.Reference.res1 m c f0 f1 f2 f3).symm)),
      e2.trans ((Cert.LnBwdRefIdeal.Read.val_main_v35_eq _ _ _).trans (Eq.trans ?_ (Cert.LnBwdIdeal.Reference.res2 m c).symm)),
      e3.trans ((Cert.LnBwdRefIdeal.Read.val_main_v32_eq _ _).trans (Eq.trans ?_ (Cert.LnBwdIdeal.Reference.res3 m c).symm)), ea⟩
    · exact congr (congr (congr (congrArg _ b0) b1) b2) b3
    · exact congr (congr (congr (congrArg _ b0) b1) b2) b3
    · exact congr (congr (congrArg _ b0) b1) b2
    · exact congr (congrArg _ b0) b1

end Cert.Proof

end
-- ==== Proof.LossBwdIdealRows.lean ====
/- The loss with the second layer norm and their gradient: the kernel's arithmetic over the arrays. -/
module

public import proofs.«01_k».proof.Proof.Gen.LossBwdIdeal.Value
public import proofs.«01_k».proof.Proof.LnReal
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Result

open Cert.LossBwdIdeal Cert.LossBwdIdeal.Gen Cert.LnReal

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

section

variable (X0 X1 X2 : FVec Ideal S4096x2048 .f32) (X3 X4 : FVec Ideal S1x2048 .f32)

/-- The row that the norm reads. -/
def xr (p : Fin 4096) (l : Fin 2048) : EReal := Ideal.ofBits .f32 1066940400#32 * X1 (ix2 p l) + X0 (ix2 p l)

/-- The prediction's error. -/
def er (p : Fin 4096) (l : Fin 2048) : EReal := hat (xr X0 X1 p) l * X3 (ix2 0 l) + X4 (ix2 0 l) - X2 (ix2 p l)

/-- The kernel's gradient of the norm's result. -/
def dy (p : Fin 4096) (l : Fin 2048) : EReal := er X0 X1 X2 X3 X4 p l * Ideal.ofBits .f32 973078528#32

/-- The kernel's gradient in the normalized row. -/
def yr (p : Fin 4096) (l : Fin 2048) : EReal := dy X0 X1 X2 X3 X4 p l * X3 (ix2 0 l)

/-- One row's share of the gain's gradient. -/
def kg (l : Fin 2048) (p : Fin 4096) : EReal := dy X0 X1 X2 X3 X4 p l * hat (xr X0 X1 p) l

/-- One row's mean square error. -/
def ls (p : Fin 4096) : EReal := Ideal.div (∑ l, er X0 X1 X2 X3 X4 p l * er X0 X1 X2 X3 X4 p l) (Ideal.ofBits .f32 1157627904#32)

end

abbrev P0 (c : Dev nD) : FVec Ideal S4096x2048 .f32 := m ((c : Thread nD τ).loc main_arg0)
abbrev P1 (c : Dev nD) : FVec Ideal S4096x2048 .f32 := m ((c : Thread nD τ).loc main_arg1)
abbrev P2 (c : Dev nD) : FVec Ideal S4096x2048 .f32 := m ((c : Thread nD τ).loc main_arg2)
abbrev P3 (c : Dev nD) : FVec Ideal S1x2048 .f32 := m ((c : Thread nD τ).loc main_arg3)
abbrev P4 (c : Dev nD) : FVec Ideal S1x2048 .f32 := m ((c : Thread nD τ).loc main_arg4)

end Cert.LossBwdIdeal.Result

end
-- ==== Proof.LossBwdIdealPoint5.lean ====
/- The loss with the second layer norm and their gradient: what each grid point stores of the row's gradient. -/
module

public import proofs.«01_k».proof.Proof.Gen.LossBwdIdeal.Value
public import proofs.«01_k».proof.Proof.LossBwdIdealRows
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Result

open Cert.LossBwdIdeal Cert.LossBwdIdeal.Gen Cert.LnReal

variable (m : (ℓ : Loc nD τ sig) → Buf (Elt Ideal) ℓ)

/-- What the body stores of the row's gradient. -/
theorem point5 (c : Dev nD) (t : Fin cfg0.N) (y : S256x2048.Idx) :
    ((outsAt0 (F := Ideal) m c t.val t.isLt).1 y : EReal) = (fun i => kdx (yr (P0 m c) (P1 m c) (P2 m c) (P3 m c) (P4 m c) (i 0)) (xr (P0 m c) (P1 m c) (i 0)) (i 1)) (((cfg0.win 5).blk t).view.emb y) := by
  by_cases h : t.val % 16 = 0
  · rw [outsAt0_A m c t h]
    frame_out
    canon_tiles x h
    all_goals
      open_payloads
      pointwise
      simp only [kdx, hat, va, mu, yr, dy, er, xr]
      blk_point [iblk, V, idx t]
  · rw [outsAt0_B m c t h]
    frame_out
    canon_tiles x h
    all_goals
      open_payloads
      pointwise
      simp only [kdx, hat, va, mu, yr, dy, er, xr]
      blk_point [iblk, V, idx t]

theorem final5 (c : Dev nD) : (dats m 0 c).arrAt 5 (cfgs 0).N = (fun i => kdx (yr (P0 m c) (P1 m c) (P2 m c) (P3 m c) (P4 m c) (i 0)) (xr (P0 m c) (P1 m c) (i 0)) (i 1)) := by
  refine (dats m 0 c).arrAt_eq_of_covers 5 _ (by decide +kernel) fun t _ y => ?_
  blk_simp
  rw [after0_5]
  exact point5 m c t y

end Cert.LossBwdIdeal.Result

end
-- ==== Proof.LossBwdIdealPoint6.lean ====
/- The loss with the second layer norm and their gradient: what each grid point stores of the row's gradient in bf16. -/
module

public import proofs.«01_k».proof.Proof.Gen.LossBwdIdeal.Value
public import proofs.«01_k».proof.Proof.LossBwdIdealRows
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Result

open Cert.LossBwdIdeal Cert.LossBwdIdeal.Gen Cert.LnReal

variable (m : (ℓ : Loc nD τ sig) → Buf (Elt Ideal) ℓ)

/-- What the body stores of the row's gradient in bf16. -/
theorem point6 (c : Dev nD) (t : Fin cfg0.N) (y : S256x2048.Idx) :
    ((outsAt0 (F := Ideal) m c t.val t.isLt).2.1 y : EReal) = (fun i => kdx (yr (P0 m c) (P1 m c) (P2 m c) (P3 m c) (P4 m c) (i 0)) (xr (P0 m c) (P1 m c) (i 0)) (i 1)) (((cfg0.win 6).blk t).view.emb y) := by
  by_cases h : t.val % 16 = 0
  · rw [outsAt0_A m c t h]
    frame_out
    canon_tiles x h
    all_goals
      open_payloads
      pointwise
      simp only [kdx, hat, va, mu, yr, dy, er, xr]
      blk_point [iblk, V, idx t]
  · rw [outsAt0_B m c t h]
    frame_out
    canon_tiles x h
    all_goals
      open_payloads
      pointwise
      simp only [kdx, hat, va, mu, yr, dy, er, xr]
      blk_point [iblk, V, idx t]

theorem final6 (c : Dev nD) : (dats m 0 c).arrAt 6 (cfgs 0).N = (fun i => kdx (yr (P0 m c) (P1 m c) (P2 m c) (P3 m c) (P4 m c) (i 0)) (xr (P0 m c) (P1 m c) (i 0)) (i 1)) := by
  refine (dats m 0 c).arrAt_eq_of_covers 6 _ (by decide +kernel) fun t _ y => ?_
  blk_simp
  rw [after0_6]
  exact point6 m c t y

end Cert.LossBwdIdeal.Result

end
-- ==== Proof.LossBwdIdealPoint7.lean ====
/- The loss with the second layer norm and their gradient: the accumulated gradients of the gain and of the offset. -/
module

public import proofs.«01_k».proof.Proof.Gen.LossBwdIdeal.Value
public import proofs.«01_k».proof.Proof.LossBwdIdealRows
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Result

open Cert.LossBwdIdeal Cert.LossBwdIdeal.Gen Cert.LnReal

variable (m : (ℓ : Loc nD τ sig) → Buf (Elt Ideal) ℓ)

/-- The first point leaves its own share of the gain's gradient. -/
theorem point7_first (c : Dev nD) (t : Fin cfg0.N) (h : t.val % 16 = 0) (y : S1x2048.Idx) :
    ((outsAt0 (F := Ideal) m c t.val t.isLt).2.2.1 y : EReal) = 0 + tiles (kg (P0 m c) (P1 m c) (P2 m c) (P3 m c) (P4 m c) (y 1)) t := by
  rw [outsAt0_A m c t h]
  frame_out
  open_payloads
  pointwise
  simp only [tiles, kg, hat, va, mu, yr, dy, er, xr, zero_add]
  blk_point [iblk, V, idx t]

/-- Each later point adds its share. -/
theorem point7_next (c : Dev nD) (t : Fin cfg0.N) (h : ¬t.val % 16 = 0) (y : S1x2048.Idx) :
    ((outsAt0 (F := Ideal) m c t.val t.isLt).2.2.1 y : EReal)
      = (outsAt0 m c (t.val - 1) (Nat.lt_of_le_of_lt (Nat.sub_le _ _) t.isLt)).2.2.1 y + tiles (kg (P0 m c) (P1 m c) (P2 m c) (P3 m c) (P4 m c) (y 1)) t := by
  rw [outsAt0_B m c t h]
  frame_out
  generalize (outsAt0 m c (t.val - 1) (Nat.lt_of_le_of_lt (Nat.sub_le _ _) t.isLt)).2.2.1 = prev
  open_payloads
  pointwise
  simp only [tiles, kg, hat, va, mu, yr, dy, er, xr, ← add_assoc]
  blk_point [iblk, V, idx t]

theorem final7 (c : Dev nD) : (dats m 0 c).arrAt 7 (cfgs 0).N = fun j => ∑ p, kg (P0 m c) (P1 m c) (P2 m c) (P3 m c) (P4 m c) (j 1) p := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => (0 : EReal))
    (fun t j => tiles (kg (P0 m c) (P1 m c) (P2 m c) (P3 m c) (P4 m c) (j 1)) t)
    (fun t h j => point7_first m c t h j) (fun t h j => point7_next m c t h j) (le_of_eq N_0) t0_15 rfl j, zero_add]
  exact (sum_rows _).symm

/-- The first point leaves its own share of the offset's gradient. -/
theorem point8_first (c : Dev nD) (t : Fin cfg0.N) (h : t.val % 16 = 0) (y : S1x2048.Idx) :
    ((outsAt0 (F := Ideal) m c t.val t.isLt).2.2.2.1 y : EReal) = 0 + tiles (fun p => dy (P0 m c) (P1 m c) (P2 m c) (P3 m c) (P4 m c) p (y 1)) t := by
  rw [outsAt0_A m c t h]
  frame_out
  open_payloads
  pointwise
  simp only [tiles, hat, va, mu, yr, dy, er, xr, zero_add]
  blk_point [iblk, V, idx t]

/-- Each later point adds its share. -/
theorem point8_next (c : Dev nD) (t : Fin cfg0.N) (h : ¬t.val % 16 = 0) (y : S1x2048.Idx) :
    ((outsAt0 (F := Ideal) m c t.val t.isLt).2.2.2.1 y : EReal)
      = (outsAt0 m c (t.val - 1) (Nat.lt_of_le_of_lt (Nat.sub_le _ _) t.isLt)).2.2.2.1 y + tiles (fun p => dy (P0 m c) (P1 m c) (P2 m c) (P3 m c) (P4 m c) p (y 1)) t := by
  rw [outsAt0_B m c t h]
  frame_out
  generalize (outsAt0 m c (t.val - 1) (Nat.lt_of_le_of_lt (Nat.sub_le _ _) t.isLt)).2.2.2.1 = prev
  open_payloads
  pointwise
  simp only [tiles, hat, va, mu, yr, dy, er, xr, ← add_assoc]
  blk_point [iblk, V, idx t]

theorem final8 (c : Dev nD) : (dats m 0 c).arrAt 8 (cfgs 0).N = fun j => ∑ p, dy (P0 m c) (P1 m c) (P2 m c) (P3 m c) (P4 m c) p (j 1) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => (0 : EReal))
    (fun t j => tiles (fun p => dy (P0 m c) (P1 m c) (P2 m c) (P3 m c) (P4 m c) p (j 1)) t)
    (fun t h j => point8_first m c t h j) (fun t h j => point8_next m c t h j) (le_of_eq N_0) t0_15 rfl j, zero_add]
  exact (sum_rows _).symm

end Cert.LossBwdIdeal.Result

end
-- ==== Proof.LossBwdIdealPoint9.lean ====
/- The loss with the second layer norm and their gradient: the accumulated loss. -/
module

public import proofs.«01_k».proof.Proof.Gen.LossBwdIdeal.Value
public import proofs.«01_k».proof.Proof.LossBwdIdealRows
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Result

open Cert.LossBwdIdeal Cert.LossBwdIdeal.Gen Cert.LnReal

variable (m : (ℓ : Loc nD τ sig) → Buf (Elt Ideal) ℓ)

/-- One block's share of the loss: four tiles of 64 rows. -/
def lsT (L : Fin 4096 → EReal) (t : Fin 16) : EReal :=
  Ideal.ofBits .f32 1056964608#32 * (∑ q : Fin 64, L ⟨256 * t.val + q.val, by omega⟩) + Ideal.ofBits .f32 1056964608#32 * (∑ q : Fin 64, L ⟨256 * t.val + (64 + q.val), by omega⟩)
    + Ideal.ofBits .f32 1056964608#32 * (∑ q : Fin 64, L ⟨256 * t.val + (128 + q.val), by omega⟩) + Ideal.ofBits .f32 1056964608#32 * ∑ q : Fin 64, L ⟨256 * t.val + (192 + q.val), by omega⟩

/-- The first point leaves its own share of the loss. -/
theorem point9_first (c : Dev nD) (t : Fin cfg0.N) (h : t.val % 16 = 0) (y : S1x128.Idx) :
    ((outsAt0 (F := Ideal) m c t.val t.isLt).2.2.2.2 y : EReal) = 0 + lsT (ls (P0 m c) (P1 m c) (P2 m c) (P3 m c) (P4 m c)) t := by
  rw [outsAt0_A m c t h]
  frame_out
  open_payloads
  pointwise
  simp only [lsT, ls, Fin.sum_univ_one, hat, va, mu, yr, dy, er, xr, zero_add]
  blk_point [iblk, V, idx t]

/-- Each later point adds its share. -/
theorem point9_next (c : Dev nD) (t : Fin cfg0.N) (h : ¬t.val % 16 = 0) (y : S1x128.Idx) :
    ((outsAt0 (F := Ideal) m c t.val t.isLt).2.2.2.2 y : EReal)
      = (outsAt0 m c (t.val - 1) (Nat.lt_of_le_of_lt (Nat.sub_le _ _) t.isLt)).2.2.2.2 y + lsT (ls (P0 m c) (P1 m c) (P2 m c) (P3 m c) (P4 m c)) t := by
  rw [outsAt0_B m c t h]
  frame_out
  generalize (outsAt0 m c (t.val - 1) (Nat.lt_of_le_of_lt (Nat.sub_le _ _) t.isLt)).2.2.2.2 = prev
  open_payloads
  pointwise
  simp only [lsT, ls, Fin.sum_univ_one, hat, va, mu, yr, dy, er, xr, ← add_assoc]
  blk_point [iblk, V, idx t]

theorem final9 (c : Dev nD) : (dats m 0 c).arrAt 9 (cfgs 0).N = fun j => ∑ t : Fin 16, lsT (ls (P0 m c) (P1 m c) (P2 m c) (P3 m c) (P4 m c)) t := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => (0 : EReal))
    (fun t j => lsT (ls (P0 m c) (P1 m c) (P2 m c) (P3 m c) (P4 m c)) t)
    (fun t h j => point9_first m c t h j) (fun t h j => point9_next m c t h j) (le_of_eq N_0) t0_15 rfl j, zero_add]
  rfl

end Cert.LossBwdIdeal.Result

end
-- ==== Proof.LossBwd.lean ====
module

public import proofs.«01_k».proof.Defs
public import proofs.«01_k».proof.Proof.Gen.LossBwdIdeal.Value
public import proofs.«01_k».proof.Proof.Gen.LossBwdRefIdeal.Read
public import proofs.«01_k».proof.Proof.Gen.LossBwdRefIdeal.Run
public import proofs.«01_k».proof.Proof.LossBwdIdealPoint5
public import proofs.«01_k».proof.Proof.LossBwdIdealPoint6
public import proofs.«01_k».proof.Proof.LossBwdIdealPoint7
public import proofs.«01_k».proof.Proof.LossBwdIdealPoint9
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Result

open Cert.LossBwdIdeal Cert.LossBwdIdeal.Gen Cert.LnReal

variable (m : (ℓ : Loc nD τ sig) → Buf (Elt Ideal) ℓ)

end Cert.LossBwdIdeal.Result

namespace Cert.LossBwdIdeal.Reference

open Cert.LossBwdIdeal Cert.LossBwdIdeal.Gen Cert.LossBwdIdeal.Result Cert.LnReal
open Cert.SwaRow (coe_sum)
open Cert.NormReal (real_of_lt ofBits_two rsqrt_pos)

theorem ofBits_half : Ideal.ofBits .f32 1056964608#32 = ((1 / 2 : ℝ) : EReal) := by
  simp [Ideal.ofBits, Ideal.ieee]
  rw [← EReal.coe_mul]
  norm_num

theorem ofBits_inv_2048 : Ideal.ofBits .f32 973078528#32 = ((1 / 2048 : ℝ) : EReal) := by
  simp [Ideal.ofBits, Ideal.ieee]
  rw [← EReal.coe_mul]
  norm_num

/-- Half of the mean's share of twice the error is the error over the row's length. -/
theorem scale (e : EReal) : Ideal.div (Ideal.ofBits .f32 1056964608#32) (Ideal.ofBits .f32 1157627904#32) * (Ideal.ofBits .f32 1073741824#32 * e)
    = e * Ideal.ofBits .f32 973078528#32 := by
  rw [ofBits_half, ofBits_2048, ofBits_two, ofBits_inv_2048, Ideal.div_coe (by norm_num), ← mul_assoc, ← EReal.coe_mul, ← EReal.coe_mul, mul_comm]
  norm_num

section

variable (X0 X1 X2 : FVec Ideal S4096x2048 .f32) (X3 X4 : FVec Ideal S1x2048 .f32)

/-- The derivative's gradient of the norm's result is the kernel's. -/
theorem ref44 (p : Fin 4096) (l : Fin 2048) : (Cert.LossBwdRefIdeal.Read.val_main_v44 (F := Ideal) X0 X1 X2 X3 X4 (ix2 p l) : EReal) = dy X0 X1 X2 X3 X4 p l := by
  pointwise [Cert.LossBwdRefIdeal.Read.val_main_cst, Cert.LossBwdRefIdeal.Read.val_main_v0, Cert.LossBwdRefIdeal.Read.val_main_v1, Cert.LossBwdRefIdeal.Read.val_main_v2, Cert.LossBwdRefIdeal.Read.val_main_cst_0, Cert.LossBwdRefIdeal.Read.val_main_v3, Cert.LossBwdRefIdeal.Read.val_main_v4, Cert.LossBwdRefIdeal.Read.val_main_cst_1, Cert.LossBwdRefIdeal.Read.val_main_v5, Cert.LossBwdRefIdeal.Read.val_main_v6, Cert.LossBwdRefIdeal.Read.val_main_v7, Cert.LossBwdRefIdeal.Read.val_main_v8, Cert.LossBwdRefIdeal.Read.val_main_v9, Cert.LossBwdRefIdeal.Read.val_main_cst_2, Cert.LossBwdRefIdeal.Read.val_main_v10, Cert.LossBwdRefIdeal.Read.val_main_v11, Cert.LossBwdRefIdeal.Read.val_main_cst_3, Cert.LossBwdRefIdeal.Read.val_main_v12, Cert.LossBwdRefIdeal.Read.val_main_v13, Cert.LossBwdRefIdeal.Read.val_main_cst_4, Cert.LossBwdRefIdeal.Read.val_main_v14, Cert.LossBwdRefIdeal.Read.val_main_v15, Cert.LossBwdRefIdeal.Read.val_main_v16, Cert.LossBwdRefIdeal.Read.val_main_v17, Cert.LossBwdRefIdeal.Read.val_main_cst_5, Cert.LossBwdRefIdeal.Read.val_main_v18, Cert.LossBwdRefIdeal.Read.val_main_v19, Cert.LossBwdRefIdeal.Read.val_main_v20, Cert.LossBwdRefIdeal.Read.val_main_v21, Cert.LossBwdRefIdeal.Read.val_main_cst_6, Cert.LossBwdRefIdeal.Read.val_main_v22, Cert.LossBwdRefIdeal.Read.val_main_v23, Cert.LossBwdRefIdeal.Read.val_main_v24, Cert.LossBwdRefIdeal.Read.val_main_v25, Cert.LossBwdRefIdeal.Read.val_main_v26, Cert.LossBwdRefIdeal.Read.val_main_v27, Cert.LossBwdRefIdeal.Read.val_main_v28, Cert.LossBwdRefIdeal.Read.val_main_v29, Cert.LossBwdRefIdeal.Read.val_main_v30, Cert.LossBwdRefIdeal.Read.val_main_v31, Cert.LossBwdRefIdeal.Read.val_main_cst_7, Cert.LossBwdRefIdeal.Read.val_main_v32, Cert.LossBwdRefIdeal.Read.val_main_v33, Cert.LossBwdRefIdeal.Read.val_main_cst_8, Cert.LossBwdRefIdeal.Read.val_main_v34, Cert.LossBwdRefIdeal.Read.val_main_cst_9, Cert.LossBwdRefIdeal.Read.val_main_v35, Cert.LossBwdRefIdeal.Read.val_main_v36, Cert.LossBwdRefIdeal.Read.val_main_cst_10, Cert.LossBwdRefIdeal.Read.val_main_v37, Cert.LossBwdRefIdeal.Read.val_main_cst_11, Cert.LossBwdRefIdeal.Read.val_main_v38, Cert.LossBwdRefIdeal.Read.val_main_cst_12, Cert.LossBwdRefIdeal.Read.val_main_cst_13, Cert.LossBwdRefIdeal.Read.val_main_v39, Cert.LossBwdRefIdeal.Read.val_main_v40, Cert.LossBwdRefIdeal.Read.val_main_cst_14, Cert.LossBwdRefIdeal.Read.val_main_v41, Cert.LossBwdRefIdeal.Read.val_main_v42, Cert.LossBwdRefIdeal.Read.val_main_v43, Cert.LossBwdRefIdeal.Read.val_main_v44, Cert.LossBwdRefIdeal.Read.val_main_cst_15, Cert.LossBwdRefIdeal.Read.val_main_v45, Cert.LossBwdRefIdeal.Read.val_main_v46, Cert.LossBwdRefIdeal.Read.val_main_v47, Cert.LossBwdRefIdeal.Read.val_main_cst_16, Cert.LossBwdRefIdeal.Read.val_main_v48, Cert.LossBwdRefIdeal.Read.val_main_v49, Cert.LossBwdRefIdeal.Read.val_main_v50, Cert.LossBwdRefIdeal.Read.val_main_v51, Cert.LossBwdRefIdeal.Read.val_main_v52, Cert.LossBwdRefIdeal.Read.val_main_cst_17, Cert.LossBwdRefIdeal.Read.val_main_v53, Cert.LossBwdRefIdeal.Read.val_main_v54, Cert.LossBwdRefIdeal.Read.val_main_v55, Cert.LossBwdRefIdeal.Read.val_main_v56, Cert.LossBwdRefIdeal.Read.val_main_v57, Cert.LossBwdRefIdeal.Read.val_main_v58, Cert.LossBwdRefIdeal.Read.val_main_cst_18, Cert.LossBwdRefIdeal.Read.val_main_v59, Cert.LossBwdRefIdeal.Read.val_main_v60, Cert.LossBwdRefIdeal.Read.val_main_cst_19, Cert.LossBwdRefIdeal.Read.val_main_v61, Cert.LossBwdRefIdeal.Read.val_main_v62, Cert.LossBwdRefIdeal.Read.val_main_cst_20, Cert.LossBwdRefIdeal.Read.val_main_v63, Cert.LossBwdRefIdeal.Read.val_main_v64, Cert.LossBwdRefIdeal.Read.val_main_v65, Cert.LossBwdRefIdeal.Read.val_main_v66, Cert.LossBwdRefIdeal.Read.val_main_cst_21, Cert.LossBwdRefIdeal.Read.val_main_v67, Cert.LossBwdRefIdeal.Read.val_main_v68, Cert.LossBwdRefIdeal.Read.val_main_v69, Cert.LossBwdRefIdeal.Read.val_main_v70, Cert.LossBwdRefIdeal.Read.val_main_cst_22, Cert.LossBwdRefIdeal.Read.val_main_v71, Cert.LossBwdRefIdeal.Read.val_main_v72, Cert.LossBwdRefIdeal.Read.val_main_cst_23, Cert.LossBwdRefIdeal.Read.val_main_v73, Cert.LossBwdRefIdeal.Read.val_main_v74, Cert.LossBwdRefIdeal.Read.val_main_v75, Cert.LossBwdRefIdeal.Read.val_main_v76, Cert.LossBwdRefIdeal.Read.val_main_v77]
  simp only [dy, er, hat, va, mu, xr]
  exact scale _

theorem ref0 (p : Fin 4096) (l : Fin 2048) : (Cert.LossBwdRefIdeal.Read.val_main_v75 (F := Ideal) X0 X1 X2 X3 X4 (ix2 p l) : EReal)
    = rdx (yr X0 X1 X2 X3 X4 p) (xr X0 X1 p) l := by
  pointwise [Cert.LossBwdRefIdeal.Read.val_main_cst, Cert.LossBwdRefIdeal.Read.val_main_v0, Cert.LossBwdRefIdeal.Read.val_main_v1, Cert.LossBwdRefIdeal.Read.val_main_v2, Cert.LossBwdRefIdeal.Read.val_main_cst_0, Cert.LossBwdRefIdeal.Read.val_main_v3, Cert.LossBwdRefIdeal.Read.val_main_v4, Cert.LossBwdRefIdeal.Read.val_main_cst_1, Cert.LossBwdRefIdeal.Read.val_main_v5, Cert.LossBwdRefIdeal.Read.val_main_v6, Cert.LossBwdRefIdeal.Read.val_main_v7, Cert.LossBwdRefIdeal.Read.val_main_v8, Cert.LossBwdRefIdeal.Read.val_main_v9, Cert.LossBwdRefIdeal.Read.val_main_cst_2, Cert.LossBwdRefIdeal.Read.val_main_v10, Cert.LossBwdRefIdeal.Read.val_main_v11, Cert.LossBwdRefIdeal.Read.val_main_cst_3, Cert.LossBwdRefIdeal.Read.val_main_v12, Cert.LossBwdRefIdeal.Read.val_main_v13, Cert.LossBwdRefIdeal.Read.val_main_cst_4, Cert.LossBwdRefIdeal.Read.val_main_v14, Cert.LossBwdRefIdeal.Read.val_main_v15, Cert.LossBwdRefIdeal.Read.val_main_v16, Cert.LossBwdRefIdeal.Read.val_main_v17, Cert.LossBwdRefIdeal.Read.val_main_cst_5, Cert.LossBwdRefIdeal.Read.val_main_v18, Cert.LossBwdRefIdeal.Read.val_main_v19, Cert.LossBwdRefIdeal.Read.val_main_v20, Cert.LossBwdRefIdeal.Read.val_main_v21, Cert.LossBwdRefIdeal.Read.val_main_cst_6, Cert.LossBwdRefIdeal.Read.val_main_v22, Cert.LossBwdRefIdeal.Read.val_main_v23, Cert.LossBwdRefIdeal.Read.val_main_v24, Cert.LossBwdRefIdeal.Read.val_main_v25, Cert.LossBwdRefIdeal.Read.val_main_v26, Cert.LossBwdRefIdeal.Read.val_main_v27, Cert.LossBwdRefIdeal.Read.val_main_v28, Cert.LossBwdRefIdeal.Read.val_main_v29, Cert.LossBwdRefIdeal.Read.val_main_v30, Cert.LossBwdRefIdeal.Read.val_main_v31, Cert.LossBwdRefIdeal.Read.val_main_cst_7, Cert.LossBwdRefIdeal.Read.val_main_v32, Cert.LossBwdRefIdeal.Read.val_main_v33, Cert.LossBwdRefIdeal.Read.val_main_cst_8, Cert.LossBwdRefIdeal.Read.val_main_v34, Cert.LossBwdRefIdeal.Read.val_main_cst_9, Cert.LossBwdRefIdeal.Read.val_main_v35, Cert.LossBwdRefIdeal.Read.val_main_v36, Cert.LossBwdRefIdeal.Read.val_main_cst_10, Cert.LossBwdRefIdeal.Read.val_main_v37, Cert.LossBwdRefIdeal.Read.val_main_cst_11, Cert.LossBwdRefIdeal.Read.val_main_v38, Cert.LossBwdRefIdeal.Read.val_main_cst_12, Cert.LossBwdRefIdeal.Read.val_main_cst_13, Cert.LossBwdRefIdeal.Read.val_main_v39, Cert.LossBwdRefIdeal.Read.val_main_v40, Cert.LossBwdRefIdeal.Read.val_main_cst_14, Cert.LossBwdRefIdeal.Read.val_main_v41, Cert.LossBwdRefIdeal.Read.val_main_v42, Cert.LossBwdRefIdeal.Read.val_main_v43, Cert.LossBwdRefIdeal.Read.val_main_cst_15, Cert.LossBwdRefIdeal.Read.val_main_v45, Cert.LossBwdRefIdeal.Read.val_main_v46, Cert.LossBwdRefIdeal.Read.val_main_v47, Cert.LossBwdRefIdeal.Read.val_main_cst_16, Cert.LossBwdRefIdeal.Read.val_main_v48, Cert.LossBwdRefIdeal.Read.val_main_v49, Cert.LossBwdRefIdeal.Read.val_main_v50, Cert.LossBwdRefIdeal.Read.val_main_v51, Cert.LossBwdRefIdeal.Read.val_main_v52, Cert.LossBwdRefIdeal.Read.val_main_cst_17, Cert.LossBwdRefIdeal.Read.val_main_v53, Cert.LossBwdRefIdeal.Read.val_main_v54, Cert.LossBwdRefIdeal.Read.val_main_v55, Cert.LossBwdRefIdeal.Read.val_main_v56, Cert.LossBwdRefIdeal.Read.val_main_v57, Cert.LossBwdRefIdeal.Read.val_main_v58, Cert.LossBwdRefIdeal.Read.val_main_cst_18, Cert.LossBwdRefIdeal.Read.val_main_v59, Cert.LossBwdRefIdeal.Read.val_main_v60, Cert.LossBwdRefIdeal.Read.val_main_cst_19, Cert.LossBwdRefIdeal.Read.val_main_v61, Cert.LossBwdRefIdeal.Read.val_main_v62, Cert.LossBwdRefIdeal.Read.val_main_cst_20, Cert.LossBwdRefIdeal.Read.val_main_v63, Cert.LossBwdRefIdeal.Read.val_main_v64, Cert.LossBwdRefIdeal.Read.val_main_v65, Cert.LossBwdRefIdeal.Read.val_main_v66, Cert.LossBwdRefIdeal.Read.val_main_cst_21, Cert.LossBwdRefIdeal.Read.val_main_v67, Cert.LossBwdRefIdeal.Read.val_main_v68, Cert.LossBwdRefIdeal.Read.val_main_v69, Cert.LossBwdRefIdeal.Read.val_main_v70, Cert.LossBwdRefIdeal.Read.val_main_cst_22, Cert.LossBwdRefIdeal.Read.val_main_v71, Cert.LossBwdRefIdeal.Read.val_main_v72, Cert.LossBwdRefIdeal.Read.val_main_cst_23, Cert.LossBwdRefIdeal.Read.val_main_v73, Cert.LossBwdRefIdeal.Read.val_main_v74, Cert.LossBwdRefIdeal.Read.val_main_v75, Cert.LossBwdRefIdeal.Read.val_main_v76, Cert.LossBwdRefIdeal.Read.val_main_v77]
  simp only [ref44, rdx, rq, va, mu, yr, xr, Fin.sum_univ_one]

theorem ref1 (p : Fin 4096) (l : Fin 2048) : (Cert.LossBwdRefIdeal.Read.val_main_v76 (F := Ideal) X0 X1 X2 X3 X4 (ix2 p l) : EReal)
    = rdx (yr X0 X1 X2 X3 X4 p) (xr X0 X1 p) l := ref0 X0 X1 X2 X3 X4 p l

theorem ref2 (j : S1x2048.Idx) : (Cert.LossBwdRefIdeal.Read.val_main_v49 (F := Ideal) X0 X1 X2 X3 X4 j : EReal) = ∑ p, kg X0 X1 X2 X3 X4 (j 1) p := by
  pointwise [Cert.LossBwdRefIdeal.Read.val_main_cst, Cert.LossBwdRefIdeal.Read.val_main_v0, Cert.LossBwdRefIdeal.Read.val_main_v1, Cert.LossBwdRefIdeal.Read.val_main_v2, Cert.LossBwdRefIdeal.Read.val_main_cst_0, Cert.LossBwdRefIdeal.Read.val_main_v3, Cert.LossBwdRefIdeal.Read.val_main_v4, Cert.LossBwdRefIdeal.Read.val_main_cst_1, Cert.LossBwdRefIdeal.Read.val_main_v5, Cert.LossBwdRefIdeal.Read.val_main_v6, Cert.LossBwdRefIdeal.Read.val_main_v7, Cert.LossBwdRefIdeal.Read.val_main_v8, Cert.LossBwdRefIdeal.Read.val_main_v9, Cert.LossBwdRefIdeal.Read.val_main_cst_2, Cert.LossBwdRefIdeal.Read.val_main_v10, Cert.LossBwdRefIdeal.Read.val_main_v11, Cert.LossBwdRefIdeal.Read.val_main_cst_3, Cert.LossBwdRefIdeal.Read.val_main_v12, Cert.LossBwdRefIdeal.Read.val_main_v13, Cert.LossBwdRefIdeal.Read.val_main_cst_4, Cert.LossBwdRefIdeal.Read.val_main_v14, Cert.LossBwdRefIdeal.Read.val_main_v15, Cert.LossBwdRefIdeal.Read.val_main_v16, Cert.LossBwdRefIdeal.Read.val_main_v17, Cert.LossBwdRefIdeal.Read.val_main_cst_5, Cert.LossBwdRefIdeal.Read.val_main_v18, Cert.LossBwdRefIdeal.Read.val_main_v19, Cert.LossBwdRefIdeal.Read.val_main_v20, Cert.LossBwdRefIdeal.Read.val_main_v21, Cert.LossBwdRefIdeal.Read.val_main_cst_6, Cert.LossBwdRefIdeal.Read.val_main_v22, Cert.LossBwdRefIdeal.Read.val_main_v23, Cert.LossBwdRefIdeal.Read.val_main_v24, Cert.LossBwdRefIdeal.Read.val_main_v25, Cert.LossBwdRefIdeal.Read.val_main_v26, Cert.LossBwdRefIdeal.Read.val_main_v27, Cert.LossBwdRefIdeal.Read.val_main_v28, Cert.LossBwdRefIdeal.Read.val_main_v29, Cert.LossBwdRefIdeal.Read.val_main_v30, Cert.LossBwdRefIdeal.Read.val_main_v31, Cert.LossBwdRefIdeal.Read.val_main_cst_7, Cert.LossBwdRefIdeal.Read.val_main_v32, Cert.LossBwdRefIdeal.Read.val_main_v33, Cert.LossBwdRefIdeal.Read.val_main_cst_8, Cert.LossBwdRefIdeal.Read.val_main_v34, Cert.LossBwdRefIdeal.Read.val_main_cst_9, Cert.LossBwdRefIdeal.Read.val_main_v35, Cert.LossBwdRefIdeal.Read.val_main_v36, Cert.LossBwdRefIdeal.Read.val_main_cst_10, Cert.LossBwdRefIdeal.Read.val_main_v37, Cert.LossBwdRefIdeal.Read.val_main_cst_11, Cert.LossBwdRefIdeal.Read.val_main_v38, Cert.LossBwdRefIdeal.Read.val_main_cst_12, Cert.LossBwdRefIdeal.Read.val_main_cst_13, Cert.LossBwdRefIdeal.Read.val_main_v39, Cert.LossBwdRefIdeal.Read.val_main_v40, Cert.LossBwdRefIdeal.Read.val_main_cst_14, Cert.LossBwdRefIdeal.Read.val_main_v41, Cert.LossBwdRefIdeal.Read.val_main_v42, Cert.LossBwdRefIdeal.Read.val_main_v43, Cert.LossBwdRefIdeal.Read.val_main_cst_15, Cert.LossBwdRefIdeal.Read.val_main_v45, Cert.LossBwdRefIdeal.Read.val_main_v46, Cert.LossBwdRefIdeal.Read.val_main_v47, Cert.LossBwdRefIdeal.Read.val_main_cst_16, Cert.LossBwdRefIdeal.Read.val_main_v48, Cert.LossBwdRefIdeal.Read.val_main_v49, Cert.LossBwdRefIdeal.Read.val_main_v50, Cert.LossBwdRefIdeal.Read.val_main_v51, Cert.LossBwdRefIdeal.Read.val_main_v52, Cert.LossBwdRefIdeal.Read.val_main_cst_17, Cert.LossBwdRefIdeal.Read.val_main_v53, Cert.LossBwdRefIdeal.Read.val_main_v54, Cert.LossBwdRefIdeal.Read.val_main_v55, Cert.LossBwdRefIdeal.Read.val_main_v56, Cert.LossBwdRefIdeal.Read.val_main_v57, Cert.LossBwdRefIdeal.Read.val_main_v58, Cert.LossBwdRefIdeal.Read.val_main_cst_18, Cert.LossBwdRefIdeal.Read.val_main_v59, Cert.LossBwdRefIdeal.Read.val_main_v60, Cert.LossBwdRefIdeal.Read.val_main_cst_19, Cert.LossBwdRefIdeal.Read.val_main_v61, Cert.LossBwdRefIdeal.Read.val_main_v62, Cert.LossBwdRefIdeal.Read.val_main_cst_20, Cert.LossBwdRefIdeal.Read.val_main_v63, Cert.LossBwdRefIdeal.Read.val_main_v64, Cert.LossBwdRefIdeal.Read.val_main_v65, Cert.LossBwdRefIdeal.Read.val_main_v66, Cert.LossBwdRefIdeal.Read.val_main_cst_21, Cert.LossBwdRefIdeal.Read.val_main_v67, Cert.LossBwdRefIdeal.Read.val_main_v68, Cert.LossBwdRefIdeal.Read.val_main_v69, Cert.LossBwdRefIdeal.Read.val_main_v70, Cert.LossBwdRefIdeal.Read.val_main_cst_22, Cert.LossBwdRefIdeal.Read.val_main_v71, Cert.LossBwdRefIdeal.Read.val_main_v72, Cert.LossBwdRefIdeal.Read.val_main_cst_23, Cert.LossBwdRefIdeal.Read.val_main_v73, Cert.LossBwdRefIdeal.Read.val_main_v74, Cert.LossBwdRefIdeal.Read.val_main_v75, Cert.LossBwdRefIdeal.Read.val_main_v76, Cert.LossBwdRefIdeal.Read.val_main_v77]
  simp only [kg, hat, va, mu, xr]
  exact Finset.sum_congr rfl fun p _ => (mul_comm _ _).trans (congrArg (· * _) (ref44 X0 X1 X2 X3 X4 p (j 1)))

theorem ref3 (j : S1x2048.Idx) : (Cert.LossBwdRefIdeal.Read.val_main_v46 (F := Ideal) X0 X1 X2 X3 X4 j : EReal) = ∑ p, dy X0 X1 X2 X3 X4 p (j 1) := by
  pointwise [Cert.LossBwdRefIdeal.Read.val_main_cst, Cert.LossBwdRefIdeal.Read.val_main_v0, Cert.LossBwdRefIdeal.Read.val_main_v1, Cert.LossBwdRefIdeal.Read.val_main_v2, Cert.LossBwdRefIdeal.Read.val_main_cst_0, Cert.LossBwdRefIdeal.Read.val_main_v3, Cert.LossBwdRefIdeal.Read.val_main_v4, Cert.LossBwdRefIdeal.Read.val_main_cst_1, Cert.LossBwdRefIdeal.Read.val_main_v5, Cert.LossBwdRefIdeal.Read.val_main_v6, Cert.LossBwdRefIdeal.Read.val_main_v7, Cert.LossBwdRefIdeal.Read.val_main_v8, Cert.LossBwdRefIdeal.Read.val_main_v9, Cert.LossBwdRefIdeal.Read.val_main_cst_2, Cert.LossBwdRefIdeal.Read.val_main_v10, Cert.LossBwdRefIdeal.Read.val_main_v11, Cert.LossBwdRefIdeal.Read.val_main_cst_3, Cert.LossBwdRefIdeal.Read.val_main_v12, Cert.LossBwdRefIdeal.Read.val_main_v13, Cert.LossBwdRefIdeal.Read.val_main_cst_4, Cert.LossBwdRefIdeal.Read.val_main_v14, Cert.LossBwdRefIdeal.Read.val_main_v15, Cert.LossBwdRefIdeal.Read.val_main_v16, Cert.LossBwdRefIdeal.Read.val_main_v17, Cert.LossBwdRefIdeal.Read.val_main_cst_5, Cert.LossBwdRefIdeal.Read.val_main_v18, Cert.LossBwdRefIdeal.Read.val_main_v19, Cert.LossBwdRefIdeal.Read.val_main_v20, Cert.LossBwdRefIdeal.Read.val_main_v21, Cert.LossBwdRefIdeal.Read.val_main_cst_6, Cert.LossBwdRefIdeal.Read.val_main_v22, Cert.LossBwdRefIdeal.Read.val_main_v23, Cert.LossBwdRefIdeal.Read.val_main_v24, Cert.LossBwdRefIdeal.Read.val_main_v25, Cert.LossBwdRefIdeal.Read.val_main_v26, Cert.LossBwdRefIdeal.Read.val_main_v27, Cert.LossBwdRefIdeal.Read.val_main_v28, Cert.LossBwdRefIdeal.Read.val_main_v29, Cert.LossBwdRefIdeal.Read.val_main_v30, Cert.LossBwdRefIdeal.Read.val_main_v31, Cert.LossBwdRefIdeal.Read.val_main_cst_7, Cert.LossBwdRefIdeal.Read.val_main_v32, Cert.LossBwdRefIdeal.Read.val_main_v33, Cert.LossBwdRefIdeal.Read.val_main_cst_8, Cert.LossBwdRefIdeal.Read.val_main_v34, Cert.LossBwdRefIdeal.Read.val_main_cst_9, Cert.LossBwdRefIdeal.Read.val_main_v35, Cert.LossBwdRefIdeal.Read.val_main_v36, Cert.LossBwdRefIdeal.Read.val_main_cst_10, Cert.LossBwdRefIdeal.Read.val_main_v37, Cert.LossBwdRefIdeal.Read.val_main_cst_11, Cert.LossBwdRefIdeal.Read.val_main_v38, Cert.LossBwdRefIdeal.Read.val_main_cst_12, Cert.LossBwdRefIdeal.Read.val_main_cst_13, Cert.LossBwdRefIdeal.Read.val_main_v39, Cert.LossBwdRefIdeal.Read.val_main_v40, Cert.LossBwdRefIdeal.Read.val_main_cst_14, Cert.LossBwdRefIdeal.Read.val_main_v41, Cert.LossBwdRefIdeal.Read.val_main_v42, Cert.LossBwdRefIdeal.Read.val_main_v43, Cert.LossBwdRefIdeal.Read.val_main_cst_15, Cert.LossBwdRefIdeal.Read.val_main_v45, Cert.LossBwdRefIdeal.Read.val_main_v46, Cert.LossBwdRefIdeal.Read.val_main_v47, Cert.LossBwdRefIdeal.Read.val_main_cst_16, Cert.LossBwdRefIdeal.Read.val_main_v48, Cert.LossBwdRefIdeal.Read.val_main_v49, Cert.LossBwdRefIdeal.Read.val_main_v50, Cert.LossBwdRefIdeal.Read.val_main_v51, Cert.LossBwdRefIdeal.Read.val_main_v52, Cert.LossBwdRefIdeal.Read.val_main_cst_17, Cert.LossBwdRefIdeal.Read.val_main_v53, Cert.LossBwdRefIdeal.Read.val_main_v54, Cert.LossBwdRefIdeal.Read.val_main_v55, Cert.LossBwdRefIdeal.Read.val_main_v56, Cert.LossBwdRefIdeal.Read.val_main_v57, Cert.LossBwdRefIdeal.Read.val_main_v58, Cert.LossBwdRefIdeal.Read.val_main_cst_18, Cert.LossBwdRefIdeal.Read.val_main_v59, Cert.LossBwdRefIdeal.Read.val_main_v60, Cert.LossBwdRefIdeal.Read.val_main_cst_19, Cert.LossBwdRefIdeal.Read.val_main_v61, Cert.LossBwdRefIdeal.Read.val_main_v62, Cert.LossBwdRefIdeal.Read.val_main_cst_20, Cert.LossBwdRefIdeal.Read.val_main_v63, Cert.LossBwdRefIdeal.Read.val_main_v64, Cert.LossBwdRefIdeal.Read.val_main_v65, Cert.LossBwdRefIdeal.Read.val_main_v66, Cert.LossBwdRefIdeal.Read.val_main_cst_21, Cert.LossBwdRefIdeal.Read.val_main_v67, Cert.LossBwdRefIdeal.Read.val_main_v68, Cert.LossBwdRefIdeal.Read.val_main_v69, Cert.LossBwdRefIdeal.Read.val_main_v70, Cert.LossBwdRefIdeal.Read.val_main_cst_22, Cert.LossBwdRefIdeal.Read.val_main_v71, Cert.LossBwdRefIdeal.Read.val_main_v72, Cert.LossBwdRefIdeal.Read.val_main_cst_23, Cert.LossBwdRefIdeal.Read.val_main_v73, Cert.LossBwdRefIdeal.Read.val_main_v74, Cert.LossBwdRefIdeal.Read.val_main_v75, Cert.LossBwdRefIdeal.Read.val_main_v76, Cert.LossBwdRefIdeal.Read.val_main_v77]
  exact Finset.sum_congr rfl fun p _ => ref44 X0 X1 X2 X3 X4 p (j 1)

theorem ref4 (j : S1x128.Idx) : (Cert.LossBwdRefIdeal.Read.val_main_v77 (F := Ideal) X0 X1 X2 X3 X4 j : EReal)
    = Ideal.ofBits .f32 1056964608#32 * ∑ p, ls X0 X1 X2 X3 X4 p := by
  pointwise [Cert.LossBwdRefIdeal.Read.val_main_cst, Cert.LossBwdRefIdeal.Read.val_main_v0, Cert.LossBwdRefIdeal.Read.val_main_v1, Cert.LossBwdRefIdeal.Read.val_main_v2, Cert.LossBwdRefIdeal.Read.val_main_cst_0, Cert.LossBwdRefIdeal.Read.val_main_v3, Cert.LossBwdRefIdeal.Read.val_main_v4, Cert.LossBwdRefIdeal.Read.val_main_cst_1, Cert.LossBwdRefIdeal.Read.val_main_v5, Cert.LossBwdRefIdeal.Read.val_main_v6, Cert.LossBwdRefIdeal.Read.val_main_v7, Cert.LossBwdRefIdeal.Read.val_main_v8, Cert.LossBwdRefIdeal.Read.val_main_v9, Cert.LossBwdRefIdeal.Read.val_main_cst_2, Cert.LossBwdRefIdeal.Read.val_main_v10, Cert.LossBwdRefIdeal.Read.val_main_v11, Cert.LossBwdRefIdeal.Read.val_main_cst_3, Cert.LossBwdRefIdeal.Read.val_main_v12, Cert.LossBwdRefIdeal.Read.val_main_v13, Cert.LossBwdRefIdeal.Read.val_main_cst_4, Cert.LossBwdRefIdeal.Read.val_main_v14, Cert.LossBwdRefIdeal.Read.val_main_v15, Cert.LossBwdRefIdeal.Read.val_main_v16, Cert.LossBwdRefIdeal.Read.val_main_v17, Cert.LossBwdRefIdeal.Read.val_main_cst_5, Cert.LossBwdRefIdeal.Read.val_main_v18, Cert.LossBwdRefIdeal.Read.val_main_v19, Cert.LossBwdRefIdeal.Read.val_main_v20, Cert.LossBwdRefIdeal.Read.val_main_v21, Cert.LossBwdRefIdeal.Read.val_main_cst_6, Cert.LossBwdRefIdeal.Read.val_main_v22, Cert.LossBwdRefIdeal.Read.val_main_v23, Cert.LossBwdRefIdeal.Read.val_main_v24, Cert.LossBwdRefIdeal.Read.val_main_v25, Cert.LossBwdRefIdeal.Read.val_main_v26, Cert.LossBwdRefIdeal.Read.val_main_v27, Cert.LossBwdRefIdeal.Read.val_main_v28, Cert.LossBwdRefIdeal.Read.val_main_v29, Cert.LossBwdRefIdeal.Read.val_main_v30, Cert.LossBwdRefIdeal.Read.val_main_v31, Cert.LossBwdRefIdeal.Read.val_main_cst_7, Cert.LossBwdRefIdeal.Read.val_main_v32, Cert.LossBwdRefIdeal.Read.val_main_v33, Cert.LossBwdRefIdeal.Read.val_main_cst_8, Cert.LossBwdRefIdeal.Read.val_main_v34, Cert.LossBwdRefIdeal.Read.val_main_cst_9, Cert.LossBwdRefIdeal.Read.val_main_v35, Cert.LossBwdRefIdeal.Read.val_main_v36, Cert.LossBwdRefIdeal.Read.val_main_cst_10, Cert.LossBwdRefIdeal.Read.val_main_v37, Cert.LossBwdRefIdeal.Read.val_main_cst_11, Cert.LossBwdRefIdeal.Read.val_main_v38, Cert.LossBwdRefIdeal.Read.val_main_cst_12, Cert.LossBwdRefIdeal.Read.val_main_cst_13, Cert.LossBwdRefIdeal.Read.val_main_v39, Cert.LossBwdRefIdeal.Read.val_main_v40, Cert.LossBwdRefIdeal.Read.val_main_cst_14, Cert.LossBwdRefIdeal.Read.val_main_v41, Cert.LossBwdRefIdeal.Read.val_main_v42, Cert.LossBwdRefIdeal.Read.val_main_v43, Cert.LossBwdRefIdeal.Read.val_main_v44, Cert.LossBwdRefIdeal.Read.val_main_cst_15, Cert.LossBwdRefIdeal.Read.val_main_v45, Cert.LossBwdRefIdeal.Read.val_main_v46, Cert.LossBwdRefIdeal.Read.val_main_v47, Cert.LossBwdRefIdeal.Read.val_main_cst_16, Cert.LossBwdRefIdeal.Read.val_main_v48, Cert.LossBwdRefIdeal.Read.val_main_v49, Cert.LossBwdRefIdeal.Read.val_main_v50, Cert.LossBwdRefIdeal.Read.val_main_v51, Cert.LossBwdRefIdeal.Read.val_main_v52, Cert.LossBwdRefIdeal.Read.val_main_cst_17, Cert.LossBwdRefIdeal.Read.val_main_v53, Cert.LossBwdRefIdeal.Read.val_main_v54, Cert.LossBwdRefIdeal.Read.val_main_v55, Cert.LossBwdRefIdeal.Read.val_main_v56, Cert.LossBwdRefIdeal.Read.val_main_v57, Cert.LossBwdRefIdeal.Read.val_main_v58, Cert.LossBwdRefIdeal.Read.val_main_cst_18, Cert.LossBwdRefIdeal.Read.val_main_v59, Cert.LossBwdRefIdeal.Read.val_main_v60, Cert.LossBwdRefIdeal.Read.val_main_cst_19, Cert.LossBwdRefIdeal.Read.val_main_v61, Cert.LossBwdRefIdeal.Read.val_main_v62, Cert.LossBwdRefIdeal.Read.val_main_cst_20, Cert.LossBwdRefIdeal.Read.val_main_v63, Cert.LossBwdRefIdeal.Read.val_main_v64, Cert.LossBwdRefIdeal.Read.val_main_v65, Cert.LossBwdRefIdeal.Read.val_main_v66, Cert.LossBwdRefIdeal.Read.val_main_cst_21, Cert.LossBwdRefIdeal.Read.val_main_v67, Cert.LossBwdRefIdeal.Read.val_main_v68, Cert.LossBwdRefIdeal.Read.val_main_v69, Cert.LossBwdRefIdeal.Read.val_main_v70, Cert.LossBwdRefIdeal.Read.val_main_cst_22, Cert.LossBwdRefIdeal.Read.val_main_v71, Cert.LossBwdRefIdeal.Read.val_main_v72, Cert.LossBwdRefIdeal.Read.val_main_cst_23, Cert.LossBwdRefIdeal.Read.val_main_v73, Cert.LossBwdRefIdeal.Read.val_main_v74, Cert.LossBwdRefIdeal.Read.val_main_v75, Cert.LossBwdRefIdeal.Read.val_main_v76, Cert.LossBwdRefIdeal.Read.val_main_v77]
  simp only [ls, er, hat, va, mu, xr]

/-- What the precondition says of the five arguments. -/
theorem finite [hP : Cert.Pre_finite_loss.Facts] (h : Cert.Pre_finite_loss.fn (F := Ideal) X0 X1 X2 X3 X4 = fun _ => 1#1) :
    (∀ i, ∃ r : ℝ, (X0 i : EReal) = (r : EReal)) ∧ (∀ i, ∃ r : ℝ, (X1 i : EReal) = (r : EReal)) ∧ (∀ i, ∃ r : ℝ, (X2 i : EReal) = (r : EReal))
      ∧ (∀ i, ∃ r : ℝ, (X3 i : EReal) = (r : EReal)) ∧ (∀ i, ∃ r : ℝ, (X4 i : EReal) = (r : EReal)) := by
  have e := congrFun h ix0
  unfold Cert.Pre_finite_loss.fn Cert.Pre_finite_loss.fn_part1 at e
  dsimp only at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  haveI : Subsingleton Cert.Pre_finite_loss.S_.Idx := ⟨fun a b => funext fun d => d.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

/-- The residual's scale is a real number. -/
theorem ofBits_alpha : ∃ a : ℝ, Ideal.ofBits .f32 1066940400#32 = (a : EReal) := by
  refine ⟨_, by simp only [Ideal.ofBits, Ideal.ieee]; rfl⟩

variable (h0 : ∀ i, ∃ r : ℝ, (X0 i : EReal) = (r : EReal)) (h1 : ∀ i, ∃ r : ℝ, (X1 i : EReal) = (r : EReal)) (h2 : ∀ i, ∃ r : ℝ, (X2 i : EReal) = (r : EReal))
  (h3 : ∀ i, ∃ r : ℝ, (X3 i : EReal) = (r : EReal)) (h4 : ∀ i, ∃ r : ℝ, (X4 i : EReal) = (r : EReal))

include h0 h1

theorem xr_coe (p : Fin 4096) (l : Fin 2048) : ∃ r : ℝ, xr X0 X1 p l = (r : EReal) := by
  obtain ⟨a, ha⟩ := ofBits_alpha
  obtain ⟨x0, e0⟩ := h0 (ix2 p l)
  obtain ⟨x1, e1⟩ := h1 (ix2 p l)
  exact ⟨a * x1 + x0, by unfold xr; rw [ha, e0, e1]; push_cast; rfl⟩

theorem hat_coe (p : Fin 4096) (l : Fin 2048) : ∃ r : ℝ, hat (xr X0 X1 p) l = (r : EReal) := by
  choose x hx using xr_coe X0 X1 h0 h1 p
  rw [show xr X0 X1 p = fun k => (x k : EReal) from funext hx]
  obtain ⟨v, hv, ev⟩ := va_coe x
  unfold hat
  rw [ev, mu_coe, rsqrt_pos hv, ← EReal.coe_sub, ← EReal.coe_mul]
  exact ⟨_, rfl⟩

include h2 h3 h4

theorem er_coe (p : Fin 4096) (l : Fin 2048) : ∃ r : ℝ, er X0 X1 X2 X3 X4 p l = (r : EReal) := by
  obtain ⟨x, e⟩ := hat_coe X0 X1 h0 h1 p l
  obtain ⟨x2, e2⟩ := h2 (ix2 p l)
  obtain ⟨x3, e3⟩ := h3 (ix2 0 l)
  obtain ⟨x4, e4⟩ := h4 (ix2 0 l)
  exact ⟨x * x3 + x4 - x2, by unfold er; rw [e, e2, e3, e4]; push_cast; rfl⟩

theorem yr_coe (p : Fin 4096) (l : Fin 2048) : ∃ r : ℝ, yr X0 X1 X2 X3 X4 p l = (r : EReal) := by
  obtain ⟨x, e⟩ := er_coe X0 X1 X2 X3 X4 h0 h1 h2 h3 h4 p l
  obtain ⟨x3, e3⟩ := h3 (ix2 0 l)
  exact ⟨x * (1 / 2048) * x3, by unfold yr dy; rw [e, e3, ofBits_inv_2048, EReal.coe_mul, EReal.coe_mul]⟩

theorem ls_coe (p : Fin 4096) : ∃ r : ℝ, ls X0 X1 X2 X3 X4 p = (r : EReal) := by
  choose x hx using er_coe X0 X1 X2 X3 X4 h0 h1 h2 h3 h4 p
  unfold ls
  simp only [hx, ← EReal.coe_mul]
  rw [coe_sum, ofBits_2048, Ideal.div_coe (by norm_num), ← EReal.coe_mul]
  exact ⟨_, rfl⟩

end

/-- Half of a finite sum is the sum of the halves. -/
theorem half_sum {n : ℕ} (L : Fin n → EReal) (hL : ∀ p, ∃ r : ℝ, L p = (r : EReal)) :
    Ideal.ofBits .f32 1056964608#32 * ∑ p, L p = ∑ p, Ideal.ofBits .f32 1056964608#32 * L p := by
  choose x hx using hL
  simp only [hx, ofBits_half, ← EReal.coe_mul]
  rw [coe_sum, coe_sum, ← EReal.coe_mul, Finset.mul_sum]

/-- The blocks' shares add up to half the sum over all rows. -/
theorem shares (L : Fin 4096 → EReal) (hL : ∀ p, ∃ r : ℝ, L p = (r : EReal)) :
    ∑ t : Fin 16, lsT L t = Ideal.ofBits .f32 1056964608#32 * ∑ p, L p := by
  rw [half_sum L hL, sum_rows]
  refine Finset.sum_congr rfl fun t _ => ?_
  unfold lsT tiles
  rw [half_sum _ fun _ => hL _, half_sum _ fun _ => hL _, half_sum _ fun _ => hL _, half_sum _ fun _ => hL _]

variable (m : (ℓ : Loc nD τ sig) → Buf (Elt Ideal) ℓ) (c : Dev nD)
variable (h0 : ∀ i, ∃ r : ℝ, (P0 m c i : EReal) = (r : EReal)) (h1 : ∀ i, ∃ r : ℝ, (P1 m c i : EReal) = (r : EReal))
  (h2 : ∀ i, ∃ r : ℝ, (P2 m c i : EReal) = (r : EReal)) (h3 : ∀ i, ∃ r : ℝ, (P3 m c i : EReal) = (r : EReal))
  (h4 : ∀ i, ∃ r : ℝ, (P4 m c i : EReal) = (r : EReal))

include h0 h1 h2 h3 h4

/-- The results after the run are the reference's. -/
theorem res0 : (dats m 0 c).arrAt 5 (cfgs 0).N = Cert.LossBwdRefIdeal.Read.val_main_v75 (F := Ideal) (P0 m c) (P1 m c) (P2 m c) (P3 m c) (P4 m c) := by
  rw [final5]
  funext i
  obtain ⟨p, l, rfl⟩ : ∃ (p : Fin 4096) (l : Fin 2048), i = ix2 p l := ⟨i 0, i 1, eq_ix2 i⟩
  exact (dx_eq (yr_coe _ _ _ _ _ h0 h1 h2 h3 h4 p) (xr_coe _ _ h0 h1 p) l).trans (ref0 (P0 m c) (P1 m c) (P2 m c) (P3 m c) (P4 m c) p l).symm

theorem res1 : (dats m 0 c).arrAt 6 (cfgs 0).N = Cert.LossBwdRefIdeal.Read.val_main_v76 (F := Ideal) (P0 m c) (P1 m c) (P2 m c) (P3 m c) (P4 m c) := by
  rw [final6]
  funext i
  obtain ⟨p, l, rfl⟩ : ∃ (p : Fin 4096) (l : Fin 2048), i = ix2 p l := ⟨i 0, i 1, eq_ix2 i⟩
  exact (dx_eq (yr_coe _ _ _ _ _ h0 h1 h2 h3 h4 p) (xr_coe _ _ h0 h1 p) l).trans (ref1 (P0 m c) (P1 m c) (P2 m c) (P3 m c) (P4 m c) p l).symm

theorem res4 : (dats m 0 c).arrAt 9 (cfgs 0).N = Cert.LossBwdRefIdeal.Read.val_main_v77 (F := Ideal) (P0 m c) (P1 m c) (P2 m c) (P3 m c) (P4 m c) := by
  rw [final9]
  funext j
  exact (shares _ (ls_coe _ _ _ _ _ h0 h1 h2 h3 h4)).trans (ref4 (P0 m c) (P1 m c) (P2 m c) (P3 m c) (P4 m c) j).symm

omit h0 h1 h2 h3 h4

theorem res2 : (dats m 0 c).arrAt 7 (cfgs 0).N = Cert.LossBwdRefIdeal.Read.val_main_v49 (F := Ideal) (P0 m c) (P1 m c) (P2 m c) (P3 m c) (P4 m c) := by
  rw [final7]
  funext j
  exact (ref2 (P0 m c) (P1 m c) (P2 m c) (P3 m c) (P4 m c) j).symm

theorem res3 : (dats m 0 c).arrAt 8 (cfgs 0).N = Cert.LossBwdRefIdeal.Read.val_main_v46 (F := Ideal) (P0 m c) (P1 m c) (P2 m c) (P3 m c) (P4 m c) := by
  rw [final8]
  funext j
  exact (ref3 (P0 m c) (P1 m c) (P2 m c) (P3 m c) (P4 m c) j).symm

end Cert.LossBwdIdeal.Reference

namespace Cert.Proof

/-- Equal arguments give equal values. -/
theorem congr_five {A B C D E R : Type} (f : A → B → C → D → E → R) {a a' : A} {b b' : B} {c c' : C} {d d' : D} {e e' : E} (ha : a = a') (hb : b = b')
    (hc : c = c') (hd : d = d') (he : e = e') : f a b c d e = f a' b' c' d' e' := by
  rw [ha, hb, hc, hd, he]

/-- The idealized call computes the reference's results, where the arguments are finite. -/
theorem algebraic_LossBwd [h : Cert.LossBwdIdeal.Facts] [h' : Cert.LossBwdRefIdeal.Facts] [hP : Cert.Pre_finite_loss.Facts] :
    Cert.algebraic_LossBwdIdeal_LossBwdRefIdeal_pre_finite_loss := by
  pair_intro
  · run_from Cert.LossBwdIdeal.Gen.run_main m g
  · refine Idealize.ShloMosaic.θ_run_mono (Cert.LossBwdRefIdeal.Value.run m' g') ?_
    intro r hr c
    obtain ⟨e0, e1, e2, e3, e4, ea⟩ := hr c
    obtain ⟨b0, b1, b2, b3, b4⟩ := hagree c
    obtain ⟨f0, f1, f2, f3, f4⟩ := Cert.LossBwdIdeal.Reference.finite _ _ _ _ _ (hpre c)
    refine ⟨e0.trans ((Cert.LossBwdRefIdeal.Read.val_main_v75_eq m' c).trans (Eq.trans ?_ (Cert.LossBwdIdeal.Reference.res0 m c f0 f1 f2 f3 f4).symm)),
      e1.trans ((Cert.LossBwdRefIdeal.Read.val_main_v76_eq m' c).trans (Eq.trans ?_ (Cert.LossBwdIdeal.Reference.res1 m c f0 f1 f2 f3 f4).symm)),
      e2.trans ((Cert.LossBwdRefIdeal.Read.val_main_v49_eq m' c).trans (Eq.trans ?_ (Cert.LossBwdIdeal.Reference.res2 m c).symm)),
      e3.trans ((Cert.LossBwdRefIdeal.Read.val_main_v46_eq _ _ _ _ _).trans (Eq.trans ?_ (Cert.LossBwdIdeal.Reference.res3 m c).symm)),
      e4.trans ((Cert.LossBwdRefIdeal.Read.val_main_v77_eq m' c).trans (Eq.trans ?_ (Cert.LossBwdIdeal.Reference.res4 m c f0 f1 f2 f3 f4).symm)), ea⟩
    · exact congr_five (Cert.LossBwdRefIdeal.Read.val_main_v75 (F := Ideal)) b0 b1 b2 b3 b4
    · exact congr_five (Cert.LossBwdRefIdeal.Read.val_main_v76 (F := Ideal)) b0 b1 b2 b3 b4
    · exact congr_five (Cert.LossBwdRefIdeal.Read.val_main_v49 (F := Ideal)) b0 b1 b2 b3 b4
    · exact congr_five (Cert.LossBwdRefIdeal.Read.val_main_v46 (F := Ideal)) b0 b1 b2 b3 b4
    · exact congr_five (Cert.LossBwdRefIdeal.Read.val_main_v77 (F := Ideal)) b0 b1 b2 b3 b4

end Cert.Proof

end
-- ==== Proof.SwaFwdIdealBlk.lean ====
/- One block of queries of the windowed attention: the values the call stores, in plain numbers. -/
module

import all proofs.«01_k».proof.Proof.Gen.SwaFwdIdeal.Frame.RunA
public import proofs.«01_k».proof.Proof.Gen.SwaFwdIdeal.Value
public import proofs.«01_k».proof.Proof.SwaCross
public import Idealize.ShloMosaic.Lib.KernelVsHost
public import Idealize.ShloMosaic.Lib.Pipeline.ValueKit
public import Idealize.ShloMosaic.Lib.WholeRead
public import Idealize.ShloMosaic.Lib.WritesUnit

@[expose] public section

set_option maxRecDepth 16384

noncomputable section

open Idealize.ShloMosaic Idealize.ShloMosaic.TcCoe

namespace Cert.SwaFwdIdeal.Blk

open Cert.SwaFwdIdeal Cert.SwaFwdIdeal.Gen Cert.SwaRow

/-- The block's output of the attention. -/
def OUT (b : ℕ) (Q K V : ℕ → ℕ → EReal) (Z : ℕ → EReal) (q c : ℕ) : EReal :=
  ∑ k : Fin 256, PN b Q K Z (c / 64) q k * V k (64 * (c / 64 / 8) + c % 64)

/-- A load of 128 columns of a block of 1024. -/
theorem rdW (A : Memref sig .tc .vmem S128x1024 .f32) (hA : A.IsWhole) (x : Vec Ideal S128x1024 .f32) (o : ℕ)
    (p : ∀ d, (![0, o] : Fin 2 → ℕ) d + (![128, 128] : Fin 2 → ℕ) d ≤ S128x1024.size d) (a b : Fin 128) :
    View.readAt (Elt Ideal) A.view (Rect.unit (s := S128x1024) ![0, o] ![128, 128] p).toLoadRect (hA.unread x) (ix2 a b) = at2 x a.val (o + b.val) := by
  rw [Memref.IsWhole.readAt_unread]
  have hb : o + b.val < 1024 := by
    have h1 := p 1
    have h2 : o + 128 ≤ 1024 := h1
    have := b.2
    omega
  rw [at2_lt x a.val (o + b.val) a.2 hb]
  congr 1
  funext d
  refine Fin.cases ?_ (fun d => Fin.cases ?_ (fun d => d.elim0) d) d
  · exact Fin.ext (by show 0 + 1 * a.val = a.val; omega)
  · exact Fin.ext (by show o + 1 * b.val = o + b.val; omega)

/-- A load of a whole block of 128 columns. -/
theorem rdB (A : Memref sig .tc .vmem S128x128 .f32) (hA : A.IsWhole) (x : Vec Ideal S128x128 .f32)
    (p : ∀ d, (![0, 0] : Fin 2 → ℕ) d + (![128, 128] : Fin 2 → ℕ) d ≤ S128x128.size d) (a b : Fin 128) :
    View.readAt (Elt Ideal) A.view (Rect.unit (s := S128x128) ![0, 0] ![128, 128] p).toLoadRect (hA.unread x) (ix2 a b) = at2 x a.val b.val := by
  rw [Memref.IsWhole.readAt_unread]
  rw [at2_lt x a.val b.val a.2 b.2]
  congr 1
  funext d
  refine Fin.cases ?_ (fun d => Fin.cases ?_ (fun d => d.elim0) d) d
  · exact Fin.ext (by show 0 + 1 * a.val = a.val; omega)
  · exact Fin.ext (by show 0 + 1 * b.val = b.val; omega)

/-- A load of one sink. -/
theorem rdS (A : Memref sig .tc .smem S16 .f32) (hA : A.IsWhole) (x : Vec Ideal S16 .f32) (o : ℕ)
    (p : ∀ d, (![o] : Fin 1 → ℕ) d + (![1] : Fin 1 → ℕ) d ≤ S16.size d) (h : 0 < (Rect.unit (s := S16) ![o] ![1] p).toLoadRect.shape.numel) :
    View.readAt (Elt Ideal) A.view (Rect.unit (s := S16) ![o] ![1] p).toLoadRect (hA.unread x) (Shape.Idx.first h) = at1 x o := by
  rw [Memref.IsWhole.readAt_unread]
  have ho : o < 16 := by
    have h1 := p 0
    have h2 : o + 1 ≤ 16 := h1
    omega
  rw [at1_lt x o ho]
  congr 1
  funext d
  refine Fin.cases ?_ (fun d => d.elim0) d
  exact Fin.ext (by show o + 1 * 0 = o; omega)

/-- The same load, as plain numbers. -/
theorem rdB2 (A : Memref sig .tc .vmem S128x128 .f32) (hA : A.IsWhole) (x : Vec Ideal S128x128 .f32)
    (p : ∀ d, (![0, 0] : Fin 2 → ℕ) d + (![128, 128] : Fin 2 → ℕ) d ≤ S128x128.size d) :
    at2 (a := 128) (b := 128) (View.readAt (Elt Ideal) A.view (Rect.unit (s := S128x128) ![0, 0] ![128, 128] p).toLoadRect (hA.unread x)) = at2 x := by
  funext a b
  unfold at2
  by_cases h : a < 128 ∧ b < 128
  · rw [dif_pos h, dif_pos h]
    refine (rdB A hA x p ⟨a, h.1⟩ ⟨b, h.2⟩).trans (at2_lt x a b h.1 h.2)
  · rw [dif_neg h, dif_neg h]

section Keys

variable (x2 x3 : Vec Ideal S128x128 .f32)

theorem kd0 (k : Fin 256) (l : Fin 128) : ((k0_pay6 (F := Ideal) x2 x3) (ix2 k l) : EReal) = (two (at2 x2) (at2 x3)) k.val (64 * 0 + l.val % 64) := by
  have h0 : k.val < 256 := k.isLt
  have h1 : l.val < 128 := l.isLt
  pointwise [k0_pay6, k0_pay4, k0_pay3]
  simp only [slt_lane _ h1, two]
  split_ifs <;> first
    | (exfalso; omega)
    | (rw [at2_lt _ _ _ (by omega) (by omega)]
       congr 1
       funext a
       refine Fin.cases ?_ (fun a => Fin.cases ?_ (fun a => a.elim0) a) a
       · exact Fin.ext (by first | rfl | (dsimp only [ix2]; omega))
       · exact Fin.ext (by show (_ : ℕ) = _; dsimp; omega))

theorem vd0 (k : Fin 256) (l : Fin 128) : ((k0_pay9 (F := Ideal) (k0_pay5 x2 x3) (k0_pay7 x2 x3) k0_pay8) (ix2 k l) : EReal) = (two (at2 x2) (at2 x3)) k.val (64 * 0 + l.val % 64) := by
  have h0 : k.val < 256 := k.isLt
  have h1 : l.val < 128 := l.isLt
  pointwise [k0_pay9, k0_pay5, k0_pay7, k0_pay8, k0_pay3]
  simp only [slt_lane _ h1, two]
  split_ifs <;> first
    | (exfalso; omega)
    | (rw [at2_lt _ _ _ (by omega) (by omega)]
       congr 1
       funext a
       refine Fin.cases ?_ (fun a => Fin.cases ?_ (fun a => a.elim0) a) a
       · exact Fin.ext (by first | rfl | (dsimp only [ix2]; omega))
       · exact Fin.ext (by show (_ : ℕ) = _; dsimp; omega))

theorem kd1 (k : Fin 256) (l : Fin 128) : ((k0_pay28 (F := Ideal) k0_pay3 (k0_pay4 x2 x3)) (ix2 k l) : EReal) = (two (at2 x2) (at2 x3)) k.val (64 * 1 + l.val % 64) := by
  have h0 : k.val < 256 := k.isLt
  have h1 : l.val < 128 := l.isLt
  pointwise [k0_pay28, k0_pay4, k0_pay3]
  simp only [slt_lane _ h1, two]
  split_ifs <;> first
    | (exfalso; omega)
    | (rw [at2_lt _ _ _ (by omega) (by omega)]
       congr 1
       funext a
       refine Fin.cases ?_ (fun a => Fin.cases ?_ (fun a => a.elim0) a) a
       · exact Fin.ext (by first | rfl | (dsimp only [ix2]; omega))
       · exact Fin.ext (by show (_ : ℕ) = _; dsimp; omega))

theorem vd1 (k : Fin 256) (l : Fin 128) : ((k0_pay29 (F := Ideal) k0_pay3 (k0_pay5 x2 x3)) (ix2 k l) : EReal) = (two (at2 x2) (at2 x3)) k.val (64 * 1 + l.val % 64) := by
  have h0 : k.val < 256 := k.isLt
  have h1 : l.val < 128 := l.isLt
  pointwise [k0_pay29, k0_pay5, k0_pay3]
  simp only [slt_lane _ h1, two]
  split_ifs <;> first
    | (exfalso; omega)
    | (rw [at2_lt _ _ _ (by omega) (by omega)]
       congr 1
       funext a
       refine Fin.cases ?_ (fun a => Fin.cases ?_ (fun a => a.elim0) a) a
       · exact Fin.ext (by first | rfl | (dsimp only [ix2]; omega))
       · exact Fin.ext (by show (_ : ℕ) = _; dsimp; omega))

end Keys

/-- The scaled and masked scores of one head, as the call forms them. -/
def sc (M : IVec S128x256 1) (qm : FVec Ideal S128x128 .bf16) (kd : FVec Ideal S256x128 .bf16) : FVec Ideal S128x256 .f32 :=
  select M (mulf (matmul dot_S128x128_S256x128_S128x256_1_1_0_0_n_n none qm kd (constant S128x256 .f32 0x00000000#32)) (broadcast S128x256 (Scalar.ofBits .f32 0x3E000000#32)))
    (broadcast S128x256 (Named.named κ "mask" 0xF149F2CA#32))

/-- Each row's maximum, the sink's logit included. -/
def mxv (M : IVec S128x256 1) (qm : FVec Ideal S128x128 .bf16) (kd : FVec Ideal S256x128 .bf16) (z : Ideal .f32) : FVec Ideal S128x1 .f32 :=
  maximumf (shapeCast S128x1 (multiReduction .maximumf [1] S128 (sc M qm kd) 0xFF800000#32 reduces_S128x256_S128 (.inl rfl) rfl) shapeCasts_S128_S128x1) (broadcast S128x1 z)

/-- The shifted exponentials. -/
def exv (M : IVec S128x256 1) (qm : FVec Ideal S128x128 .bf16) (kd : FVec Ideal S256x128 .bf16) (z : Ideal .f32) : FVec Ideal S128x256 .f32 :=
  exp (subf (sc M qm kd) (broadcastTo S128x256 (mxv M qm kd z) broadcasts_S128x1_S128x256))

/-- The weights of one head. -/
def pnv (M : IVec S128x256 1) (qm : FVec Ideal S128x128 .bf16) (kd : FVec Ideal S256x128 .bf16) (z : Ideal .f32) : FVec Ideal S128x256 .bf16 :=
  truncf .bf16 (mulf (exv M qm kd z) (broadcastTo S128x256 (divf (broadcast S128x1 (Scalar.ofBits .f32 0x3F800000#32))
    (addf (shapeCast S128x1 (multiReduction .add [1] S128 (exv M qm kd z) 0x00000000#32 reduces_S128x256_S128 (.inl rfl) rfl) shapeCasts_S128_S128x1)
      (exp (subf (broadcast S128x1 z) (mxv M qm kd z))))) broadcasts_S128x1_S128x256)) bitsLt_bf16_f32

/-- One head's output, on both halves of the lanes. -/
def half (M : IVec S128x256 1) (qm : FVec Ideal S128x128 .bf16) (kd vd : FVec Ideal S256x128 .bf16) (z : Ideal .f32) : FVec Ideal S128x128 .f32 :=
  matmul dot_S128x256_S256x128_S128x128_1_0_0_1_n_n none (pnv M qm kd z) vd (constant S128x128 .f32 0x00000000#32)

/-- The queries of the even head of a pair. -/
def qlo (qp : Vec Ideal S128x128 .f32) : FVec Ideal S128x128 .bf16 :=
  truncf .bf16 (select (broadcastTo S128x128 (shapeCast S1x128 k0_pay3 shapeCasts_S1x128_S1x128) broadcasts_S1x128_S128x128) qp (broadcast S128x128 (Scalar.ofBits .f32 0x00000000#32))) bitsLt_bf16_f32

/-- The queries of the odd head of a pair. -/
def qhi (qp : Vec Ideal S128x128 .f32) : FVec Ideal S128x128 .bf16 :=
  truncf .bf16 (select (broadcastTo S128x128 (shapeCast S1x128 (xori k0_pay3 (constantI S1x128 1 1#1)) shapeCasts_S1x128_S1x128) broadcasts_S1x128_S128x128) qp (broadcast S128x128 (Scalar.ofBits .f32 0x00000000#32))) bitsLt_bf16_f32

/-- What the call stores of a pair of heads. -/
def pair (M : IVec S128x256 1) (kd vd : FVec Ideal S256x128 .bf16) (qp : Vec Ideal S128x128 .f32) (z0 z1 : Ideal .f32) : FVec Ideal S128x128 .bf16 :=
  truncf .bf16 (select (broadcastTo S128x128 (shapeCast S1x128 k0_pay3 shapeCasts_S1x128_S1x128) broadcasts_S1x128_S128x128) (half M (qlo qp) kd vd z0) (half M (qhi qp) kd vd z1)) bitsLt_bf16_f32

theorem mask_bot : (Named.named (F := Ideal) κ "mask" (φ := .f32) 0xF149F2CA#32 : EReal) = ⊥ := rfl

theorem xor_lane {α : Type} (n : ℕ) (h : n < 128) (x y : α) :
    Scalar.select (IntOp.xori (IntOp.cmpi .slt (BitVec.ofNat 32 n) 64#32) 1#1) x y = if n < 64 then y else x := by
  have : ∀ n : Fin 128, IntOp.xori (IntOp.cmpi .slt (BitVec.ofNat 32 n.val) 64#32) 1#1 = if n.val < 64 then 0#1 else 1#1 := by decide +kernel
  rw [this ⟨n, h⟩]
  dsimp only
  split <;> rfl

section Head

variable (i : grid0.Coords) (qm : FVec Ideal S128x128 .bf16) (kd vd : FVec Ideal S256x128 .bf16) (z : Ideal .f32)
  (Q K V : ℕ → ℕ → EReal) (Z : ℕ → EReal) (e : ℕ)
  (hq : ∀ q l : Fin 128, (qm (ix2 q l) : EReal) = if (l.val < 64 ↔ e % 2 = 0) then Q q.val (64 * e + l.val % 64) else 0)
  (hk : ∀ (k : Fin 256) (l : Fin 128), (kd (ix2 k l) : EReal) = K k.val (64 * (e / 8) + l.val % 64))
  (hv : ∀ (k : Fin 256) (l : Fin 128), (vd (ix2 k l) : EReal) = V k.val (64 * (e / 8) + l.val % 64))
  (hz : (z : EReal) = Z e)

include hq hk

theorem sc_at (q : Fin 128) (k : Fin 256) : (sc (k0_pay2 i) qm kd (ix2 q k) : EReal) = W (i 0).val Q K e q.val k.val := by
  have h1 : (i 0).val < 32 := (i 0).isLt
  have h2 : q.val < 128 := q.isLt
  pointwise [sc, k0_pay2]
  rw [lane_and _ (by omega), Nat.mod_eq_of_lt h2]
  refine (ok_mask _ _ _ h1 h2 k.isLt _ _).trans ?_
  unfold W
  rw [ofBits_eighth, mask_bot]
  refine if_congr Iff.rfl ?_ rfl
  congr 1
  refine Eq.trans ?_ (sum_lanes (e % 2 = 0) (fun d => Q q.val (64 * e + d)) (fun d => K k.val (64 * (e / 8) + d)))
  refine Finset.sum_congr rfl fun l _ => ?_
  rw [hq, hk]

include hz

theorem mxv_at (q : Fin 128) : (mxv (k0_pay2 i) qm kd z (ix2 q 0) : EReal) = mx (fun k : Fin 256 => W (i 0).val Q K e q.val k.val) (Z e) := by
  pointwise [mxv]
  simp only [sc_at i qm kd Q K e hq hk, hz, ofBits_bot]
  rfl

theorem exv_at (q : Fin 128) (k : Fin 256) : (exv (k0_pay2 i) qm kd z (ix2 q k) : EReal) = ex (fun k : Fin 256 => W (i 0).val Q K e q.val k.val) (Z e) k := by
  pointwise [exv]
  rw [sc_at i qm kd Q K e hq hk, mxv_at i qm kd z Q K Z e hq hk hz]
  rfl

theorem pnv_at (q : Fin 128) (k : Fin 256) : (pnv (k0_pay2 i) qm kd z (ix2 q k) : EReal) = PN (i 0).val Q K Z e q.val k := by
  pointwise [pnv]
  simp only [exv_at i qm kd z Q K Z e hq hk hz, mxv_at i qm kd z Q K Z e hq hk hz]
  rw [hz]
  rfl

include hv

theorem half_at (q l : Fin 128) : (half (k0_pay2 i) qm kd vd z (ix2 q l) : EReal) = ∑ k : Fin 256, PN (i 0).val Q K Z e q.val k * V k.val (64 * (e / 8) + l.val % 64) := by
  pointwise [half]
  refine Finset.sum_congr rfl fun k _ => ?_
  rw [pnv_at i qm kd z Q K Z e hq hk hz, hv]

end Head

/-- A pair's output, in the block's numbers. -/
theorem pair_at (i : grid0.Coords) (kd vd : FVec Ideal S256x128 .bf16) (qp : Vec Ideal S128x128 .f32) (z0 z1 : Ideal .f32)
    (Q K V : ℕ → ℕ → EReal) (Z : ℕ → EReal) (p : ℕ)
    (hq : ∀ q l : Fin 128, (qp (ix2 q l) : EReal) = Q q.val (128 * p + l.val))
    (hk : ∀ (k : Fin 256) (l : Fin 128), (kd (ix2 k l) : EReal) = K k.val (64 * (p / 4) + l.val % 64))
    (hv : ∀ (k : Fin 256) (l : Fin 128), (vd (ix2 k l) : EReal) = V k.val (64 * (p / 4) + l.val % 64))
    (h0 : (z0 : EReal) = Z (2 * p)) (h1 : (z1 : EReal) = Z (2 * p + 1)) (q l : Fin 128) :
    (pair (k0_pay2 i) kd vd qp z0 z1 (ix2 q l) : EReal) = OUT (i 0).val Q K V Z q.val (128 * p + l.val) := by
  have hl : l.val < 128 := l.isLt
  have e0 : 2 * p / 8 = p / 4 := by omega
  have e1 : (2 * p + 1) / 8 = p / 4 := by omega
  have a0 := half_at i (qlo qp) kd vd z0 Q K V Z (2 * p) (fun q l => by
    have hl : l.val < 128 := l.isLt
    pointwise [qlo, k0_pay3]
    rw [slt_lane _ hl, hq]
    by_cases h : l.val < 64
    · rw [if_pos h, if_pos (by omega)]
      congr 1
      omega
    · rw [if_neg h, if_neg (by omega)]) (fun k l => by rw [hk, e0]) (fun k l => by rw [hv, e0]) h0 q l
  have a1 := half_at i (qhi qp) kd vd z1 Q K V Z (2 * p + 1) (fun q l => by
    have hl : l.val < 128 := l.isLt
    pointwise [qhi, k0_pay3]
    rw [xor_lane _ hl, hq]
    by_cases h : l.val < 64
    · rw [if_pos h, if_neg (by omega)]
    · rw [if_neg h, if_pos (by omega)]
      congr 1
      omega) (fun k l => by rw [hk, e1]) (fun k l => by rw [hv, e1]) h1 q l
  pointwise [pair, k0_pay3]
  rw [slt_lane _ hl, a0, a1]
  unfold OUT
  by_cases h : l.val < 64
  · rw [if_pos h]
    refine Finset.sum_congr rfl fun k _ => ?_
    rw [show (128 * p + l.val) / 64 = 2 * p by omega, show (128 * p + l.val) % 64 = l.val % 64 by omega]
  · rw [if_neg h]
    refine Finset.sum_congr rfl fun k _ => ?_
    rw [show (128 * p + l.val) / 64 = 2 * p + 1 by omega, show (128 * p + l.val) % 64 = l.val % 64 by omega]

section Out

variable (c : Dev nD) (i : grid0.Coords) (arg1 : Memref sig .tc .smem S16 .f32) (harg1 : arg1.IsWhole) (arg2 : Memref sig .tc .vmem S128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1024 .bf16) (harg7 : arg7.IsWhole) (arg8 : Memref sig .tc .vmem S128x2048 .bf16) (harg8 : arg8.IsWhole)
  (x0 : Vec Ideal S16 .f32) (x1 : Vec Ideal S128x1024 .f32) (x2 x3 x4 x5 : Vec Ideal S128x128 .f32) (x6 : Vec Ideal S128x1024 .bf16)

/-- The newest store, read at a column it holds, -/
theorem hit {o n : ℕ} (inb : ∀ a : Fin 2, (![0, o] : Fin 2 → ℕ) a + (![128, n] : Fin 2 → ℕ) a ≤ (![128, 2048] : Fin 2 → ℕ) a)
    (f : VO0_7.ty.Contents (Elt Ideal)) (w : (Rect.unit (s := S128x2048) ![0, o] ![128, n] inb).shape.Idx → Elt Ideal .bf16)
    (L : List (View.Piece (Elt Ideal) S128x2048 .bf16)) (q : Fin 128) (r : Fin 2048) (l : Fin n) (hr : r.val = o + l.val) :
    VO0_7.read (Elt Ideal) (VO0_7.writes (Elt Ideal) f (⟨Rect.unit (s := S128x2048) ![0, o] ![128, n] inb, w⟩ :: L)) (ix2 q r) = w (ix2 q l) :=
  View.read_writes_cons_unit_of_mem VO0_7 f inb w L (ix2 q r : S128x2048.Idx) (ix2 q l) rfl
    (Fin.forall_fin_two.mpr ⟨(Nat.zero_add _).symm, hr⟩)

/-- and at a column it does not hold. -/
theorem miss {o n : ℕ} (inb : ∀ a : Fin 2, (![0, o] : Fin 2 → ℕ) a + (![128, n] : Fin 2 → ℕ) a ≤ (![128, 2048] : Fin 2 → ℕ) a)
    (f : VO0_7.ty.Contents (Elt Ideal)) (w : (Rect.unit (s := S128x2048) ![0, o] ![128, n] inb).shape.Idx → Elt Ideal .bf16)
    (L : List (View.Piece (Elt Ideal) S128x2048 .bf16)) (q : Fin 128) (r : Fin 2048) (hr : r.val < o ∨ o + n ≤ r.val) :
    VO0_7.read (Elt Ideal) (VO0_7.writes (Elt Ideal) f (⟨Rect.unit (s := S128x2048) ![0, o] ![128, n] inb, w⟩ :: L)) (ix2 q r)
      = VO0_7.read (Elt Ideal) (VO0_7.writes (Elt Ideal) f L) (ix2 q r) :=
  View.read_writes_cons_unit_of_not_mem VO0_7 f inb w L (ix2 q r : S128x2048.Idx) rfl (1 : Fin 2) hr

/-- The block's output, columns 1024 to 1151. -/
theorem out0 (q l : Fin 128) (r : Fin 2048) (hr : r.val = 1024 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (0 + l.val) := by
  have hl : l.val < 128 := l.isLt
  unfold out0_A_7 kernelRun0_A
  dsimp only
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (hit _ _ _ _ q r l hr).trans ?_
  refine pair_at i (k0_pay6 (F := Ideal) (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3)))
    (k0_pay9 (F := Ideal) (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) (k0_pay7 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) k0_pay8)
    (View.readAt (Elt Ideal) arg2.view (Rect.unit (s := S128x1024) ![0, 0] ![128, 128] inb_S128x1024_S128x128_0_0).toLoadRect (harg2.unread x1))
    (View.readAt (Elt Ideal) arg1.view (Rect.unit (s := S16) ![0] ![1] inb_S16_S1_0).toLoadRect (harg1.unread x0) (Shape.Idx.first (by decide))) (View.readAt (Elt Ideal) arg1.view (Rect.unit (s := S16) ![1] ![1] inb_S16_S1_1).toLoadRect (harg1.unread x0) (Shape.Idx.first (by decide)))
    (at2 x1) (two (at2 x2) (at2 x3)) (two (at2 x4) (at2 x5)) (at1 x0) 0 (fun q l => rdW arg2 harg2 x1 0 _ q l) (fun k l => ?_) (fun k l => ?_)
    (rdS arg1 harg1 x0 0 _ _) (rdS arg1 harg1 x0 1 _ _) q l
  · rw [kd0, rdB2 arg3 harg3 x2, rdB2 arg4 harg4 x3]
  · rw [vd0, rdB2 arg5 harg5 x4, rdB2 arg6 harg6 x5]

/-- The block's output, columns 1152 to 1279. -/
theorem out1 (q l : Fin 128) (r : Fin 2048) (hr : r.val = 1152 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (128 + l.val) := by
  have hl : l.val < 128 := l.isLt
  unfold out0_A_7 kernelRun0_A
  dsimp only
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (hit _ _ _ _ q r l hr).trans ?_
  refine pair_at i (k0_pay6 (F := Ideal) (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3)))
    (k0_pay9 (F := Ideal) (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) (k0_pay7 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) k0_pay8)
    (View.readAt (Elt Ideal) arg2.view (Rect.unit (s := S128x1024) ![0, 128] ![128, 128] inb_S128x1024_S128x128_0_128).toLoadRect (harg2.unread x1))
    (View.readAt (Elt Ideal) arg1.view (Rect.unit (s := S16) ![2] ![1] inb_S16_S1_2).toLoadRect (harg1.unread x0) (Shape.Idx.first (by decide))) (View.readAt (Elt Ideal) arg1.view (Rect.unit (s := S16) ![3] ![1] inb_S16_S1_3).toLoadRect (harg1.unread x0) (Shape.Idx.first (by decide)))
    (at2 x1) (two (at2 x2) (at2 x3)) (two (at2 x4) (at2 x5)) (at1 x0) 1 (fun q l => rdW arg2 harg2 x1 128 _ q l) (fun k l => ?_) (fun k l => ?_)
    (rdS arg1 harg1 x0 2 _ _) (rdS arg1 harg1 x0 3 _ _) q l
  · rw [kd0, rdB2 arg3 harg3 x2, rdB2 arg4 harg4 x3]
  · rw [vd0, rdB2 arg5 harg5 x4, rdB2 arg6 harg6 x5]

/-- The block's output, columns 1280 to 1407. -/
theorem out2 (q l : Fin 128) (r : Fin 2048) (hr : r.val = 1280 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (256 + l.val) := by
  have hl : l.val < 128 := l.isLt
  unfold out0_A_7 kernelRun0_A
  dsimp only
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (hit _ _ _ _ q r l hr).trans ?_
  refine pair_at i (k0_pay6 (F := Ideal) (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3)))
    (k0_pay9 (F := Ideal) (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) (k0_pay7 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) k0_pay8)
    (View.readAt (Elt Ideal) arg2.view (Rect.unit (s := S128x1024) ![0, 256] ![128, 128] inb_S128x1024_S128x128_0_256).toLoadRect (harg2.unread x1))
    (View.readAt (Elt Ideal) arg1.view (Rect.unit (s := S16) ![4] ![1] inb_S16_S1_4).toLoadRect (harg1.unread x0) (Shape.Idx.first (by decide))) (View.readAt (Elt Ideal) arg1.view (Rect.unit (s := S16) ![5] ![1] inb_S16_S1_5).toLoadRect (harg1.unread x0) (Shape.Idx.first (by decide)))
    (at2 x1) (two (at2 x2) (at2 x3)) (two (at2 x4) (at2 x5)) (at1 x0) 2 (fun q l => rdW arg2 harg2 x1 256 _ q l) (fun k l => ?_) (fun k l => ?_)
    (rdS arg1 harg1 x0 4 _ _) (rdS arg1 harg1 x0 5 _ _) q l
  · rw [kd0, rdB2 arg3 harg3 x2, rdB2 arg4 harg4 x3]
  · rw [vd0, rdB2 arg5 harg5 x4, rdB2 arg6 harg6 x5]

/-- The block's output, columns 1408 to 1535. -/
theorem out3 (q l : Fin 128) (r : Fin 2048) (hr : r.val = 1408 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (384 + l.val) := by
  have hl : l.val < 128 := l.isLt
  unfold out0_A_7 kernelRun0_A
  dsimp only
  refine (miss _ _ _ _ q r (by omega)).trans ?_
  refine (miss _ _ _ _ q r (by omega)).trans ?_
  refine (miss _ _ _ _ q r (by omega)).trans ?_
  refine (miss _ _ _ _ q r (by omega)).trans ?_
  refine (hit _ _ _ _ q r l hr).trans ?_
  refine pair_at i (k0_pay6 (F := Ideal) (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3)))
    (k0_pay9 (F := Ideal) (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) (k0_pay7 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))) k0_pay8)
    (View.readAt (Elt Ideal) arg2.view (Rect.unit (s := S128x1024) ![0, 384] ![128, 128] inb_S128x1024_S128x128_0_384).toLoadRect (harg2.unread x1))
    (View.readAt (Elt Ideal) arg1.view (Rect.unit (s := S16) ![6] ![1] inb_S16_S1_6).toLoadRect (harg1.unread x0) (Shape.Idx.first (by decide))) (View.readAt (Elt Ideal) arg1.view (Rect.unit (s := S16) ![7] ![1] inb_S16_S1_7).toLoadRect (harg1.unread x0) (Shape.Idx.first (by decide)))
    (at2 x1) (two (at2 x2) (at2 x3)) (two (at2 x4) (at2 x5)) (at1 x0) 3 (fun q l => rdW arg2 harg2 x1 384 _ q l) (fun k l => ?_) (fun k l => ?_)
    (rdS arg1 harg1 x0 6 _ _) (rdS arg1 harg1 x0 7 _ _) q l
  · rw [kd0, rdB2 arg3 harg3 x2, rdB2 arg4 harg4 x3]
  · rw [vd0, rdB2 arg5 harg5 x4, rdB2 arg6 harg6 x5]

/-- The block's output, columns 1536 to 1663. -/
theorem out4 (q l : Fin 128) (r : Fin 2048) (hr : r.val = 1536 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (512 + l.val) := by
  have hl : l.val < 128 := l.isLt
  unfold out0_A_7 kernelRun0_A
  dsimp only
  refine (miss _ _ _ _ q r (by omega)).trans ?_
  refine (miss _ _ _ _ q r (by omega)).trans ?_
  refine (miss _ _ _ _ q r (by omega)).trans ?_
  refine (hit _ _ _ _ q r l hr).trans ?_
  refine pair_at i (k0_pay28 (F := Ideal) k0_pay3 (k0_pay4 (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3))))
    (k0_pay29 (F := Ideal) k0_pay3 (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))))
    (View.readAt (Elt Ideal) arg2.view (Rect.unit (s := S128x1024) ![0, 512] ![128, 128] inb_S128x1024_S128x128_0_512).toLoadRect (harg2.unread x1))
    (View.readAt (Elt Ideal) arg1.view (Rect.unit (s := S16) ![8] ![1] inb_S16_S1_8).toLoadRect (harg1.unread x0) (Shape.Idx.first (by decide))) (View.readAt (Elt Ideal) arg1.view (Rect.unit (s := S16) ![9] ![1] inb_S16_S1_9).toLoadRect (harg1.unread x0) (Shape.Idx.first (by decide)))
    (at2 x1) (two (at2 x2) (at2 x3)) (two (at2 x4) (at2 x5)) (at1 x0) 4 (fun q l => rdW arg2 harg2 x1 512 _ q l) (fun k l => ?_) (fun k l => ?_)
    (rdS arg1 harg1 x0 8 _ _) (rdS arg1 harg1 x0 9 _ _) q l
  · rw [kd1, rdB2 arg3 harg3 x2, rdB2 arg4 harg4 x3]
  · rw [vd1, rdB2 arg5 harg5 x4, rdB2 arg6 harg6 x5]

/-- The block's output, columns 1664 to 1791. -/
theorem out5 (q l : Fin 128) (r : Fin 2048) (hr : r.val = 1664 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (640 + l.val) := by
  have hl : l.val < 128 := l.isLt
  unfold out0_A_7 kernelRun0_A
  dsimp only
  refine (miss _ _ _ _ q r (by omega)).trans ?_
  refine (miss _ _ _ _ q r (by omega)).trans ?_
  refine (hit _ _ _ _ q r l hr).trans ?_
  refine pair_at i (k0_pay28 (F := Ideal) k0_pay3 (k0_pay4 (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3))))
    (k0_pay29 (F := Ideal) k0_pay3 (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))))
    (View.readAt (Elt Ideal) arg2.view (Rect.unit (s := S128x1024) ![0, 640] ![128, 128] inb_S128x1024_S128x128_0_640).toLoadRect (harg2.unread x1))
    (View.readAt (Elt Ideal) arg1.view (Rect.unit (s := S16) ![10] ![1] inb_S16_S1_10).toLoadRect (harg1.unread x0) (Shape.Idx.first (by decide))) (View.readAt (Elt Ideal) arg1.view (Rect.unit (s := S16) ![11] ![1] inb_S16_S1_11).toLoadRect (harg1.unread x0) (Shape.Idx.first (by decide)))
    (at2 x1) (two (at2 x2) (at2 x3)) (two (at2 x4) (at2 x5)) (at1 x0) 5 (fun q l => rdW arg2 harg2 x1 640 _ q l) (fun k l => ?_) (fun k l => ?_)
    (rdS arg1 harg1 x0 10 _ _) (rdS arg1 harg1 x0 11 _ _) q l
  · rw [kd1, rdB2 arg3 harg3 x2, rdB2 arg4 harg4 x3]
  · rw [vd1, rdB2 arg5 harg5 x4, rdB2 arg6 harg6 x5]

/-- The block's output, columns 1792 to 1919. -/
theorem out6 (q l : Fin 128) (r : Fin 2048) (hr : r.val = 1792 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (768 + l.val) := by
  have hl : l.val < 128 := l.isLt
  unfold out0_A_7 kernelRun0_A
  dsimp only
  refine (miss _ _ _ _ q r (by omega)).trans ?_
  refine (hit _ _ _ _ q r l hr).trans ?_
  refine pair_at i (k0_pay28 (F := Ideal) k0_pay3 (k0_pay4 (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3))))
    (k0_pay29 (F := Ideal) k0_pay3 (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))))
    (View.readAt (Elt Ideal) arg2.view (Rect.unit (s := S128x1024) ![0, 768] ![128, 128] inb_S128x1024_S128x128_0_768).toLoadRect (harg2.unread x1))
    (View.readAt (Elt Ideal) arg1.view (Rect.unit (s := S16) ![12] ![1] inb_S16_S1_12).toLoadRect (harg1.unread x0) (Shape.Idx.first (by decide))) (View.readAt (Elt Ideal) arg1.view (Rect.unit (s := S16) ![13] ![1] inb_S16_S1_13).toLoadRect (harg1.unread x0) (Shape.Idx.first (by decide)))
    (at2 x1) (two (at2 x2) (at2 x3)) (two (at2 x4) (at2 x5)) (at1 x0) 6 (fun q l => rdW arg2 harg2 x1 768 _ q l) (fun k l => ?_) (fun k l => ?_)
    (rdS arg1 harg1 x0 12 _ _) (rdS arg1 harg1 x0 13 _ _) q l
  · rw [kd1, rdB2 arg3 harg3 x2, rdB2 arg4 harg4 x3]
  · rw [vd1, rdB2 arg5 harg5 x4, rdB2 arg6 harg6 x5]

/-- The block's output, columns 1920 to 2047. -/
theorem out7 (q l : Fin 128) (r : Fin 2048) (hr : r.val = 1920 + l.val) :
    (out0_A_7 (F := Ideal) c i arg1 harg1 arg2 harg2 arg3 harg3 arg4 harg4 arg5 harg5 arg6 harg6 arg7 harg7 arg8 harg8 x0 x1 x2 x3 x4 x5 x6 (ix2 q r) : EReal)
      = OUT (i 0).val (at2 x1) (two (at2 x2) (at2 x3)) (two (at2 x4) (at2 x5)) (at1 x0) q.val (896 + l.val) := by
  have hl : l.val < 128 := l.isLt
  unfold out0_A_7 kernelRun0_A
  dsimp only
  refine (hit _ _ _ _ q r l hr).trans ?_
  refine pair_at i (k0_pay28 (F := Ideal) k0_pay3 (k0_pay4 (View.readAt (Elt Ideal) arg3.view (Rect.unit (s := S128x128) ![0, 0] ![128, 128] inb_S128x128_S128x128_0_0).toLoadRect (harg3.unread x2)) (View.readAt (Elt Ideal) arg4.view (Rect.unit (s := S128x128) ![0, 0] ![128, 128] inb_S128x128_S128x128_0_0).toLoadRect (harg4.unread x3))))
    (k0_pay29 (F := Ideal) k0_pay3 (k0_pay5 (View.readAt (Elt Ideal) arg5.view (Rect.unit (s := S128x128) ![0, 0] ![128, 128] inb_S128x128_S128x128_0_0).toLoadRect (harg5.unread x4)) (View.readAt (Elt Ideal) arg6.view (Rect.unit (s := S128x128) ![0, 0] ![128, 128] inb_S128x128_S128x128_0_0).toLoadRect (harg6.unread x5))))
    (View.readAt (Elt Ideal) arg2.view (Rect.unit (s := S128x1024) ![0, 896] ![128, 128] inb_S128x1024_S128x128_0_896).toLoadRect (harg2.unread x1))
    (View.readAt (Elt Ideal) arg1.view (Rect.unit (s := S16) ![14] ![1] inb_S16_S1_14).toLoadRect (harg1.unread x0) (Shape.Idx.first (by decide))) (View.readAt (Elt Ideal) arg1.view (Rect.unit (s := S16) ![15] ![1] inb_S16_S1_15).toLoadRect (harg1.unread x0) (Shape.Idx.first (by decide)))
    (at2 x1) (two (at2 x2) (at2 x3)) (two (at2 x4) (at2 x5)) (at1 x0) 7 (fun q l => rdW arg2 harg2 x1 896 _ q l) (fun k l => ?_) (fun k l => ?_)
    (rdS arg1 harg1 x0 14 _ _) (rdS arg1 harg1 x0 15 _ _) q l
  · rw [kd1, rdB2 arg3 harg3 x2, rdB2 arg4 harg4 x3]
  · rw [vd1, rdB2 arg5 harg5 x4, rdB2 arg6 harg6 x5]

/-- The block's first half, copied. -/
theorem outg (q : Fin 128) (l : Fin 1024) (r : Fin 2048) (hr : r.val = l.val) :
    (out0_A_7 (F := Ideal) c i arg1 harg1 arg2 harg2 arg3 harg3 arg4 harg4 arg5 harg5 arg6 harg6 arg7 harg7 arg8 harg8 x0 x1 x2 x3 x4 x5 x6 (ix2 q r) : EReal) = x6 (ix2 q l) := by
  have hl : l.val < 1024 := l.isLt
  unfold out0_A_7 kernelRun0_A
  dsimp only
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (miss _ _ _ _ q r (by omega)).trans ?_
  refine (hit _ _ _ _ q r l (by omega)).trans ?_
  rw [Memref.IsWhole.readAt_unread]
  congr 1
  funext d
  refine Fin.cases ?_ (fun d => Fin.cases ?_ (fun d => d.elim0) d) d
  · exact Fin.ext (by show 0 + 1 * q.val = q.val; omega)
  · exact Fin.ext (by show 0 + 1 * l.val = l.val; omega)

end Out

end Cert.SwaFwdIdeal.Blk

end
-- ==== Proof.SwaFwdRef.lean ====
/- The windowed attention as the reference computes it, read at an index. -/
module

public import proofs.«01_k».proof.Proof.Gen.SwaFwdRefIdeal.Read
public import Idealize.ShloMosaic.Lib.KernelVsHost
public import proofs.«01_k».proof.Proof.SwaCross

@[expose] public section

set_option maxRecDepth 16384

noncomputable section

open Idealize.ShloMosaic
open Cert.SwaRow

namespace Cert.SwaFwdRefIdeal.Ref

open Cert.SwaFwdRefIdeal Cert.SwaFwdRefIdeal.Gen Cert.SwaFwdRefIdeal.Read

variable (x0 : Vec Ideal S4096x4480 .f32) (x1 : Vec Ideal S16 .f32)

/-- The queries of a block. -/
abbrev Qb (b : ℕ) : ℕ → ℕ → EReal := blk (at2 x0) 3072 1024 b
/-- The keys a block looks at. -/
abbrev Kb (b : ℕ) : ℕ → ℕ → EReal := keysR (at2 x0) 4096 b
/-- The values a block looks at. -/
abbrev Vb (b : ℕ) : ℕ → ℕ → EReal := keysR (at2 x0) 4224 b

theorem v6 (b : Fin 32) (q : Fin 128) (h : Fin 2) (g : Fin 8) (d : Fin 64) :
    (val_main_v6 (F := Ideal) x0 (ix6 0 b q h g d) : EReal) = Qb x0 b.val q.val (64 * (8 * h.val + g.val) + d.val) := by
  unfold val_main_v6 Qb blk
  pointwise [val_main_v1, val_main_v0]
  rw [if_pos (by omega), at2_lt _ _ _ (by omega) (by omega)]
  blk_ext

theorem v12 (b : Fin 32) (k : Fin 256) (h : Fin 2) (d : Fin 64) :
    (val_main_v12 (F := Ideal) x0 (ix5 0 b k h d) : EReal) = Kb x0 b.val k.val (64 * h.val + d.val) := by
  unfold val_main_v12 val_main_v11 Kb keysR two blk
  pointwise [val_main_v7, val_main_v3, val_main_v2, val_main_v8, val_main_v10, val_main_v9, val_main_cst]
  by_cases h1 : k.val < 128
  · rw [dif_pos h1, if_pos h1]
    by_cases h2 : b.val < 1
    · rw [dif_pos h2]
      exact (if_pos (show b.val = 0 by omega)).symm
    · rw [dif_neg h2]
      refine Eq.trans ?_ (if_neg (show ¬ b.val = 0 by omega)).symm
      refine Eq.trans ?_ (if_pos (show k.val < 128 ∧ 64 * h.val + d.val < 128 by omega)).symm
      rw [at2_lt _ _ _ (by omega) (by omega)]
      blk_ext
  · rw [dif_neg h1, if_neg h1]
    refine Eq.trans ?_ (if_pos (show k.val - 128 < 128 ∧ 64 * h.val + d.val < 128 by omega)).symm
    rw [at2_lt _ _ _ (by omega) (by omega)]
    blk_ext

theorem v18 (b : Fin 32) (k : Fin 256) (h : Fin 2) (d : Fin 64) :
    (val_main_v18 (F := Ideal) x0 (ix5 0 b k h d) : EReal) = Vb x0 b.val k.val (64 * h.val + d.val) := by
  unfold val_main_v18 val_main_v17 Vb keysR two blk
  pointwise [val_main_v13, val_main_v5, val_main_v4, val_main_v14, val_main_v16, val_main_v15, val_main_cst_0]
  by_cases h1 : k.val < 128
  · rw [dif_pos h1, if_pos h1]
    by_cases h2 : b.val < 1
    · rw [dif_pos h2]
      exact (if_pos (show b.val = 0 by omega)).symm
    · rw [dif_neg h2]
      refine Eq.trans ?_ (if_neg (show ¬ b.val = 0 by omega)).symm
      refine Eq.trans ?_ (if_pos (show k.val < 128 ∧ 64 * h.val + d.val < 128 by omega)).symm
      rw [at2_lt _ _ _ (by omega) (by omega)]
      blk_ext
  · rw [dif_neg h1, if_neg h1]
    refine Eq.trans ?_ (if_pos (show k.val - 128 < 128 ∧ 64 * h.val + d.val < 128 by omega)).symm
    rw [at2_lt _ _ _ (by omega) (by omega)]
    blk_ext

theorem v53 (h : Fin 2) (g : Fin 8) :
    (val_main_v53 (F := Ideal) x1 (ix6 0 0 h g 0 0) : EReal) = at1 x1 (8 * h.val + g.val) := by
  pointwise [val_main_v53, val_main_v52]
  rw [at1_lt _ _ (by omega)]
  blk_ext

theorem v22 (b : Fin 32) (h : Fin 2) (g : Fin 8) (q : Fin 128) (k : Fin 256) :
    (val_main_v22 (F := Ideal) x0 (ix6 0 b h g q k) : EReal)
      = (∑ d : Fin 64, Qb x0 b.val q.val (64 * (8 * h.val + g.val) + d.val) * Kb x0 b.val k.val (64 * ((8 * h.val + g.val) / 8) + d.val)) * ((1 / 8 : ℝ) : EReal) := by
  pointwise [val_main_v22, val_main_v21, val_main_v20, val_main_v19, val_main_cst_1]
  rw [ofBits_eighth]
  congr 1
  refine Finset.sum_congr rfl fun d _ => ?_
  rw [v12, v6, mul_comm, show (8 * h.val + g.val) / 8 = h.val by omega]

theorem mask {α : Type} (b : Fin 32) (h : Fin 2) (g : Fin 8) (q : Fin 128) (k : Fin 256) (x y : α) :
    Scalar.select (val_main_call0_v1 (F := Ideal) (ix6 0 b h g q k)) x y = if ok b.val q.val k.val then x else y := by
  refine Eq.trans ?_ (ok_mask b.val q.val k.val b.isLt q.isLt k.isLt x y)
  pointwise [val_main_call0_v1, val_main_v50, val_main_v49,val_main_v48,val_main_v47,val_main_v46,val_main_v45,val_main_v44,val_main_v43,val_main_v42,val_main_v41,val_main_v40,val_main_v39,val_main_v38,val_main_v37,val_main_v36,val_main_v35,val_main_v34,val_main_v33,val_main_v32,val_main_v31,val_main_v30,val_main_v29,val_main_v28,val_main_v27,val_main_v26,val_main_v25,val_main_v24,val_main_v23,val_main_c, val_main_c_2,val_main_c_3]
  rfl

theorem v51 (b : Fin 32) (h : Fin 2) (g : Fin 8) (q : Fin 128) (k : Fin 256) :
    (val_main_v51 (F := Ideal) x0 (ix6 0 b h g q k) : EReal) = W b.val (Qb x0 b.val) (Kb x0 b.val) (8 * h.val + g.val) q.val k.val := by
  rw [val_main_v51_apply]
  refine (mask b h g q k _ _).trans ?_
  unfold W
  rw [v22]
  split_ifs
  · rfl
  · pointwise [val_main_call0_v2, val_main_call0_v0, val_main_cst_4]
    exact ofBits_bot

theorem v54 (b : Fin 32) (h : Fin 2) (g : Fin 8) (q : Fin 128) :
    (val_main_v54 (F := Ideal) x0 (ix5 0 b h g q) : EReal)
      = Finset.univ.fold max ⊥ (fun k : Fin 256 => W b.val (Qb x0 b.val) (Kb x0 b.val) (8 * h.val + g.val) q.val k.val) := by
  pointwise [val_main_v54]
  refine (Finset.fold_filter_eq_fold_of_fiber max _ (fun k : Fin 256 => (ix6 0 b h g q k : S1x32x2x8x128x256.Idx)) (fun _ _ e => congrFun e 5) (fun i => ?_) _ _).trans ?_
  · constructor
    · intro e
      refine ⟨i 5, ?_⟩
      funext a
      match a with
      | ⟨0, _⟩ => exact (congrFun e ⟨0, by decide⟩).symm
      | ⟨1, _⟩ => exact (congrFun e ⟨1, by decide⟩).symm
      | ⟨2, _⟩ => exact (congrFun e ⟨2, by decide⟩).symm
      | ⟨3, _⟩ => exact (congrFun e ⟨3, by decide⟩).symm
      | ⟨4, _⟩ => exact (congrFun e ⟨4, by decide⟩).symm
      | ⟨5, _⟩ => rfl
    · rintro ⟨k, rfl⟩
      funext a
      match a with
      | ⟨0, _⟩ => rfl
      | ⟨1, _⟩ => rfl
      | ⟨2, _⟩ => rfl
      | ⟨3, _⟩ => rfl
      | ⟨4, _⟩ => rfl
  · simp only [v51]
    rw [show (val_main_cst_5 (F := Ideal) (Shape.Idx.first h_S_) : EReal) = ⊥ from ofBits_bot]

theorem v57 (b : Fin 32) (h : Fin 2) (g : Fin 8) (q : Fin 128) :
    (val_main_v57 (F := Ideal) x0 x1 (ix6 0 b h g q 0) : EReal)
      = mx (fun k : Fin 256 => W b.val (Qb x0 b.val) (Kb x0 b.val) (8 * h.val + g.val) q.val k.val) (at1 x1 (8 * h.val + g.val)) := by
  have e : idx_main_v55 (ix6 0 b h g q 0) = ix5 0 b h g q := by
    funext a
    match a with
    | ⟨0, _⟩ => rfl
    | ⟨1, _⟩ => rfl
    | ⟨2, _⟩ => rfl
    | ⟨3, _⟩ => rfl
    | ⟨4, _⟩ => rfl
  have e' : idx_main_v56 (ix6 0 b h g q 0) = ix6 0 0 h g 0 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v57_apply, val_main_v56_apply, val_main_v55_apply, e, e', v54, v53, Ideal.maximumf_eq_max]
  unfold mx
  with_reducible rfl

theorem v60 (b : Fin 32) (h : Fin 2) (g : Fin 8) (q : Fin 128) (k : Fin 256) :
    (val_main_v60 (F := Ideal) x0 x1 (ix6 0 b h g q k) : EReal)
      = ex (fun k : Fin 256 => W b.val (Qb x0 b.val) (Kb x0 b.val) (8 * h.val + g.val) q.val k.val) (at1 x1 (8 * h.val + g.val)) k := by
  pointwise [val_main_v60, val_main_v59, val_main_v58]
  rw [v51, v57]
  rfl

theorem v65 (b : Fin 32) (h : Fin 2) (g : Fin 8) (q : Fin 128) :
    (val_main_v65 (F := Ideal) x0 x1 (ix6 0 b h g q 0) : EReal)
      = es (fun k : Fin 256 => W b.val (Qb x0 b.val) (Kb x0 b.val) (8 * h.val + g.val) q.val k.val) (at1 x1 (8 * h.val + g.val)) := by
  pointwise [val_main_v65, val_main_v64, val_main_v63]
  rw [v53, v57]
  rfl

theorem v66 (b : Fin 32) (h : Fin 2) (g : Fin 8) (q : Fin 128) :
    (val_main_v66 (F := Ideal) x0 x1 (ix6 0 b h g q 0) : EReal)
      = den (fun k : Fin 256 => W b.val (Qb x0 b.val) (Kb x0 b.val) (8 * h.val + g.val) q.val k.val) (at1 x1 (8 * h.val + g.val)) := by
  rw [val_main_v66_apply, val_main_v62_apply, val_main_v61_apply]
  pointwise [val_main_cst_6]
  rw [v65]
  unfold den
  congr 1
  refine Finset.sum_congr rfl fun k _ => ?_
  refine Eq.trans ?_ (v60 x0 x1 b h g q k)
  blk_ext

/-- The attention's output, at a row and a column. -/
theorem out (r : Fin 4096) (l : Fin 1024) :
    (val_main_v73 (F := Ideal) x0 x1 (ix2 r l) : EReal)
      = ∑ k : Fin 256, Ideal.div (ex (fun k : Fin 256 => W (r.val / 128) (Qb x0 (r.val / 128)) (Kb x0 (r.val / 128)) (l.val / 64) (r.val % 128) k.val) (at1 x1 (l.val / 64)) k)
          (den (fun k : Fin 256 => W (r.val / 128) (Qb x0 (r.val / 128)) (Kb x0 (r.val / 128)) (l.val / 64) (r.val % 128) k.val) (at1 x1 (l.val / 64)))
        * Vb x0 (r.val / 128) k.val (64 * (l.val / 64 / 8) + l.val % 64) := by
  have hr : r.val < 4096 := r.isLt
  have hl : l.val < 1024 := l.isLt
  have e8 : 8 * (l.val / 512) + l.val / 64 % 8 = l.val / 64 := by omega
  pointwise [val_main_v73, val_main_v72, val_main_v71, val_main_v70, val_main_v69, val_main_v68, val_main_v67]
  refine Finset.sum_congr rfl fun k _ => ?_
  have h1 := v60 x0 x1 ⟨r.val / 128, by omega⟩ ⟨l.val / 512, by omega⟩ ⟨l.val / 64 % 8, by omega⟩ ⟨r.val % 128, by omega⟩ k
  have h2 := v66 x0 x1 ⟨r.val / 128, by omega⟩ ⟨l.val / 512, by omega⟩ ⟨l.val / 64 % 8, by omega⟩ ⟨r.val % 128, by omega⟩
  have h3 := v18 x0 ⟨r.val / 128, by omega⟩ k ⟨l.val / 512, by omega⟩ ⟨l.val % 64, by omega⟩
  dsimp only at h1 h2 h3
  rw [e8] at h1 h2
  rw [h1, h2, h3, mul_comm, show l.val / 64 / 8 = l.val / 512 by omega]

/-- The result: the linear attention's output beside the attention's. -/
theorem cat_gla (x2 : Vec Ideal S4096x1024 .bf16) (r : Fin 4096) (l : Fin 1024) (s : Fin 2048) (hs : s.val = l.val) :
    (val_main_v74 (F := Ideal) x0 x1 x2 (ix2 r s) : EReal) = x2 (ix2 r l) := by
  unfold val_main_v74
  refine concatenate_pair_apply_left (t := S4096x2048) (s₁ := S4096x1024) (s₂ := S4096x1024) 1 x2 (val_main_v73 (F := Ideal) x0 x1) concatenates_S4096x1024_S4096x1024_S4096x2048_d1 (ix2 r s) rfl (ix2 r l) fun b => ?_
  refine Fin.cases ?_ (fun b => Fin.cases ?_ (fun b => b.elim0) b) b
  · rfl
  · exact hs.symm

theorem cat_out (x2 : Vec Ideal S4096x1024 .bf16) (r : Fin 4096) (l : Fin 1024) (s : Fin 2048) (hs : s.val = 1024 + l.val) :
    (val_main_v74 (F := Ideal) x0 x1 x2 (ix2 r s) : EReal) = val_main_v73 (F := Ideal) x0 x1 (ix2 r l) := by
  unfold val_main_v74
  refine concatenate_pair_apply_right (t := S4096x2048) (s₁ := S4096x1024) (s₂ := S4096x1024) 1 x2 (val_main_v73 (F := Ideal) x0 x1) concatenates_S4096x1024_S4096x1024_S4096x2048_d1 (ix2 r s) rfl rfl (ix2 r l) (fun b => ?_) (by show l.val + 1024 = s.val; omega)
  refine Fin.cases ?_ (fun b => Fin.cases ?_ (fun b => b.elim0) b) b
  · exact fun _ => rfl
  · exact fun h => absurd rfl h

end Cert.SwaFwdRefIdeal.Ref

end
-- ==== Proof.SwaFwd.lean ====
/- The windowed attention: the call over 32 blocks against the attention as the reference writes it,
   where the projections and the sinks are finite numbers. -/
module

public import proofs.«01_k».proof.Defs
public import proofs.«01_k».proof.Proof.Gen.SwaFwdIdeal.Value
public import proofs.«01_k».proof.Proof.Gen.SwaFwdRefIdeal.Read
public import proofs.«01_k».proof.Proof.Gen.SwaFwdRefIdeal.Run
public import proofs.«01_k».proof.Proof.SwaFwdIdealBlk
public import proofs.«01_k».proof.Proof.SwaFwdRef
public import proofs.«01_k».proof.Proof.SwaCross
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwaFwdIdeal.Result

open Cert.SwaFwdIdeal Cert.SwaFwdIdeal.Gen Cert.SwaFwdIdeal.Blk Cert.SwaRow

/-- An extended real below `⊤` in absolute value is a real number. -/
theorem real_of_lt (x : EReal) (h : Ideal.cmp .olt (max x (-x)) ⊤ = 1#1) : ∃ r : ℝ, x = (r : EReal) := by
  have h' : max x (-x) < ⊤ := by
    by_contra hn
    unfold Ideal.cmp at h
    simp only [decide_eq_false hn] at h
    exact absurd h (by decide)
  induction x using EReal.rec with
  | bot => exact absurd h' (by simp)
  | coe r => exact ⟨r, rfl⟩
  | top => exact absurd h' (by simp)

theorem ofBits_top : Ideal.ofBits .f32 0x7F800000#32 = ⊤ := by
  simp [Ideal.ofBits, Ideal.ieee]

/-- What the precondition says of the projections and the sinks. -/
theorem finite [hP : Cert.Pre_finite_swa.Facts] (X : FVec Ideal S4096x4480 .f32) (Z : FVec Ideal S16 .f32) (G : FVec Ideal S4096x1024 .bf16)
    (h : Cert.Pre_finite_swa.fn (F := Ideal) X Z G = fun _ => 1#1) :
    (∀ i, ∃ r : ℝ, (X i : EReal) = (r : EReal)) ∧ (∀ i, ∃ r : ℝ, (Z i : EReal) = (r : EReal)) := by
  have e := congrFun h ix0
  unfold Cert.Pre_finite_swa.fn at e
  dsimp only at e
  obtain ⟨eX, eZ⟩ := IntOp.andi_eq_one.mp e
  haveI : Subsingleton Cert.Pre_finite_swa.S_.Idx := ⟨fun a b => funext fun d => d.elim0⟩
  refine ⟨fun i => real_of_lt _ ?_, fun i => real_of_lt _ ?_⟩
  · have := Host.reduce_andi_all _ _ _ _ _ eX i
    rw [← ofBits_top]
    exact this
  · have := Host.reduce_andi_all _ _ _ _ _ eZ i
    rw [← ofBits_top]
    exact this

theorem re_of {a b : ℕ} (x : Vec Ideal ⟨2, ![a, b]⟩ .f32) (h : ∀ i, ∃ r : ℝ, (x i : EReal) = (r : EReal)) : Re (at2 x) := by
  intro i j
  unfold at2
  split_ifs
  · exact h _
  · exact ⟨0, rfl⟩

theorem re1_of {a : ℕ} (x : Vec Ideal ⟨1, ![a]⟩ .f32) (h : ∀ i, ∃ r : ℝ, (x i : EReal) = (r : EReal)) : ∀ e, ∃ r : ℝ, at1 x e = (r : EReal) := by
  intro e
  unfold at1
  split_ifs
  · exact h _
  · exact ⟨0, rfl⟩

variable (m : (ℓ : Loc nD τ sig) → Buf (Elt Ideal) ℓ) (c : Dev nD)

/-- Where each window's block lies, at every grid point. -/
theorem idx : ∀ t : Fin cfg0.N, win0_0.index t = ![0] ∧ win0_1.index t = ![t.val, 3] ∧ win0_2.index t = ![t.val - 1, 32]
    ∧ win0_3.index t = ![t.val, 32] ∧ win0_4.index t = ![t.val - 1, 33] ∧ win0_5.index t = ![t.val, 33] ∧ win0_6.index t = ![t.val, 0]
    ∧ win0_7.index t = ![t.val, 0] :=
  (by decide +kernel : ∀ t : Fin grid0.N, _)

/-- A grid point's one coordinate is its number. -/
theorem coord : ∀ t : Fin cfg0.N, ((grid0.coords t) 0).val = t.val := (by decide +kernel : ∀ t : Fin grid0.N, _)

/-- The projections, the sinks, the linear attention's output. -/
abbrev PX : Vec Ideal S4096x4480 .f32 := m ((c : Thread nD τ).loc main_arg0)
abbrev PZ : Vec Ideal S16 .f32 := m ((c : Thread nD τ).loc main_arg1)
abbrev PG : Vec Ideal S4096x1024 .bf16 := m ((c : Thread nD τ).loc main_arg2)

theorem lt32 (t : Fin cfg0.N) : t.val < 32 := t.isLt

theorem w2 (t : Fin cfg0.N) (k l : Fin 128) :
    (iblk m c 2 t (ix2 k l) : EReal) = PX m c (ix2 ⟨128 * (t.val - 1) + k.val, by have := lt32 t; omega⟩ ⟨4096 + l.val, by omega⟩) := by
  have := lt32 t
  blk_point [iblk, V, idx t]

theorem w0 (t : Fin cfg0.N) (e : Fin 16) :
    (iblk m c 0 t (ix1 e) : EReal) = PZ m c (ix1 e) := by
  blk_point [iblk, V, idx t]

theorem w1 (t : Fin cfg0.N) (q : Fin 128) (l : Fin 1024) :
    (X0_1 m c t (ix2 q l) : EReal) = PX m c (ix2 ⟨128 * t.val + q.val, by have := lt32 t; omega⟩ ⟨3072 + l.val, by omega⟩) := by
  have := lt32 t
  unfold X0_1 Pipeline.Window.fill
  rw [dif_pos (moved0_1 t (ix2 q l))]
  blk_point [iblk, V, idx t]

theorem w3 (t : Fin cfg0.N) (k l : Fin 128) :
    (iblk m c 3 t (ix2 k l) : EReal) = PX m c (ix2 ⟨128 * t.val + k.val, by have := lt32 t; omega⟩ ⟨4096 + l.val, by omega⟩) := by
  have := lt32 t
  blk_point [iblk, V, idx t]

theorem w4 (t : Fin cfg0.N) (k l : Fin 128) :
    (iblk m c 4 t (ix2 k l) : EReal) = PX m c (ix2 ⟨128 * (t.val - 1) + k.val, by have := lt32 t; omega⟩ ⟨4224 + l.val, by omega⟩) := by
  have := lt32 t
  blk_point [iblk, V, idx t]

theorem w5 (t : Fin cfg0.N) (k l : Fin 128) :
    (iblk m c 5 t (ix2 k l) : EReal) = PX m c (ix2 ⟨128 * t.val + k.val, by have := lt32 t; omega⟩ ⟨4224 + l.val, by omega⟩) := by
  have := lt32 t
  blk_point [iblk, V, idx t]

/-- A block whose elements are those of an array is that array's block. -/
theorem blk_of {R C w : ℕ} (X : Vec Ideal ⟨2, ![R, C]⟩ .f32) (x : Vec Ideal ⟨2, ![128, w]⟩ .f32) (o b : ℕ) (hb : 128 * b + 128 ≤ R) (ho : o + w ≤ C)
    (h : ∀ (q : Fin 128) (l : Fin w), (x (ix2 q l) : EReal) = X (ix2 ⟨128 * b + q.val, by omega⟩ ⟨o + l.val, by omega⟩)) :
    at2 x = blk (at2 X) o w b := by
  funext q l
  unfold blk
  by_cases e : q < 128 ∧ l < w
  · rw [if_pos e, at2_lt x q l e.1 e.2, at2_lt X _ _ (by omega) (by omega)]
    exact h ⟨q, e.1⟩ ⟨l, e.2⟩
  · rw [if_neg e]
    unfold at2
    rw [dif_neg e]

theorem op1 (t : Fin cfg0.N) : at2 (a := 128) (b := 1024) (X0_1 m c t) = blk (at2 (PX m c)) 3072 1024 t.val :=
  blk_of (PX m c) _ _ _ (by have := lt32 t; omega) (by omega) (w1 m c t)
theorem op23 (t : Fin cfg0.N) : two (at2 (a := 128) (b := 128) (iblk m c 2 t)) (at2 (a := 128) (b := 128) (iblk m c 3 t)) = keysK (at2 (PX m c)) 4096 t.val := by
  rw [blk_of (PX m c) (iblk m c 2 t) 4096 (t.val - 1) (by have := lt32 t; omega) (by omega) (w2 m c t), blk_of (PX m c) (iblk m c 3 t) 4096 t.val (by have := lt32 t; omega) (by omega) (w3 m c t)]
  unfold keysK
  with_reducible rfl
theorem op45 (t : Fin cfg0.N) : two (at2 (a := 128) (b := 128) (iblk m c 4 t)) (at2 (a := 128) (b := 128) (iblk m c 5 t)) = keysK (at2 (PX m c)) 4224 t.val := by
  rw [blk_of (PX m c) (iblk m c 4 t) 4224 (t.val - 1) (by have := lt32 t; omega) (by omega) (w4 m c t), blk_of (PX m c) (iblk m c 5 t) 4224 t.val (by have := lt32 t; omega) (by omega) (w5 m c t)]
  unfold keysK
  with_reducible rfl
theorem op0 (t : Fin cfg0.N) : at1 (a := 16) (iblk m c 0 t) = at1 (PZ m c) := by
  funext e
  unfold at1
  split_ifs with h
  · exact w0 m c t ⟨e, h⟩
  · rfl

theorem w6 (t : Fin cfg0.N) (q : Fin 128) (l : Fin 1024) (r : Fin 4096) (hr : r.val = 128 * t.val + q.val) :
    (iblk m c 6 t (ix2 q l) : EReal) = PG m c (ix2 r l) := by
  have := lt32 t
  blk_point [iblk, V, idx t]

/-- The attention's output of a block, of the arguments. -/
abbrev OK (b q l : ℕ) : EReal := OUT b (blk (at2 (PX m c)) 3072 1024 b) (keysK (at2 (PX m c)) 4096 b) (keysK (at2 (PX m c)) 4224 b) (at1 (PZ m c)) q l

/-- What a block holds, at a row and a column past the linear attention's. -/
theorem att (t : Fin cfg0.N) (q : Fin 128) (l : Fin 1024) (r : Fin 2048) (hr : r.val = 1024 + l.val) :
    (outsAt0 (F := Ideal) m c t (ix2 q r) : EReal) = OK m c t.val q.val l.val := by
  have e : ∀ o (l' : Fin 128), o + l'.val = l.val → OUT ((grid0.coords t) 0).val (at2 (X0_1 m c t)) (two (at2 (iblk m c 2 t)) (at2 (iblk m c 3 t))) (two (at2 (iblk m c 4 t)) (at2 (iblk m c 5 t))) (at1 (iblk m c 0 t)) q.val (o + l'.val) = OK m c t.val q.val l.val := by
    intro o l' h
    have e1 := op1 m c t
    have e2 := op23 m c t
    have e3 := op45 m c t
    have e4 := op0 m c t
    rw [h, coord t]
    have e5 := congr (congr (congr (congrArg (fun Q K V Z => OUT t.val Q K V Z q.val l.val) e1) e2) e3) e4
    exact e5
  have hl : l.val < 1024 := l.isLt
  obtain h | h | h | h | h | h | h | h : l.val / 128 = 0 ∨ l.val / 128 = 1 ∨ l.val / 128 = 2 ∨ l.val / 128 = 3 ∨ l.val / 128 = 4 ∨ l.val / 128 = 5 ∨ l.val / 128 = 6 ∨ l.val / 128 = 7 := by omega
  · exact (out0 _ _ _ _ _ _ _ _ _ _ _ _ _ _ _ _ _ _ _ _ _ _ _ _ _ q ⟨l.val - 0, by omega⟩ r (by dsimp only; omega)).trans (e 0 ⟨l.val - 0, by omega⟩ (by dsimp only; omega))
  · exact (out1 _ _ _ _ _ _ _ _ _ _ _ _ _ _ _ _ _ _ _ _ _ _ _ _ _ q ⟨l.val - 128, by omega⟩ r (by dsimp only; omega)).trans (e 128 ⟨l.val - 128, by omega⟩ (by dsimp only; omega))
  · exact (out2 _ _ _ _ _ _ _ _ _ _ _ _ _ _ _ _ _ _ _ _ _ _ _ _ _ q ⟨l.val - 256, by omega⟩ r (by dsimp only; omega)).trans (e 256 ⟨l.val - 256, by omega⟩ (by dsimp only; omega))
  · exact (out3 _ _ _ _ _ _ _ _ _ _ _ _ _ _ _ _ _ _ _ _ _ _ _ _ _ q ⟨l.val - 384, by omega⟩ r (by dsimp only; omega)).trans (e 384 ⟨l.val - 384, by omega⟩ (by dsimp only; omega))
  · exact (out4 _ _ _ _ _ _ _ _ _ _ _ _ _ _ _ _ _ _ _ _ _ _ _ _ _ q ⟨l.val - 512, by omega⟩ r (by dsimp only; omega)).trans (e 512 ⟨l.val - 512, by omega⟩ (by dsimp only; omega))
  · exact (out5 _ _ _ _ _ _ _ _ _ _ _ _ _ _ _ _ _ _ _ _ _ _ _ _ _ q ⟨l.val - 640, by omega⟩ r (by dsimp only; omega)).trans (e 640 ⟨l.val - 640, by omega⟩ (by dsimp only; omega))
  · exact (out6 _ _ _ _ _ _ _ _ _ _ _ _ _ _ _ _ _ _ _ _ _ _ _ _ _ q ⟨l.val - 768, by omega⟩ r (by dsimp only; omega)).trans (e 768 ⟨l.val - 768, by omega⟩ (by dsimp only; omega))
  · exact (out7 _ _ _ _ _ _ _ _ _ _ _ _ _ _ _ _ _ _ _ _ _ _ _ _ _ q ⟨l.val - 896, by omega⟩ r (by dsimp only; omega)).trans (e 896 ⟨l.val - 896, by omega⟩ (by dsimp only; omega))

/-- What a block holds, at a row and a column of the linear attention's. -/
theorem lin (t : Fin cfg0.N) (q : Fin 128) (l : Fin 1024) (r : Fin 2048) (hr : r.val = l.val) :
    (outsAt0 (F := Ideal) m c t (ix2 q r) : EReal) = iblk m c 6 t (ix2 q l) :=
  outg _ _ _ _ _ _ _ _ _ _ _ _ _ _ _ _ _ _ _ _ _ _ _ _ _ q l r hr

variable (h0 : Re (at2 (PX m c))) (h1 : ∀ e, ∃ r : ℝ, at1 (PZ m c) e = (r : EReal))

include h0 h1

/-- The block's output is the reference's: the keys before the first block do not matter. -/
theorem out_eq (r : Fin 4096) (l : Fin 1024) :
    OK m c (r.val / 128) (r.val % 128) l.val = Cert.SwaFwdRefIdeal.Read.val_main_v73 (F := Ideal) (PX m c) (PZ m c) (ix2 r l) := by
  refine Eq.trans ?_ (Cert.SwaFwdRefIdeal.Ref.out (PX m c) (PZ m c) r l).symm
  have hK := (hidden (b := r.val / 128) (h0.blk 3072 1024 (r.val / 128)) (h0.keysK 4096 (r.val / 128)) (h0.keysK 4224 (r.val / 128)) (h0.keysR 4224 (r.val / 128)) (h0.blk 3072 1024 (r.val / 128)) h1
    (fun k l h => keys_eq (at2 (PX m c)) 4096 _ k l h) (fun k l h => keys_eq (at2 (PX m c)) 4224 _ k l h) (l.val / 64) (r.val % 128)).1
  obtain ⟨hd, hn, -⟩ := derivative (b := r.val / 128) (h0.blk 3072 1024 (r.val / 128)) (h0.keysR 4096 (r.val / 128)) (h0.keysR 4224 (r.val / 128)) (h0.blk 3072 1024 (r.val / 128)) h1 (l.val / 64) (r.val % 128)
  unfold OK OUT
  refine Finset.sum_congr rfl fun k _ => ?_
  rw [hK k, ← hd k]
  by_cases h : ok (r.val / 128) (r.val % 128) k
  · rw [keys_eq _ _ _ _ _ h.2.2]
  · rw [hn k h, zero_mul, zero_mul]

/-- The result array after the run is the reference's result. -/
theorem final : (dats m 0 c).arrAt 7 (cfgs 0).N = Cert.SwaFwdRefIdeal.Read.val_main_v74 (F := Ideal) (PX m c) (PZ m c) (PG m c) := by
  refine (dats m 0 c).arrAt_eq_of_covers 7 _ (by decide +kernel) fun t hf y => ?_
  have ht := lt32 t
  have hy0 : (y 0).val < 128 := (y 0).isLt
  have hy1 : (y 1).val < 2048 := (y 1).isLt
  have hj : ((cfg0.win 7).blk t).view.emb y = ix2 (⟨128 * t.val + (y 0).val, by omega⟩ : Fin 4096) (⟨(y 1).val, hy1⟩ : Fin 2048) := by
    refine Eq.trans (eq_ix2 _) (congr (congrArg ix2 (Fin.ext ?_)) (Fin.ext ?_))
    · blk_simp
      simp only [idx t, Matrix.cons_val_zero]
      omega
    · blk_simp
      simp only [idx t, Matrix.cons_val_one, Matrix.cons_val_zero]
      omega
  blk_simp
  rw [after0_7]
  refine Eq.trans (congrArg _ (ix2_eta (y : S128x2048.Idx))).symm ?_
  refine Eq.trans ?_ (congrArg (Cert.SwaFwdRefIdeal.Read.val_main_v74 (F := Ideal) (PX m c) (PZ m c) (PG m c)) hj).symm
  by_cases h : (y 1).val < 1024
  · refine (lin m c t (y 0) ⟨(y 1).val, h⟩ (y 1) rfl).trans ?_
    refine (w6 m c t (y 0) ⟨(y 1).val, h⟩ ⟨128 * t.val + (y 0).val, by omega⟩ rfl).trans ?_
    exact (Cert.SwaFwdRefIdeal.Ref.cat_gla (PX m c) (PZ m c) (PG m c) _ ⟨(y 1).val, h⟩ _ rfl).symm
  · refine (att m c t (y 0) ⟨(y 1).val - 1024, by omega⟩ (y 1) (by dsimp only; omega)).trans ?_
    refine Eq.trans ?_ (Cert.SwaFwdRefIdeal.Ref.cat_out (PX m c) (PZ m c) (PG m c) _ ⟨(y 1).val - 1024, by omega⟩ _ (by dsimp only; omega)).symm
    refine Eq.trans ?_ (out_eq m c h0 h1 _ _)
    exact congr (congr (congrArg (OK m c) (by dsimp only; omega)) (by dsimp only; omega)) rfl

end Cert.SwaFwdIdeal.Result

namespace Cert.Proof

/-- The idealized call computes the reference's result, where the projections and the sinks are finite. -/
theorem algebraic_SwaFwd [h : Cert.SwaFwdIdeal.Facts] [h' : Cert.SwaFwdRefIdeal.Facts] [hP : Cert.Pre_finite_swa.Facts] :
    Cert.algebraic_SwaFwdIdeal_SwaFwdRefIdeal_pre_finite_swa := by
  intro m g m' g' hpre hagree
  refine ⟨fun c => (Cert.SwaFwdIdeal.Gen.dats m 0 c).arrAt 7 Cert.SwaFwdIdeal.cfg0.N, ?_, ?_⟩
  · exact Cert.SwaFwdIdeal.Value.run_blocks m g
  · refine (θ_run _ _ _).mono (fun r h c => ?_) (Cert.SwaFwdRefIdeal.Value.run (F := Ideal) m' g')
    obtain ⟨e0, a⟩ := h c
    obtain ⟨b0, b1, b2⟩ := hagree c
    obtain ⟨f0, f1⟩ := Cert.SwaFwdIdeal.Result.finite _ _ _ (hpre c)
    refine ⟨(e0.trans (Cert.SwaFwdRefIdeal.Read.val_main_v74_eq _ _)).trans ?_, a⟩
    refine Eq.trans ?_ (Cert.SwaFwdIdeal.Result.final m c (Cert.SwaFwdIdeal.Result.re_of _ f0) (Cert.SwaFwdIdeal.Result.re1_of _ f1)).symm
    exact congr (congr (congrArg _ b0) b1) b2

end Cert.Proof

end
-- ==== Proof.lean ====
module

public import proofs.«01_k».proof.Defs
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdIdeal.Value
public import proofs.«01_k».proof.Proof.Gen.DownBwdRefIdeal
public import proofs.«01_k».proof.Proof.Gen.DownBwdRefIdeal.Run
public import proofs.«01_k».proof.Proof.Gen.DownBwdRefIdeal.Read
public import proofs.«01_k».proof.Proof.Gen.GradDown
public import proofs.«01_k».proof.Proof.Gen.GradDown.Skeleton
public import proofs.«01_k».proof.Proof.Gen.GradDown.Launch
public import proofs.«01_k».proof.Proof.Gen.GradDown.Points
public import proofs.«01_k».proof.Proof.Gen.GradDown.Frame
public import proofs.«01_k».proof.Proof.Gen.GradDownIdeal
public import proofs.«01_k».proof.Proof.Gen.GradDownIdeal.Skeleton
public import proofs.«01_k».proof.Proof.Gen.GradDownIdeal.Launch
public import proofs.«01_k».proof.Proof.Gen.GradDownIdeal.Points
public import proofs.«01_k».proof.Proof.Gen.GradDownIdeal.Frame
public import proofs.«01_k».proof.Proof.Gen.GradDownIdeal.Value
public import proofs.«01_k».proof.Proof.Gen.GradDownRefIdeal
public import proofs.«01_k».proof.Proof.Gen.GradDownRefIdeal.Run
public import proofs.«01_k».proof.Proof.Gen.GradDownRefIdeal.Read
public import proofs.«01_k».proof.Proof.Gen.GradUp
public import proofs.«01_k».proof.Proof.Gen.GradUp.Skeleton
public import proofs.«01_k».proof.Proof.Gen.GradUp.Launch
public import proofs.«01_k».proof.Proof.Gen.GradUp.Points
public import proofs.«01_k».proof.Proof.Gen.GradUp.Frame
public import proofs.«01_k».proof.Proof.Gen.GradUpIdeal
public import proofs.«01_k».proof.Proof.Gen.GradUpIdeal.Skeleton
public import proofs.«01_k».proof.Proof.Gen.GradUpIdeal.Launch
public import proofs.«01_k».proof.Proof.Gen.GradUpIdeal.Points
public import proofs.«01_k».proof.Proof.Gen.GradUpIdeal.Frame
public import proofs.«01_k».proof.Proof.Gen.GradUpIdeal.Value
public import proofs.«01_k».proof.Proof.Gen.GradUpRefIdeal
public import proofs.«01_k».proof.Proof.Gen.GradUpRefIdeal.Run
public import proofs.«01_k».proof.Proof.Gen.GradUpRefIdeal.Read
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradOutRefIdeal
public import proofs.«01_k».proof.Proof.Gen.GradOutRefIdeal.Run
public import proofs.«01_k».proof.Proof.Gen.GradOutRefIdeal.Read
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import proofs.«01_k».proof.Proof.Gen.Dcat
public import proofs.«01_k».proof.Proof.Gen.Dcat.Skeleton
public import proofs.«01_k».proof.Proof.Gen.Dcat.Launch
public import proofs.«01_k».proof.Proof.Gen.Dcat.Points
public import proofs.«01_k».proof.Proof.Gen.Dcat.Frame
public import proofs.«01_k».proof.Proof.Gen.DcatIdeal
public import proofs.«01_k».proof.Proof.Gen.DcatIdeal.Skeleton
public import proofs.«01_k».proof.Proof.Gen.DcatIdeal.Launch
public import proofs.«01_k».proof.Proof.Gen.DcatIdeal.Points
public import proofs.«01_k».proof.Proof.Gen.DcatIdeal.Frame
public import proofs.«01_k».proof.Proof.Gen.DcatIdeal.Value
public import proofs.«01_k».proof.Proof.Gen.DcatRefIdeal
public import proofs.«01_k».proof.Proof.Gen.DcatRefIdeal.Run
public import proofs.«01_k».proof.Proof.Gen.DcatRefIdeal.Read
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradX.Frame
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.GradXIdeal.Value
public import proofs.«01_k».proof.Proof.Gen.GradXRefIdeal
public import proofs.«01_k».proof.Proof.Gen.GradXRefIdeal.Run
public import proofs.«01_k».proof.Proof.Gen.GradXRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdIdeal.Value
public import proofs.«01_k».proof.Proof.Gen.UpBwdRefIdeal
public import proofs.«01_k».proof.Proof.Gen.UpBwdRefIdeal.Run
public import proofs.«01_k».proof.Proof.Gen.UpBwdRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.SwaBwd
public import proofs.«01_k».proof.Proof.Gen.SwaBwd.Skeleton
public import proofs.«01_k».proof.Proof.Gen.SwaBwd.Launch
public import proofs.«01_k».proof.Proof.Gen.SwaBwd.Points
public import proofs.«01_k».proof.Proof.Gen.SwaBwd.Frame
public import proofs.«01_k».proof.Proof.Gen.SwaBwdIdeal
public import proofs.«01_k».proof.Proof.Gen.SwaBwdIdeal.Skeleton
public import proofs.«01_k».proof.Proof.Gen.SwaBwdIdeal.Launch
public import proofs.«01_k».proof.Proof.Gen.SwaBwdIdeal.Points
public import proofs.«01_k».proof.Proof.Gen.SwaBwdIdeal.Frame
public import proofs.«01_k».proof.Proof.Gen.SwaBwdRefIdeal
public import proofs.«01_k».proof.Proof.Gen.SwaBwdRefIdeal.Run
public import proofs.«01_k».proof.Proof.Gen.SwaBwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.AdamGk2
public import proofs.«01_k».proof.Proof.Gen.AdamGk2.Skeleton
public import proofs.«01_k».proof.Proof.Gen.AdamGk2.Launch
public import proofs.«01_k».proof.Proof.Gen.AdamGk2.Points
public import proofs.«01_k».proof.Proof.Gen.AdamGk2.Frame
public import proofs.«01_k».proof.Proof.Gen.AdamGk2Ideal
public import proofs.«01_k».proof.Proof.Gen.AdamGk2Ideal.Skeleton
public import proofs.«01_k».proof.Proof.Gen.AdamGk2Ideal.Launch
public import proofs.«01_k».proof.Proof.Gen.AdamGk2Ideal.Points
public import proofs.«01_k».proof.Proof.Gen.AdamGk2Ideal.Frame
public import proofs.«01_k».proof.Proof.Gen.AdamGk2Ideal.Value
public import proofs.«01_k».proof.Proof.Gen.AdamGk2RefIdeal
public import proofs.«01_k».proof.Proof.Gen.AdamGk2RefIdeal.Run
public import proofs.«01_k».proof.Proof.Gen.AdamGk2RefIdeal.Read
public import proofs.«01_k».proof.Proof.Gen.AdamRep
public import proofs.«01_k».proof.Proof.Gen.AdamRep.Skeleton
public import proofs.«01_k».proof.Proof.Gen.AdamRep.Launch
public import proofs.«01_k».proof.Proof.Gen.AdamRep.Points
public import proofs.«01_k».proof.Proof.Gen.AdamRep.Frame
public import proofs.«01_k».proof.Proof.Gen.AdamRepIdeal
public import proofs.«01_k».proof.Proof.Gen.AdamRepIdeal.Skeleton
public import proofs.«01_k».proof.Proof.Gen.AdamRepIdeal.Launch
public import proofs.«01_k».proof.Proof.Gen.AdamRepIdeal.Points
public import proofs.«01_k».proof.Proof.Gen.AdamRepIdeal.Frame
public import proofs.«01_k».proof.Proof.Gen.AdamRepIdeal.Value
public import proofs.«01_k».proof.Proof.Gen.AdamRepRefIdeal
public import proofs.«01_k».proof.Proof.Gen.AdamRepRefIdeal.Run
public import proofs.«01_k».proof.Proof.Gen.AdamRepRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.LnBwdRefIdeal.Read
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossBwdRefIdeal
public import proofs.«01_k».proof.Proof.Gen.LossBwdRefIdeal.Run
public import proofs.«01_k».proof.Proof.Gen.LossBwdRefIdeal.Read
public import proofs.«01_k».proof.Proof.Gen.SwaFwd
public import proofs.«01_k».proof.Proof.Gen.SwaFwd.Skeleton
public import proofs.«01_k».proof.Proof.Gen.SwaFwd.Launch
public import proofs.«01_k».proof.Proof.Gen.SwaFwd.Points
public import proofs.«01_k».proof.Proof.Gen.SwaFwd.Frame
public import proofs.«01_k».proof.Proof.Gen.SwaFwdIdeal
public import proofs.«01_k».proof.Proof.Gen.SwaFwdIdeal.Skeleton
public import proofs.«01_k».proof.Proof.Gen.SwaFwdIdeal.Launch
public import proofs.«01_k».proof.Proof.Gen.SwaFwdIdeal.Points
public import proofs.«01_k».proof.Proof.Gen.SwaFwdIdeal.Frame
public import proofs.«01_k».proof.Proof.Gen.SwaFwdIdeal.Value
public import proofs.«01_k».proof.Proof.Gen.SwaFwdRefIdeal
public import proofs.«01_k».proof.Proof.Gen.SwaFwdRefIdeal.Run
public import proofs.«01_k».proof.Proof.Gen.SwaFwdRefIdeal.Read
public import proofs.«01_k».proof.Proof.Gen.Pre_finite
public import proofs.«01_k».proof.Proof.Gen.Pre_finite_norm
public import proofs.«01_k».proof.Proof.Gen.Pre_finite_ln
public import proofs.«01_k».proof.Proof.Gen.Pre_finite_loss
public import proofs.«01_k».proof.Proof.Gen.Pre_finite_swa
public import proofs.«01_k».proof.Proof.DownBwd
public import proofs.«01_k».proof.Proof.GradDown
public import proofs.«01_k».proof.Proof.GradUp
public import proofs.«01_k».proof.Proof.GradOut
public import proofs.«01_k».proof.Proof.GradIn
public import proofs.«01_k».proof.Proof.Dcat
public import proofs.«01_k».proof.Proof.GradX
public import proofs.«01_k».proof.Proof.Proj
public import proofs.«01_k».proof.Proof.Up
public import proofs.«01_k».proof.Proof.UpBwd
public import proofs.«01_k».proof.Proof.Down
public import proofs.«01_k».proof.Proof.Mix
public import proofs.«01_k».proof.Proof.SwaBwd
public import proofs.«01_k».proof.Proof.NormFwd
public import proofs.«01_k».proof.Proof.AdamGk2
public import proofs.«01_k».proof.Proof.AdamRep
public import proofs.«01_k».proof.Proof.NormBwd
public import proofs.«01_k».proof.Proof.LnBwd
public import proofs.«01_k».proof.Proof.LossBwd
public import proofs.«01_k».proof.Proof.SwaFwd
public import Idealize.ShloMosaic.Adequacy
public import Idealize.ShloMosaic.Init

@[expose] public section

noncomputable section

namespace Cert.Proof

open Idealize.ShloMosaic Idealize.SL.Sem

/-- The frame of the reference of `DownBwd`: its arguments unchanged, no counter left. -/
theorem frame_DownBwdRef : Cert.quiescent_DownBwdRefIdeal := fun m ρ _ =>
  (θ_run Cert.DownBwdRefIdeal.defs _ _).mono (fun r h => ⟨fun c => (h c).2, sem_eq_zero_of_no_sems (by decide) r.2⟩)
    (Cert.DownBwdRefIdeal.Value.run (F := Ideal) m ρ)

/-- The frame of the reference of `GradDown`: its arguments unchanged, no counter left. -/
theorem frame_GradDownRef : Cert.quiescent_GradDownRefIdeal := fun m ρ _ =>
  (θ_run Cert.GradDownRefIdeal.defs _ _).mono (fun r h => ⟨fun c => (h c).2, sem_eq_zero_of_no_sems (by decide) r.2⟩)
    (Cert.GradDownRefIdeal.Value.run (F := Ideal) m ρ)

/-- The frame of the reference of `GradUp`: its arguments unchanged, no counter left. -/
theorem frame_GradUpRef : Cert.quiescent_GradUpRefIdeal := fun m ρ _ =>
  (θ_run Cert.GradUpRefIdeal.defs _ _).mono (fun r h => ⟨fun c => (h c).2, sem_eq_zero_of_no_sems (by decide) r.2⟩)
    (Cert.GradUpRefIdeal.Value.run (F := Ideal) m ρ)

/-- The frame of the reference of `GradOut`: its arguments unchanged, no counter left. -/
theorem frame_GradOutRef : Cert.quiescent_GradOutRefIdeal := fun m ρ _ =>
  (θ_run Cert.GradOutRefIdeal.defs _ _).mono (fun r h => ⟨fun c => (h c).2, sem_eq_zero_of_no_sems (by decide) r.2⟩)
    (Cert.GradOutRefIdeal.Value.run (F := Ideal) m ρ)

/-- The frame of the reference of `GradIn`: its arguments unchanged, no counter left. -/
theorem frame_GradInRef : Cert.quiescent_GradInRefIdeal := fun m ρ _ =>
  (θ_run Cert.GradInRefIdeal.defs _ _).mono (fun r h => ⟨fun c => (h c).2, sem_eq_zero_of_no_sems (by decide) r.2⟩)
    (Cert.GradInRefIdeal.Value.run (F := Ideal) m ρ)

/-- The frame of the reference of `Dcat`: its arguments unchanged, no counter left. -/
theorem frame_DcatRef : Cert.quiescent_DcatRefIdeal := fun m ρ _ =>
  (θ_run Cert.DcatRefIdeal.defs _ _).mono (fun r h => ⟨fun c => (h c).2, sem_eq_zero_of_no_sems (by decide) r.2⟩)
    (Cert.DcatRefIdeal.Value.run (F := Ideal) m ρ)

/-- The frame of the reference of `GradX`: its arguments unchanged, no counter left. -/
theorem frame_GradXRef : Cert.quiescent_GradXRefIdeal := fun m ρ _ =>
  (θ_run Cert.GradXRefIdeal.defs _ _).mono (fun r h => ⟨fun c => (h c).2, sem_eq_zero_of_no_sems (by decide) r.2⟩)
    (Cert.GradXRefIdeal.Value.run (F := Ideal) m ρ)

/-- The frame of the reference of `Proj`: its arguments unchanged, no counter left. -/
theorem frame_ProjRef : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The frame of the reference of `Up`: its arguments unchanged, no counter left. -/
theorem frame_UpRef : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

/-- The frame of the reference of `UpBwd`: its arguments unchanged, no counter left. -/
theorem frame_UpBwdRef : Cert.quiescent_UpBwdRefIdeal := fun m ρ _ =>
  (θ_run Cert.UpBwdRefIdeal.defs _ _).mono (fun r h => ⟨fun c => (h c).2, sem_eq_zero_of_no_sems (by decide) r.2⟩)
    (Cert.UpBwdRefIdeal.Value.run (F := Ideal) m ρ)

/-- The frame of the reference of `Down`: its arguments unchanged, no counter left. -/
theorem frame_DownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The frame of the reference of `Mix`: its arguments unchanged, no counter left. -/
theorem frame_MixRef : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

/-- The frame of the reference of `SwaBwd`: its arguments unchanged, no counter left. -/
theorem frame_SwaBwdRef : Cert.quiescent_SwaBwdRefIdeal := fun m ρ _ =>
  (θ_run Cert.SwaBwdRefIdeal.defs _ _).mono (fun r h => ⟨fun c => (h c).2.2.2.2, sem_eq_zero_of_no_sems (by decide) r.2⟩)
    (Cert.SwaBwdRefIdeal.Value.run (F := Ideal) m ρ)

/-- The frame of the reference of `NormFwd`: its arguments unchanged, no counter left. -/
theorem frame_NormFwdRef : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

/-- The frame of the reference of `AdamGk2`: its arguments unchanged, no counter left. -/
theorem frame_AdamGk2Ref : Cert.quiescent_AdamGk2RefIdeal := fun m ρ _ =>
  (θ_run Cert.AdamGk2RefIdeal.defs _ _).mono (fun r h => ⟨fun c => (h c).2.2.2, sem_eq_zero_of_no_sems (by decide) r.2⟩)
    (Cert.AdamGk2RefIdeal.Value.run (F := Ideal) m ρ)

/-- The frame of the reference of `AdamRep`: its arguments unchanged, no counter left. -/
theorem frame_AdamRepRef : Cert.quiescent_AdamRepRefIdeal := fun m ρ _ =>
  (θ_run Cert.AdamRepRefIdeal.defs _ _).mono (fun r h => ⟨fun c => (h c).2.2.2, sem_eq_zero_of_no_sems (by decide) r.2⟩)
    (Cert.AdamRepRefIdeal.Value.run (F := Ideal) m ρ)

/-- The frame of the reference of `NormBwd`: its arguments unchanged, no counter left. -/
theorem frame_NormBwdRef : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

/-- The frame of the reference of `LnBwd`: its arguments unchanged, no counter left. -/
theorem frame_LnBwdRef : Cert.quiescent_LnBwdRefIdeal := fun m ρ _ =>
  (θ_run Cert.LnBwdRefIdeal.defs _ _).mono (fun r h => ⟨fun c => (h c).2.2.2.2, sem_eq_zero_of_no_sems (by decide) r.2⟩)
    (Cert.LnBwdRefIdeal.Value.run (F := Ideal) m ρ)

/-- The frame of the reference of `LossBwd`: its arguments unchanged, no counter left. -/
theorem frame_LossBwdRef : Cert.quiescent_LossBwdRefIdeal := fun m ρ _ =>
  (θ_run Cert.LossBwdRefIdeal.defs _ _).mono (fun r h => ⟨fun c => (h c).2.2.2.2.2, sem_eq_zero_of_no_sems (by decide) r.2⟩)
    (Cert.LossBwdRefIdeal.Value.run (F := Ideal) m ρ)

/-- The frame of the reference of `SwaFwd`: its arguments unchanged, no counter left. -/
theorem frame_SwaFwdRef : Cert.quiescent_SwaFwdRefIdeal := fun m ρ _ =>
  (θ_run Cert.SwaFwdRefIdeal.defs _ _).mono (fun r h => ⟨fun c => (h c).2, sem_eq_zero_of_no_sems (by decide) r.2⟩)
    (Cert.SwaFwdRefIdeal.Value.run (F := Ideal) m ρ)

theorem claim : Cert.Claim := ⟨Cert.DownBwd.Gen.facts, Cert.DownBwdIdeal.Gen.facts, Cert.DownBwdRefIdeal.Gen.facts, Cert.GradDown.Gen.facts, Cert.GradDownIdeal.Gen.facts, Cert.GradDownRefIdeal.Gen.facts, Cert.GradUp.Gen.facts, Cert.GradUpIdeal.Gen.facts, Cert.GradUpRefIdeal.Gen.facts, Cert.GradOut.Gen.facts, Cert.GradOutIdeal.Gen.facts, Cert.GradOutRefIdeal.Gen.facts, Cert.GradIn.Gen.facts, Cert.GradInIdeal.Gen.facts, Cert.GradInRefIdeal.Gen.facts, Cert.Dcat.Gen.facts, Cert.DcatIdeal.Gen.facts, Cert.DcatRefIdeal.Gen.facts, Cert.GradX.Gen.facts, Cert.GradXIdeal.Gen.facts, Cert.GradXRefIdeal.Gen.facts, Cert.Proj.Gen.facts, Cert.ProjIdeal.Gen.facts, Cert.ProjRefIdeal.Gen.facts, Cert.Up.Gen.facts, Cert.UpIdeal.Gen.facts, Cert.UpRefIdeal.Gen.facts, Cert.UpBwd.Gen.facts, Cert.UpBwdIdeal.Gen.facts, Cert.UpBwdRefIdeal.Gen.facts, Cert.Down.Gen.facts, Cert.DownIdeal.Gen.facts, Cert.DownRefIdeal.Gen.facts, Cert.Mix.Gen.facts, Cert.MixIdeal.Gen.facts, Cert.MixRefIdeal.Gen.facts, Cert.SwaBwd.Gen.facts, Cert.SwaBwdIdeal.Gen.facts, Cert.SwaBwdRefIdeal.Gen.facts, Cert.NormFwd.Gen.facts, Cert.NormFwdIdeal.Gen.facts, Cert.NormFwdRefIdeal.Gen.facts, Cert.AdamGk2.Gen.facts, Cert.AdamGk2Ideal.Gen.facts, Cert.AdamGk2RefIdeal.Gen.facts, Cert.AdamRep.Gen.facts, Cert.AdamRepIdeal.Gen.facts, Cert.AdamRepRefIdeal.Gen.facts, Cert.NormBwd.Gen.facts, Cert.NormBwdIdeal.Gen.facts, Cert.NormBwdRefIdeal.Gen.facts, Cert.LnBwd.Gen.facts, Cert.LnBwdIdeal.Gen.facts, Cert.LnBwdRefIdeal.Gen.facts, Cert.LossBwd.Gen.facts, Cert.LossBwdIdeal.Gen.facts, Cert.LossBwdRefIdeal.Gen.facts, Cert.SwaFwd.Gen.facts, Cert.SwaFwdIdeal.Gen.facts, Cert.SwaFwdRefIdeal.Gen.facts, Cert.Pre_finite.Gen.facts, Cert.Pre_finite_norm.Gen.facts, Cert.Pre_finite_ln.Gen.facts, Cert.Pre_finite_loss.Gen.facts, Cert.Pre_finite_swa.Gen.facts,
  fun m ρ _ => Cert.DownBwd.Gen.frame m ρ,
  fun m ρ _ => Cert.DownBwdIdeal.Gen.frame m ρ,
  frame_DownBwdRef,
  fun m ρ _ => Cert.GradDown.Gen.frame m ρ,
  fun m ρ _ => Cert.GradDownIdeal.Gen.frame m ρ,
  frame_GradDownRef,
  fun m ρ _ => Cert.GradUp.Gen.frame m ρ,
  fun m ρ _ => Cert.GradUpIdeal.Gen.frame m ρ,
  frame_GradUpRef,
  fun m ρ _ => Cert.GradOut.Gen.frame m ρ,
  fun m ρ _ => Cert.GradOutIdeal.Gen.frame m ρ,
  frame_GradOutRef,
  fun m ρ _ => Cert.GradIn.Gen.frame m ρ,
  fun m ρ _ => Cert.GradInIdeal.Gen.frame m ρ,
  frame_GradInRef,
  fun m ρ _ => Cert.Dcat.Gen.frame m ρ,
  fun m ρ _ => Cert.DcatIdeal.Gen.frame m ρ,
  frame_DcatRef,
  fun m ρ _ => Cert.GradX.Gen.frame m ρ,
  fun m ρ _ => Cert.GradXIdeal.Gen.frame m ρ,
  frame_GradXRef,
  fun m ρ _ => Cert.Proj.Gen.frame m ρ,
  fun m ρ _ => Cert.ProjIdeal.Gen.frame m ρ,
  frame_ProjRef,
  fun m ρ _ => Cert.Up.Gen.frame m ρ,
  fun m ρ _ => Cert.UpIdeal.Gen.frame m ρ,
  frame_UpRef,
  fun m ρ _ => Cert.UpBwd.Gen.frame m ρ,
  fun m ρ _ => Cert.UpBwdIdeal.Gen.frame m ρ,
  frame_UpBwdRef,
  fun m ρ _ => Cert.Down.Gen.frame m ρ,
  fun m ρ _ => Cert.DownIdeal.Gen.frame m ρ,
  frame_DownRef,
  fun m ρ _ => Cert.Mix.Gen.frame m ρ,
  fun m ρ _ => Cert.MixIdeal.Gen.frame m ρ,
  frame_MixRef,
  fun m ρ _ => Cert.Proof.frame_SwaBwd m ρ trivial,
  fun m ρ _ => Cert.Proof.frame_SwaBwdIdeal m ρ trivial,
  fun m ρ _ => Cert.Proof.frame_SwaBwdIdeal m ρ trivial,
  frame_SwaBwdRef, fun m ρ _ => frame_SwaBwdRef m ρ trivial,
  fun m ρ _ => Cert.NormFwd.Gen.frame m ρ,
  fun m ρ _ => Cert.NormFwdIdeal.Gen.frame m ρ,
  frame_NormFwdRef,
  fun m ρ _ => Cert.AdamGk2.Gen.frame m ρ,
  fun m ρ _ => Cert.AdamGk2Ideal.Gen.frame m ρ,
  frame_AdamGk2Ref,
  fun m ρ _ => Cert.AdamRep.Gen.frame m ρ,
  fun m ρ _ => Cert.AdamRepIdeal.Gen.frame m ρ,
  frame_AdamRepRef,
  fun m ρ _ => Cert.NormBwd.Gen.frame m ρ,
  fun m ρ _ => Cert.NormBwdIdeal.Gen.frame m ρ,
  fun m ρ _ => Cert.NormBwdIdeal.Gen.frame m ρ,
  frame_NormBwdRef, fun m ρ _ => frame_NormBwdRef m ρ trivial,
  fun m ρ _ => Cert.LnBwd.Gen.frame m ρ,
  fun m ρ _ => Cert.LnBwdIdeal.Gen.frame m ρ,
  fun m ρ _ => Cert.LnBwdIdeal.Gen.frame m ρ,
  frame_LnBwdRef, fun m ρ _ => frame_LnBwdRef m ρ trivial,
  fun m ρ _ => Cert.LossBwd.Gen.frame m ρ,
  fun m ρ _ => Cert.LossBwdIdeal.Gen.frame m ρ,
  fun m ρ _ => Cert.LossBwdIdeal.Gen.frame m ρ,
  frame_LossBwdRef, fun m ρ _ => frame_LossBwdRef m ρ trivial,
  fun m ρ _ => Cert.SwaFwd.Gen.frame m ρ,
  fun m ρ _ => Cert.SwaFwdIdeal.Gen.frame m ρ,
  fun m ρ _ => Cert.SwaFwdIdeal.Gen.frame m ρ,
  frame_SwaFwdRef, fun m ρ _ => frame_SwaFwdRef m ρ trivial,
  trivial, algebraic_DownBwd,
  trivial, algebraic_GradDown,
  trivial, algebraic_GradUp,
  trivial, algebraic_GradOut,
  trivial, algebraic_GradIn,
  trivial, algebraic_Dcat,
  trivial, algebraic_GradX,
  trivial, algebraic_Proj,
  trivial, algebraic_Up,
  trivial, algebraic_UpBwd,
  trivial, algebraic_Down,
  trivial, algebraic_Mix,
  IdealRules.named_const.statement Cert.SwaBwdIdeal.κ "mask" .f32 0xF149F2CA#32 ⊥ rfl, algebraic_SwaBwd,
  trivial, algebraic_NormFwd,
  trivial, algebraic_AdamGk2,
  trivial, algebraic_AdamRep,
  trivial, algebraic_NormBwd,
  trivial, algebraic_LnBwd,
  trivial, algebraic_LossBwd,
  IdealRules.named_const.statement Cert.SwaFwdIdeal.κ "mask" .f32 0xF149F2CA#32 ⊥ rfl, algebraic_SwaFwd⟩

end Cert.Proof

end
